-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v50_0)) (v1 : (c : Dev Cert.KernelIdeal.nD) → Buf (Elt Ideal) ((c.tc : Thread Cert.KernelIdeal.nD Cert.KernelIdeal.τ).loc Cert.KernelIdeal.main_v61)) (v2 : (c : Dev Cert.KernelIdeal.nD) → Buf (Elt Ideal) ((c.tc : Thread Cert.KernelIdeal.nD Cert.KernelIdeal.τ).loc Cert.KernelIdeal.main_v72)) (v3 : (c : Dev Cert.KernelIdeal.nD) → Buf (Elt Ideal) ((c.tc : Thread Cert.KernelIdeal.nD Cert.KernelIdeal.τ).loc Cert.KernelIdeal.main_v83)) (v4 : (c : Dev Cert.KernelIdeal.nD) → Buf (Elt Ideal) ((c.tc : Thread Cert.KernelIdeal.nD Cert.KernelIdeal.τ).loc Cert.KernelIdeal.main_v94)) (v5 : (c : Dev Cert.KernelIdeal.nD) → Buf (Elt Ideal) ((c.tc : Thread Cert.KernelIdeal.nD Cert.KernelIdeal.τ).loc Cert.KernelIdeal.main_v95)) (v6 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50_0) = v0 c
          ∧ r.2.mem ((c.tc : Thread Cert.KernelIdeal.nD Cert.KernelIdeal.τ).loc Cert.KernelIdeal.main_v61) = v1 c
          ∧ r.2.mem ((c.tc : Thread Cert.KernelIdeal.nD Cert.KernelIdeal.τ).loc Cert.KernelIdeal.main_v72) = v2 c
          ∧ r.2.mem ((c.tc : Thread Cert.KernelIdeal.nD Cert.KernelIdeal.τ).loc Cert.KernelIdeal.main_v83) = v3 c
          ∧ r.2.mem ((c.tc : Thread Cert.KernelIdeal.nD Cert.KernelIdeal.τ).loc Cert.KernelIdeal.main_v94) = v4 c
          ∧ r.2.mem ((c.tc : Thread Cert.KernelIdeal.nD Cert.KernelIdeal.τ).loc Cert.KernelIdeal.main_v95) = v5 c
          ∧ r.2.mem ((c.tc : Thread Cert.KernelIdeal.nD Cert.KernelIdeal.τ).loc Cert.KernelIdeal.main_v96) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_v23) = v3 c
          ∧ r.2.mem ((c.tc : Thread Cert.ReferenceIdeal.nD Cert.ReferenceIdeal.τ).loc Cert.ReferenceIdeal.main_v21) = v4 c
          ∧ r.2.mem ((c.tc : Thread Cert.ReferenceIdeal.nD Cert.ReferenceIdeal.τ).loc Cert.ReferenceIdeal.main_v61) = v5 c
          ∧ r.2.mem ((c.tc : Thread Cert.ReferenceIdeal.nD Cert.ReferenceIdeal.τ).loc Cert.ReferenceIdeal.main_v56) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_2)) (v2 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_2) = v1 c
          ∧ r.2.mem ((c.tc : Thread Cert.Kernel13Ideal.nD Cert.Kernel13Ideal.τ).loc Cert.Kernel13Ideal.main_v0_3) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_v7) = v1 c
          ∧ r.2.mem ((c.tc : Thread Cert.Reference13Ideal.nD Cert.Reference13Ideal.τ).loc Cert.Reference13Ideal.main_v13) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_2)) (v1 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_2) = v0 c
          ∧ r.2.mem ((c.tc : Thread Cert.Kernel14Ideal.nD Cert.Kernel14Ideal.τ).loc Cert.Kernel14Ideal.main_v0_3) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_v10) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_finite_inputs.lean ====
abbrev S4096x1024 : Shape := ⟨2, ![4096, 1024]⟩
abbrev S4096x14336 : Shape := ⟨2, ![4096, 14336]⟩
abbrev S4096x4096 : Shape := ⟨2, ![4096, 4096]⟩
abbrev S64x64x16 : Shape := ⟨3, ![64, 64, 16]⟩
abbrev S64x16x64 : Shape := ⟨3, ![64, 16, 64]⟩
abbrev S64x64 : Shape := ⟨2, ![64, 64]⟩
abbrev S_ : Shape := ⟨0, ![]⟩

class Facts : Prop where
  bcast_S_S4096x1024 : S_.BroadcastsInDim S4096x1024 (![] : Fin 0 → Fin S4096x1024.rank)
  bcast_S_S4096x4096 : S_.BroadcastsInDim S4096x4096 (![] : Fin 0 → Fin S4096x4096.rank)
  bcast_S_S64x16x64 : S_.BroadcastsInDim S64x16x64 (![] : Fin 0 → Fin S64x16x64.rank)
  bcast_S_S64x64 : S_.BroadcastsInDim S64x64 (![] : Fin 0 → Fin S64x64.rank)

variable [Facts]

def fn {F : FTy → Type} [FloatOps F] (main_arg0 : FVec F S4096x1024 .bf16) (main_arg1 : FVec F S4096x1024 .bf16) (main_arg2 : FVec F S4096x14336 .f32) (main_arg3 : FVec F S4096x4096 .f32) (main_arg4 : FVec F S4096x4096 .f32) (main_arg5 : FVec F S64x64x16 .f32) (main_arg6 : FVec F S64x64x16 .f32) (main_arg7 : FVec F S64x16x64 .f32) (main_arg8 : FVec F S64x16x64 .f32) (main_arg9 : FVec F S64x64 .f32) (main_arg10 : FVec F S64x64 .f32) : IVec S4096x1024 1 × IVec S4096x4096 1 × IVec S64x16x64 1 × IVec S64x16x64 1 × IVec S64x64 1 × IVec S64x64 1 :=
  let main_v0 : FVec F S4096x1024 .bf16 := Host.absf main_arg0
  let main_cst : FVec F S_ .bf16 := constant S_ .bf16 0x7F80#16
  let main_v1 : FVec F S4096x1024 .bf16 := broadcastInDim S4096x1024 ![] bcast_S_S4096x1024 main_cst
  let main_v2 : IVec S4096x1024 1 := cmpf .olt main_v0 main_v1
  let main_v3 : FVec F S4096x4096 .f32 := Host.absf main_arg4
  let main_cst_0 : FVec F S_ .f32 := constant S_ .f32 0x7F800000#32
  let main_v4 : FVec F S4096x4096 .f32 := broadcastInDim S4096x4096 ![] bcast_S_S4096x4096 main_cst_0
  let main_v5 : IVec S4096x4096 1 := cmpf .olt main_v3 main_v4
  let main_v6 : FVec F S64x16x64 .f32 := Host.absf main_arg7
  let main_cst_1 : FVec F S_ .f32 := constant S_ .f32 0x7F800000#32
  let main_v7 : FVec F S64x16x64 .f32 := broadcastInDim S64x16x64 ![] bcast_S_S64x16x64 main_cst_1
  let main_v8 : IVec S64x16x64 1 := cmpf .olt main_v6 main_v7
  let main_v9 : FVec F S64x16x64 .f32 := Host.absf main_arg8
  let main_cst_2 : FVec F S_ .f32 := constant S_ .f32 0x7F800000#32
  let main_v10 : FVec F S64x16x64 .f32 := broadcastInDim S64x16x64 ![] bcast_S_S64x16x64 main_cst_2
  let main_v11 : IVec S64x16x64 1 := cmpf .olt main_v9 main_v10
  let main_v12 : FVec F S64x64 .f32 := Host.absf main_arg9
  let main_cst_3 : FVec F S_ .f32 := constant S_ .f32 0x7F800000#32
  let main_v13 : FVec F S64x64 .f32 := broadcastInDim S64x64 ![] bcast_S_S64x64 main_cst_3
  let main_v14 : IVec S64x64 1 := cmpf .olt main_v12 main_v13
  let main_v15 : FVec F S64x64 .f32 := Host.absf main_arg10
  let main_cst_4 : FVec F S_ .f32 := constant S_ .f32 0x7F800000#32
  let main_v16 : FVec F S64x64 .f32 := broadcastInDim S64x64 ![] bcast_S_S64x64 main_cst_4
  let main_v17 : IVec S64x64 1 := cmpf .olt main_v15 main_v16
  (main_v2, main_v5, main_v8, main_v11, main_v14, main_v17)
-- ==== Kernel.lean ====
abbrev S4096x1024 : Shape := ⟨2, ![4096, 1024]⟩
abbrev S4096x14336 : Shape := ⟨2, ![4096, 14336]⟩
abbrev S4096x4096 : Shape := ⟨2, ![4096, 4096]⟩
abbrev S64x64x16 : Shape := ⟨3, ![64, 64, 16]⟩
abbrev S64x16x64 : Shape := ⟨3, ![64, 16, 64]⟩
abbrev S64x64 : Shape := ⟨2, ![64, 64]⟩
abbrev S8x8x16x64 : Shape := ⟨4, ![8, 8, 16, 64]⟩
abbrev S8x8 : Shape := ⟨2, ![8, 8]⟩
abbrev S_ : Shape := ⟨0, ![]⟩
abbrev S1x8x1x8x1 : Shape := ⟨5, ![1, 8, 1, 8, 1]⟩
abbrev S8x8x16x1x64 : Shape := ⟨5, ![8, 8, 16, 1, 64]⟩
abbrev S8x8x16x8x64 : Shape := ⟨5, ![8, 8, 16, 8, 64]⟩
abbrev S8x128x512 : Shape := ⟨3, ![8, 128, 512]⟩
abbrev S8x8x64x16 : Shape := ⟨4, ![8, 8, 64, 16]⟩
abbrev S8x8x64x1x16 : Shape := ⟨5, ![8, 8, 64, 1, 16]⟩
abbrev S8x8x64x8x16 : Shape := ⟨5, ![8, 8, 64, 8, 16]⟩
abbrev S8x512x128 : Shape := ⟨3, ![8, 512, 128]⟩
abbrev S8x1x512 : Shape := ⟨3, ![8, 1, 512]⟩
abbrev S512x128 : Shape := ⟨2, ![512, 128]⟩
abbrev S512x512 : Shape := ⟨2, ![512, 512]⟩
abbrev S8x512 : Shape := ⟨2, ![8, 512]⟩
abbrev S1x128x512 : Shape := ⟨3, ![1, 128, 512]⟩
abbrev S1x512x128 : Shape := ⟨3, ![1, 512, 128]⟩
abbrev S1x1x512 : Shape := ⟨3, ![1, 1, 512]⟩
abbrev S1x512 : Shape := ⟨2, ![1, 512]⟩
abbrev S512x1 : Shape := ⟨2, ![512, 1]⟩
abbrev S8x1 : Shape := ⟨2, ![8, 1]⟩
abbrev S64x1 : Shape := ⟨2, ![64, 1]⟩
abbrev S64x512 : Shape := ⟨2, ![64, 512]⟩
abbrev S128x512 : Shape := ⟨2, ![128, 512]⟩
abbrev S512 : Shape := ⟨1, ![512]⟩
abbrev S8x16x8x64 : Shape := ⟨4, ![8, 16, 8, 64]⟩
abbrev S8x64x8x16 : Shape := ⟨4, ![8, 64, 8, 16]⟩

abbrev nBuf : Space → Nat
  | .hbm => 142
  | .vmem => 42
  | .smem => 0
  | _ => 0

abbrev hbmTy0_0 (i : Nat) : BufTy := match i % 128 with
  | 0 => ⟨S4096x1024, .bf16⟩
  | 1 => ⟨S4096x1024, .bf16⟩
  | 2 => ⟨S4096x14336, .f32⟩
  | 3 => ⟨S4096x4096, .f32⟩
  | 4 => ⟨S4096x4096, .f32⟩
  | 5 => ⟨S64x64x16, .f32⟩
  | 6 => ⟨S64x64x16, .f32⟩
  | 7 => ⟨S64x16x64, .f32⟩
  | 8 => ⟨S64x16x64, .f32⟩
  | 9 => ⟨S64x64, .f32⟩
  | 10 => ⟨S64x64, .f32⟩
  | 11 => ⟨S64x16x64, .f32⟩
  | 12 => ⟨S8x8x16x64, .f32⟩
  | 13 => ⟨S8x8, .i32⟩
  | 14 => ⟨S8x8, .i32⟩
  | 15 => ⟨S_, .i32⟩
  | 16 => ⟨S8x8, .i32⟩
  | 17 => ⟨S8x8, .i32⟩
  | 18 => ⟨S8x8, .i1⟩
  | 19 => ⟨S1x8x1x8x1, .i1⟩
  | 20 => ⟨S8x8x16x1x64, .f32⟩
  | 21 => ⟨S_, .f32⟩
  | 22 => ⟨S8x8x16x8x64, .i1⟩
  | 23 => ⟨S8x8x16x8x64, .f32⟩
  | 24 => ⟨S8x8x16x8x64, .f32⟩
  | 25 => ⟨S8x8x16x8x64, .f32⟩
  | 26 => ⟨S8x128x512, .f32⟩
  | 27 => ⟨S64x16x64, .f32⟩
  | 28 => ⟨S8x8x16x64, .f32⟩
  | 29 => ⟨S8x8, .i32⟩
  | 30 => ⟨S8x8, .i32⟩
  | 31 => ⟨S_, .i32⟩
  | 32 => ⟨S8x8, .i32⟩
  | 33 => ⟨S8x8, .i32⟩
  | 34 => ⟨S8x8, .i1⟩
  | 35 => ⟨S1x8x1x8x1, .i1⟩
  | 36 => ⟨S8x8x16x1x64, .f32⟩
  | 37 => ⟨S_, .f32⟩
  | 38 => ⟨S8x8x16x8x64, .i1⟩
  | 39 => ⟨S8x8x16x8x64, .f32⟩
  | 40 => ⟨S8x8x16x8x64, .f32⟩
  | 41 => ⟨S8x8x16x8x64, .f32⟩
  | 42 => ⟨S8x128x512, .f32⟩
  | 43 => ⟨S64x64x16, .f32⟩
  | 44 => ⟨S8x8x64x16, .f32⟩
  | 45 => ⟨S8x8, .i32⟩
  | 46 => ⟨S8x8, .i32⟩
  | 47 => ⟨S_, .i32⟩
  | 48 => ⟨S8x8, .i32⟩
  | 49 => ⟨S8x8, .i32⟩
  | 50 => ⟨S8x8, .i1⟩
  | 51 => ⟨S1x8x1x8x1, .i1⟩
  | 52 => ⟨S8x8x64x1x16, .f32⟩
  | 53 => ⟨S_, .f32⟩
  | 54 => ⟨S8x8x64x8x16, .i1⟩
  | 55 => ⟨S8x8x64x8x16, .f32⟩
  | 56 => ⟨S8x8x64x8x16, .f32⟩
  | 57 => ⟨S8x8x64x8x16, .f32⟩
  | 58 => ⟨S8x512x128, .f32⟩
  | 59 => ⟨S64x64x16, .f32⟩
  | 60 => ⟨S8x8x64x16, .f32⟩
  | 61 => ⟨S8x8, .i32⟩
  | 62 => ⟨S8x8, .i32⟩
  | 63 => ⟨S_, .i32⟩
  | 64 => ⟨S8x8, .i32⟩
  | 65 => ⟨S8x8, .i32⟩
  | 66 => ⟨S8x8, .i1⟩
  | 67 => ⟨S1x8x1x8x1, .i1⟩
  | 68 => ⟨S8x8x64x1x16, .f32⟩
  | 69 => ⟨S_, .f32⟩
  | 70 => ⟨S8x8x64x8x16, .i1⟩
  | 71 => ⟨S8x8x64x8x16, .f32⟩
  | 72 => ⟨S8x8x64x8x16, .f32⟩
  | 73 => ⟨S8x8x64x8x16, .f32⟩
  | 74 => ⟨S8x512x128, .f32⟩
  | 75 => ⟨S8x1x512, .f32⟩
  | 76 => ⟨S8x1x512, .f32⟩
  | 77 => ⟨S8x128x512, .bf16⟩
  | 78 => ⟨S8x128x512, .bf16⟩
  | 79 => ⟨S8x512x128, .bf16⟩
  | 80 => ⟨S8x512x128, .bf16⟩
  | 81 => ⟨S4096x1024, .bf16⟩
  | 82 => ⟨S8x128x512, .f32⟩
  | 83 => ⟨S8x128x512, .f32⟩
  | 84 => ⟨S8x512x128, .f32⟩
  | 85 => ⟨S8x512x128, .f32⟩
  | 86 => ⟨S8x1x512, .f32⟩
  | 87 => ⟨S8x1x512, .f32⟩
  | 88 => ⟨S8x8x16x8x64, .f32⟩
  | 89 => ⟨S8x8, .i32⟩
  | 90 => ⟨S8x8, .i32⟩
  | 91 => ⟨S8x8, .i1⟩
  | 92 => ⟨S8x8x16x8x64, .i1⟩
  | 93 => ⟨S_, .f32⟩
  | 94 => ⟨S8x8x16x8x64, .f32⟩
  | 95 => ⟨S8x8x16x8x64, .f32⟩
  | 96 => ⟨S_, .f32⟩
  | 97 => ⟨S8x16x8x64, .f32⟩
  | 98 => ⟨S8x8x16x64, .f32⟩
  | 99 => ⟨S64x16x64, .f32⟩
  | 100 => ⟨S64x64x16, .f32⟩
  | 101 => ⟨S8x8x16x8x64, .f32⟩
  | 102 => ⟨S8x8, .i32⟩
  | 103 => ⟨S8x8, .i32⟩
  | 104 => ⟨S8x8, .i1⟩
  | 105 => ⟨S8x8x16x8x64, .i1⟩
  | 106 => ⟨S_, .f32⟩
  | 107 => ⟨S8x8x16x8x64, .f32⟩
  | 108 => ⟨S8x8x16x8x64, .f32⟩
  | 109 => ⟨S_, .f32⟩
  | 110 => ⟨S8x16x8x64, .f32⟩
  | 111 => ⟨S8x8x16x64, .f32⟩
  | 112 => ⟨S64x16x64, .f32⟩
  | 113 => ⟨S64x64x16, .f32⟩
  | 114 => ⟨S8x8x64x8x16, .f32⟩
  | 115 => ⟨S8x8, .i32⟩
  | 116 => ⟨S8x8, .i32⟩
  | 117 => ⟨S8x8, .i1⟩
  | 118 => ⟨S8x8x64x8x16, .i1⟩
  | 119 => ⟨S_, .f32⟩
  | 120 => ⟨S8x8x64x8x16, .f32⟩
  | 121 => ⟨S8x8x64x8x16, .f32⟩
  | 122 => ⟨S_, .f32⟩
  | 123 => ⟨S8x64x8x16, .f32⟩
  | 124 => ⟨S8x8x64x16, .f32⟩
  | 125 => ⟨S64x64x16, .f32⟩
  | 126 => ⟨S64x16x64, .f32⟩
  | 127 => ⟨S8x8x64x8x16, .f32⟩
  | _ => ⟨S4096x1024, .bf16⟩

abbrev hbmTy0_1 (i : Nat) : BufTy := match i % 128 with
  | 0 => ⟨S8x8, .i32⟩
  | 1 => ⟨S8x8, .i32⟩
  | 2 => ⟨S8x8, .i1⟩
  | 3 => ⟨S8x8x64x8x16, .i1⟩
  | 4 => ⟨S_, .f32⟩
  | 5 => ⟨S8x8x64x8x16, .f32⟩
  | 6 => ⟨S8x8x64x8x16, .f32⟩
  | 7 => ⟨S_, .f32⟩
  | 8 => ⟨S8x64x8x16, .f32⟩
  | 9 => ⟨S8x8x64x16, .f32⟩
  | 10 => ⟨S64x64x16, .f32⟩
  | 11 => ⟨S64x16x64, .f32⟩
  | 12 => ⟨S64x64, .f32⟩
  | 13 => ⟨S64x64, .f32⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x128, .f32⟩
  | .local _ .vmem, ⟨5, _⟩ => ⟨S512x128, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S8x512, .f32⟩
  | .local _ .vmem, ⟨11, _⟩ => ⟨S8x512, .f32⟩
  | .local _ .vmem, ⟨12, _⟩ => ⟨S8x512, .f32⟩
  | .local _ .vmem, ⟨13, _⟩ => ⟨S8x512, .f32⟩
  | .local _ .vmem, ⟨14, _⟩ => ⟨S1x128x512, .bf16⟩
  | .local _ .vmem, ⟨15, _⟩ => ⟨S1x128x512, .bf16⟩
  | .local _ .vmem, ⟨16, _⟩ => ⟨S1x128x512, .bf16⟩
  | .local _ .vmem, ⟨17, _⟩ => ⟨S1x128x512, .bf16⟩
  | .local _ .vmem, ⟨18, _⟩ => ⟨S1x512x128, .bf16⟩
  | .local _ .vmem, ⟨19, _⟩ => ⟨S1x512x128, .bf16⟩
  | .local _ .vmem, ⟨20, _⟩ => ⟨S1x512x128, .bf16⟩
  | .local _ .vmem, ⟨21, _⟩ => ⟨S1x512x128, .bf16⟩
  | .local _ .vmem, ⟨22, _⟩ => ⟨S1x1x512, .f32⟩
  | .local _ .vmem, ⟨23, _⟩ => ⟨S1x1x512, .f32⟩
  | .local _ .vmem, ⟨24, _⟩ => ⟨S1x1x512, .f32⟩
  | .local _ .vmem, ⟨25, _⟩ => ⟨S1x1x512, .f32⟩
  | .local _ .vmem, ⟨26, _⟩ => ⟨S512x128, .bf16⟩
  | .local _ .vmem, ⟨27, _⟩ => ⟨S512x128, .bf16⟩
  | .local _ .vmem, ⟨28, _⟩ => ⟨S1x128x512, .f32⟩
  | .local _ .vmem, ⟨29, _⟩ => ⟨S1x128x512, .f32⟩
  | .local _ .vmem, ⟨30, _⟩ => ⟨S1x128x512, .f32⟩
  | .local _ .vmem, ⟨31, _⟩ => ⟨S1x128x512, .f32⟩
  | .local _ .vmem, ⟨32, _⟩ => ⟨S1x512x128, .f32⟩
  | .local _ .vmem, ⟨33, _⟩ => ⟨S1x512x128, .f32⟩
  | .local _ .vmem, ⟨34, _⟩ => ⟨S1x512x128, .f32⟩
  | .local _ .vmem, ⟨35, _⟩ => ⟨S1x512x128, .f32⟩
  | .local _ .vmem, ⟨36, _⟩ => ⟨S1x1x512, .f32⟩
  | .local _ .vmem, ⟨37, _⟩ => ⟨S1x1x512, .f32⟩
  | .local _ .vmem, ⟨38, _⟩ => ⟨S1x1x512, .f32⟩
  | .local _ .vmem, ⟨39, _⟩ => ⟨S1x1x512, .f32⟩
  | .local _ .vmem, ⟨40, _⟩ => ⟨S1x512, .f32⟩
  | .local _ .vmem, ⟨41, _⟩ => ⟨S1x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_2 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_3 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_c_4 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_5 : Ref sig .tc := ⟨.hbm, 69, rfl⟩
abbrev main_call3_v0 : Ref sig .tc := ⟨.hbm, 70, rfl⟩
abbrev main_call3_v1 : Ref sig .tc := ⟨.hbm, 71, rfl⟩
abbrev main_call3_v2 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50_0 : Ref sig .tc := ⟨.hbm, 81, rfl⟩
abbrev main_v50_1 : Ref sig .tc := ⟨.hbm, 82, rfl⟩
abbrev main_v50_2 : Ref sig .tc := ⟨.hbm, 83, rfl⟩
abbrev main_v50_3 : Ref sig .tc := ⟨.hbm, 84, rfl⟩
abbrev main_v50_4 : Ref sig .tc := ⟨.hbm, 85, rfl⟩
abbrev main_v50_5 : Ref sig .tc := ⟨.hbm, 86, rfl⟩
abbrev main_v50_6 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_6 : Ref sig .tc := ⟨.hbm, 93, rfl⟩
abbrev main_v56 : Ref sig .tc := ⟨.hbm, 94, rfl⟩
abbrev main_v57 : Ref sig .tc := ⟨.hbm, 95, rfl⟩
abbrev main_cst_7 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_cst_8 : Ref sig .tc := ⟨.hbm, 106, rfl⟩
abbrev main_v67 : Ref sig .tc := ⟨.hbm, 107, rfl⟩
abbrev main_v68 : Ref sig .tc := ⟨.hbm, 108, rfl⟩
abbrev main_cst_9 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_cst_10 : Ref sig .tc := ⟨.hbm, 119, rfl⟩
abbrev main_v78 : Ref sig .tc := ⟨.hbm, 120, rfl⟩
abbrev main_v79 : Ref sig .tc := ⟨.hbm, 121, rfl⟩
abbrev main_cst_11 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_cst_12 : Ref sig .tc := ⟨.hbm, 132, rfl⟩
abbrev main_v89 : Ref sig .tc := ⟨.hbm, 133, rfl⟩
abbrev main_v90 : Ref sig .tc := ⟨.hbm, 134, rfl⟩
abbrev main_cst_13 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_scratch0 : Ref sig .tc := ⟨.vmem, 40, rfl⟩
abbrev cc0_scratch1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c0_i32_127 : BitVec 32 := 0#32
  let v1008 : BitVec 1 := Scalar.cmpi .eq arg1 c0_i32_127
  let v1009 : BitVec 32 := Scalar.extui v1008
  let c0_i32_128 : BitVec 32 := 0#32
  let v1010 : BitVec 1 := Scalar.cmpi .ne v1009 c0_i32_128
  v1010

def k0_cond3 (i : grid0.Coords) : BitVec 1 :=
  let arg1 : BitVec 32 := BitVec.ofNat 32 (i 1).val
  let c0_i32_129 : BitVec 32 := 0#32
  let v1011 : BitVec 1 := Scalar.cmpi .sgt arg1 c0_i32_129
  let v1012 : BitVec 32 := Scalar.extui v1011
  let c0_i32_130 : BitVec 32 := 0#32
  let v1013 : BitVec 1 := Scalar.cmpi .ne v1012 c0_i32_130
  v1013

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let v1 : BitVec 32 := Scalar.addi c0_i32 arg0
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let v1 : BitVec 32 := Scalar.addi c0_i32 arg0
  let c0_i32_0 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let v1 : BitVec 32 := Scalar.addi c0_i32 arg0
  let c0_i32_0 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let v1 : BitVec 32 := Scalar.addi c0_i32 arg0
  let c0_i32_0 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let v1 : BitVec 32 := Scalar.addi c0_i32 arg0
  let c0_i32_0 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  ![v3.toNat, arg0.toNat]

def cc0_transform_6 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  ![v3.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let v1 : BitVec 32 := Scalar.addi c0_i32 arg0
  let c0_i32_0 : BitVec 32 := 0#32
  ![v0.toNat, v1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x128x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x128x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x1x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S1x1x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]
-- ==== ReferenceIdeal.lean ====
abbrev S4096x1024 : Shape := ⟨2, ![4096, 1024]⟩
abbrev S4096x14336 : Shape := ⟨2, ![4096, 14336]⟩
abbrev S4096x4096 : Shape := ⟨2, ![4096, 4096]⟩
abbrev S64x64x16 : Shape := ⟨3, ![64, 64, 16]⟩
abbrev S64x16x64 : Shape := ⟨3, ![64, 16, 64]⟩
abbrev S64x64 : Shape := ⟨2, ![64, 64]⟩
abbrev S4096x64x16 : Shape := ⟨3, ![4096, 64, 16]⟩
abbrev S64x16x4096 : Shape := ⟨3, ![64, 16, 4096]⟩
abbrev S64x4096x64 : Shape := ⟨3, ![64, 4096, 64]⟩
abbrev S4096x64x64 : Shape := ⟨3, ![4096, 64, 64]⟩
abbrev S_ : Shape := ⟨0, ![]⟩
abbrev S1x64x64 : Shape := ⟨3, ![1, 64, 64]⟩
abbrev S64x64x4096 : Shape := ⟨3, ![64, 64, 4096]⟩
abbrev S64x4096x16 : Shape := ⟨3, ![64, 4096, 16]⟩
abbrev S4095x64x64 : Shape := ⟨3, ![4095, 64, 64]⟩

abbrev nBuf : Space → Nat
  | .hbm => 132
  | .vmem => 0
  | .smem => 0
  | _ => 0

abbrev hbmTy0_0 (i : Nat) : BufTy := match i % 128 with
  | 0 => ⟨S4096x1024, .bf16⟩
  | 1 => ⟨S4096x1024, .bf16⟩
  | 2 => ⟨S4096x14336, .f32⟩
  | 3 => ⟨S4096x4096, .f32⟩
  | 4 => ⟨S4096x4096, .f32⟩
  | 5 => ⟨S64x64x16, .f32⟩
  | 6 => ⟨S64x64x16, .f32⟩
  | 7 => ⟨S64x16x64, .f32⟩
  | 8 => ⟨S64x16x64, .f32⟩
  | 9 => ⟨S64x64, .f32⟩
  | 10 => ⟨S64x64, .f32⟩
  | 11 => ⟨S4096x1024, .f32⟩
  | 12 => ⟨S4096x64x16, .f32⟩
  | 13 => ⟨S4096x64x16, .f32⟩
  | 14 => ⟨S64x16x4096, .f32⟩
  | 15 => ⟨S64x4096x64, .f32⟩
  | 16 => ⟨S4096x64x64, .f32⟩
  | 17 => ⟨S64x16x4096, .f32⟩
  | 18 => ⟨S64x4096x64, .f32⟩
  | 19 => ⟨S4096x64x64, .f32⟩
  | 20 => ⟨S_, .f32⟩
  | 21 => ⟨S64x64, .f32⟩
  | 22 => ⟨S_, .f32⟩
  | 23 => ⟨S64x64, .f32⟩
  | 24 => ⟨S_, .f32⟩
  | 25 => ⟨S64x64, .f32⟩
  | 26 => ⟨S_, .f32⟩
  | 27 => ⟨S4096x64x64, .f32⟩
  | 28 => ⟨S_, .f32⟩
  | 29 => ⟨S4096x64x64, .f32⟩
  | 30 => ⟨S_, .i32⟩
  | 31 => ⟨S4096x64x64, .f32⟩
  | 32 => ⟨S4096x64x64, .f32⟩
  | 33 => ⟨S64x64, .f32⟩
  | 34 => ⟨S64x64, .f32⟩
  | 35 => ⟨S_, .i32⟩
  | 36 => ⟨S64x64, .f32⟩
  | 37 => ⟨S64x64, .f32⟩
  | 38 => ⟨S4096x64x64, .f32⟩
  | 39 => ⟨S4096x64x64, .f32⟩
  | 40 => ⟨S_, .i32⟩
  | 41 => ⟨S_, .i1⟩
  | 42 => ⟨S_, .i32⟩
  | 43 => ⟨S_, .i32⟩
  | 44 => ⟨S_, .i32⟩
  | 45 => ⟨S_, .i32⟩
  | 46 => ⟨S_, .i32⟩
  | 47 => ⟨S_, .i32⟩
  | 48 => ⟨S1x64x64, .f32⟩
  | 49 => ⟨S64x64, .f32⟩
  | 50 => ⟨S_, .i32⟩
  | 51 => ⟨S_, .i32⟩
  | 52 => ⟨S1x64x64, .f32⟩
  | 53 => ⟨S64x64, .f32⟩
  | 54 => ⟨S64x64, .f32⟩
  | 55 => ⟨S64x64, .f32⟩
  | 56 => ⟨S64x64, .f32⟩
  | 57 => ⟨S64x64, .f32⟩
  | 58 => ⟨S64x64, .f32⟩
  | 59 => ⟨S64x64, .f32⟩
  | 60 => ⟨S64x64, .f32⟩
  | 61 => ⟨S64x64, .f32⟩
  | 62 => ⟨S64x64, .f32⟩
  | 63 => ⟨S1x64x64, .f32⟩
  | 64 => ⟨S_, .i32⟩
  | 65 => ⟨S_, .i32⟩
  | 66 => ⟨S4096x64x64, .f32⟩
  | 67 => ⟨S1x64x64, .f32⟩
  | 68 => ⟨S_, .i32⟩
  | 69 => ⟨S_, .i32⟩
  | 70 => ⟨S4096x64x64, .f32⟩
  | 71 => ⟨S_, .i32⟩
  | 72 => ⟨S_, .i32⟩
  | 73 => ⟨S4096x64x64, .f32⟩
  | 74 => ⟨S4096x64x64, .f32⟩
  | 75 => ⟨S4096x1024, .f32⟩
  | 76 => ⟨S4096x64x16, .f32⟩
  | 77 => ⟨S4096x64x16, .f32⟩
  | 78 => ⟨S64x16x4096, .f32⟩
  | 79 => ⟨S64x16x64, .f32⟩
  | 80 => ⟨S64x16x4096, .f32⟩
  | 81 => ⟨S64x16x64, .f32⟩
  | 82 => ⟨S4096x1024, .f32⟩
  | 83 => ⟨S4096x64x16, .f32⟩
  | 84 => ⟨S64x64x4096, .f32⟩
  | 85 => ⟨S64x64x16, .f32⟩
  | 86 => ⟨S64x64x4096, .f32⟩
  | 87 => ⟨S64x64x16, .f32⟩
  | 88 => ⟨S64x64x4096, .f32⟩
  | 89 => ⟨S64x4096x16, .f32⟩
  | 90 => ⟨S4096x64x16, .f32⟩
  | 91 => ⟨S64x64x4096, .f32⟩
  | 92 => ⟨S64x4096x16, .f32⟩
  | 93 => ⟨S4096x64x16, .f32⟩
  | 94 => ⟨S4096x64x16, .f32⟩
  | 95 => ⟨S4096x64x64, .f32⟩
  | 96 => ⟨S4095x64x64, .f32⟩
  | 97 => ⟨S4096x64x64, .f32⟩
  | 98 => ⟨S4095x64x64, .f32⟩
  | 99 => ⟨S4095x64x64, .f32⟩
  | 100 => ⟨S4095x64x64, .f32⟩
  | 101 => ⟨S4095x64x64, .f32⟩
  | 102 => ⟨S_, .f32⟩
  | 103 => ⟨S64x64, .f32⟩
  | 104 => ⟨S1x64x64, .f32⟩
  | 105 => ⟨S_, .f32⟩
  | 106 => ⟨S64x64, .f32⟩
  | 107 => ⟨S4095x64x64, .f32⟩
  | 108 => ⟨S_, .f32⟩
  | 109 => ⟨S64x64, .f32⟩
  | 110 => ⟨S1x64x64, .f32⟩
  | 111 => ⟨S_, .f32⟩
  | 112 => ⟨S64x64, .f32⟩
  | 113 => ⟨S4095x64x64, .f32⟩
  | 114 => ⟨S4095x64x64, .f32⟩
  | 115 => ⟨S_, .f32⟩
  | 116 => ⟨S64x64, .f32⟩
  | 117 => ⟨S1x64x64, .f32⟩
  | 118 => ⟨S_, .f32⟩
  | 119 => ⟨S64x64, .f32⟩
  | 120 => ⟨S64x64, .f32⟩
  | 121 => ⟨S4095x64x64, .f32⟩
  | 122 => ⟨S_, .f32⟩
  | 123 => ⟨S64x64, .f32⟩
  | 124 => ⟨S1x64x64, .f32⟩
  | 125 => ⟨S_, .f32⟩
  | 126 => ⟨S64x64, .f32⟩
  | 127 => ⟨S64x64, .f32⟩
  | _ => ⟨S4096x1024, .bf16⟩

abbrev hbmTy0_1 (i : Nat) : BufTy := match i % 128 with
  | 0 => ⟨S4096x1024, .f32⟩
  | 1 => ⟨S4096x1024, .f32⟩
  | 2 => ⟨S4096x1024, .f32⟩
  | 3 => ⟨S4096x1024, .bf16⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_c : Ref sig .tc := ⟨.hbm, 30, rfl⟩
abbrev main_v14_0 : Ref sig .tc := ⟨.hbm, 31, rfl⟩
abbrev main_v14_1 : Ref sig .tc := ⟨.hbm, 32, rfl⟩
abbrev main_v14_2 : Ref sig .tc := ⟨.hbm, 33, rfl⟩
abbrev main_v14_3 : Ref sig .tc := ⟨.hbm, 34, rfl⟩
abbrev main_v14_4 : Ref sig .tc := ⟨.hbm, 35, rfl⟩
abbrev main_v14_5 : Ref sig .tc := ⟨.hbm, 36, rfl⟩
abbrev main_v14_6 : Ref sig .tc := ⟨.hbm, 37, rfl⟩
abbrev main_v14_7 : Ref sig .tc := ⟨.hbm, 38, rfl⟩
abbrev main_v14_8 : Ref sig .tc := ⟨.hbm, 39, rfl⟩
abbrev main_while0c_c_20 : Ref sig .tc := ⟨.hbm, 40, rfl⟩
abbrev main_while0c_v66 : Ref sig .tc := ⟨.hbm, 41, rfl⟩
abbrev main_while0b_c_20 : Ref sig .tc := ⟨.hbm, 42, rfl⟩
abbrev main_while0b_v66 : Ref sig .tc := ⟨.hbm, 43, rfl⟩
abbrev main_while0b_c_21 : Ref sig .tc := ⟨.hbm, 44, rfl⟩
abbrev main_while0b_v67 : Ref sig .tc := ⟨.hbm, 45, rfl⟩
abbrev main_while0b_call0_c : Ref sig .tc := ⟨.hbm, 46, rfl⟩
abbrev main_while0b_call0_c_0 : Ref sig .tc := ⟨.hbm, 47, rfl⟩
abbrev main_while0b_call0_v0 : Ref sig .tc := ⟨.hbm, 48, rfl⟩
abbrev main_while0b_v68 : Ref sig .tc := ⟨.hbm, 49, rfl⟩
abbrev main_while0b_call1_c : Ref sig .tc := ⟨.hbm, 50, rfl⟩
abbrev main_while0b_call1_c_0 : Ref sig .tc := ⟨.hbm, 51, rfl⟩
abbrev main_while0b_call1_v0 : Ref sig .tc := ⟨.hbm, 52, rfl⟩
abbrev main_while0b_v69 : Ref sig .tc := ⟨.hbm, 53, rfl⟩
abbrev main_while0b_v70 : Ref sig .tc := ⟨.hbm, 54, rfl⟩
abbrev main_while0b_v71 : Ref sig .tc := ⟨.hbm, 55, rfl⟩
abbrev main_while0b_v72 : Ref sig .tc := ⟨.hbm, 56, rfl⟩
abbrev main_while0b_v73 : Ref sig .tc := ⟨.hbm, 57, rfl⟩
abbrev main_while0b_v74 : Ref sig .tc := ⟨.hbm, 58, rfl⟩
abbrev main_while0b_v75 : Ref sig .tc := ⟨.hbm, 59, rfl⟩
abbrev main_while0b_v76 : Ref sig .tc := ⟨.hbm, 60, rfl⟩
abbrev main_while0b_v77 : Ref sig .tc := ⟨.hbm, 61, rfl⟩
abbrev main_while0b_v78 : Ref sig .tc := ⟨.hbm, 62, rfl⟩
abbrev main_while0b_call2_v0 : Ref sig .tc := ⟨.hbm, 63, rfl⟩
abbrev main_while0b_call2_c : Ref sig .tc := ⟨.hbm, 64, rfl⟩
abbrev main_while0b_call2_c_0 : Ref sig .tc := ⟨.hbm, 65, rfl⟩
abbrev main_while0b_v79 : Ref sig .tc := ⟨.hbm, 66, rfl⟩
abbrev main_while0b_call3_v0 : Ref sig .tc := ⟨.hbm, 67, rfl⟩
abbrev main_while0b_call3_c : Ref sig .tc := ⟨.hbm, 68, rfl⟩
abbrev main_while0b_call3_c_0 : Ref sig .tc := ⟨.hbm, 69, rfl⟩
abbrev main_while0b_v80 : Ref sig .tc := ⟨.hbm, 70, rfl⟩
abbrev main_while0b_c_22 : Ref sig .tc := ⟨.hbm, 71, rfl⟩
abbrev main_while0b_v81 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_cst_4 : Ref sig .tc := ⟨.hbm, 102, rfl⟩
abbrev main_v44 : Ref sig .tc := ⟨.hbm, 103, rfl⟩
abbrev main_v45 : Ref sig .tc := ⟨.hbm, 104, rfl⟩
abbrev main_cst_5 : Ref sig .tc := ⟨.hbm, 105, rfl⟩
abbrev main_v46 : Ref sig .tc := ⟨.hbm, 106, rfl⟩
abbrev main_v47 : Ref sig .tc := ⟨.hbm, 107, rfl⟩
abbrev main_cst_6 : Ref sig .tc := ⟨.hbm, 108, rfl⟩
abbrev main_v48 : Ref sig .tc := ⟨.hbm, 109, rfl⟩
abbrev main_v49 : Ref sig .tc := ⟨.hbm, 110, rfl⟩
abbrev main_cst_7 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_cst_8 : Ref sig .tc := ⟨.hbm, 115, rfl⟩
abbrev main_v53 : Ref sig .tc := ⟨.hbm, 116, rfl⟩
abbrev main_v54 : Ref sig .tc := ⟨.hbm, 117, rfl⟩
abbrev main_cst_9 : Ref sig .tc := ⟨.hbm, 118, rfl⟩
abbrev main_v55 : Ref sig .tc := ⟨.hbm, 119, rfl⟩
abbrev main_v56 : Ref sig .tc := ⟨.hbm, 120, rfl⟩
abbrev main_v57 : Ref sig .tc := ⟨.hbm, 121, rfl⟩
abbrev main_cst_10 : Ref sig .tc := ⟨.hbm, 122, rfl⟩
abbrev main_v58 : Ref sig .tc := ⟨.hbm, 123, rfl⟩
abbrev main_v59 : Ref sig .tc := ⟨.hbm, 124, rfl⟩
abbrev main_cst_11 : Ref sig .tc := ⟨.hbm, 125, rfl⟩
abbrev main_v60 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩

abbrev nD : Nat := 1
abbrev τ : Topo := Topo.v7x

variable {F : FTy → Type} [FloatOps F]

abbrev main_while0_count : Scf.Loop 32 := ⟨0#32, 4096#32, 1#32⟩
-- ==== Kernel2.lean ====
abbrev S4096x2048 : Shape := ⟨2, ![4096, 2048]⟩
abbrev S4096x14336 : Shape := ⟨2, ![4096, 14336]⟩
abbrev S2048x14336 : Shape := ⟨2, ![2048, 14336]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x14336, .bf16⟩
  | .hbm, ⟨2, _⟩ => ⟨S2048x14336, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 14, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x2048 : Shape := ⟨2, ![4096, 2048]⟩
abbrev S4096x14336 : Shape := ⟨2, ![4096, 14336]⟩
abbrev S14336x2048 : Shape := ⟨2, ![14336, 2048]⟩
abbrev S2048x14336 : Shape := ⟨2, ![2048, 14336]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x14336, .bf16⟩
  | .hbm, ⟨2, _⟩ => ⟨S4096x2048, .f32⟩
  | .hbm, ⟨3, _⟩ => ⟨S4096x14336, .f32⟩
  | .hbm, ⟨4, _⟩ => ⟨S14336x2048, .f32⟩
  | .hbm, ⟨5, _⟩ => ⟨S2048x14336, .f32⟩
  | .hbm, ⟨6, _⟩ => ⟨S2048x14336, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel3.lean ====
abbrev S4096x2048 : Shape := ⟨2, ![4096, 2048]⟩
abbrev S2048x14336 : Shape := ⟨2, ![2048, 14336]⟩
abbrev S4096x14336 : Shape := ⟨2, ![4096, 14336]⟩
abbrev S1024x2048 : Shape := ⟨2, ![1024, 2048]⟩
abbrev S2048x2048 : Shape := ⟨2, ![2048, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x14336, .bf16⟩
  | .hbm, ⟨2, _⟩ => ⟨S4096x14336, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .f32⟩
  | .local _ .vmem, ⟨5, _⟩ => ⟨S1024x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2048 : Shape := ⟨2, ![4096, 2048]⟩
abbrev S2048x14336 : Shape := ⟨2, ![2048, 14336]⟩
abbrev S4096x14336 : Shape := ⟨2, ![4096, 14336]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x14336, .bf16⟩
  | .hbm, ⟨2, _⟩ => ⟨S4096x2048, .f32⟩
  | .hbm, ⟨3, _⟩ => ⟨S2048x14336, .f32⟩
  | .hbm, ⟨4, _⟩ => ⟨S4096x14336, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel4.lean ====
abbrev S4096x14336 : Shape := ⟨2, ![4096, 14336]⟩
abbrev S2048x14336 : Shape := ⟨2, ![2048, 14336]⟩
abbrev S8x128 : Shape := ⟨2, ![8, 128]⟩
abbrev S4096x2048 : Shape := ⟨2, ![4096, 2048]⟩
abbrev S1024x3584 : Shape := ⟨2, ![1024, 3584]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x14336, .bf16⟩
  | .hbm, ⟨1, _⟩ => ⟨S2048x14336, .bf16⟩
  | .hbm, ⟨2, _⟩ => ⟨S8x128, .f32⟩
  | .hbm, ⟨3, _⟩ => ⟨S4096x2048, .f32⟩
  | .local _ .vmem, ⟨0, _⟩ => ⟨S1024x3584, .bf16⟩
  | .local _ .vmem, ⟨1, _⟩ => ⟨S1024x3584, .bf16⟩
  | .local _ .vmem, ⟨2, _⟩ => ⟨S1024x3584, .bf16⟩
  | .local _ .vmem, ⟨3, _⟩ => ⟨S1024x3584, .bf16⟩
  | .local _ .vmem, ⟨4, _⟩ => ⟨S8x128, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S4096x14336 : Shape := ⟨2, ![4096, 14336]⟩
abbrev S2048x14336 : Shape := ⟨2, ![2048, 14336]⟩
abbrev S8x128 : Shape := ⟨2, ![8, 128]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x14336, .bf16⟩
  | .hbm, ⟨1, _⟩ => ⟨S2048x14336, .bf16⟩
  | .hbm, ⟨2, _⟩ => ⟨S8x128, .f32⟩
  | .hbm, ⟨3, _⟩ => ⟨S2048x14336, .f32⟩
  | .hbm, ⟨4, _⟩ => ⟨S4096x14336, .f32⟩
  | .hbm, ⟨5, _⟩ => ⟨S4096x2048, .f32⟩
  | _, _ => ⟨S4096x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel5.lean ====
abbrev S4096x2048 : Shape := ⟨2, ![4096, 2048]⟩
abbrev S2048x14336 : Shape := ⟨2, ![2048, 14336]⟩
abbrev S8x128 : Shape := ⟨2, ![8, 128]⟩
abbrev S4096x14336 : Shape := ⟨2, ![4096, 14336]⟩
abbrev S1024x2048 : Shape := ⟨2, ![1024, 2048]⟩
abbrev S2048x2048 : Shape := ⟨2, ![2048, 2048]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x14336, .bf16⟩
  | .hbm, ⟨2, _⟩ => ⟨S8x128, .f32⟩
  | .hbm, ⟨3, _⟩ => ⟨S4096x14336, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S8x128, .f32⟩
  | .local _ .vmem, ⟨5, _⟩ => ⟨S1024x2048, .f32⟩
  | .local _ .vmem, ⟨6, _⟩ => ⟨S1024x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S4096x2048 : Shape := ⟨2, ![4096, 2048]⟩
abbrev S2048x14336 : Shape := ⟨2, ![2048, 14336]⟩
abbrev S8x128 : Shape := ⟨2, ![8, 128]⟩
abbrev S4096x14336 : Shape := ⟨2, ![4096, 14336]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x14336, .bf16⟩
  | .hbm, ⟨2, _⟩ => ⟨S8x128, .f32⟩
  | .hbm, ⟨3, _⟩ => ⟨S4096x2048, .f32⟩
  | .hbm, ⟨4, _⟩ => ⟨S2048x14336, .f32⟩
  | .hbm, ⟨5, _⟩ => ⟨S4096x14336, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel6.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference6Ideal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S4096x2048 : Shape := ⟨2, ![4096, 2048]⟩
abbrev S2048x2048 : Shape := ⟨2, ![2048, 2048]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S2048x2048, .f32⟩
  | .hbm, ⟨6, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel8.lean ====
abbrev S4096x2048 : Shape := ⟨2, ![4096, 2048]⟩
abbrev S2048x2048 : Shape := ⟨2, ![2048, 2048]⟩
abbrev S8x128 : Shape := ⟨2, ![8, 128]⟩
abbrev S1024x2048 : Shape := ⟨2, ![1024, 2048]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S8x128, .f32⟩
  | .hbm, ⟨3, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S8x128, .f32⟩
  | .local _ .vmem, ⟨4, _⟩ => ⟨S1024x2048, .bf16⟩
  | .local _ .vmem, ⟨5, _⟩ => ⟨S1024x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S4096x2048 : Shape := ⟨2, ![4096, 2048]⟩
abbrev S2048x2048 : Shape := ⟨2, ![2048, 2048]⟩
abbrev S8x128 : Shape := ⟨2, ![8, 128]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S8x128, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S4096x2048 : Shape := ⟨2, ![4096, 2048]⟩
abbrev S2048x2048 : Shape := ⟨2, ![2048, 2048]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .bf16⟩
  | .local _ .vmem, ⟨4, _⟩ => ⟨S1024x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x2048 : Shape := ⟨2, ![4096, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S2048x2048, .f32⟩
  | .hbm, ⟨3, _⟩ => ⟨S4096x2048, .f32⟩
  | .hbm, ⟨4, _⟩ => ⟨S4096x2048, .f32⟩
  | .hbm, ⟨5, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel10.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x1024, .f32⟩
  | .hbm, ⟨3, _⟩ => ⟨S1024x2048, .f32⟩
  | .hbm, ⟨4, _⟩ => ⟨S4096x2048, .f32⟩
  | .hbm, ⟨5, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel11.lean ====
abbrev S4096x2048 : Shape := ⟨2, ![4096, 2048]⟩
abbrev S1024x2048 : Shape := ⟨2, ![1024, 2048]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .bf16⟩
  | .local _ .vmem, ⟨4, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x2048 : Shape := ⟨2, ![4096, 2048]⟩
abbrev S1024x2048 : Shape := ⟨2, ![1024, 2048]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S1024x2048, .f32⟩
  | .hbm, ⟨3, _⟩ => ⟨S4096x2048, .f32⟩
  | .hbm, ⟨4, _⟩ => ⟨S4096x1024, .f32⟩
  | .hbm, ⟨5, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel12.lean ====
abbrev S4096x1024 : Shape := ⟨2, ![4096, 1024]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x1024 : Shape := ⟨2, ![4096, 1024]⟩
abbrev S4096x2048 : Shape := ⟨2, ![4096, 2048]⟩
abbrev S2048x1024 : Shape := ⟨2, ![2048, 1024]⟩
abbrev S1024x2048 : Shape := ⟨2, ![1024, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4096x1024, .f32⟩
  | .hbm, ⟨3, _⟩ => ⟨S4096x2048, .f32⟩
  | .hbm, ⟨4, _⟩ => ⟨S2048x1024, .f32⟩
  | .hbm, ⟨5, _⟩ => ⟨S1024x2048, .f32⟩
  | .hbm, ⟨6, _⟩ => ⟨S1024x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel13.lean ====
abbrev S1x13312x128 : Shape := ⟨3, ![1, 13312, 128]⟩
abbrev S8x13312x128 : Shape := ⟨3, ![8, 13312, 128]⟩
abbrev S1x512x128 : Shape := ⟨3, ![1, 512, 128]⟩
abbrev S8x512x128 : Shape := ⟨3, ![8, 512, 128]⟩
abbrev S512x128 : Shape := ⟨2, ![512, 128]⟩

abbrev nBuf : Space → Nat
  | .hbm => 8
  | .vmem => 16
  | .smem => 0
  | _ => 0

abbrev bufTy : (tb : Table) → Fin (tcTables nBuf tb) → BufTy
  | .hbm, ⟨0, _⟩ => ⟨S1x13312x128, .f32⟩
  | .hbm, ⟨1, _⟩ => ⟨S1x13312x128, .f32⟩
  | .hbm, ⟨2, _⟩ => ⟨S1x13312x128, .f32⟩
  | .hbm, ⟨3, _⟩ => ⟨S8x13312x128, .bf16⟩
  | .hbm, ⟨4, _⟩ => ⟨S1x13312x128, .f32⟩
  | .hbm, ⟨5, _⟩ => ⟨S1x13312x128, .f32⟩
  | .hbm, ⟨6, _⟩ => ⟨S1x13312x128, .f32⟩
  | .hbm, ⟨7, _⟩ => ⟨S1x13312x128, .f32⟩
  | .local _ .vmem, ⟨0, _⟩ => ⟨S1x512x128, .f32⟩
  | .local _ .vmem, ⟨1, _⟩ => ⟨S1x512x128, .f32⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S8x512x128, .bf16⟩
  | .local _ .vmem, ⟨7, _⟩ => ⟨S8x512x128, .bf16⟩
  | .local _ .vmem, ⟨8, _⟩ => ⟨S1x512x128, .f32⟩
  | .local _ .vmem, ⟨9, _⟩ => ⟨S1x512x128, .f32⟩
  | .local _ .vmem, ⟨10, _⟩ => ⟨S1x512x128, .f32⟩
  | .local _ .vmem, ⟨11, _⟩ => ⟨S1x512x128, .f32⟩
  | .local _ .vmem, ⟨12, _⟩ => ⟨S1x512x128, .f32⟩
  | .local _ .vmem, ⟨13, _⟩ => ⟨S1x512x128, .f32⟩
  | .local _ .vmem, ⟨14, _⟩ => ⟨S1x512x128, .f32⟩
  | .local _ .vmem, ⟨15, _⟩ => ⟨S1x512x128, .f32⟩
  | _, _ => ⟨S1x13312x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![26], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference13Ideal.lean ====
abbrev S1x13312x128 : Shape := ⟨3, ![1, 13312, 128]⟩
abbrev S8x13312x128 : Shape := ⟨3, ![8, 13312, 128]⟩
abbrev S_ : Shape := ⟨0, ![]⟩
abbrev S13312x128 : Shape := ⟨2, ![13312, 128]⟩

abbrev nBuf : Space → Nat
  | .hbm => 23
  | .vmem => 0
  | .smem => 0
  | _ => 0

abbrev bufTy : (tb : Table) → Fin (tcTables nBuf tb) → BufTy
  | .hbm, ⟨0, _⟩ => ⟨S1x13312x128, .f32⟩
  | .hbm, ⟨1, _⟩ => ⟨S1x13312x128, .f32⟩
  | .hbm, ⟨2, _⟩ => ⟨S1x13312x128, .f32⟩
  | .hbm, ⟨3, _⟩ => ⟨S8x13312x128, .bf16⟩
  | .hbm, ⟨4, _⟩ => ⟨S8x13312x128, .f32⟩
  | .hbm, ⟨5, _⟩ => ⟨S_, .f32⟩
  | .hbm, ⟨6, _⟩ => ⟨S13312x128, .f32⟩
  | .hbm, ⟨7, _⟩ => ⟨S1x13312x128, .f32⟩
  | .hbm, ⟨8, _⟩ => ⟨S_, .f32⟩
  | .hbm, ⟨9, _⟩ => ⟨S1x13312x128, .f32⟩
  | .hbm, ⟨10, _⟩ => ⟨S1x13312x128, .f32⟩
  | .hbm, ⟨11, _⟩ => ⟨S_, .f32⟩
  | .hbm, ⟨12, _⟩ => ⟨S1x13312x128, .f32⟩
  | .hbm, ⟨13, _⟩ => ⟨S1x13312x128, .f32⟩
  | .hbm, ⟨14, _⟩ => ⟨S1x13312x128, .f32⟩
  | .hbm, ⟨15, _⟩ => ⟨S_, .f32⟩
  | .hbm, ⟨16, _⟩ => ⟨S1x13312x128, .f32⟩
  | .hbm, ⟨17, _⟩ => ⟨S1x13312x128, .f32⟩
  | .hbm, ⟨18, _⟩ => ⟨S1x13312x128, .f32⟩
  | .hbm, ⟨19, _⟩ => ⟨S_, .f32⟩
  | .hbm, ⟨20, _⟩ => ⟨S1x13312x128, .f32⟩
  | .hbm, ⟨21, _⟩ => ⟨S1x13312x128, .f32⟩
  | .hbm, ⟨22, _⟩ => ⟨S1x13312x128, .f32⟩
  | _, _ => ⟨S1x13312x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== Kernel14.lean ====
abbrev S1x16x128 : Shape := ⟨3, ![1, 16, 128]⟩
abbrev S16x128 : Shape := ⟨2, ![16, 128]⟩

abbrev nBuf : Space → Nat
  | .hbm => 8
  | .vmem => 8
  | .smem => 0
  | _ => 0

abbrev bufTy : (tb : Table) → Fin (tcTables nBuf tb) → BufTy
  | .hbm, ⟨0, _⟩ => ⟨S1x16x128, .f32⟩
  | .hbm, ⟨1, _⟩ => ⟨S1x16x128, .f32⟩
  | .hbm, ⟨2, _⟩ => ⟨S1x16x128, .f32⟩
  | .hbm, ⟨3, _⟩ => ⟨S1x16x128, .f32⟩
  | .hbm, ⟨4, _⟩ => ⟨S1x16x128, .f32⟩
  | .hbm, ⟨5, _⟩ => ⟨S1x16x128, .f32⟩
  | .hbm, ⟨6, _⟩ => ⟨S1x16x128, .f32⟩
  | .hbm, ⟨7, _⟩ => ⟨S1x16x128, .f32⟩
  | .local _ .vmem, ⟨0, _⟩ => ⟨S1x16x128, .f32⟩
  | .local _ .vmem, ⟨1, _⟩ => ⟨S1x16x128, .f32⟩
  | .local _ .vmem, ⟨2, _⟩ => ⟨S1x16x128, .f32⟩
  | .local _ .vmem, ⟨3, _⟩ => ⟨S1x16x128, .f32⟩
  | .local _ .vmem, ⟨4, _⟩ => ⟨S1x16x128, .f32⟩
  | .local _ .vmem, ⟨5, _⟩ => ⟨S1x16x128, .f32⟩
  | .local _ .vmem, ⟨6, _⟩ => ⟨S1x16x128, .f32⟩
  | .local _ .vmem, ⟨7, _⟩ => ⟨S1x16x128, .f32⟩
  | _, _ => ⟨S1x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference14Ideal.lean ====
abbrev S1x16x128 : Shape := ⟨3, ![1, 16, 128]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S1x16x128, .f32⟩
  | .hbm, ⟨1, _⟩ => ⟨S1x16x128, .f32⟩
  | .hbm, ⟨2, _⟩ => ⟨S1x16x128, .f32⟩
  | .hbm, ⟨3, _⟩ => ⟨S1x16x128, .f32⟩
  | .hbm, ⟨4, _⟩ => ⟨S_, .f32⟩
  | .hbm, ⟨5, _⟩ => ⟨S1x16x128, .f32⟩
  | .hbm, ⟨6, _⟩ => ⟨S1x16x128, .f32⟩
  | .hbm, ⟨7, _⟩ => ⟨S_, .f32⟩
  | .hbm, ⟨8, _⟩ => ⟨S1x16x128, .f32⟩
  | .hbm, ⟨9, _⟩ => ⟨S1x16x128, .f32⟩
  | .hbm, ⟨10, _⟩ => ⟨S1x16x128, .f32⟩
  | .hbm, ⟨11, _⟩ => ⟨S_, .f32⟩
  | .hbm, ⟨12, _⟩ => ⟨S1x16x128, .f32⟩
  | .hbm, ⟨13, _⟩ => ⟨S1x16x128, .f32⟩
  | .hbm, ⟨14, _⟩ => ⟨S1x16x128, .f32⟩
  | .hbm, ⟨15, _⟩ => ⟨S_, .f32⟩
  | .hbm, ⟨16, _⟩ => ⟨S1x16x128, .f32⟩
  | .hbm, ⟨17, _⟩ => ⟨S1x16x128, .f32⟩
  | .hbm, ⟨18, _⟩ => ⟨S1x16x128, .f32⟩
  | _, _ => ⟨S1x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]
-- ==== Proof.Run.lean ====
/- The run of the one pipeline with its outputs named: what every grid point leaves in the output windows and in the two
   carried rows, as a recursion over the points, and the launch read through it. -/
module

public import proofs.«01_k».proof.Proof.Gen.KernelIdeal.Frame.RunB
public import Idealize.ShloMosaic.Lib.Claim

@[expose] public section

set_option maxRecDepth 16384
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What one grid point leaves: the gradient rows of the input, the six running parameter gradients of its column
    block, and the two carried rows of the scan. -/
structure Left (F : FTy → Type) [FloatOps F] where
  du : Vec F S512x128 .bf16
  bre : Vec F S1x128x512 .f32
  bim : Vec F S1x128x512 .f32
  cre : Vec F S1x512x128 .f32
  cim : Vec F S1x512x128 .f32
  are : Vec F S1x1x512 .f32
  aim : Vec F S1x1x512 .f32
  kre : Vec F S1x512 .f32
  kim : Vec F S1x512 .f32

variable (m : (ℓ : Loc nD τ sig) → Buf (Elt F) ℓ) (ρ : Dev nD → PrngReg)

/-- The body's run at the first point of a column block, at that point's buffers and input blocks. -/
def runA (c : Dev nD) (t : Fin cfg0.N) (h0 : t.val % 8 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) ((hcond0_0 t).mpr h0) ((hcond0_1 t).mpr h0) (fun h => (show ¬1 ≤ t.val % 8 by omega) ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)

/-- The body's run at a later point of a column block, over what the point before left. -/
def runB (c : Dev nD) (t : Fin cfg0.N) (h0 : ¬t.val % 8 = 0) (p : Left F) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) (fun h => h0 ((hcond0_0 t).mp h)) (fun h => h0 ((hcond0_1 t).mp h)) ((hcond0_2 t).mpr (by omega)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) p.bre p.bim p.cre p.cim p.are p.aim p.kre p.kim

/-- The stores of that run into `du` cover its buffer. -/
theorem coverA_du (c : Dev nD) (t : Fin cfg0.N) (h0 : t.val % 8 = 0) (y : S512x128.Idx) : ∃ pc ∈ (runA m c t h0).1, y ∈ pc.1.set :=
  View.cover_of_tiledL (runA m c t h0).1 S512x128.size (by sl_kernel_rfl) y

/-- The stores of that run into `bre` cover its buffer. -/
theorem coverA_bre (c : Dev nD) (t : Fin cfg0.N) (h0 : t.val % 8 = 0) (y : S1x128x512.Idx) : ∃ pc ∈ (runA m c t h0).2.1, y ∈ pc.1.set :=
  View.cover_of_tiledL (runA m c t h0).2.1 S1x128x512.size (by sl_kernel_rfl) y

/-- The stores of that run into `bim` cover its buffer. -/
theorem coverA_bim (c : Dev nD) (t : Fin cfg0.N) (h0 : t.val % 8 = 0) (y : S1x128x512.Idx) : ∃ pc ∈ (runA m c t h0).2.2.1, y ∈ pc.1.set :=
  View.cover_of_tiledL (runA m c t h0).2.2.1 S1x128x512.size (by sl_kernel_rfl) y

/-- The stores of that run into `cre` cover its buffer. -/
theorem coverA_cre (c : Dev nD) (t : Fin cfg0.N) (h0 : t.val % 8 = 0) (y : S1x512x128.Idx) : ∃ pc ∈ (runA m c t h0).2.2.2.1, y ∈ pc.1.set :=
  View.cover_of_tiledL (runA m c t h0).2.2.2.1 S1x512x128.size (by sl_kernel_rfl) y

/-- The stores of that run into `cim` cover its buffer. -/
theorem coverA_cim (c : Dev nD) (t : Fin cfg0.N) (h0 : t.val % 8 = 0) (y : S1x512x128.Idx) : ∃ pc ∈ (runA m c t h0).2.2.2.2.1, y ∈ pc.1.set :=
  View.cover_of_tiledL (runA m c t h0).2.2.2.2.1 S1x512x128.size (by sl_kernel_rfl) y

/-- The stores of that run into `are` cover its buffer. -/
theorem coverA_are (c : Dev nD) (t : Fin cfg0.N) (h0 : t.val % 8 = 0) (y : S1x1x512.Idx) : ∃ pc ∈ (runA m c t h0).2.2.2.2.2.1, y ∈ pc.1.set :=
  View.cover_of_tiledL (runA m c t h0).2.2.2.2.2.1 S1x1x512.size (by sl_kernel_rfl) y

/-- The stores of that run into `aim` cover its buffer. -/
theorem coverA_aim (c : Dev nD) (t : Fin cfg0.N) (h0 : t.val % 8 = 0) (y : S1x1x512.Idx) : ∃ pc ∈ (runA m c t h0).2.2.2.2.2.2.1, y ∈ pc.1.set :=
  View.cover_of_tiledL (runA m c t h0).2.2.2.2.2.2.1 S1x1x512.size (by sl_kernel_rfl) y

/-- The stores of that run into `kre` cover its buffer. -/
theorem coverA_kre (c : Dev nD) (t : Fin cfg0.N) (h0 : t.val % 8 = 0) (y : S1x512.Idx) : ∃ pc ∈ (runA m c t h0).2.2.2.2.2.2.2.1, y ∈ pc.1.set :=
  View.cover_of_tiledL (runA m c t h0).2.2.2.2.2.2.2.1 S1x512.size (by sl_kernel_rfl) y

/-- The stores of that run into `kim` cover its buffer. -/
theorem coverA_kim (c : Dev nD) (t : Fin cfg0.N) (h0 : t.val % 8 = 0) (y : S1x512.Idx) : ∃ pc ∈ (runA m c t h0).2.2.2.2.2.2.2.2.1, y ∈ pc.1.set :=
  View.cover_of_tiledL (runA m c t h0).2.2.2.2.2.2.2.2.1 S1x512.size (by sl_kernel_rfl) y

/-- What that run leaves, read back from its stores. -/
def leavesA (c : Dev nD) (t : Fin cfg0.N) (h0 : t.val % 8 = 0) : Left F where
  du := VO0_13.read (Elt F) (VO0_13.writes (Elt F) VO0_13.junk (runA m c t h0).1)
  bre := VO0_14.read (Elt F) (VO0_14.writes (Elt F) VO0_14.junk (runA m c t h0).2.1)
  bim := VO0_15.read (Elt F) (VO0_15.writes (Elt F) VO0_15.junk (runA m c t h0).2.2.1)
  cre := VO0_16.read (Elt F) (VO0_16.writes (Elt F) VO0_16.junk (runA m c t h0).2.2.2.1)
  cim := VO0_17.read (Elt F) (VO0_17.writes (Elt F) VO0_17.junk (runA m c t h0).2.2.2.2.1)
  are := VO0_18.read (Elt F) (VO0_18.writes (Elt F) VO0_18.junk (runA m c t h0).2.2.2.2.2.1)
  aim := VO0_19.read (Elt F) (VO0_19.writes (Elt F) VO0_19.junk (runA m c t h0).2.2.2.2.2.2.1)
  kre := VS0_0.read (Elt F) (VS0_0.writes (Elt F) VS0_0.junk (runA m c t h0).2.2.2.2.2.2.2.1)
  kim := VS0_1.read (Elt F) (VS0_1.writes (Elt F) VS0_1.junk (runA m c t h0).2.2.2.2.2.2.2.2.1)

/-- The stores of that run into `du` cover its buffer. -/
theorem coverB_du (c : Dev nD) (t : Fin cfg0.N) (h0 : ¬t.val % 8 = 0) (p : Left F) (y : S512x128.Idx) : ∃ pc ∈ (runB m c t h0 p).1, y ∈ pc.1.set :=
  View.cover_of_tiledL (runB m c t h0 p).1 S512x128.size (by sl_kernel_rfl) y

/-- The stores of that run into `bre` cover its buffer. -/
theorem coverB_bre (c : Dev nD) (t : Fin cfg0.N) (h0 : ¬t.val % 8 = 0) (p : Left F) (y : S1x128x512.Idx) : ∃ pc ∈ (runB m c t h0 p).2.1, y ∈ pc.1.set :=
  View.cover_of_tiledL (runB m c t h0 p).2.1 S1x128x512.size (by sl_kernel_rfl) y

/-- The stores of that run into `bim` cover its buffer. -/
theorem coverB_bim (c : Dev nD) (t : Fin cfg0.N) (h0 : ¬t.val % 8 = 0) (p : Left F) (y : S1x128x512.Idx) : ∃ pc ∈ (runB m c t h0 p).2.2.1, y ∈ pc.1.set :=
  View.cover_of_tiledL (runB m c t h0 p).2.2.1 S1x128x512.size (by sl_kernel_rfl) y

/-- The stores of that run into `cre` cover its buffer. -/
theorem coverB_cre (c : Dev nD) (t : Fin cfg0.N) (h0 : ¬t.val % 8 = 0) (p : Left F) (y : S1x512x128.Idx) : ∃ pc ∈ (runB m c t h0 p).2.2.2.1, y ∈ pc.1.set :=
  View.cover_of_tiledL (runB m c t h0 p).2.2.2.1 S1x512x128.size (by sl_kernel_rfl) y

/-- The stores of that run into `cim` cover its buffer. -/
theorem coverB_cim (c : Dev nD) (t : Fin cfg0.N) (h0 : ¬t.val % 8 = 0) (p : Left F) (y : S1x512x128.Idx) : ∃ pc ∈ (runB m c t h0 p).2.2.2.2.1, y ∈ pc.1.set :=
  View.cover_of_tiledL (runB m c t h0 p).2.2.2.2.1 S1x512x128.size (by sl_kernel_rfl) y

/-- The stores of that run into `are` cover its buffer. -/
theorem coverB_are (c : Dev nD) (t : Fin cfg0.N) (h0 : ¬t.val % 8 = 0) (p : Left F) (y : S1x1x512.Idx) : ∃ pc ∈ (runB m c t h0 p).2.2.2.2.2.1, y ∈ pc.1.set :=
  View.cover_of_tiledL (runB m c t h0 p).2.2.2.2.2.1 S1x1x512.size (by sl_kernel_rfl) y

/-- The stores of that run into `aim` cover its buffer. -/
theorem coverB_aim (c : Dev nD) (t : Fin cfg0.N) (h0 : ¬t.val % 8 = 0) (p : Left F) (y : S1x1x512.Idx) : ∃ pc ∈ (runB m c t h0 p).2.2.2.2.2.2.1, y ∈ pc.1.set :=
  View.cover_of_tiledL (runB m c t h0 p).2.2.2.2.2.2.1 S1x1x512.size (by sl_kernel_rfl) y

/-- The stores of that run into `kre` cover its buffer. -/
theorem coverB_kre (c : Dev nD) (t : Fin cfg0.N) (h0 : ¬t.val % 8 = 0) (p : Left F) (y : S1x512.Idx) : ∃ pc ∈ (runB m c t h0 p).2.2.2.2.2.2.2.1, y ∈ pc.1.set :=
  View.cover_of_tiledL (runB m c t h0 p).2.2.2.2.2.2.2.1 S1x512.size (by sl_kernel_rfl) y

/-- The stores of that run into `kim` cover its buffer. -/
theorem coverB_kim (c : Dev nD) (t : Fin cfg0.N) (h0 : ¬t.val % 8 = 0) (p : Left F) (y : S1x512.Idx) : ∃ pc ∈ (runB m c t h0 p).2.2.2.2.2.2.2.2.1, y ∈ pc.1.set :=
  View.cover_of_tiledL (runB m c t h0 p).2.2.2.2.2.2.2.2.1 S1x512.size (by sl_kernel_rfl) y

/-- What that run leaves, read back from its stores. -/
def leavesB (c : Dev nD) (t : Fin cfg0.N) (h0 : ¬t.val % 8 = 0) (p : Left F) : Left F where
  du := VO0_13.read (Elt F) (VO0_13.writes (Elt F) VO0_13.junk (runB m c t h0 p).1)
  bre := VO0_14.read (Elt F) (VO0_14.writes (Elt F) VO0_14.junk (runB m c t h0 p).2.1)
  bim := VO0_15.read (Elt F) (VO0_15.writes (Elt F) VO0_15.junk (runB m c t h0 p).2.2.1)
  cre := VO0_16.read (Elt F) (VO0_16.writes (Elt F) VO0_16.junk (runB m c t h0 p).2.2.2.1)
  cim := VO0_17.read (Elt F) (VO0_17.writes (Elt F) VO0_17.junk (runB m c t h0 p).2.2.2.2.1)
  are := VO0_18.read (Elt F) (VO0_18.writes (Elt F) VO0_18.junk (runB m c t h0 p).2.2.2.2.2.1)
  aim := VO0_19.read (Elt F) (VO0_19.writes (Elt F) VO0_19.junk (runB m c t h0 p).2.2.2.2.2.2.1)
  kre := VS0_0.read (Elt F) (VS0_0.writes (Elt F) VS0_0.junk (runB m c t h0 p).2.2.2.2.2.2.2.1)
  kim := VS0_1.read (Elt F) (VS0_1.writes (Elt F) VS0_1.junk (runB m c t h0 p).2.2.2.2.2.2.2.2.1)

/-- What the points up to the one numbered `n` leave: a block's first point starts afresh, a later one continues. -/
def left (c : Dev nD) : (n : ℕ) → n < cfg0.N → Left F
  | 0, hn => leavesA m c ⟨0, hn⟩ (Nat.zero_mod 8)
  | n + 1, hn =>
    if h : (n + 1) % 8 = 0 then leavesA m c ⟨n + 1, hn⟩ h
    else leavesB m c ⟨n + 1, hn⟩ h (left c n (Nat.lt_of_succ_lt hn))

/-- At the first point of a block. -/
theorem left_A (c : Dev nD) (t : Fin cfg0.N) (h0 : t.val % 8 = 0) : left m c t.val t.isLt = leavesA m c t h0 := by
  obtain ⟨n, hn⟩ := t
  cases n with
  | zero => exact rfl
  | succ n => exact dif_pos h0

/-- What the point before `t` left. -/
abbrev prior (c : Dev nD) (t : Fin cfg0.N) : Left F := left m c (t.val - 1) (Nat.lt_of_le_of_lt (Nat.sub_le _ _) t.isLt)

/-- At a later point of a block. -/
theorem left_B (c : Dev nD) (t : Fin cfg0.N) (h0 : ¬t.val % 8 = 0) :
    left m c t.val t.isLt = leavesB m c t h0 (prior m c t) := by
  obtain ⟨n, hn⟩ := t
  cases n with
  | zero => exact absurd (Nat.zero_mod 8) h0
  | succ n => exact dif_neg h0

/-- The two carried rows owned at `p`'s, with the generator register at some state. -/
def Carries (c : Dev nD) (p : Left F) : sProp 𝕄 :=
  iprop(iprop(owns (c : Thread nD τ) scM0_0 fullShare p.kre ∗ owns (c : Thread nD τ) scM0_1 fullShare p.kim) ∗ (∃ r, prngReg c r))

/-- The invariant before point `n`. -/
def Inv (c : Dev nD) : (n : ℕ) → n ≤ cfg0.N → sProp 𝕄
  | 0, _ => Pipeline.ΦA spec0 c
  | n + 1, hn => Carries c (left m c n hn)

/-- Before a point that is not the first the carried rows are the ones the point before left. -/
theorem Inv_pos (c : Dev nD) (n : ℕ) (h : n ≤ cfg0.N) (hz : n ≠ 0) :
    Inv m c n h = Carries c (left m c (n - 1) (by omega)) := by
  cases n with
  | zero => exact absurd rfl hz
  | succ n => rfl

/-- The proof data: input windows hold their blocks after every point, output windows what `left` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (left m c t.val t.isLt).du
    | ⟨14, _⟩ => (left m c t.val t.isLt).bre
    | ⟨15, _⟩ => (left m c t.val t.isLt).bim
    | ⟨16, _⟩ => (left m c t.val t.isLt).cre
    | ⟨17, _⟩ => (left m c t.val t.isLt).cim
    | ⟨18, _⟩ => (left m c t.val t.isLt).are
    | ⟨19, _⟩ => (left m c t.val t.isLt).aim
    | ⟨_ + 20, h⟩ => absurd h (Nat.not_lt.2 (Nat.le_add_left _ _))
  Φ t := Inv m c t.val (Nat.le_of_lt_succ t.isLt)
  q w := Pipeline.shareOf spec0 w
  owed _ := 0

/-- The arrays the data name are the ones the region finds. -/
theorem A_eq (c : Dev nD) (w : Fin cfg0.W) : (dats m 0 c).A w = V m c (Pipeline.arrRef spec0 w) := by
  dsimp only [dats]

/-- What a point leaves in window 0. -/
theorem after0_0 (c : Dev nD) (t : Fin cfg0.N) : (dats m 0 c).after 0 t = iblk m c 0 t := by dsimp only [dats]
/-- What a point leaves in window 1. -/
theorem after0_1 (c : Dev nD) (t : Fin cfg0.N) : (dats m 0 c).after 1 t = iblk m c 1 t := by dsimp only [dats]
/-- What a point leaves in window 2. -/
theorem after0_2 (c : Dev nD) (t : Fin cfg0.N) : (dats m 0 c).after 2 t = iblk m c 2 t := by dsimp only [dats]
/-- What a point leaves in window 3. -/
theorem after0_3 (c : Dev nD) (t : Fin cfg0.N) : (dats m 0 c).after 3 t = iblk m c 3 t := by dsimp only [dats]
/-- What a point leaves in window 4. -/
theorem after0_4 (c : Dev nD) (t : Fin cfg0.N) : (dats m 0 c).after 4 t = iblk m c 4 t := by dsimp only [dats]
/-- What a point leaves in window 5. -/
theorem after0_5 (c : Dev nD) (t : Fin cfg0.N) : (dats m 0 c).after 5 t = iblk m c 5 t := by dsimp only [dats]
/-- What a point leaves in window 6. -/
theorem after0_6 (c : Dev nD) (t : Fin cfg0.N) : (dats m 0 c).after 6 t = iblk m c 6 t := by dsimp only [dats]
/-- What a point leaves in window 7. -/
theorem after0_7 (c : Dev nD) (t : Fin cfg0.N) : (dats m 0 c).after 7 t = iblk m c 7 t := by dsimp only [dats]
/-- What a point leaves in window 8. -/
theorem after0_8 (c : Dev nD) (t : Fin cfg0.N) : (dats m 0 c).after 8 t = iblk m c 8 t := by dsimp only [dats]
/-- What a point leaves in window 9. -/
theorem after0_9 (c : Dev nD) (t : Fin cfg0.N) : (dats m 0 c).after 9 t = iblk m c 9 t := by dsimp only [dats]
/-- What a point leaves in window 10. -/
theorem after0_10 (c : Dev nD) (t : Fin cfg0.N) : (dats m 0 c).after 10 t = iblk m c 10 t := by dsimp only [dats]
/-- What a point leaves in window 11. -/
theorem after0_11 (c : Dev nD) (t : Fin cfg0.N) : (dats m 0 c).after 11 t = iblk m c 11 t := by dsimp only [dats]
/-- What a point leaves in window 12. -/
theorem after0_12 (c : Dev nD) (t : Fin cfg0.N) : (dats m 0 c).after 12 t = iblk m c 12 t := by dsimp only [dats]
/-- What a point leaves in window 13. -/
theorem after0_13 (c : Dev nD) (t : Fin cfg0.N) : (dats m 0 c).after 13 t = (left m c t.val t.isLt).du := by dsimp only [dats]
/-- What a point leaves in window 14. -/
theorem after0_14 (c : Dev nD) (t : Fin cfg0.N) : (dats m 0 c).after 14 t = (left m c t.val t.isLt).bre := by dsimp only [dats]
/-- What a point leaves in window 15. -/
theorem after0_15 (c : Dev nD) (t : Fin cfg0.N) : (dats m 0 c).after 15 t = (left m c t.val t.isLt).bim := by dsimp only [dats]
/-- What a point leaves in window 16. -/
theorem after0_16 (c : Dev nD) (t : Fin cfg0.N) : (dats m 0 c).after 16 t = (left m c t.val t.isLt).cre := by dsimp only [dats]
/-- What a point leaves in window 17. -/
theorem after0_17 (c : Dev nD) (t : Fin cfg0.N) : (dats m 0 c).after 17 t = (left m c t.val t.isLt).cim := by dsimp only [dats]
/-- What a point leaves in window 18. -/
theorem after0_18 (c : Dev nD) (t : Fin cfg0.N) : (dats m 0 c).after 18 t = (left m c t.val t.isLt).are := by dsimp only [dats]
/-- What a point leaves in window 19. -/
theorem after0_19 (c : Dev nD) (t : Fin cfg0.N) : (dats m 0 c).after 19 t = (left m c t.val t.isLt).aim := by dsimp only [dats]

/-- What a point finds in window 0. -/
theorem before0_0 (c : Dev nD) (t : Fin cfg0.N) (d) : (dats m 0 c).before 0 t d = iblk m c 0 t :=
  before0_0_of m (dats m 0 c) (A_eq m c 0) (after0_0 m c) t d
/-- What a point finds in window 1. -/
theorem before0_1 (c : Dev nD) (t : Fin cfg0.N) (d) : (dats m 0 c).before 1 t d = iblk m c 1 t :=
  before0_1_of m (dats m 0 c) (A_eq m c 1) (after0_1 m c) t d
/-- What a point finds in window 2. -/
theorem before0_2 (c : Dev nD) (t : Fin cfg0.N) (d) : (dats m 0 c).before 2 t d = iblk m c 2 t :=
  before0_2_of m (dats m 0 c) (A_eq m c 2) (after0_2 m c) t d
/-- What a point finds in window 3. -/
theorem before0_3 (c : Dev nD) (t : Fin cfg0.N) (d) : (dats m 0 c).before 3 t d = iblk m c 3 t :=
  before0_3_of m (dats m 0 c) (A_eq m c 3) (after0_3 m c) t d
/-- What a point finds in window 4. -/
theorem before0_4 (c : Dev nD) (t : Fin cfg0.N) (d) : (dats m 0 c).before 4 t d = iblk m c 4 t :=
  before0_4_of m (dats m 0 c) (A_eq m c 4) (after0_4 m c) t d
/-- What a point finds in window 5. -/
theorem before0_5 (c : Dev nD) (t : Fin cfg0.N) (d) : (dats m 0 c).before 5 t d = iblk m c 5 t :=
  before0_5_of m (dats m 0 c) (A_eq m c 5) (after0_5 m c) t d
/-- What a point finds in window 6. -/
theorem before0_6 (c : Dev nD) (t : Fin cfg0.N) (d) : (dats m 0 c).before 6 t d = iblk m c 6 t :=
  before0_6_of m (dats m 0 c) (A_eq m c 6) (after0_6 m c) t d
/-- What a point finds in window 7. -/
theorem before0_7 (c : Dev nD) (t : Fin cfg0.N) (d) : (dats m 0 c).before 7 t d = iblk m c 7 t :=
  before0_7_of m (dats m 0 c) (A_eq m c 7) (after0_7 m c) t d
/-- What a point finds in window 8. -/
theorem before0_8 (c : Dev nD) (t : Fin cfg0.N) (d) : (dats m 0 c).before 8 t d = iblk m c 8 t :=
  before0_8_of m (dats m 0 c) (A_eq m c 8) (after0_8 m c) t d
/-- What a point finds in window 9. -/
theorem before0_9 (c : Dev nD) (t : Fin cfg0.N) (d) : (dats m 0 c).before 9 t d = iblk m c 9 t :=
  before0_9_of m (dats m 0 c) (A_eq m c 9) (after0_9 m c) t d
/-- What a point finds in window 10. -/
theorem before0_10 (c : Dev nD) (t : Fin cfg0.N) (d) : (dats m 0 c).before 10 t d = iblk m c 10 t :=
  before0_10_of m (dats m 0 c) (A_eq m c 10) (after0_10 m c) t d
/-- What a point finds in window 11. -/
theorem before0_11 (c : Dev nD) (t : Fin cfg0.N) (d) : (dats m 0 c).before 11 t d = iblk m c 11 t :=
  before0_11_of m (dats m 0 c) (A_eq m c 11) (after0_11 m c) t d
/-- What a point finds in window 12. -/
theorem before0_12 (c : Dev nD) (t : Fin cfg0.N) (d) : (dats m 0 c).before 12 t d = iblk m c 12 t :=
  before0_12_of m (dats m 0 c) (A_eq m c 12) (after0_12 m c) t d

/-- No point leaves window 14 idle, so nothing has to be carried through one. -/
theorem live0_14 (c : Dev nD) (t : Fin cfg0.N) : cfg0.idle 14 (grid0.coords t) = false := by
  by_cases h0 : t.val % 8 = 0
  · exact liveAt0_14_A t ((hcond0_0 t).mpr h0) ((hcond0_1 t).mpr h0) (fun h => (show ¬1 ≤ t.val % 8 by omega) ((hcond0_2 t).mp h))
  · exact liveAt0_14_B t (fun h => h0 ((hcond0_0 t).mp h)) (fun h => h0 ((hcond0_1 t).mp h)) ((hcond0_2 t).mpr (by omega))

/-- At a later point of a block window 14's buffer still holds what the point before left. -/
theorem before0_14_B (c : Dev nD) (t : Fin cfg0.N) (h0 : ¬t.val % 8 = 0) (d) :
    (dats m 0 c).before 14 t d = (prior m c t).bre := by
  rw [Dat.before_out_traj _ 14 rfl (fun _ _ => rfl)
    (fun s _ hi _ => absurd ((live0_14 c s).symm.trans hi) Bool.false_ne_true) t.val t rfl d,
    if_neg (by rw [notFresh0_14_B t (fun h => h0 ((hcond0_0 t).mp h)) (fun h => h0 ((hcond0_1 t).mp h)) ((hcond0_2 t).mpr (by omega))]; exact Bool.false_ne_true)]
  dsimp only [dats]

/-- No point leaves window 15 idle, so nothing has to be carried through one. -/
theorem live0_15 (c : Dev nD) (t : Fin cfg0.N) : cfg0.idle 15 (grid0.coords t) = false := by
  by_cases h0 : t.val % 8 = 0
  · exact liveAt0_15_A t ((hcond0_0 t).mpr h0) ((hcond0_1 t).mpr h0) (fun h => (show ¬1 ≤ t.val % 8 by omega) ((hcond0_2 t).mp h))
  · exact liveAt0_15_B t (fun h => h0 ((hcond0_0 t).mp h)) (fun h => h0 ((hcond0_1 t).mp h)) ((hcond0_2 t).mpr (by omega))

/-- At a later point of a block window 15's buffer still holds what the point before left. -/
theorem before0_15_B (c : Dev nD) (t : Fin cfg0.N) (h0 : ¬t.val % 8 = 0) (d) :
    (dats m 0 c).before 15 t d = (prior m c t).bim := by
  rw [Dat.before_out_traj _ 15 rfl (fun _ _ => rfl)
    (fun s _ hi _ => absurd ((live0_15 c s).symm.trans hi) Bool.false_ne_true) t.val t rfl d,
    if_neg (by rw [notFresh0_15_B t (fun h => h0 ((hcond0_0 t).mp h)) (fun h => h0 ((hcond0_1 t).mp h)) ((hcond0_2 t).mpr (by omega))]; exact Bool.false_ne_true)]
  dsimp only [dats]

/-- No point leaves window 16 idle, so nothing has to be carried through one. -/
theorem live0_16 (c : Dev nD) (t : Fin cfg0.N) : cfg0.idle 16 (grid0.coords t) = false := by
  by_cases h0 : t.val % 8 = 0
  · exact liveAt0_16_A t ((hcond0_0 t).mpr h0) ((hcond0_1 t).mpr h0) (fun h => (show ¬1 ≤ t.val % 8 by omega) ((hcond0_2 t).mp h))
  · exact liveAt0_16_B t (fun h => h0 ((hcond0_0 t).mp h)) (fun h => h0 ((hcond0_1 t).mp h)) ((hcond0_2 t).mpr (by omega))

/-- At a later point of a block window 16's buffer still holds what the point before left. -/
theorem before0_16_B (c : Dev nD) (t : Fin cfg0.N) (h0 : ¬t.val % 8 = 0) (d) :
    (dats m 0 c).before 16 t d = (prior m c t).cre := by
  rw [Dat.before_out_traj _ 16 rfl (fun _ _ => rfl)
    (fun s _ hi _ => absurd ((live0_16 c s).symm.trans hi) Bool.false_ne_true) t.val t rfl d,
    if_neg (by rw [notFresh0_16_B t (fun h => h0 ((hcond0_0 t).mp h)) (fun h => h0 ((hcond0_1 t).mp h)) ((hcond0_2 t).mpr (by omega))]; exact Bool.false_ne_true)]
  dsimp only [dats]

/-- No point leaves window 17 idle, so nothing has to be carried through one. -/
theorem live0_17 (c : Dev nD) (t : Fin cfg0.N) : cfg0.idle 17 (grid0.coords t) = false := by
  by_cases h0 : t.val % 8 = 0
  · exact liveAt0_17_A t ((hcond0_0 t).mpr h0) ((hcond0_1 t).mpr h0) (fun h => (show ¬1 ≤ t.val % 8 by omega) ((hcond0_2 t).mp h))
  · exact liveAt0_17_B t (fun h => h0 ((hcond0_0 t).mp h)) (fun h => h0 ((hcond0_1 t).mp h)) ((hcond0_2 t).mpr (by omega))

/-- At a later point of a block window 17's buffer still holds what the point before left. -/
theorem before0_17_B (c : Dev nD) (t : Fin cfg0.N) (h0 : ¬t.val % 8 = 0) (d) :
    (dats m 0 c).before 17 t d = (prior m c t).cim := by
  rw [Dat.before_out_traj _ 17 rfl (fun _ _ => rfl)
    (fun s _ hi _ => absurd ((live0_17 c s).symm.trans hi) Bool.false_ne_true) t.val t rfl d,
    if_neg (by rw [notFresh0_17_B t (fun h => h0 ((hcond0_0 t).mp h)) (fun h => h0 ((hcond0_1 t).mp h)) ((hcond0_2 t).mpr (by omega))]; exact Bool.false_ne_true)]
  dsimp only [dats]

/-- No point leaves window 18 idle, so nothing has to be carried through one. -/
theorem live0_18 (c : Dev nD) (t : Fin cfg0.N) : cfg0.idle 18 (grid0.coords t) = false := by
  by_cases h0 : t.val % 8 = 0
  · exact liveAt0_18_A t ((hcond0_0 t).mpr h0) ((hcond0_1 t).mpr h0) (fun h => (show ¬1 ≤ t.val % 8 by omega) ((hcond0_2 t).mp h))
  · exact liveAt0_18_B t (fun h => h0 ((hcond0_0 t).mp h)) (fun h => h0 ((hcond0_1 t).mp h)) ((hcond0_2 t).mpr (by omega))

/-- At a later point of a block window 18's buffer still holds what the point before left. -/
theorem before0_18_B (c : Dev nD) (t : Fin cfg0.N) (h0 : ¬t.val % 8 = 0) (d) :
    (dats m 0 c).before 18 t d = (prior m c t).are := by
  rw [Dat.before_out_traj _ 18 rfl (fun _ _ => rfl)
    (fun s _ hi _ => absurd ((live0_18 c s).symm.trans hi) Bool.false_ne_true) t.val t rfl d,
    if_neg (by rw [notFresh0_18_B t (fun h => h0 ((hcond0_0 t).mp h)) (fun h => h0 ((hcond0_1 t).mp h)) ((hcond0_2 t).mpr (by omega))]; exact Bool.false_ne_true)]
  dsimp only [dats]

/-- No point leaves window 19 idle, so nothing has to be carried through one. -/
theorem live0_19 (c : Dev nD) (t : Fin cfg0.N) : cfg0.idle 19 (grid0.coords t) = false := by
  by_cases h0 : t.val % 8 = 0
  · exact liveAt0_19_A t ((hcond0_0 t).mpr h0) ((hcond0_1 t).mpr h0) (fun h => (show ¬1 ≤ t.val % 8 by omega) ((hcond0_2 t).mp h))
  · exact liveAt0_19_B t (fun h => h0 ((hcond0_0 t).mp h)) (fun h => h0 ((hcond0_1 t).mp h)) ((hcond0_2 t).mpr (by omega))

/-- At a later point of a block window 19's buffer still holds what the point before left. -/
theorem before0_19_B (c : Dev nD) (t : Fin cfg0.N) (h0 : ¬t.val % 8 = 0) (d) :
    (dats m 0 c).before 19 t d = (prior m c t).aim := by
  rw [Dat.before_out_traj _ 19 rfl (fun _ _ => rfl)
    (fun s _ hi _ => absurd ((live0_19 c s).symm.trans hi) Bool.false_ne_true) t.val t rfl d,
    if_neg (by rw [notFresh0_19_B t (fun h => h0 ((hcond0_0 t).mp h)) (fun h => h0 ((hcond0_1 t).mp h)) ((hcond0_2 t).mpr (by omega))]; exact Bool.false_ne_true)]
  dsimp only [dats]

/-- After a point, window 0's buffer is owned in full, with what the point left in it. -/
theorem hold0_0 (c : Dev nD) (t : Fin cfg0.N) :
    (dats m 0 c).leavesExact 0 t = owns (c : Thread nD τ) (ms0_0 t) fullShare ((dats m 0 c).after 0 t) := by
  unfold Dat.leavesExact; rw [liveAt0_0 t]
/-- After a point, window 1's buffer is owned in full, with what the point left in it. -/
theorem hold0_1 (c : Dev nD) (t : Fin cfg0.N) :
    (dats m 0 c).leavesExact 1 t = owns (c : Thread nD τ) (ms0_1 t) fullShare ((dats m 0 c).after 1 t) := by
  unfold Dat.leavesExact; rw [liveAt0_1 t]
/-- After a point, window 2's buffer is owned in full, with what the point left in it. -/
theorem hold0_2 (c : Dev nD) (t : Fin cfg0.N) :
    (dats m 0 c).leavesExact 2 t = owns (c : Thread nD τ) (ms0_2 t) fullShare ((dats m 0 c).after 2 t) := by
  unfold Dat.leavesExact; rw [liveAt0_2 t]
/-- After a point, window 3's buffer is owned in full, with what the point left in it. -/
theorem hold0_3 (c : Dev nD) (t : Fin cfg0.N) :
    (dats m 0 c).leavesExact 3 t = owns (c : Thread nD τ) (ms0_3 t) fullShare ((dats m 0 c).after 3 t) := by
  unfold Dat.leavesExact; rw [liveAt0_3 t]
/-- After a point, window 4's buffer is owned in full, with what the point left in it. -/
theorem hold0_4 (c : Dev nD) (t : Fin cfg0.N) :
    (dats m 0 c).leavesExact 4 t = owns (c : Thread nD τ) (ms0_4 t) fullShare ((dats m 0 c).after 4 t) := by
  unfold Dat.leavesExact; rw [liveAt0_4 t]
/-- After a point, window 5's buffer is owned in full, with what the point left in it. -/
theorem hold0_5 (c : Dev nD) (t : Fin cfg0.N) :
    (dats m 0 c).leavesExact 5 t = owns (c : Thread nD τ) (ms0_5 t) fullShare ((dats m 0 c).after 5 t) := by
  unfold Dat.leavesExact; rw [liveAt0_5 t]
/-- After a point, window 6's buffer is owned in full, with what the point left in it. -/
theorem hold0_6 (c : Dev nD) (t : Fin cfg0.N) :
    (dats m 0 c).leavesExact 6 t = owns (c : Thread nD τ) (ms0_6 t) fullShare ((dats m 0 c).after 6 t) := by
  unfold Dat.leavesExact; rw [liveAt0_6 t]
/-- After a point, window 7's buffer is owned in full, with what the point left in it. -/
theorem hold0_7 (c : Dev nD) (t : Fin cfg0.N) :
    (dats m 0 c).leavesExact 7 t = owns (c : Thread nD τ) (ms0_7 t) fullShare ((dats m 0 c).after 7 t) := by
  unfold Dat.leavesExact; rw [liveAt0_7 t]
/-- After a point, window 8's buffer is owned in full, with what the point left in it. -/
theorem hold0_8 (c : Dev nD) (t : Fin cfg0.N) :
    (dats m 0 c).leavesExact 8 t = owns (c : Thread nD τ) (ms0_8 t) fullShare ((dats m 0 c).after 8 t) := by
  unfold Dat.leavesExact; rw [liveAt0_8 t]
/-- After a point, window 9's buffer is owned in full, with what the point left in it. -/
theorem hold0_9 (c : Dev nD) (t : Fin cfg0.N) :
    (dats m 0 c).leavesExact 9 t = owns (c : Thread nD τ) (ms0_9 t) fullShare ((dats m 0 c).after 9 t) := by
  unfold Dat.leavesExact; rw [liveAt0_9 t]
/-- After a point, window 10's buffer is owned in full, with what the point left in it. -/
theorem hold0_10 (c : Dev nD) (t : Fin cfg0.N) :
    (dats m 0 c).leavesExact 10 t = owns (c : Thread nD τ) (ms0_10 t) fullShare ((dats m 0 c).after 10 t) := by
  unfold Dat.leavesExact; rw [liveAt0_10 t]
/-- After a point, window 11's buffer is owned in full, with what the point left in it. -/
theorem hold0_11 (c : Dev nD) (t : Fin cfg0.N) :
    (dats m 0 c).leavesExact 11 t = owns (c : Thread nD τ) (ms0_11 t) fullShare ((dats m 0 c).after 11 t) := by
  unfold Dat.leavesExact; rw [liveAt0_11 t]
/-- After a point, window 12's buffer is owned in full, with what the point left in it. -/
theorem hold0_12 (c : Dev nD) (t : Fin cfg0.N) :
    (dats m 0 c).leavesExact 12 t = owns (c : Thread nD τ) (ms0_12 t) fullShare ((dats m 0 c).after 12 t) := by
  unfold Dat.leavesExact; rw [liveAt0_12 t]
/-- After a point, window 13's buffer is owned in full, with what the point left in it. -/
theorem hold0_13 (c : Dev nD) (t : Fin cfg0.N) :
    (dats m 0 c).leavesExact 13 t = owns (c : Thread nD τ) (ms0_13 t) fullShare ((dats m 0 c).after 13 t) := by
  unfold Dat.leavesExact; rw [liveAt0_13 t]
/-- After a point, window 14's buffer is owned in full, with what the point left in it. -/
theorem hold0_14 (c : Dev nD) (t : Fin cfg0.N) :
    (dats m 0 c).leavesExact 14 t = owns (c : Thread nD τ) (ms0_14 t) fullShare ((dats m 0 c).after 14 t) := by
  unfold Dat.leavesExact; rw [live0_14 c t]
/-- After a point, window 15's buffer is owned in full, with what the point left in it. -/
theorem hold0_15 (c : Dev nD) (t : Fin cfg0.N) :
    (dats m 0 c).leavesExact 15 t = owns (c : Thread nD τ) (ms0_15 t) fullShare ((dats m 0 c).after 15 t) := by
  unfold Dat.leavesExact; rw [live0_15 c t]
/-- After a point, window 16's buffer is owned in full, with what the point left in it. -/
theorem hold0_16 (c : Dev nD) (t : Fin cfg0.N) :
    (dats m 0 c).leavesExact 16 t = owns (c : Thread nD τ) (ms0_16 t) fullShare ((dats m 0 c).after 16 t) := by
  unfold Dat.leavesExact; rw [live0_16 c t]
/-- After a point, window 17's buffer is owned in full, with what the point left in it. -/
theorem hold0_17 (c : Dev nD) (t : Fin cfg0.N) :
    (dats m 0 c).leavesExact 17 t = owns (c : Thread nD τ) (ms0_17 t) fullShare ((dats m 0 c).after 17 t) := by
  unfold Dat.leavesExact; rw [live0_17 c t]
/-- After a point, window 18's buffer is owned in full, with what the point left in it. -/
theorem hold0_18 (c : Dev nD) (t : Fin cfg0.N) :
    (dats m 0 c).leavesExact 18 t = owns (c : Thread nD τ) (ms0_18 t) fullShare ((dats m 0 c).after 18 t) := by
  unfold Dat.leavesExact; rw [live0_18 c t]
/-- After a point, window 19's buffer is owned in full, with what the point left in it. -/
theorem hold0_19 (c : Dev nD) (t : Fin cfg0.N) :
    (dats m 0 c).leavesExact 19 t = owns (c : Thread nD τ) (ms0_19 t) fullShare ((dats m 0 c).after 19 t) := by
  unfold Dat.leavesExact; rw [live0_19 c t]

/-- The invariant gives the scratch rows up at anything. -/
theorem Inv_any (c : Dev nD) (n : ℕ) (h : n ≤ cfg0.N) : Inv m c n h ⊢ Pipeline.ΦA spec0 c := by
  by_cases hz : n = 0
  · subst hz; exact Idealize.SL.BI.Entails.refl _
  · rw [Inv_pos m c n h hz, PhiA0_eq]
    unfold Carries
    iintro ⟨⟨HS0, HS1⟩, Hg⟩
    isplitl [HS0 HS1]
    · isplitl [HS0]
      · iexists _; iexact HS0
      iexists _; iexact HS1
    iexact Hg

/-- The windows' buffers before the body at point `t`. -/
def bodyIn (c : Dev nD) (t : Fin cfg0.N) : sProp 𝕄 :=
  iprop((dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d)))

/-- What the body returns at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t)
/-- The body at a block’s first point, whatever the scratch rows hold. -/
theorem sound_A (c : Dev nD) (t : Fin cfg0.N) (h0 : t.val % 8 = 0) :
    iprop(Pipeline.ΦA spec0 c ∗ bodyIn m c t) ⊢ wp frame (wpE (defs₀ (F := F)) Variants.none c none) Set.univ (bodyAt0 t) (fun _ => bodyPost m c t) := by
  unfold bodyIn bodyPost bodyAt0
  rw [show (dats m 0 c).owesAt () t.succ = (dats m 0 c).owesAt () t.castSucc from rfl]
  rw [show (dats m 0 c).Φ t.succ = Carries c (left m c t.val t.isLt) from rfl]
  rw [hold0_0, hold0_1, hold0_2, hold0_3, hold0_4, hold0_5, hold0_6, hold0_7, hold0_8, hold0_9, hold0_10, hold0_11, hold0_12, hold0_13, hold0_14, hold0_15, hold0_16, hold0_17, hold0_18, hold0_19]
  rw [after0_0, after0_1, after0_2, after0_3, after0_4, after0_5, after0_6, after0_7, after0_8, after0_9, after0_10, after0_11, after0_12, after0_13, after0_14, after0_15, after0_16, after0_17, after0_18, after0_19]
  simp only [before0_0, before0_1, before0_2, before0_3, before0_4, before0_5, before0_6, before0_7, before0_8, before0_9, before0_10, before0_11, before0_12]
  rw [left_A m c t h0, PhiA0_eq]
  unfold Carries leavesA
  (try dsimp only)
  iintro ⟨⟨⟨HS0, HS1⟩, Hg⟩, ⟨Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩⟩
  iapply ((runA m c t h0).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [HS0]; · iexact HS0
  isplitl [HS1]; · iexact HS1
  iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%e19, H19⟩, ⟨%es0, HS0⟩, ⟨%es1, HS1⟩⟩
  isplitl [HS0 HS1 Hg]
  · isplitl [HS0 HS1]
    · isplitl [HS0]
      · skip
        unfold owns; iexists _; isplitr
        swap; · iexact HS0
        ipureintro; exact View.read_writes_of_cover _ _ _ _ _ (coverA_kre m c t h0)
      unfold owns; iexists _; isplitr
      swap; · iexact HS1
      ipureintro; exact View.read_writes_of_cover _ _ _ _ _ (coverA_kim m c t h0)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · skip
    unfold owns; iexists _; isplitr
    swap; · iexact H13
    ipureintro; exact View.read_writes_of_cover _ _ _ _ _ (coverA_du m c t h0)
  isplitl [H14]
  · skip
    unfold owns; iexists _; isplitr
    swap; · iexact H14
    ipureintro; exact View.read_writes_of_cover _ _ _ _ _ (coverA_bre m c t h0)
  isplitl [H15]
  · skip
    unfold owns; iexists _; isplitr
    swap; · iexact H15
    ipureintro; exact View.read_writes_of_cover _ _ _ _ _ (coverA_bim m c t h0)
  isplitl [H16]
  · skip
    unfold owns; iexists _; isplitr
    swap; · iexact H16
    ipureintro; exact View.read_writes_of_cover _ _ _ _ _ (coverA_cre m c t h0)
  isplitl [H17]
  · skip
    unfold owns; iexists _; isplitr
    swap; · iexact H17
    ipureintro; exact View.read_writes_of_cover _ _ _ _ _ (coverA_cim m c t h0)
  isplitl [H18]
  · skip
    unfold owns; iexists _; isplitr
    swap; · iexact H18
    ipureintro; exact View.read_writes_of_cover _ _ _ _ _ (coverA_are m c t h0)
  unfold owns; iexists _; isplitr
  swap; · iexact H19
  ipureintro; exact View.read_writes_of_cover _ _ _ _ _ (coverA_aim m c t h0)

/-- The body at a later point of a block, over what the point before left. -/
theorem sound_B (c : Dev nD) (t : Fin cfg0.N) (h0 : ¬t.val % 8 = 0) :
    iprop(Carries c (prior m c t) ∗ bodyIn m c t) ⊢ wp frame (wpE (defs₀ (F := F)) Variants.none c none) Set.univ (bodyAt0 t) (fun _ => bodyPost m c t) := by
  unfold bodyIn bodyPost bodyAt0
  rw [show (dats m 0 c).owesAt () t.succ = (dats m 0 c).owesAt () t.castSucc from rfl]
  rw [show (dats m 0 c).Φ t.succ = Carries c (left m c t.val t.isLt) from rfl]
  rw [hold0_0, hold0_1, hold0_2, hold0_3, hold0_4, hold0_5, hold0_6, hold0_7, hold0_8, hold0_9, hold0_10, hold0_11, hold0_12, hold0_13, hold0_14, hold0_15, hold0_16, hold0_17, hold0_18, hold0_19]
  rw [after0_0, after0_1, after0_2, after0_3, after0_4, after0_5, after0_6, after0_7, after0_8, after0_9, after0_10, after0_11, after0_12, after0_13, after0_14, after0_15, after0_16, after0_17, after0_18, after0_19]
  simp only [before0_0, before0_1, before0_2, before0_3, before0_4, before0_5, before0_6, before0_7, before0_8, before0_9, before0_10, before0_11, before0_12]
  rw [left_B m c t h0]
  simp only [before0_14_B m c t h0, before0_15_B m c t h0, before0_16_B m c t h0, before0_17_B m c t h0, before0_18_B m c t h0, before0_19_B m c t h0]
  unfold Carries leavesB
  (try dsimp only)
  iintro ⟨⟨⟨HS0, HS1⟩, Hg⟩, ⟨Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩⟩
  iapply ((runB m c t h0 (prior m c t)).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexact H14
  isplitl [H15]; · iexact H15
  isplitl [H16]; · iexact H16
  isplitl [H17]; · iexact H17
  isplitl [H18]; · iexact H18
  isplitl [H19]; · iexact H19
  isplitl [HS0]; · iexact HS0
  isplitl [HS1]; · iexact HS1
  iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%e19, H19⟩, ⟨%es0, HS0⟩, ⟨%es1, HS1⟩⟩
  isplitl [HS0 HS1 Hg]
  · isplitl [HS0 HS1]
    · isplitl [HS0]
      · skip
        unfold owns; iexists _; isplitr
        swap; · iexact HS0
        ipureintro; exact View.read_writes_of_cover _ _ _ _ _ (coverB_kre m c t h0 _)
      unfold owns; iexists _; isplitr
      swap; · iexact HS1
      ipureintro; exact View.read_writes_of_cover _ _ _ _ _ (coverB_kim m c t h0 _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · skip
    unfold owns; iexists _; isplitr
    swap; · iexact H13
    ipureintro; exact View.read_writes_of_cover _ _ _ _ _ (coverB_du m c t h0 _)
  isplitl [H14]
  · skip
    unfold owns; iexists _; isplitr
    swap; · iexact H14
    ipureintro; exact View.read_writes_of_cover _ _ _ _ _ (coverB_bre m c t h0 _)
  isplitl [H15]
  · skip
    unfold owns; iexists _; isplitr
    swap; · iexact H15
    ipureintro; exact View.read_writes_of_cover _ _ _ _ _ (coverB_bim m c t h0 _)
  isplitl [H16]
  · skip
    unfold owns; iexists _; isplitr
    swap; · iexact H16
    ipureintro; exact View.read_writes_of_cover _ _ _ _ _ (coverB_cre m c t h0 _)
  isplitl [H17]
  · skip
    unfold owns; iexists _; isplitr
    swap; · iexact H17
    ipureintro; exact View.read_writes_of_cover _ _ _ _ _ (coverB_cim m c t h0 _)
  isplitl [H18]
  · skip
    unfold owns; iexists _; isplitr
    swap; · iexact H18
    ipureintro; exact View.read_writes_of_cover _ _ _ _ _ (coverB_are m c t h0 _)
  unfold owns; iexists _; isplitr
  swap; · iexact H19
  ipureintro; exact View.read_writes_of_cover _ _ _ _ _ (coverB_aim m c t h0 _)

/-- The body at any point. -/
theorem sound (c : Dev nD) (t : Fin cfg0.N) :
    iprop((dats m 0 c).Φ t.castSucc ∗ bodyIn m c t) ⊢ wp frame (wpE (defs₀ (F := F)) Variants.none c none) Set.univ (bodyAt0 t) (fun _ => bodyPost m c t) := by
  rw [show (dats m 0 c).Φ t.castSucc = Inv m c t.val (Nat.le_of_lt t.isLt) from rfl]
  by_cases h0 : t.val % 8 = 0
  · exact BI.Entails.trans (BI.sep_mono (Inv_any m c _ _) (Entails.refl _)) (sound_A m c t h0)
  · rw [Inv_pos m c _ _ (fun h => h0 (by rw [h]))]
    exact sound_B m c t h0

/-- The body's program is the one the grid's point runs. -/
theorem defs₀_row (t : Fin cfg0.N) :
    defs₀ (F := F) .tc cfg0.body (cfg0.bodyArgs t (cfg0.slots t)) = bodyAt0 t := by
  unfold defs₀; rw [Defs.onTc_tc]

/-- The obligation the library asks of the body. -/
theorem body_obligation (c : Dev nD) : BodyObligation (dats (F := F) m 0 c) (defs₀ (F := F)) Variants.none () Set.univ := fun t => by
  rw [bigSep_W0, bigSep_W0, defs₀_row]
  exact triple_restated (sound m c t) rfl .rfl fun _ => .rfl

set_option backward.isDefEq.respectTransparency.types false in
/-- The launch: every array of the pipeline ends as the data say, every other buffer as the lines after the region leave it,
    every counter at zero. -/
theorem run_quiet : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := fun c => Entails.refl _) (hout := fun c => (Inv_any m c cfg0.N (Nat.le_refl _) : Inv m c cfg0.N (Nat.le_refl _) ⊢ Pipeline.ΦA spec0 c))

/-- The same without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_quiet m ρ)

/-- The frame of the idealized kernel: it ends, its arguments are unchanged, its counters are at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (frame_of m ρ (dats m) (A_eq m) (run_main m ρ)) ((θ_run defs _ _).mono (fun _ h => h.2) (run_quiet m ρ))

end Cert.KernelIdeal.Gen

end
-- ==== Proof.RefStep.lean ====
/- One trip of the reference loop and the state it hands on: the generated module with a larger budget. -/
module

public import proofs.«01_k».proof.ReferenceIdeal
public import proofs.«01_k».proof.Proof.Gen.ReferenceIdeal

@[expose] public section

set_option maxHeartbeats 8000000

noncomputable section

namespace Cert.ReferenceIdeal.Step

open Idealize.ShloMosaic Cert.ReferenceIdeal Cert.ReferenceIdeal.Gen

variable {F : FTy → Type} [FloatOps F]

/-- What a trip hands the next. -/
structure State (F : FTy → Type) [FloatOps F] where
  main_v14_5 : (⟨S64x64, .f32⟩ : BufTy).Contents (Elt F)
  main_v14_6 : (⟨S64x64, .f32⟩ : BufTy).Contents (Elt F)
  main_v14_7 : (⟨S4096x64x64, .f32⟩ : BufTy).Contents (Elt F)
  main_v14_8 : (⟨S4096x64x64, .f32⟩ : BufTy).Contents (Elt F)
  main_v14_0 : (⟨S4096x64x64, .f32⟩ : BufTy).Contents (Elt F)
  main_v14_1 : (⟨S4096x64x64, .f32⟩ : BufTy).Contents (Elt F)
  main_v14_2 : (⟨S64x64, .f32⟩ : BufTy).Contents (Elt F)
  main_v14_3 : (⟨S64x64, .f32⟩ : BufTy).Contents (Elt F)

/-! What @main computes before the loop without reading an argument. -/

/-- The constant that the reference holds in `main_cst` before its loop. -/
def K_main_cst : (⟨S_, .f32⟩ : BufTy).Contents (Elt F) := constant S_ .f32 0x00000000#32
/-- The constant that the reference holds in `main_v9` before its loop. -/
def K_main_v9 : (⟨S64x64, .f32⟩ : BufTy).Contents (Elt F) := broadcastInDim S64x64 ![] bcast_S_S64x64 ((K_main_cst (F := F)))
/-- The constant that the reference holds in `main_cst_0` before its loop. -/
def K_main_cst_0 : (⟨S_, .f32⟩ : BufTy).Contents (Elt F) := constant S_ .f32 0x00000000#32
/-- The constant that the reference holds in `main_v10` before its loop. -/
def K_main_v10 : (⟨S64x64, .f32⟩ : BufTy).Contents (Elt F) := broadcastInDim S64x64 ![] bcast_S_S64x64 ((K_main_cst_0 (F := F)))
/-- The constant that the reference holds in `main_cst_1` before its loop. -/
def K_main_cst_1 : (⟨S_, .f32⟩ : BufTy).Contents (Elt F) := constant S_ .f32 0x00000000#32
/-- The constant that the reference holds in `main_v11` before its loop. -/
def K_main_v11 : (⟨S64x64, .f32⟩ : BufTy).Contents (Elt F) := broadcastInDim S64x64 ![] bcast_S_S64x64 ((K_main_cst_1 (F := F)))
/-- The constant that the reference holds in `main_cst_2` before its loop. -/
def K_main_cst_2 : (⟨S_, .f32⟩ : BufTy).Contents (Elt F) := constant S_ .f32 0x00000000#32
/-- The constant that the reference holds in `main_v12` before its loop. -/
def K_main_v12 : (⟨S4096x64x64, .f32⟩ : BufTy).Contents (Elt F) := broadcastInDim S4096x64x64 ![] bcast_S_S4096x64x64 ((K_main_cst_2 (F := F)))
/-- The constant that the reference holds in `main_cst_3` before its loop. -/
def K_main_cst_3 : (⟨S_, .f32⟩ : BufTy).Contents (Elt F) := constant S_ .f32 0x00000000#32
/-- The constant that the reference holds in `main_v13` before its loop. -/
def K_main_v13 : (⟨S4096x64x64, .f32⟩ : BufTy).Contents (Elt F) := broadcastInDim S4096x64x64 ![] bcast_S_S4096x64x64 ((K_main_cst_3 (F := F)))
/-- The constant that the reference holds in `main_c` before its loop. -/
def K_main_c : (⟨S_, .i32⟩ : BufTy).Contents (Elt F) := constantI S_ 32 0#32

/-! What @main computes before the loop from its arguments, as functions of them. -/

/-- The value that the reference holds in `main_v0` before its loop, from its arguments. -/
def A_main_v0 (main_arg0 : (⟨S4096x1024, .bf16⟩ : BufTy).Contents (Elt F)) (main_arg7 : (⟨S64x16x64, .f32⟩ : BufTy).Contents (Elt F)) (main_arg8 : (⟨S64x16x64, .f32⟩ : BufTy).Contents (Elt F)) : (⟨S4096x1024, .f32⟩ : BufTy).Contents (Elt F) := extf .f32 (main_arg0) bitsLt_bf16_f32
/-- The value that the reference holds in `main_v1` before its loop, from its arguments. -/
def A_main_v1 (main_arg0 : (⟨S4096x1024, .bf16⟩ : BufTy).Contents (Elt F)) (main_arg7 : (⟨S64x16x64, .f32⟩ : BufTy).Contents (Elt F)) (main_arg8 : (⟨S64x16x64, .f32⟩ : BufTy).Contents (Elt F)) : (⟨S4096x64x16, .f32⟩ : BufTy).Contents (Elt F) := shapeCast _ ((A_main_v0 main_arg0 main_arg7 main_arg8)) shapeCasts_S4096x1024_S4096x64x16
/-- The value that the reference holds in `main_v2` before its loop, from its arguments. -/
def A_main_v2 (main_arg0 : (⟨S4096x1024, .bf16⟩ : BufTy).Contents (Elt F)) (main_arg7 : (⟨S64x16x64, .f32⟩ : BufTy).Contents (Elt F)) (main_arg8 : (⟨S64x16x64, .f32⟩ : BufTy).Contents (Elt F)) : (⟨S4096x64x16, .f32⟩ : BufTy).Contents (Elt F) := Host.negf ((A_main_v1 main_arg0 main_arg7 main_arg8))
/-- The value that the reference holds in `main_v3` before its loop, from its arguments. -/
def A_main_v3 (main_arg0 : (⟨S4096x1024, .bf16⟩ : BufTy).Contents (Elt F)) (main_arg7 : (⟨S64x16x64, .f32⟩ : BufTy).Contents (Elt F)) (main_arg8 : (⟨S64x16x64, .f32⟩ : BufTy).Contents (Elt F)) : (⟨S64x16x4096, .f32⟩ : BufTy).Contents (Elt F) := transpose S64x16x4096 [1, 2, 0] ((A_main_v2 main_arg0 main_arg7 main_arg8)) transposes_S4096x64x16_S64x16x4096_1_2_0
/-- The value that the reference holds in `main_v4` before its loop, from its arguments. -/
def A_main_v4 (main_arg0 : (⟨S4096x1024, .bf16⟩ : BufTy).Contents (Elt F)) (main_arg7 : (⟨S64x16x64, .f32⟩ : BufTy).Contents (Elt F)) (main_arg8 : (⟨S64x16x64, .f32⟩ : BufTy).Contents (Elt F)) : (⟨S64x4096x64, .f32⟩ : BufTy).Contents (Elt F) := Host.dotGeneral dot_S64x16x4096_S64x16x64_S64x4096x64_1_1_2_2_0_0 none ((A_main_v3 main_arg0 main_arg7 main_arg8)) (main_arg8)
/-- The value that the reference holds in `main_v5` before its loop, from its arguments. -/
def A_main_v5 (main_arg0 : (⟨S4096x1024, .bf16⟩ : BufTy).Contents (Elt F)) (main_arg7 : (⟨S64x16x64, .f32⟩ : BufTy).Contents (Elt F)) (main_arg8 : (⟨S64x16x64, .f32⟩ : BufTy).Contents (Elt F)) : (⟨S4096x64x64, .f32⟩ : BufTy).Contents (Elt F) := transpose S4096x64x64 [1, 0, 2] ((A_main_v4 main_arg0 main_arg7 main_arg8)) transposes_S64x4096x64_S4096x64x64_1_0_2
/-- The value that the reference holds in `main_v6` before its loop, from its arguments. -/
def A_main_v6 (main_arg0 : (⟨S4096x1024, .bf16⟩ : BufTy).Contents (Elt F)) (main_arg7 : (⟨S64x16x64, .f32⟩ : BufTy).Contents (Elt F)) (main_arg8 : (⟨S64x16x64, .f32⟩ : BufTy).Contents (Elt F)) : (⟨S64x16x4096, .f32⟩ : BufTy).Contents (Elt F) := transpose S64x16x4096 [1, 2, 0] ((A_main_v1 main_arg0 main_arg7 main_arg8)) transposes_S4096x64x16_S64x16x4096_1_2_0
/-- The value that the reference holds in `main_v7` before its loop, from its arguments. -/
def A_main_v7 (main_arg0 : (⟨S4096x1024, .bf16⟩ : BufTy).Contents (Elt F)) (main_arg7 : (⟨S64x16x64, .f32⟩ : BufTy).Contents (Elt F)) (main_arg8 : (⟨S64x16x64, .f32⟩ : BufTy).Contents (Elt F)) : (⟨S64x4096x64, .f32⟩ : BufTy).Contents (Elt F) := Host.dotGeneral dot_S64x16x4096_S64x16x64_S64x4096x64_1_1_2_2_0_0 none ((A_main_v6 main_arg0 main_arg7 main_arg8)) (main_arg7)
/-- The value that the reference holds in `main_v8` before its loop, from its arguments. -/
def A_main_v8 (main_arg0 : (⟨S4096x1024, .bf16⟩ : BufTy).Contents (Elt F)) (main_arg7 : (⟨S64x16x64, .f32⟩ : BufTy).Contents (Elt F)) (main_arg8 : (⟨S64x16x64, .f32⟩ : BufTy).Contents (Elt F)) : (⟨S4096x64x64, .f32⟩ : BufTy).Contents (Elt F) := transpose S4096x64x64 [1, 0, 2] ((A_main_v7 main_arg0 main_arg7 main_arg8)) transposes_S64x4096x64_S4096x64x64_1_0_2

/-! One trip's values, in the body's order. -/

/-- Value 0 of the loop's body, from the state and the trip's number. -/
def b0 (j : ℕ) (s : State F) : (⟨S_, .i32⟩ : BufTy).Contents (Elt F) :=
  constantI S_ 32 4096#32
/-- Value 1 of the loop's body, from the state and the trip's number. -/
def b1 (j : ℕ) (s : State F) : (⟨S_, .i32⟩ : BufTy).Contents (Elt F) :=
  subi ((b0 j s)) ((constantI S_ 32 (BitVec.ofNat 32 j) : (⟨S_, .i32⟩ : BufTy).Contents (Elt F)))
/-- Value 2 of the loop's body, from the state and the trip's number. -/
def b2 (j : ℕ) (s : State F) : (⟨S_, .i32⟩ : BufTy).Contents (Elt F) :=
  constantI S_ 32 1#32
/-- Value 3 of the loop's body, from the state and the trip's number. -/
def b3 (j : ℕ) (s : State F) : (⟨S_, .i32⟩ : BufTy).Contents (Elt F) :=
  subi ((b1 j s)) ((b2 j s))
/-- Value 4 of the loop's body, from the state and the trip's number. -/
def b4 (j : ℕ) (s : State F) : (⟨S_, .i32⟩ : BufTy).Contents (Elt F) :=
  constantI S_ 32 0#32
/-- Value 5 of the loop's body, from the state and the trip's number. -/
def b5 (j : ℕ) (s : State F) : (⟨S_, .i32⟩ : BufTy).Contents (Elt F) :=
  constantI S_ 32 0#32
/-- Value 6 of the loop's body, from the state and the trip's number. -/
def b6 (j : ℕ) (s : State F) : (⟨S1x64x64, .f32⟩ : BufTy).Contents (Elt F) :=
  Host.dynamicSlice S1x64x64 (s.main_v14_0) (fun k => (((![(b3 j s), (b4 j s), (b5 j s)] : Fin 3 → (⟨S_, .i32⟩ : BufTy).Contents (Elt F))) k (Shape.Idx.first h_S_)).toInt) sliceFits_S4096x64x64_S1x64x64
/-- Value 7 of the loop's body, from the state and the trip's number. -/
def b7 (j : ℕ) (s : State F) : (⟨S64x64, .f32⟩ : BufTy).Contents (Elt F) :=
  shapeCast S64x64 ((b6 j s)) shapeCasts_S1x64x64_S64x64
/-- Value 8 of the loop's body, from the state and the trip's number. -/
def b8 (j : ℕ) (s : State F) : (⟨S_, .i32⟩ : BufTy).Contents (Elt F) :=
  constantI S_ 32 0#32
/-- Value 9 of the loop's body, from the state and the trip's number. -/
def b9 (j : ℕ) (s : State F) : (⟨S_, .i32⟩ : BufTy).Contents (Elt F) :=
  constantI S_ 32 0#32
/-- Value 10 of the loop's body, from the state and the trip's number. -/
def b10 (j : ℕ) (s : State F) : (⟨S1x64x64, .f32⟩ : BufTy).Contents (Elt F) :=
  Host.dynamicSlice S1x64x64 (s.main_v14_1) (fun k => (((![(b3 j s), (b8 j s), (b9 j s)] : Fin 3 → (⟨S_, .i32⟩ : BufTy).Contents (Elt F))) k (Shape.Idx.first h_S_)).toInt) sliceFits_S4096x64x64_S1x64x64
/-- Value 11 of the loop's body, from the state and the trip's number. -/
def b11 (j : ℕ) (s : State F) : (⟨S64x64, .f32⟩ : BufTy).Contents (Elt F) :=
  shapeCast S64x64 ((b10 j s)) shapeCasts_S1x64x64_S64x64
/-- Value 12 of the loop's body, from the state and the trip's number. -/
def b12 (j : ℕ) (s : State F) : (⟨S64x64, .f32⟩ : BufTy).Contents (Elt F) :=
  addf (s.main_v14_5) ((b7 j s))
/-- Value 13 of the loop's body, from the state and the trip's number. -/
def b13 (j : ℕ) (s : State F) : (⟨S64x64, .f32⟩ : BufTy).Contents (Elt F) :=
  addf (s.main_v14_6) ((b11 j s))
/-- Value 14 of the loop's body, from the state and the trip's number. -/
def b14 (j : ℕ) (s : State F) : (⟨S64x64, .f32⟩ : BufTy).Contents (Elt F) :=
  mulf (s.main_v14_3) ((b13 j s))
/-- Value 15 of the loop's body, from the state and the trip's number. -/
def b15 (j : ℕ) (s : State F) : (⟨S64x64, .f32⟩ : BufTy).Contents (Elt F) :=
  mulf (s.main_v14_2) ((b13 j s))
/-- Value 16 of the loop's body, from the state and the trip's number. -/
def b16 (j : ℕ) (s : State F) : (⟨S64x64, .f32⟩ : BufTy).Contents (Elt F) :=
  Host.negf ((b12 j s))
/-- Value 17 of the loop's body, from the state and the trip's number. -/
def b17 (j : ℕ) (s : State F) : (⟨S64x64, .f32⟩ : BufTy).Contents (Elt F) :=
  mulf (s.main_v14_3) ((b16 j s))
/-- Value 18 of the loop's body, from the state and the trip's number. -/
def b18 (j : ℕ) (s : State F) : (⟨S64x64, .f32⟩ : BufTy).Contents (Elt F) :=
  addf ((b15 j s)) ((b17 j s))
/-- Value 19 of the loop's body, from the state and the trip's number. -/
def b19 (j : ℕ) (s : State F) : (⟨S64x64, .f32⟩ : BufTy).Contents (Elt F) :=
  mulf (s.main_v14_2) ((b12 j s))
/-- Value 20 of the loop's body, from the state and the trip's number. -/
def b20 (j : ℕ) (s : State F) : (⟨S64x64, .f32⟩ : BufTy).Contents (Elt F) :=
  addf ((b14 j s)) ((b19 j s))
/-- Value 21 of the loop's body, from the state and the trip's number. -/
def b21 (j : ℕ) (s : State F) : (⟨S1x64x64, .f32⟩ : BufTy).Contents (Elt F) :=
  broadcastInDim S1x64x64 ![1, 2] bcast_S64x64_S1x64x64_1_2 ((b12 j s))
/-- Value 22 of the loop's body, from the state and the trip's number. -/
def b22 (j : ℕ) (s : State F) : (⟨S_, .i32⟩ : BufTy).Contents (Elt F) :=
  constantI S_ 32 0#32
/-- Value 23 of the loop's body, from the state and the trip's number. -/
def b23 (j : ℕ) (s : State F) : (⟨S_, .i32⟩ : BufTy).Contents (Elt F) :=
  constantI S_ 32 0#32
/-- Value 24 of the loop's body, from the state and the trip's number. -/
def b24 (j : ℕ) (s : State F) : (⟨S4096x64x64, .f32⟩ : BufTy).Contents (Elt F) :=
  Host.dynamicUpdateSlice (s.main_v14_7) ((b21 j s)) (fun k => (((![(b3 j s), (b22 j s), (b23 j s)] : Fin 3 → (⟨S_, .i32⟩ : BufTy).Contents (Elt F))) k (Shape.Idx.first h_S_)).toInt) updateFits_S4096x64x64_S1x64x64
/-- Value 25 of the loop's body, from the state and the trip's number. -/
def b25 (j : ℕ) (s : State F) : (⟨S1x64x64, .f32⟩ : BufTy).Contents (Elt F) :=
  broadcastInDim S1x64x64 ![1, 2] bcast_S64x64_S1x64x64_1_2 ((b13 j s))
/-- Value 26 of the loop's body, from the state and the trip's number. -/
def b26 (j : ℕ) (s : State F) : (⟨S_, .i32⟩ : BufTy).Contents (Elt F) :=
  constantI S_ 32 0#32
/-- Value 27 of the loop's body, from the state and the trip's number. -/
def b27 (j : ℕ) (s : State F) : (⟨S_, .i32⟩ : BufTy).Contents (Elt F) :=
  constantI S_ 32 0#32
/-- Value 28 of the loop's body, from the state and the trip's number. -/
def b28 (j : ℕ) (s : State F) : (⟨S4096x64x64, .f32⟩ : BufTy).Contents (Elt F) :=
  Host.dynamicUpdateSlice (s.main_v14_8) ((b25 j s)) (fun k => (((![(b3 j s), (b26 j s), (b27 j s)] : Fin 3 → (⟨S_, .i32⟩ : BufTy).Contents (Elt F))) k (Shape.Idx.first h_S_)).toInt) updateFits_S4096x64x64_S1x64x64

/-- The state @main hands the first trip, of the arguments it copies in or computes from. -/
def init (main_arg9 : (⟨S64x64, .f32⟩ : BufTy).Contents (Elt F)) (main_arg10 : (⟨S64x64, .f32⟩ : BufTy).Contents (Elt F)) (main_arg0 : (⟨S4096x1024, .bf16⟩ : BufTy).Contents (Elt F)) (main_arg7 : (⟨S64x16x64, .f32⟩ : BufTy).Contents (Elt F)) (main_arg8 : (⟨S64x16x64, .f32⟩ : BufTy).Contents (Elt F)) : State F :=
  { main_v14_5 := K_main_v10 (F := F), main_v14_6 := K_main_v11 (F := F), main_v14_7 := K_main_v12 (F := F), main_v14_8 := K_main_v13 (F := F), main_v14_0 := A_main_v8 main_arg0 main_arg7 main_arg8, main_v14_1 := A_main_v5 main_arg0 main_arg7 main_arg8, main_v14_2 := main_arg9, main_v14_3 := main_arg10 }

/-- One trip. -/
def step (j : ℕ) (s : State F) : State F :=
  { main_v14_5 := b20 j s, main_v14_6 := b18 j s, main_v14_7 := b24 j s, main_v14_8 := b28 j s, main_v14_0 := s.main_v14_0, main_v14_1 := s.main_v14_1, main_v14_2 := s.main_v14_2, main_v14_3 := s.main_v14_3 }
/-- What one trip of the loop puts into `main_v14_5`. -/
theorem step_main_v14_5 (j : ℕ) (s : State F) : (step j s).main_v14_5 = b20 j s := by unfold step; rfl
/-- What one trip of the loop puts into `main_v14_6`. -/
theorem step_main_v14_6 (j : ℕ) (s : State F) : (step j s).main_v14_6 = b18 j s := by unfold step; rfl
/-- What one trip of the loop puts into `main_v14_7`. -/
theorem step_main_v14_7 (j : ℕ) (s : State F) : (step j s).main_v14_7 = b24 j s := by unfold step; rfl
/-- What one trip of the loop puts into `main_v14_8`. -/
theorem step_main_v14_8 (j : ℕ) (s : State F) : (step j s).main_v14_8 = b28 j s := by unfold step; rfl

/-- `main_v65`, which the operations after the loop make, of the loop's last state and the arguments they read. -/
def R_main_v65 (s : State F) (main_arg1 : (⟨S4096x1024, .bf16⟩ : BufTy).Contents (Elt F)) (main_arg5 : (⟨S64x64x16, .f32⟩ : BufTy).Contents (Elt F)) (main_arg6 : (⟨S64x64x16, .f32⟩ : BufTy).Contents (Elt F)) : (⟨S4096x1024, .bf16⟩ : BufTy).Contents (Elt F) :=
  truncf .bf16 (addf (shapeCast _ (addf (transpose S4096x64x16 [1, 0, 2] (Host.dotGeneral dot_S64x64x4096_S64x64x16_S64x4096x16_1_1_2_2_0_0 none (transpose S64x64x4096 [1, 2, 0] (s.main_v14_8) transposes_S4096x64x64_S64x64x4096_1_2_0) (main_arg6)) transposes_S64x4096x16_S4096x64x16_1_0_2) (transpose S4096x64x16 [1, 0, 2] (Host.dotGeneral dot_S64x64x4096_S64x64x16_S64x4096x16_1_1_2_2_0_0 none (transpose S64x64x4096 [1, 2, 0] (s.main_v14_7) transposes_S4096x64x64_S64x64x4096_1_2_0) (main_arg5)) transposes_S64x4096x16_S4096x64x16_1_0_2)) shapeCasts_S4096x64x16_S4096x1024) (extf .f32 (main_arg1) bitsLt_bf16_f32)) bitsLt_bf16_f32

/-- `main_v29`, which the operations after the loop make, of the loop's last state and the arguments they read. -/
def R_main_v29 (s : State F) (main_arg2 : (⟨S4096x14336, .f32⟩ : BufTy).Contents (Elt F)) : (⟨S64x64x16, .f32⟩ : BufTy).Contents (Elt F) :=
  Host.dotGeneral dot_S64x64x4096_S4096x64x16_S64x64x16_2_0_1_2_0_1 none (transpose S64x64x4096 [1, 2, 0] (s.main_v14_7) transposes_S4096x64x64_S64x64x4096_1_2_0) (shapeCast _ (extractStridedSlice S4096x1024 ![0, 0] (main_arg2) slices_S4096x14336_S4096x1024_0_0) shapeCasts_S4096x1024_S4096x64x16)

/-- `main_v27`, which the operations after the loop make, of the loop's last state and the arguments they read. -/
def R_main_v27 (s : State F) (main_arg2 : (⟨S4096x14336, .f32⟩ : BufTy).Contents (Elt F)) : (⟨S64x64x16, .f32⟩ : BufTy).Contents (Elt F) :=
  Host.dotGeneral dot_S64x64x4096_S4096x64x16_S64x64x16_2_0_1_2_0_1 none (transpose S64x64x4096 [1, 2, 0] (s.main_v14_8) transposes_S4096x64x64_S64x64x4096_1_2_0) (shapeCast _ (extractStridedSlice S4096x1024 ![0, 0] (main_arg2) slices_S4096x14336_S4096x1024_0_0) shapeCasts_S4096x1024_S4096x64x16)

/-- `main_v23`, which the operations after the loop make, of the loop's last state and the arguments they read. -/
def R_main_v23 (s : State F) (main_arg0 : (⟨S4096x1024, .bf16⟩ : BufTy).Contents (Elt F)) (main_arg3 : (⟨S4096x4096, .f32⟩ : BufTy).Contents (Elt F)) : (⟨S64x16x64, .f32⟩ : BufTy).Contents (Elt F) :=
  Host.dotGeneral dot_S64x16x4096_S4096x64x64_S64x16x64_2_0_1_2_0_1 none (transpose S64x16x4096 [1, 2, 0] (shapeCast _ (extf .f32 (main_arg0) bitsLt_bf16_f32) shapeCasts_S4096x1024_S4096x64x16) transposes_S4096x64x16_S64x16x4096_1_2_0) (shapeCast _ (main_arg3) shapeCasts_S4096x4096_S4096x64x64)

/-- `main_v21`, which the operations after the loop make, of the loop's last state and the arguments they read. -/
def R_main_v21 (s : State F) (main_arg0 : (⟨S4096x1024, .bf16⟩ : BufTy).Contents (Elt F)) (main_arg4 : (⟨S4096x4096, .f32⟩ : BufTy).Contents (Elt F)) : (⟨S64x16x64, .f32⟩ : BufTy).Contents (Elt F) :=
  Host.dotGeneral dot_S64x16x4096_S4096x64x64_S64x16x64_2_0_1_2_0_1 none (transpose S64x16x4096 [1, 2, 0] (Host.negf (shapeCast _ (extf .f32 (main_arg0) bitsLt_bf16_f32) shapeCasts_S4096x1024_S4096x64x16)) transposes_S4096x64x16_S64x16x4096_1_2_0) (shapeCast _ (main_arg4) shapeCasts_S4096x4096_S4096x64x64)

/-- `main_v61`, which the operations after the loop make, of the loop's last state and the arguments they read. -/
def R_main_v61 (s : State F) (main_arg3 : (⟨S4096x4096, .f32⟩ : BufTy).Contents (Elt F)) (main_arg4 : (⟨S4096x4096, .f32⟩ : BufTy).Contents (Elt F)) : (⟨S64x64, .f32⟩ : BufTy).Contents (Elt F) :=
  addf (Host.reduceAdd (shapeCast _ (Host.reduceAdd (mulf (extractStridedSlice S4095x64x64 ![1, 0, 0] (s.main_v14_8) slices_S4096x64x64_S4095x64x64_1_0_0) (extractStridedSlice S4095x64x64 ![0, 0, 0] (shapeCast _ (main_arg4) shapeCasts_S4096x4096_S4096x64x64) slices_S4096x64x64_S4095x64x64_0_0_0)) (constant S_ .f32 0x00000000#32) reducesTo_S4095x64x64_S64x64_d0 h_S_) shapeCasts_S64x64_S1x64x64) (constant S_ .f32 0x00000000#32) reducesTo_S1x64x64_S64x64_d0 h_S_) (Host.reduceAdd (shapeCast _ (Host.reduceAdd (mulf (extractStridedSlice S4095x64x64 ![1, 0, 0] (s.main_v14_7) slices_S4096x64x64_S4095x64x64_1_0_0) (extractStridedSlice S4095x64x64 ![0, 0, 0] (shapeCast _ (main_arg3) shapeCasts_S4096x4096_S4096x64x64) slices_S4096x64x64_S4095x64x64_0_0_0)) (constant S_ .f32 0x00000000#32) reducesTo_S4095x64x64_S64x64_d0 h_S_) shapeCasts_S64x64_S1x64x64) (constant S_ .f32 0x00000000#32) reducesTo_S1x64x64_S64x64_d0 h_S_)

/-- `main_v56`, which the operations after the loop make, of the loop's last state and the arguments they read. -/
def R_main_v56 (s : State F) (main_arg3 : (⟨S4096x4096, .f32⟩ : BufTy).Contents (Elt F)) (main_arg4 : (⟨S4096x4096, .f32⟩ : BufTy).Contents (Elt F)) : (⟨S64x64, .f32⟩ : BufTy).Contents (Elt F) :=
  addf (Host.reduceAdd (shapeCast _ (Host.reduceAdd (mulf (extractStridedSlice S4095x64x64 ![1, 0, 0] (s.main_v14_8) slices_S4096x64x64_S4095x64x64_1_0_0) (extractStridedSlice S4095x64x64 ![0, 0, 0] (shapeCast _ (main_arg3) shapeCasts_S4096x4096_S4096x64x64) slices_S4096x64x64_S4095x64x64_0_0_0)) (constant S_ .f32 0x00000000#32) reducesTo_S4095x64x64_S64x64_d0 h_S_) shapeCasts_S64x64_S1x64x64) (constant S_ .f32 0x00000000#32) reducesTo_S1x64x64_S64x64_d0 h_S_) (Host.reduceAdd (shapeCast _ (Host.reduceAdd (mulf (Host.negf (extractStridedSlice S4095x64x64 ![1, 0, 0] (s.main_v14_7) slices_S4096x64x64_S4095x64x64_1_0_0)) (extractStridedSlice S4095x64x64 ![0, 0, 0] (shapeCast _ (main_arg4) shapeCasts_S4096x4096_S4096x64x64) slices_S4096x64x64_S4095x64x64_0_0_0)) (constant S_ .f32 0x00000000#32) reducesTo_S4095x64x64_S64x64_d0 h_S_) shapeCasts_S64x64_S1x64x64) (constant S_ .f32 0x00000000#32) reducesTo_S1x64x64_S64x64_d0 h_S_)

end Cert.ReferenceIdeal.Step

end
-- ==== Proof.RefStepRun.lean ====
/- The run of the reference through the fold of its trips: the generated module with a larger budget. -/
module

public import proofs.«01_k».proof.Proof.Gen.ReferenceIdeal.Run
public import proofs.«01_k».proof.Proof.RefStep

@[expose] public section

set_option maxHeartbeats 4000000

noncomputable section

namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_5 : V0 (Proc.devRef .tc main_v14_5) = s.main_v14_5
  f_6 : V0 (Proc.devRef .tc main_v14_6) = s.main_v14_6
  f_7 : V0 (Proc.devRef .tc main_v14_7) = s.main_v14_7
  f_8 : V0 (Proc.devRef .tc main_v14_8) = s.main_v14_8
  f_0 : V0 (Proc.devRef .tc main_v14_0) = s.main_v14_0
  f_1 : V0 (Proc.devRef .tc main_v14_1) = s.main_v14_1
  f_2 : V0 (Proc.devRef .tc main_v14_2) = s.main_v14_2
  f_3 : V0 (Proc.devRef .tc main_v14_3) = s.main_v14_3
  n_4 : V0 (Proc.devRef .tc main_v14_4) = constantI S_ 32 (BitVec.ofNat 32 j)

variable {V0 s j}

set_option maxRecDepth 8192 in
/-- Value 0 of the loop's body, where the valuation holds the state. -/
theorem al_0 (h : Holds V0 s j) : (constantI S_ 32 4096#32 : (Proc.devRef .tc main_while0b_c_20 : DevRef τ sig).ty.Contents (Elt F)) = Cert.ReferenceIdeal.Step.b0 j s := by
  unfold Cert.ReferenceIdeal.Step.b0
  rfl
set_option maxRecDepth 8192 in
/-- Value 1 of the loop's body, where the valuation holds the state. -/
theorem al_1 (h : Holds V0 s j) : (subi (constantI S_ 32 4096#32) (V0 (Proc.devRef .tc main_v14_4)) : (Proc.devRef .tc main_while0b_v66 : DevRef τ sig).ty.Contents (Elt F)) = Cert.ReferenceIdeal.Step.b1 j s := by
  unfold Cert.ReferenceIdeal.Step.b1
  rw [← al_0 h, h.n_4]
  try rfl
set_option maxRecDepth 8192 in
/-- Value 2 of the loop's body, where the valuation holds the state. -/
theorem al_2 (h : Holds V0 s j) : (constantI S_ 32 1#32 : (Proc.devRef .tc main_while0b_c_21 : DevRef τ sig).ty.Contents (Elt F)) = Cert.ReferenceIdeal.Step.b2 j s := by
  unfold Cert.ReferenceIdeal.Step.b2
  rfl
set_option maxRecDepth 8192 in
/-- Value 3 of the loop's body, where the valuation holds the state. -/
theorem al_3 (h : Holds V0 s j) : (res_main_while0b_v67 V0 : (Proc.devRef .tc main_while0b_v67 : DevRef τ sig).ty.Contents (Elt F)) = Cert.ReferenceIdeal.Step.b3 j s := by
  unfold res_main_while0b_v67 Cert.ReferenceIdeal.Step.b3
  rw [← al_1 h, ← al_2 h]
  try rfl
set_option maxRecDepth 8192 in
/-- Value 4 of the loop's body, where the valuation holds the state. -/
theorem al_4 (h : Holds V0 s j) : (constantI S_ 32 0#32 : (Proc.devRef .tc main_while0b_call0_c : DevRef τ sig).ty.Contents (Elt F)) = Cert.ReferenceIdeal.Step.b4 j s := by
  unfold Cert.ReferenceIdeal.Step.b4
  rfl
set_option maxRecDepth 8192 in
/-- Value 5 of the loop's body, where the valuation holds the state. -/
theorem al_5 (h : Holds V0 s j) : (constantI S_ 32 0#32 : (Proc.devRef .tc main_while0b_call0_c_0 : DevRef τ sig).ty.Contents (Elt F)) = Cert.ReferenceIdeal.Step.b5 j s := by
  unfold Cert.ReferenceIdeal.Step.b5
  rfl
set_option maxRecDepth 8192 in
/-- Value 6 of the loop's body, where the valuation holds the state. -/
theorem al_6 (h : Holds V0 s j) : (Host.dynamicSlice S1x64x64 (V0 (Proc.devRef .tc main_v14_0)) (fun k => (((![res_main_while0b_v67 V0, constantI S_ 32 0#32, constantI S_ 32 0#32] : Fin 3 → (⟨S_, .i32⟩ : BufTy).Contents (Elt F))) k (Shape.Idx.first h_S_)).toInt) sliceFits_S4096x64x64_S1x64x64 : (Proc.devRef .tc main_while0b_call0_v0 : DevRef τ sig).ty.Contents (Elt F)) = Cert.ReferenceIdeal.Step.b6 j s := by
  unfold Cert.ReferenceIdeal.Step.b6
  rw [← al_3 h, ← al_4 h, ← al_5 h, h.f_0]
  try rfl
set_option maxRecDepth 8192 in
/-- Value 7 of the loop's body, where the valuation holds the state. -/
theorem al_7 (h : Holds V0 s j) : (shapeCast S64x64 (Host.dynamicSlice S1x64x64 (V0 (Proc.devRef .tc main_v14_0)) (fun k => (((![res_main_while0b_v67 V0, constantI S_ 32 0#32, constantI S_ 32 0#32] : Fin 3 → (⟨S_, .i32⟩ : BufTy).Contents (Elt F))) k (Shape.Idx.first h_S_)).toInt) sliceFits_S4096x64x64_S1x64x64) shapeCasts_S1x64x64_S64x64 : (Proc.devRef .tc main_while0b_v68 : DevRef τ sig).ty.Contents (Elt F)) = Cert.ReferenceIdeal.Step.b7 j s := by
  unfold Cert.ReferenceIdeal.Step.b7
  rw [← al_6 h]
  try rfl
set_option maxRecDepth 8192 in
/-- Value 8 of the loop's body, where the valuation holds the state. -/
theorem al_8 (h : Holds V0 s j) : (constantI S_ 32 0#32 : (Proc.devRef .tc main_while0b_call1_c : DevRef τ sig).ty.Contents (Elt F)) = Cert.ReferenceIdeal.Step.b8 j s := by
  unfold Cert.ReferenceIdeal.Step.b8
  rfl
set_option maxRecDepth 8192 in
/-- Value 9 of the loop's body, where the valuation holds the state. -/
theorem al_9 (h : Holds V0 s j) : (constantI S_ 32 0#32 : (Proc.devRef .tc main_while0b_call1_c_0 : DevRef τ sig).ty.Contents (Elt F)) = Cert.ReferenceIdeal.Step.b9 j s := by
  unfold Cert.ReferenceIdeal.Step.b9
  rfl
set_option maxRecDepth 8192 in
/-- Value 10 of the loop's body, where the valuation holds the state. -/
theorem al_10 (h : Holds V0 s j) : (Host.dynamicSlice S1x64x64 (V0 (Proc.devRef .tc main_v14_1)) (fun k => (((![res_main_while0b_v67 V0, constantI S_ 32 0#32, constantI S_ 32 0#32] : Fin 3 → (⟨S_, .i32⟩ : BufTy).Contents (Elt F))) k (Shape.Idx.first h_S_)).toInt) sliceFits_S4096x64x64_S1x64x64 : (Proc.devRef .tc main_while0b_call1_v0 : DevRef τ sig).ty.Contents (Elt F)) = Cert.ReferenceIdeal.Step.b10 j s := by
  unfold Cert.ReferenceIdeal.Step.b10
  rw [← al_3 h, ← al_8 h, ← al_9 h, h.f_1]
  try rfl
set_option maxRecDepth 8192 in
/-- Value 11 of the loop's body, where the valuation holds the state. -/
theorem al_11 (h : Holds V0 s j) : (shapeCast S64x64 (Host.dynamicSlice S1x64x64 (V0 (Proc.devRef .tc main_v14_1)) (fun k => (((![res_main_while0b_v67 V0, constantI S_ 32 0#32, constantI S_ 32 0#32] : Fin 3 → (⟨S_, .i32⟩ : BufTy).Contents (Elt F))) k (Shape.Idx.first h_S_)).toInt) sliceFits_S4096x64x64_S1x64x64) shapeCasts_S1x64x64_S64x64 : (Proc.devRef .tc main_while0b_v69 : DevRef τ sig).ty.Contents (Elt F)) = Cert.ReferenceIdeal.Step.b11 j s := by
  unfold Cert.ReferenceIdeal.Step.b11
  rw [← al_10 h]
  try rfl
set_option maxRecDepth 8192 in
/-- Value 12 of the loop's body, where the valuation holds the state. -/
theorem al_12 (h : Holds V0 s j) : (res_main_while0b_v70 V0 : (Proc.devRef .tc main_while0b_v70 : DevRef τ sig).ty.Contents (Elt F)) = Cert.ReferenceIdeal.Step.b12 j s := by
  unfold res_main_while0b_v70 Cert.ReferenceIdeal.Step.b12
  rw [← al_7 h, h.f_5]
  try rfl
set_option maxRecDepth 8192 in
/-- Value 13 of the loop's body, where the valuation holds the state. -/
theorem al_13 (h : Holds V0 s j) : (res_main_while0b_v71 V0 : (Proc.devRef .tc main_while0b_v71 : DevRef τ sig).ty.Contents (Elt F)) = Cert.ReferenceIdeal.Step.b13 j s := by
  unfold res_main_while0b_v71 Cert.ReferenceIdeal.Step.b13
  rw [← al_11 h, h.f_6]
  try rfl
set_option maxRecDepth 8192 in
/-- Value 14 of the loop's body, where the valuation holds the state. -/
theorem al_14 (h : Holds V0 s j) : (mulf (V0 (Proc.devRef .tc main_v14_3)) (res_main_while0b_v71 V0) : (Proc.devRef .tc main_while0b_v72 : DevRef τ sig).ty.Contents (Elt F)) = Cert.ReferenceIdeal.Step.b14 j s := by
  unfold Cert.ReferenceIdeal.Step.b14
  rw [← al_13 h, h.f_3]
  try rfl
set_option maxRecDepth 8192 in
/-- Value 15 of the loop's body, where the valuation holds the state. -/
theorem al_15 (h : Holds V0 s j) : (mulf (V0 (Proc.devRef .tc main_v14_2)) (res_main_while0b_v71 V0) : (Proc.devRef .tc main_while0b_v73 : DevRef τ sig).ty.Contents (Elt F)) = Cert.ReferenceIdeal.Step.b15 j s := by
  unfold Cert.ReferenceIdeal.Step.b15
  rw [← al_13 h, h.f_2]
  try rfl
set_option maxRecDepth 8192 in
/-- Value 16 of the loop's body, where the valuation holds the state. -/
theorem al_16 (h : Holds V0 s j) : (Host.negf (res_main_while0b_v70 V0) : (Proc.devRef .tc main_while0b_v74 : DevRef τ sig).ty.Contents (Elt F)) = Cert.ReferenceIdeal.Step.b16 j s := by
  unfold Cert.ReferenceIdeal.Step.b16
  rw [← al_12 h]
  try rfl
set_option maxRecDepth 8192 in
/-- Value 17 of the loop's body, where the valuation holds the state. -/
theorem al_17 (h : Holds V0 s j) : (mulf (V0 (Proc.devRef .tc main_v14_3)) (Host.negf (res_main_while0b_v70 V0)) : (Proc.devRef .tc main_while0b_v75 : DevRef τ sig).ty.Contents (Elt F)) = Cert.ReferenceIdeal.Step.b17 j s := by
  unfold Cert.ReferenceIdeal.Step.b17
  rw [← al_16 h, h.f_3]
  try rfl
set_option maxRecDepth 8192 in
/-- Value 18 of the loop's body, where the valuation holds the state. -/
theorem al_18 (h : Holds V0 s j) : (addf (mulf (V0 (Proc.devRef .tc main_v14_2)) (res_main_while0b_v71 V0)) (mulf (V0 (Proc.devRef .tc main_v14_3)) (Host.negf (res_main_while0b_v70 V0))) : (Proc.devRef .tc main_while0b_v76 : DevRef τ sig).ty.Contents (Elt F)) = Cert.ReferenceIdeal.Step.b18 j s := by
  unfold Cert.ReferenceIdeal.Step.b18
  rw [← al_15 h, ← al_17 h]
  try rfl
set_option maxRecDepth 8192 in
/-- Value 19 of the loop's body, where the valuation holds the state. -/
theorem al_19 (h : Holds V0 s j) : (mulf (V0 (Proc.devRef .tc main_v14_2)) (res_main_while0b_v70 V0) : (Proc.devRef .tc main_while0b_v77 : DevRef τ sig).ty.Contents (Elt F)) = Cert.ReferenceIdeal.Step.b19 j s := by
  unfold Cert.ReferenceIdeal.Step.b19
  rw [← al_12 h, h.f_2]
  try rfl
set_option maxRecDepth 8192 in
/-- Value 20 of the loop's body, where the valuation holds the state. -/
theorem al_20 (h : Holds V0 s j) : (addf (mulf (V0 (Proc.devRef .tc main_v14_3)) (res_main_while0b_v71 V0)) (mulf (V0 (Proc.devRef .tc main_v14_2)) (res_main_while0b_v70 V0)) : (Proc.devRef .tc main_while0b_v78 : DevRef τ sig).ty.Contents (Elt F)) = Cert.ReferenceIdeal.Step.b20 j s := by
  unfold Cert.ReferenceIdeal.Step.b20
  rw [← al_14 h, ← al_19 h]
  try rfl
set_option maxRecDepth 8192 in
/-- Value 21 of the loop's body, where the valuation holds the state. -/
theorem al_21 (h : Holds V0 s j) : (broadcastInDim S1x64x64 ![1, 2] bcast_S64x64_S1x64x64_1_2 (res_main_while0b_v70 V0) : (Proc.devRef .tc main_while0b_call2_v0 : DevRef τ sig).ty.Contents (Elt F)) = Cert.ReferenceIdeal.Step.b21 j s := by
  unfold Cert.ReferenceIdeal.Step.b21
  rw [← al_12 h]
  try rfl
set_option maxRecDepth 8192 in
/-- Value 22 of the loop's body, where the valuation holds the state. -/
theorem al_22 (h : Holds V0 s j) : (constantI S_ 32 0#32 : (Proc.devRef .tc main_while0b_call2_c : DevRef τ sig).ty.Contents (Elt F)) = Cert.ReferenceIdeal.Step.b22 j s := by
  unfold Cert.ReferenceIdeal.Step.b22
  rfl
set_option maxRecDepth 8192 in
/-- Value 23 of the loop's body, where the valuation holds the state. -/
theorem al_23 (h : Holds V0 s j) : (constantI S_ 32 0#32 : (Proc.devRef .tc main_while0b_call2_c_0 : DevRef τ sig).ty.Contents (Elt F)) = Cert.ReferenceIdeal.Step.b23 j s := by
  unfold Cert.ReferenceIdeal.Step.b23
  rfl
set_option maxRecDepth 8192 in
/-- Value 24 of the loop's body, where the valuation holds the state. -/
theorem al_24 (h : Holds V0 s j) : (Host.dynamicUpdateSlice (V0 (Proc.devRef .tc main_v14_7)) (broadcastInDim S1x64x64 ![1, 2] bcast_S64x64_S1x64x64_1_2 (res_main_while0b_v70 V0)) (fun k => (((![res_main_while0b_v67 V0, constantI S_ 32 0#32, constantI S_ 32 0#32] : Fin 3 → (⟨S_, .i32⟩ : BufTy).Contents (Elt F))) k (Shape.Idx.first h_S_)).toInt) updateFits_S4096x64x64_S1x64x64 : (Proc.devRef .tc main_while0b_v79 : DevRef τ sig).ty.Contents (Elt F)) = Cert.ReferenceIdeal.Step.b24 j s := by
  unfold Cert.ReferenceIdeal.Step.b24
  rw [← al_21 h, ← al_3 h, ← al_22 h, ← al_23 h, h.f_7]
  try rfl
set_option maxRecDepth 8192 in
/-- Value 25 of the loop's body, where the valuation holds the state. -/
theorem al_25 (h : Holds V0 s j) : (broadcastInDim S1x64x64 ![1, 2] bcast_S64x64_S1x64x64_1_2 (res_main_while0b_v71 V0) : (Proc.devRef .tc main_while0b_call3_v0 : DevRef τ sig).ty.Contents (Elt F)) = Cert.ReferenceIdeal.Step.b25 j s := by
  unfold Cert.ReferenceIdeal.Step.b25
  rw [← al_13 h]
  try rfl
set_option maxRecDepth 8192 in
/-- Value 26 of the loop's body, where the valuation holds the state. -/
theorem al_26 (h : Holds V0 s j) : (constantI S_ 32 0#32 : (Proc.devRef .tc main_while0b_call3_c : DevRef τ sig).ty.Contents (Elt F)) = Cert.ReferenceIdeal.Step.b26 j s := by
  unfold Cert.ReferenceIdeal.Step.b26
  rfl
set_option maxRecDepth 8192 in
/-- Value 27 of the loop's body, where the valuation holds the state. -/
theorem al_27 (h : Holds V0 s j) : (constantI S_ 32 0#32 : (Proc.devRef .tc main_while0b_call3_c_0 : DevRef τ sig).ty.Contents (Elt F)) = Cert.ReferenceIdeal.Step.b27 j s := by
  unfold Cert.ReferenceIdeal.Step.b27
  rfl
set_option maxRecDepth 8192 in
/-- Value 28 of the loop's body, where the valuation holds the state. -/
theorem al_28 (h : Holds V0 s j) : (Host.dynamicUpdateSlice (V0 (Proc.devRef .tc main_v14_8)) (broadcastInDim S1x64x64 ![1, 2] bcast_S64x64_S1x64x64_1_2 (res_main_while0b_v71 V0)) (fun k => (((![res_main_while0b_v67 V0, constantI S_ 32 0#32, constantI S_ 32 0#32] : Fin 3 → (⟨S_, .i32⟩ : BufTy).Contents (Elt F))) k (Shape.Idx.first h_S_)).toInt) updateFits_S4096x64x64_S1x64x64 : (Proc.devRef .tc main_while0b_v80 : DevRef τ sig).ty.Contents (Elt F)) = Cert.ReferenceIdeal.Step.b28 j s := by
  unfold Cert.ReferenceIdeal.Step.b28
  rw [← al_25 h, ← al_3 h, ← al_26 h, ← al_27 h, h.f_8]
  try rfl

/-! One trip's step of the carried values is `step`, field by field; a counter steps to the next number. -/

/-- What a trip leaves in the state's place 5. -/
theorem step_5 (h : Holds V0 s j) : step_main_v14_5 V0 = (step j s).main_v14_5 := by
  unfold step_main_v14_5 Cert.ReferenceIdeal.Step.step
  show id (addf (mulf (V0 (Proc.devRef .tc main_v14_3)) (res_main_while0b_v71 V0)) (mulf (V0 (Proc.devRef .tc main_v14_2)) (res_main_while0b_v70 V0))) = _
  rw [al_20 h]
  try rfl
/-- What a trip leaves in the state's place 6. -/
theorem step_6 (h : Holds V0 s j) : step_main_v14_6 V0 = (step j s).main_v14_6 := by
  unfold step_main_v14_6 Cert.ReferenceIdeal.Step.step
  show id (addf (mulf (V0 (Proc.devRef .tc main_v14_2)) (res_main_while0b_v71 V0)) (mulf (V0 (Proc.devRef .tc main_v14_3)) (Host.negf (res_main_while0b_v70 V0)))) = _
  rw [al_18 h]
  try rfl
/-- What a trip leaves in the state's place 7. -/
theorem step_7 (h : Holds V0 s j) : step_main_v14_7 V0 = (step j s).main_v14_7 := by
  unfold step_main_v14_7
  show id (Host.dynamicUpdateSlice (V0 (Proc.devRef .tc main_v14_7)) (broadcastInDim S1x64x64 ![1, 2] bcast_S64x64_S1x64x64_1_2 (res_main_while0b_v70 V0)) (fun k => (((![res_main_while0b_v67 V0, constantI S_ 32 0#32, constantI S_ 32 0#32] : Fin 3 → (⟨S_, .i32⟩ : BufTy).Contents (Elt F))) k (Shape.Idx.first h_S_)).toInt) updateFits_S4096x64x64_S1x64x64) = _
  exact (al_24 h).trans (Cert.ReferenceIdeal.Step.step_main_v14_7 j s).symm
/-- What a trip leaves in the state's place 8. -/
theorem step_8 (h : Holds V0 s j) : step_main_v14_8 V0 = (step j s).main_v14_8 := by
  unfold step_main_v14_8
  show id (Host.dynamicUpdateSlice (V0 (Proc.devRef .tc main_v14_8)) (broadcastInDim S1x64x64 ![1, 2] bcast_S64x64_S1x64x64_1_2 (res_main_while0b_v71 V0)) (fun k => (((![res_main_while0b_v67 V0, constantI S_ 32 0#32, constantI S_ 32 0#32] : Fin 3 → (⟨S_, .i32⟩ : BufTy).Contents (Elt F))) k (Shape.Idx.first h_S_)).toInt) updateFits_S4096x64x64_S1x64x64) = _
  exact (al_28 h).trans (Cert.ReferenceIdeal.Step.step_main_v14_8 j s).symm
/-- What a trip leaves in the state's place 4. -/
theorem step_4 (h : Holds V0 s j) : step_main_v14_4 V0 = constantI S_ 32 (BitVec.ofNat 32 (j + 1)) := by
  unfold step_main_v14_4
  rw [h.n_4]
  funext i
  show BitVec.ofNat 32 j + 1#32 = BitVec.ofNat 32 (j + 1)
  simp only [BitVec.ofNat_add]

set_option maxRecDepth 8192 in
/-- The result in `main_v65`, where the valuation holds the state. -/
theorem out_main_v65_holds (h : Holds V0 s j) {x_main_arg1 : (⟨S4096x1024, .bf16⟩ : BufTy).Contents (Elt F)} (h_main_arg1 : V0 (Proc.devRef .tc main_arg1) = x_main_arg1) {x_main_arg5 : (⟨S64x64x16, .f32⟩ : BufTy).Contents (Elt F)} (h_main_arg5 : V0 (Proc.devRef .tc main_arg5) = x_main_arg5) {x_main_arg6 : (⟨S64x64x16, .f32⟩ : BufTy).Contents (Elt F)} (h_main_arg6 : V0 (Proc.devRef .tc main_arg6) = x_main_arg6) : out_main_v65 V0 = Cert.ReferenceIdeal.Step.R_main_v65 s x_main_arg1 x_main_arg5 x_main_arg6 := by
  unfold out_main_v65 Cert.ReferenceIdeal.Step.R_main_v65
  rw [h.f_8, h.f_7, h_main_arg1, h_main_arg5, h_main_arg6]
  try rfl

set_option maxRecDepth 8192 in
/-- The result in `main_v29`, where the valuation holds the state. -/
theorem out_main_v29_holds (h : Holds V0 s j) {x_main_arg2 : (⟨S4096x14336, .f32⟩ : BufTy).Contents (Elt F)} (h_main_arg2 : V0 (Proc.devRef .tc main_arg2) = x_main_arg2) : out_main_v29 V0 = Cert.ReferenceIdeal.Step.R_main_v29 s x_main_arg2 := by
  unfold out_main_v29 Cert.ReferenceIdeal.Step.R_main_v29
  rw [h.f_7, h_main_arg2]
  try rfl

set_option maxRecDepth 8192 in
/-- The result in `main_v27`, where the valuation holds the state. -/
theorem out_main_v27_holds (h : Holds V0 s j) {x_main_arg2 : (⟨S4096x14336, .f32⟩ : BufTy).Contents (Elt F)} (h_main_arg2 : V0 (Proc.devRef .tc main_arg2) = x_main_arg2) : out_main_v27 V0 = Cert.ReferenceIdeal.Step.R_main_v27 s x_main_arg2 := by
  unfold out_main_v27 Cert.ReferenceIdeal.Step.R_main_v27
  rw [h.f_8, h_main_arg2]
  try rfl

set_option maxRecDepth 8192 in
/-- The result in `main_v23`, where the valuation holds the state. -/
theorem out_main_v23_holds (h : Holds V0 s j) {x_main_arg0 : (⟨S4096x1024, .bf16⟩ : BufTy).Contents (Elt F)} (h_main_arg0 : V0 (Proc.devRef .tc main_arg0) = x_main_arg0) {x_main_arg3 : (⟨S4096x4096, .f32⟩ : BufTy).Contents (Elt F)} (h_main_arg3 : V0 (Proc.devRef .tc main_arg3) = x_main_arg3) : out_main_v23 V0 = Cert.ReferenceIdeal.Step.R_main_v23 s x_main_arg0 x_main_arg3 := by
  unfold out_main_v23 Cert.ReferenceIdeal.Step.R_main_v23
  rw [h_main_arg0, h_main_arg3]
  try rfl

set_option maxRecDepth 8192 in
/-- The result in `main_v21`, where the valuation holds the state. -/
theorem out_main_v21_holds (h : Holds V0 s j) {x_main_arg0 : (⟨S4096x1024, .bf16⟩ : BufTy).Contents (Elt F)} (h_main_arg0 : V0 (Proc.devRef .tc main_arg0) = x_main_arg0) {x_main_arg4 : (⟨S4096x4096, .f32⟩ : BufTy).Contents (Elt F)} (h_main_arg4 : V0 (Proc.devRef .tc main_arg4) = x_main_arg4) : out_main_v21 V0 = Cert.ReferenceIdeal.Step.R_main_v21 s x_main_arg0 x_main_arg4 := by
  unfold out_main_v21 Cert.ReferenceIdeal.Step.R_main_v21
  rw [h_main_arg0, h_main_arg4]
  try rfl

set_option maxRecDepth 8192 in
/-- The result in `main_v61`, where the valuation holds the state. -/
theorem out_main_v61_holds (h : Holds V0 s j) {x_main_arg3 : (⟨S4096x4096, .f32⟩ : BufTy).Contents (Elt F)} (h_main_arg3 : V0 (Proc.devRef .tc main_arg3) = x_main_arg3) {x_main_arg4 : (⟨S4096x4096, .f32⟩ : BufTy).Contents (Elt F)} (h_main_arg4 : V0 (Proc.devRef .tc main_arg4) = x_main_arg4) : out_main_v61 V0 = Cert.ReferenceIdeal.Step.R_main_v61 s x_main_arg3 x_main_arg4 := by
  unfold out_main_v61 Cert.ReferenceIdeal.Step.R_main_v61
  rw [h.f_8, h.f_7, h_main_arg3, h_main_arg4]
  try rfl

set_option maxRecDepth 8192 in
/-- The result in `main_v56`, where the valuation holds the state. -/
theorem out_main_v56_holds (h : Holds V0 s j) {x_main_arg3 : (⟨S4096x4096, .f32⟩ : BufTy).Contents (Elt F)} (h_main_arg3 : V0 (Proc.devRef .tc main_arg3) = x_main_arg3) {x_main_arg4 : (⟨S4096x4096, .f32⟩ : BufTy).Contents (Elt F)} (h_main_arg4 : V0 (Proc.devRef .tc main_arg4) = x_main_arg4) : out_main_v56 V0 = Cert.ReferenceIdeal.Step.R_main_v56 s x_main_arg3 x_main_arg4 := by
  unfold out_main_v56 Cert.ReferenceIdeal.Step.R_main_v56
  rw [h.f_8, h.f_7, h_main_arg3, h_main_arg4]
  try rfl

/-- One trip keeps the valuation holding: `step` of the state, the same set-up values, the next number. -/
theorem holds_step (h : Holds V0 s j) : Holds (STEP V0) (step j s) (j + 1) where
  f_5 := (STEP_main_v14_5 V0).trans (step_5 h)
  f_6 := (STEP_main_v14_6 V0).trans (step_6 h)
  f_7 := (STEP_main_v14_7 V0).trans (step_7 h)
  f_8 := (STEP_main_v14_8 V0).trans (step_8 h)
  n_4 := (STEP_main_v14_4 V0).trans (step_4 h)
  f_0 := (STEP_main_v14_0 V0).trans h.f_0
  f_1 := (STEP_main_v14_1 V0).trans h.f_1
  f_2 := (STEP_main_v14_2 V0).trans h.f_2
  f_3 := (STEP_main_v14_3 V0).trans h.f_3

/-- The state the first trip starts from, of the memory the run starts from. -/
abbrev initState (m : (ℓ : Loc nD τ sig) → Buf (Elt F) ℓ) (c : Dev nD) : State F :=
  init (m ((c.tc : Thread nD τ).loc main_arg9)) (m ((c.tc : Thread nD τ).loc main_arg10)) (m ((c.tc : Thread nD τ).loc main_arg0)) (m ((c.tc : Thread nD τ).loc main_arg7)) (m ((c.tc : Thread nD τ).loc main_arg8))

variable (m : (ℓ : Loc nD τ sig) → Buf (Elt F) ℓ) (c : Dev nD)

set_option maxRecDepth 65536 in
set_option maxHeartbeats 400000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 4096 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v65) = Cert.ReferenceIdeal.Step.R_main_v65 (it c 4096) (m ((c.tc : Thread nD τ).loc main_arg1)) (m ((c.tc : Thread nD τ).loc main_arg5)) (m ((c.tc : Thread nD τ).loc main_arg6))
      ∧ r.2.mem ((c.tc : Thread nD τ).loc main_v29) = Cert.ReferenceIdeal.Step.R_main_v29 (it c 4096) (m ((c.tc : Thread nD τ).loc main_arg2))
      ∧ r.2.mem ((c.tc : Thread nD τ).loc main_v27) = Cert.ReferenceIdeal.Step.R_main_v27 (it c 4096) (m ((c.tc : Thread nD τ).loc main_arg2))
      ∧ r.2.mem ((c.tc : Thread nD τ).loc main_v23) = Cert.ReferenceIdeal.Step.R_main_v23 (it c 4096) (m ((c.tc : Thread nD τ).loc main_arg0)) (m ((c.tc : Thread nD τ).loc main_arg3))
      ∧ r.2.mem ((c.tc : Thread nD τ).loc main_v21) = Cert.ReferenceIdeal.Step.R_main_v21 (it c 4096) (m ((c.tc : Thread nD τ).loc main_arg0)) (m ((c.tc : Thread nD τ).loc main_arg4))
      ∧ r.2.mem ((c.tc : Thread nD τ).loc main_v61) = Cert.ReferenceIdeal.Step.R_main_v61 (it c 4096) (m ((c.tc : Thread nD τ).loc main_arg3)) (m ((c.tc : Thread nD τ).loc main_arg4))
      ∧ r.2.mem ((c.tc : Thread nD τ).loc main_v56) = Cert.ReferenceIdeal.Step.R_main_v56 (it c 4096) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
    have hk := holds_iter m c (it c) (h0 c) (hs c) 4096
    ⟨(h c).1.trans (out_main_v65_holds hk (iter_main_arg1 m c 4096) (iter_main_arg5 m c 4096) (iter_main_arg6 m c 4096)), (h c).2.1.trans (out_main_v29_holds hk (iter_main_arg2 m c 4096)), (h c).2.2.1.trans (out_main_v27_holds hk (iter_main_arg2 m c 4096)), (h c).2.2.2.1.trans (out_main_v23_holds hk (iter_main_arg0 m c 4096) (iter_main_arg3 m c 4096)), (h c).2.2.2.2.1.trans (out_main_v21_holds hk (iter_main_arg0 m c 4096) (iter_main_arg4 m c 4096)), (h c).2.2.2.2.2.1.trans (out_main_v61_holds hk (iter_main_arg3 m c 4096) (iter_main_arg4 m c 4096)), (h c).2.2.2.2.2.2.1.trans (out_main_v56_holds hk (iter_main_arg3 m c 4096) (iter_main_arg4 m c 4096)), (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2.1, (h c).2.2.2.2.2.2.2.2.2.2.2.2.2.2.2.2.1, (h c).2.2.2.2.2.2.2.2.2.2.2.2.2.2.2.2.2⟩) (Value.run m ρ)

end Cert.ReferenceIdeal.StepRun

end
-- ==== Proof.ScanMath.lean ====
module

public import Mathlib.Data.Complex.Basic
public import Mathlib.Algebra.BigOperators.Group.Finset.Basic
public import Mathlib.Algebra.BigOperators.Intervals
public import Mathlib.Algebra.BigOperators.Ring.Finset
public import Mathlib.Tactic.Ring
public import Mathlib.Tactic.Linarith

/-!
The mathematics of a linear recurrence `Λ t = g t + α Λ (t + 1)` taken backwards in time, computed by
doubling inside segments, by doubling over the segments' first rows, and by a carry from block to block.
-/

@[expose] public section

namespace ScanMath

/-- One doubling stage: row `r` takes `α` times row `r + k` where that row lies in the same segment of `m`. -/
noncomputable def stage (m k : ℕ) (α : ℂ) (z : ℕ → ℂ) (r : ℕ) : ℂ :=
  z r + α * (if r % m < m - k then z (r + k) else 0)

/-- The sum of the next `n` rows' inputs in the segment of `m`, each times its power of `α`. -/
noncomputable def segSum (m n : ℕ) (α : ℂ) (z : ℕ → ℂ) (r : ℕ) : ℂ :=
  ∑ j ∈ Finset.range (min n (m - r % m)), α ^ j * z (r + j)

/-- One row's sum is the input itself. -/
theorem segSum_one {m : ℕ} (hm : 0 < m) (α : ℂ) (z : ℕ → ℂ) (r : ℕ) : segSum m 1 α z r = z r := by
  have h := Nat.mod_lt r hm
  have : min 1 (m - r % m) = 1 := by omega
  simp [segSum, this]

/-- A doubling stage takes the sums of `k` rows to the sums of `2 k` rows. -/
theorem stage_segSum {m k : ℕ} (hm : 0 < m) (α : ℂ) (z : ℕ → ℂ) (r : ℕ) :
    stage m k (α ^ k) (segSum m k α z) r = segSum m (2 * k) α z r := by
  have h := Nat.mod_lt r hm
  unfold stage segSum
  by_cases hk : r % m < m - k
  · have h1 : min k (m - r % m) = k := by omega
    have h2 : (r + k) % m = r % m + k := by
      rw [Nat.add_mod, Nat.mod_eq_of_lt (a := k) (by omega), Nat.mod_eq_of_lt (by omega)]
    have h3 : min (2 * k) (m - r % m) = k + min k (m - (r % m + k)) := by omega
    rw [if_pos hk, h1, h2, h3, Finset.sum_range_add, Finset.mul_sum]
    congr 1
    refine Finset.sum_congr rfl fun j _ => ?_
    rw [pow_add, Nat.add_assoc]; ring
  · have h1 : min k (m - r % m) = m - r % m := by omega
    have h2 : min (2 * k) (m - r % m) = m - r % m := by omega
    rw [if_neg hk, h1, h2, mul_zero, add_zero]

/-- One doubling stage of the powers kept per row of a segment. -/
noncomputable def powStage (m k : ℕ) (w : ℕ → ℂ) (r : ℕ) : ℂ :=
  w r * (if r < m - k then w (r + k) else 1)

/-- The power a row holds after `n` steps of doubling. -/
noncomputable def segPow (m n : ℕ) (α : ℂ) (r : ℕ) : ℂ := α ^ min n (m - r)

/-- A doubling stage takes the powers of `k` to the powers of `2 k`. -/
theorem powStage_segPow {m k : ℕ} (α : ℂ) {r : ℕ} (hr : r < m) :
    powStage m k (segPow m k α) r = segPow m (2 * k) α r := by
  unfold powStage segPow
  by_cases hk : r < m - k
  · rw [if_pos hk, ← pow_add]
    congr 1; omega
  · rw [if_neg hk, mul_one]
    congr 1; omega

/-- The recurrence over a block of `n` rows: row `r` from the carry `c` that enters at row `n`. -/
noncomputable def carried (n : ℕ) (α : ℂ) (z : ℕ → ℂ) (c : ℂ) (r : ℕ) : ℂ :=
  ∑ j ∈ Finset.range (n - r), α ^ j * z (r + j) + α ^ (n - r) * c

/-- `q` rows of the recurrence are their own sum and the power of `α` times the row after them. -/
theorem carried_add {n : ℕ} (α : ℂ) (z : ℕ → ℂ) (c : ℂ) {r q : ℕ} (h : r + q ≤ n) :
    carried n α z c r = ∑ j ∈ Finset.range q, α ^ j * z (r + j) + α ^ q * carried n α z c (r + q) := by
  unfold carried
  have h1 : n - r = q + (n - (r + q)) := by omega
  rw [h1, Finset.sum_range_add, mul_add, Finset.mul_sum, pow_add]
  have : ∀ j, α ^ (q + j) * z (r + (q + j)) = α ^ q * (α ^ j * z (r + q + j)) := fun j => by
    rw [pow_add, Nat.add_assoc]; ring
  simp only [this]
  ring

/-- The recurrence after the block's last row is the carry. -/
theorem carried_end (n : ℕ) (α : ℂ) (z : ℕ → ℂ) (c : ℂ) : carried n α z c n = c := by
  simp [carried]

/-- The segments' first rows: their own sums, the last one with the carry in. -/
noncomputable def heads (m g : ℕ) (α : ℂ) (z : ℕ → ℂ) (c : ℂ) (γ : ℕ) : ℂ :=
  segSum m m α z (m * γ) + (if γ = g - 1 then α ^ m * c else 0)

/-- Doubling over the segments' first rows gives the recurrence at those rows. -/
theorem segSum_heads {m g : ℕ} (hm : 0 < m) (α : ℂ) (z : ℕ → ℂ) (c : ℂ) {γ : ℕ} (hγ : γ < g) :
    segSum g g (α ^ m) (heads m g α z c) γ = carried (m * g) α z c (m * γ) := by
  have key : ∀ d γ, γ + d + 1 = g →
      ∑ j ∈ Finset.range (d + 1), (α ^ m) ^ j * heads m g α z c (γ + j) = carried (m * g) α z c (m * γ) := by
    intro d
    induction d with
    | zero =>
      intro γ h
      have hq : m * γ + m = m * g := by rw [← h]; ring
      rw [carried_add α z c (q := m) (le_of_eq hq), hq, carried_end]
      have : γ = g - 1 := by omega
      simp only [zero_add, Finset.sum_range_one, pow_zero, one_mul, add_zero, heads, segSum, Nat.mul_mod_right, Nat.sub_zero,
        Nat.min_self, if_pos this]
    | succ d ih =>
      intro γ h
      have h1 : m * γ + m = m * (γ + 1) := by ring
      have hle : m * γ + m ≤ m * g := by rw [h1]; exact Nat.mul_le_mul_left _ (by omega)
      rw [Finset.sum_range_succ', carried_add α z c (q := m) hle, h1, ← ih (γ + 1) (by omega), Finset.mul_sum]
      have hne : ¬ γ = g - 1 := by omega
      simp only [pow_zero, one_mul, add_zero, heads, segSum, Nat.mul_mod_right, Nat.sub_zero, Nat.min_self, if_neg hne]
      rw [add_comm]
      congr 1
      refine Finset.sum_congr rfl fun j _ => ?_
      rw [pow_succ, show γ + (j + 1) = γ + 1 + j by ring]; ring
  unfold segSum
  rw [Nat.mod_eq_of_lt hγ, show min g (g - γ) = (g - 1 - γ) + 1 by omega]
  exact key _ _ (by omega)

/-- A row's own segment sum and its power of `α` times the next segment's first row is the recurrence at the row. -/
theorem carried_of_segment {m g : ℕ} (hm : 0 < m) (α : ℂ) (z : ℕ → ℂ) (c : ℂ) {r : ℕ} (hr : r < m * g) (e : ℂ)
    (he : e = if r / m < g - 1 then carried (m * g) α z c (m * (r / m + 1)) else c) :
    segSum m m α z r + segPow m m α (r % m) * e = carried (m * g) α z c r := by
  have h := Nat.mod_lt r hm
  have hd := Nat.div_add_mod r m
  have hlt : r / m < g := Nat.div_lt_of_lt_mul hr
  have hnext : r + (m - r % m) = m * (r / m + 1) := by rw [mul_add]; omega
  have hle : r + (m - r % m) ≤ m * g := by rw [hnext]; exact Nat.mul_le_mul_left _ (by omega)
  have he' : e = carried (m * g) α z c (m * (r / m + 1)) := by
    rw [he]
    split
    · rfl
    · rw [show r / m + 1 = g by omega, carried_end]
  rw [carried_add α z c hle, hnext, he']
  unfold segSum segPow
  rw [show min m (m - r % m) = m - r % m by omega]

/-- The recurrence over all `N` rows with nothing entering at the end. -/
noncomputable def whole (N : ℕ) (α : ℂ) (g : ℕ → ℂ) (t : ℕ) : ℂ := carried N α g 0 t

/-- One step of the recurrence over all rows. -/
theorem whole_step {N : ℕ} (α : ℂ) (g : ℕ → ℂ) {t : ℕ} (h : t < N) :
    whole N α g t = g t + α * whole N α g (t + 1) := by
  have := carried_add (n := N) α g 0 (r := t) (q := 1) (by omega)
  simpa [whole] using this

/-- After the last row there is nothing. -/
theorem whole_end (N : ℕ) (α : ℂ) (g : ℕ → ℂ) : whole N α g N = 0 := carried_end N α g 0

/-- A block's rows, with the carry that enters it, are the rows of the whole recurrence. -/
theorem carried_block {N n t₀ : ℕ} (α : ℂ) (g : ℕ → ℂ) (h : t₀ + n ≤ N) {r : ℕ} (hr : r ≤ n) :
    carried n α (fun i => g (t₀ + i)) (whole N α g (t₀ + n)) r = whole N α g (t₀ + r) := by
  have := carried_add (n := N) α g 0 (r := t₀ + r) (q := n - r) (by omega)
  rw [show t₀ + r + (n - r) = t₀ + n by omega] at this
  unfold whole
  rw [this, carried]
  simp only [Nat.add_assoc]

end ScanMath

end
-- ==== Proof.Scan.lean ====
module

public import proofs.«01_k».proof.Proof.Gen.KernelIdeal.Skeleton
public import proofs.«01_k».proof.Proof.ScanMath
public import Idealize.ShloMosaic.Lib.Pointwise

/-!
The block-wise scan of the kernel's body as pairs of vectors (real part, imaginary part), and the proof that,
on real inputs, it is the recurrence `ScanMath.carried` of every column.
-/

@[expose] public section

set_option maxRecDepth 16384

noncomputable section

namespace Cert.KernelIdeal.Scan

open Idealize.ShloMosaic Cert.KernelIdeal.Gen ScanMath

/-- A complex row of 512 columns: its real and its imaginary part. -/
abbrev Row := FVec Ideal S1x512 .f32 × FVec Ideal S1x512 .f32
/-- A complex tile of 8 rows. -/
abbrev Tile8 := FVec Ideal S8x512 .f32 × FVec Ideal S8x512 .f32
/-- A complex tile of 64 rows. -/
abbrev Tile64 := FVec Ideal S64x512 .f32 × FVec Ideal S64x512 .f32
/-- A complex tile of 512 rows. -/
abbrev Tile := FVec Ideal S512x512 .f32 × FVec Ideal S512x512 .f32

/-- The rows of a 512-row tile moved up, rows from `lim` of each segment of 8 on replaced by zero. -/
def shift512 (lim rot : BitVec 32) (x : FVec Ideal S512x512 .f32) : FVec Ideal S512x512 .f32 :=
  select (broadcastTo S512x512 (shapeCast S512x1 (cmpi .slt k0_pay23 (broadcast S512x1 lim)) shapeCasts_S512x1_S512x1) broadcasts_S512x1_S512x512)
    (dynamicRotate 0 rot none x rotates_S512x512_d0) (broadcast S512x512 (Scalar.ofBits (F := Ideal) .f32 0x00000000#32))

/-- The rows of an 8-row tile moved up, rows from `lim` on replaced by `fill`. -/
def shift8 (lim rot : BitVec 32) (fill : BitVec 32) (x : FVec Ideal S8x512 .f32) : FVec Ideal S8x512 .f32 :=
  select (broadcastTo S8x512 (shapeCast S8x1 (cmpi .slt (iota .tc S8x1 32 [0] iota_S8x1_d0_w32) (broadcast S8x1 lim)) shapeCasts_S8x1_S8x1) broadcasts_S8x1_S8x512)
    (dynamicRotate 0 rot none x rotates_S8x512_d0) (broadcast S8x512 (Scalar.ofBits (F := Ideal) .f32 fill))

/-- The mask of the first `lim` of 64 rows. -/
def mask64 (lim : BitVec 32) : IVec S64x512 1 :=
  broadcastTo S64x512 (shapeCast S64x1 (cmpi .slt (iota .tc S64x1 32 [0] iota_S64x1_d0_w32) (broadcast S64x1 lim)) shapeCasts_S64x1_S64x1) broadcasts_S64x1_S64x512

/-- The rows of a 64-row tile moved up, rows from `lim` on replaced by zero. -/
def shift64 (lim rot : BitVec 32) (x : FVec Ideal S64x512 .f32) : FVec Ideal S64x512 .f32 :=
  select (mask64 lim) (dynamicRotate 0 rot none x rotates_S64x512_d0) (broadcast S64x512 (Scalar.ofBits (F := Ideal) .f32 0x00000000#32))

/-- The rows of a 64-row tile moved up by one, the last row replaced by the row `c`. -/
def shiftIn (x : FVec Ideal S64x512 .f32) (c : FVec Ideal S1x512 .f32) : FVec Ideal S64x512 .f32 :=
  select (mask64 63#32) (dynamicRotate 0 63#32 none x rotates_S64x512_d0) (broadcastTo S64x512 (shapeCast S1x512 c shapeCasts_S1x512_S1x512) broadcasts_S1x512_S64x512)

/-- The product of two complex vectors of one shape. -/
def cmul {S : Shape} (a b : FVec Ideal S .f32 × FVec Ideal S .f32) : FVec Ideal S .f32 × FVec Ideal S .f32 :=
  (subf (mulf a.1 b.1) (mulf a.2 b.2), addf (mulf a.1 b.2) (mulf a.2 b.1))

/-- A doubling stage on 512 rows. -/
def stage512 (lim rot : BitVec 32) (p : Row) (x : Tile) : Tile :=
  let t := cmul (broadcastTo S512x512 p.1 broadcasts_S1x512_S512x512, broadcastTo S512x512 p.2 broadcasts_S1x512_S512x512) (shift512 lim rot x.1, shift512 lim rot x.2)
  (addf x.1 t.1, addf x.2 t.2)

/-- A doubling stage on 64 rows. -/
def stage64 (lim : BitVec 32) (p : Row) (x : Tile64) : Tile64 :=
  let t := cmul (broadcastTo S64x512 p.1 broadcasts_S1x512_S64x512, broadcastTo S64x512 p.2 broadcasts_S1x512_S64x512) (shift64 lim lim x.1, shift64 lim lim x.2)
  (addf x.1 t.1, addf x.2 t.2)

/-- A doubling stage of the powers of one segment. -/
def stage8 (lim : BitVec 32) (w : Tile8) : Tile8 :=
  cmul w (shift8 lim lim 0x3F800000#32 w.1, shift8 lim lim 0x00000000#32 w.2)

/-- A row repeated on 8 rows. -/
def rows8 (p : FVec Ideal S1x512 .f32) : FVec Ideal S8x512 .f32 :=
  broadcastTo S8x512 (shapeCast S1x512 p shapeCasts_S1x512_S1x512) broadcasts_S1x512_S8x512

/-- The first row of an eight-row segment is a slice of the tile. -/
theorem slices_first (γ : Fin 64) : S512x512.Slices ![8 * γ.val, 0] S1x512 := by
  revert γ; decide

/-- Sixty-four rows put together make a tile of sixty-four rows. -/
theorem cat_rows : Shape.Concatenates (List.replicate 64 S1x512) S64x512 0 := by decide

/-- Sixty-four segments of eight rows put together make a tile. -/
theorem cat_segs : Shape.Concatenates (List.replicate 64 S8x512) S512x512 0 := by decide

/-- A row is a slice of a tile of sixty-four rows. -/
theorem slices_row (γ : Fin 64) : S64x512.Slices ![γ.val, 0] S1x512 := by
  revert γ; decide

/-- The first row of each segment of 8. -/
def firsts (x : FVec Ideal S512x512 .f32) : FVec Ideal S64x512 .f32 :=
  concatenate S64x512 0 (List.ofFn (n := 64) fun γ => ⟨S1x512, extractStridedSlice S1x512 ![8 * γ.val, 0] x (slices_first γ)⟩) cat_rows

/-- Each of 64 rows repeated on 8 rows. -/
def spread (x : FVec Ideal S64x512 .f32) : FVec Ideal S512x512 .f32 :=
  concatenate S512x512 0 (List.ofFn (n := 64) fun γ => ⟨S8x512, rows8 (extractStridedSlice S1x512 ![γ.val, 0] x (slices_row γ))⟩) cat_segs

/-- An 8-row tile repeated on every segment. -/
def tiled (x : FVec Ideal S8x512 .f32) : FVec Ideal S512x512 .f32 :=
  concatenate S512x512 0 (List.ofFn (n := 64) fun _ => ⟨S8x512, x⟩) cat_segs

/-- The segments' first rows, the last with the row `j` added. -/
def headRows (x : FVec Ideal S512x512 .f32) (j : FVec Ideal S1x512 .f32) : FVec Ideal S64x512 .f32 :=
  addf (firsts x) (select (broadcastTo S64x512 (shapeCast S64x1 (cmpi .eq (iota .tc S64x1 32 [0] iota_S64x1_d0_w32) (broadcast S64x1 63#32)) shapeCasts_S64x1_S64x1) broadcasts_S64x1_S64x512)
    (broadcastTo S64x512 (shapeCast S1x512 j shapeCasts_S1x512_S1x512) broadcasts_S1x512_S64x512) (broadcast S64x512 (Scalar.ofBits (F := Ideal) .f32 0x00000000#32)))

/-- The sums inside the segments of 8. -/
def segs (a : Row) (x : Tile) : Tile :=
  stage512 4#32 508#32 (cmul (cmul a a) (cmul a a)) (stage512 6#32 510#32 (cmul a a) (stage512 7#32 511#32 a x))

/-- The eighth power. -/
def pow8 (a : Row) : Row := cmul (cmul (cmul a a) (cmul a a)) (cmul (cmul a a) (cmul a a))

/-- The powers of one segment. -/
def powers (a : Row) : Tile8 := stage8 4#32 (stage8 6#32 (stage8 7#32 (rows8 a.1, rows8 a.2)))

/-- The doubling over the 64 first rows, `p` the power that one segment carries. -/
def doubled (p : Row) (h : Tile64) : Tile64 :=
  let p2 := cmul p p
  let p4 := cmul p2 p2
  let p8 := cmul p4 p4
  let p16 := cmul p8 p8
  let p32 := cmul p16 p16
  stage64 32#32 p32 (stage64 48#32 p16 (stage64 56#32 p8 (stage64 60#32 p4 (stage64 62#32 p2 (stage64 63#32 p h)))))

/-- The recurrence at the segments' first rows. -/
def heads64 (a : Row) (x : Tile) (c : Row) : Tile64 :=
  let s := segs a x
  let j := cmul (pow8 a) c
  doubled (pow8 a) (headRows s.1 j.1, headRows s.2 j.2)

/-- The recurrence at every row of the block. -/
def lam (a : Row) (x : Tile) (c : Row) : Tile :=
  let s := segs a x
  let h := heads64 a x c
  let w := powers a
  let t := cmul (tiled w.1, tiled w.2) (spread (shiftIn h.1 c.1), spread (shiftIn h.2 c.2))
  (addf s.1 t.1, addf s.2 t.2)

/-- The carry that leaves the block. -/
def carry (a : Row) (x : Tile) (c : Row) : Row :=
  let h := heads64 a x c
  (shapeCast S1x512 (extractStridedSlice S1x512 ![0, 0] h.1 slices_S64x512_o0_0_S1x512) shapeCasts_S1x512_S1x512,
   shapeCast S1x512 (extractStridedSlice S1x512 ![0, 0] h.2 slices_S64x512_o0_0_S1x512) shapeCasts_S1x512_S1x512)

/-- The pair of vectors `v` holds in column `l` the complex numbers `z`. -/
def Rep {n : ℕ} (l : Fin 512) (v : FVec Ideal ⟨2, ![n, 512]⟩ .f32 × FVec Ideal ⟨2, ![n, 512]⟩ .f32) (z : ℕ → ℂ) : Prop :=
  ∀ r : Fin n, v.1 (ix2 r l) = ((z r).re : EReal) ∧ v.2 (ix2 r l) = ((z r).im : EReal)

/-- The real part of a product, in the extended reals. -/
theorem re_mul (a b : ℂ) : (a.re : EReal) * (b.re : EReal) - (a.im : EReal) * (b.im : EReal) = ((a * b).re : EReal) := by
  rw [Complex.mul_re]; norm_cast

/-- The imaginary part of a product, in the extended reals. -/
theorem im_mul (a b : ℂ) : (a.re : EReal) * (b.im : EReal) + (a.im : EReal) * (b.re : EReal) = ((a * b).im : EReal) := by
  rw [Complex.mul_im]; norm_cast

/-- The product of two represented pairs represents the complex product. -/
theorem cmul_rep {n : ℕ} {l : Fin 512} {v w : FVec Ideal ⟨2, ![n, 512]⟩ .f32 × FVec Ideal ⟨2, ![n, 512]⟩ .f32} {y z : ℕ → ℂ}
    (hv : Rep l v y) (hw : Rep l w z) : Rep l (cmul v w) (fun r => y r * z r) := fun r => by
  constructor
  · show v.1 (ix2 r l) * w.1 (ix2 r l) - v.2 (ix2 r l) * w.2 (ix2 r l) = _
    rw [(hv r).1, (hv r).2, (hw r).1, (hw r).2, re_mul]
  · show v.1 (ix2 r l) * w.2 (ix2 r l) + v.2 (ix2 r l) * w.1 (ix2 r l) = _
    rw [(hv r).1, (hv r).2, (hw r).1, (hw r).2, im_mul]

/-- The sum of two represented pairs represents the complex sum. -/
theorem add_rep {n : ℕ} {l : Fin 512} {v w : FVec Ideal ⟨2, ![n, 512]⟩ .f32 × FVec Ideal ⟨2, ![n, 512]⟩ .f32} {y z : ℕ → ℂ}
    (hv : Rep l v y) (hw : Rep l w z) : Rep l (addf v.1 w.1, addf v.2 w.2) (fun r => y r + z r) := fun r => by
  constructor
  · show v.1 (ix2 r l) + w.1 (ix2 r l) = _
    rw [(hv r).1, (hw r).1, Complex.add_re]; norm_cast
  · show v.2 (ix2 r l) + w.2 (ix2 r l) = _
    rw [(hv r).2, (hw r).2, Complex.add_im]; norm_cast

end Cert.KernelIdeal.Scan

end
-- ==== Proof.Body.lean ====
module

public import proofs.«01_k».proof.Proof.Scan

/-!
The values of the kernel's body, one after the other, as the vectors of `Scan`.
-/

@[expose] public section

set_option maxRecDepth 65536
set_option maxHeartbeats 0

noncomputable section

namespace Cert.KernelIdeal.Scan

open Idealize.ShloMosaic Cert.KernelIdeal.Gen ScanMath

/-- The body's value v57 as a component of the named vector operation. -/
theorem v57_eq (v9 v21 : FVec Ideal S1x512 .f32) (v14 v19 : FVec Ideal S512x512 .f32) :
    k0_pay28 v9 v14 v19 v21 k0_pay23 = (stage512 7#32 511#32 (v9, v21) (v14, v19)).1 := by
  rfl

/-- The body's value v58 as a component of the named vector operation. -/
theorem v58_eq (v9 v21 : FVec Ideal S1x512 .f32) (v14 v19 : FVec Ideal S512x512 .f32) :
    k0_pay29 v9 v14 v19 v21 k0_pay23 = (stage512 7#32 511#32 (v9, v21) (v14, v19)).2 := by
  rfl

/-- The body's value v61 as a component of the named vector operation. -/
theorem v61_eq (v9 v21 : FVec Ideal S1x512 .f32) :
    k0_pay30 v9 v21 = (cmul (v9, v21) (v9, v21)).1 := by
  rfl

/-- The body's value v64 as a component of the named vector operation. -/
theorem v64_eq (v9 v21 : FVec Ideal S1x512 .f32) :
    k0_pay31 v9 v21 = (cmul (v9, v21) (v9, v21)).2 := by
  rfl

/-- The body's value v109 as a component of the named vector operation. -/
theorem v109_eq (v57 v58 : FVec Ideal S512x512 .f32) (v61 v64 : FVec Ideal S1x512 .f32) :
    k0_pay40 k0_pay23 v57 v58 v61 v64 = (stage512 6#32 510#32 (v61, v64) (v57, v58)).1 := by
  rfl

/-- The body's value v110 as a component of the named vector operation. -/
theorem v110_eq (v57 v58 : FVec Ideal S512x512 .f32) (v61 v64 : FVec Ideal S1x512 .f32) :
    k0_pay41 k0_pay23 v57 v58 v61 v64 = (stage512 6#32 510#32 (v61, v64) (v57, v58)).2 := by
  rfl

/-- The body's value v113 as a component of the named vector operation. -/
theorem v113_eq (v61 v64 : FVec Ideal S1x512 .f32) :
    k0_pay42 v61 v64 = (cmul (v61, v64) (v61, v64)).1 := by
  rfl

/-- The body's value v116 as a component of the named vector operation. -/
theorem v116_eq (v61 v64 : FVec Ideal S1x512 .f32) :
    k0_pay43 v61 v64 = (cmul (v61, v64) (v61, v64)).2 := by
  rfl

/-- The body's value v161 as a component of the named vector operation. -/
theorem v161_eq (v109 v110 : FVec Ideal S512x512 .f32) (v113 v116 : FVec Ideal S1x512 .f32) :
    k0_pay51 k0_pay23 v109 v110 v113 v116 = (stage512 4#32 508#32 (v113, v116) (v109, v110)).1 := by
  rfl

/-- The body's value v162 as a component of the named vector operation. -/
theorem v162_eq (v109 v110 : FVec Ideal S512x512 .f32) (v113 v116 : FVec Ideal S1x512 .f32) :
    k0_pay52 k0_pay23 v109 v110 v113 v116 = (stage512 4#32 508#32 (v113, v116) (v109, v110)).2 := by
  rfl

/-- The body's value v165 as a component of the named vector operation. -/
theorem v165_eq (v113 v116 : FVec Ideal S1x512 .f32) :
    k0_pay53 v113 v116 = (cmul (v113, v116) (v113, v116)).1 := by
  rfl

/-- The body's value v168 as a component of the named vector operation. -/
theorem v168_eq (v113 v116 : FVec Ideal S1x512 .f32) :
    k0_pay54 v113 v116 = (cmul (v113, v116) (v113, v116)).2 := by
  rfl

/-- The body's value v185 as a component of the named vector operation. -/
theorem v185_eq (v9 v21 : FVec Ideal S1x512 .f32) :
    k0_pay59 (iota .tc S8x1 32 [0] iota_S8x1_d0_w32) (k0_pay47 (iota .tc S8x1 32 [0] iota_S8x1_d0_w32) (k0_pay36 (k0_pay24 v9) (k0_pay25 v21) (k0_pay32 v9) k0_pay33 (k0_pay34 v21) (Scalar.ofBits (F := Ideal) .f32 0x00000000#32)) (k0_pay37 (k0_pay24 v9) (k0_pay25 v21) (k0_pay32 v9) k0_pay33 (k0_pay34 v21) (Scalar.ofBits (F := Ideal) .f32 0x00000000#32)) (k0_pay44 (iota .tc S8x1 32 [0] iota_S8x1_d0_w32) (k0_pay24 v9) (k0_pay25 v21) (k0_pay32 v9) k0_pay33 (k0_pay34 v21) (Scalar.ofBits (F := Ideal) .f32 0x00000000#32)) k0_pay45) (k0_pay48 (iota .tc S8x1 32 [0] iota_S8x1_d0_w32) (k0_pay36 (k0_pay24 v9) (k0_pay25 v21) (k0_pay32 v9) k0_pay33 (k0_pay34 v21) (Scalar.ofBits (F := Ideal) .f32 0x00000000#32)) (k0_pay37 (k0_pay24 v9) (k0_pay25 v21) (k0_pay32 v9) k0_pay33 (k0_pay34 v21) (Scalar.ofBits (F := Ideal) .f32 0x00000000#32)) (k0_pay44 (iota .tc S8x1 32 [0] iota_S8x1_d0_w32) (k0_pay24 v9) (k0_pay25 v21) (k0_pay32 v9) k0_pay33 (k0_pay34 v21) (Scalar.ofBits (F := Ideal) .f32 0x00000000#32)) k0_pay45) (k0_pay55 (iota .tc S8x1 32 [0] iota_S8x1_d0_w32) (k0_pay36 (k0_pay24 v9) (k0_pay25 v21) (k0_pay32 v9) k0_pay33 (k0_pay34 v21) (Scalar.ofBits (F := Ideal) .f32 0x00000000#32)) (k0_pay37 (k0_pay24 v9) (k0_pay25 v21) (k0_pay32 v9) k0_pay33 (k0_pay34 v21) (Scalar.ofBits (F := Ideal) .f32 0x00000000#32)) (k0_pay44 (iota .tc S8x1 32 [0] iota_S8x1_d0_w32) (k0_pay24 v9) (k0_pay25 v21) (k0_pay32 v9) k0_pay33 (k0_pay34 v21) (Scalar.ofBits (F := Ideal) .f32 0x00000000#32)) k0_pay45) (Scalar.ofBits (F := Ideal) .f32 0x3F800000#32) (k0_pay56 (iota .tc S8x1 32 [0] iota_S8x1_d0_w32)) = (stage8 4#32 (stage8 6#32 (stage8 7#32 (rows8 v9, rows8 v21)))).1 := by
  rfl

/-- The body's value v188 as a component of the named vector operation. -/
theorem v188_eq (v9 v21 : FVec Ideal S1x512 .f32) :
    k0_pay60 (iota .tc S8x1 32 [0] iota_S8x1_d0_w32) (k0_pay47 (iota .tc S8x1 32 [0] iota_S8x1_d0_w32) (k0_pay36 (k0_pay24 v9) (k0_pay25 v21) (k0_pay32 v9) k0_pay33 (k0_pay34 v21) (Scalar.ofBits (F := Ideal) .f32 0x00000000#32)) (k0_pay37 (k0_pay24 v9) (k0_pay25 v21) (k0_pay32 v9) k0_pay33 (k0_pay34 v21) (Scalar.ofBits (F := Ideal) .f32 0x00000000#32)) (k0_pay44 (iota .tc S8x1 32 [0] iota_S8x1_d0_w32) (k0_pay24 v9) (k0_pay25 v21) (k0_pay32 v9) k0_pay33 (k0_pay34 v21) (Scalar.ofBits (F := Ideal) .f32 0x00000000#32)) k0_pay45) (k0_pay48 (iota .tc S8x1 32 [0] iota_S8x1_d0_w32) (k0_pay36 (k0_pay24 v9) (k0_pay25 v21) (k0_pay32 v9) k0_pay33 (k0_pay34 v21) (Scalar.ofBits (F := Ideal) .f32 0x00000000#32)) (k0_pay37 (k0_pay24 v9) (k0_pay25 v21) (k0_pay32 v9) k0_pay33 (k0_pay34 v21) (Scalar.ofBits (F := Ideal) .f32 0x00000000#32)) (k0_pay44 (iota .tc S8x1 32 [0] iota_S8x1_d0_w32) (k0_pay24 v9) (k0_pay25 v21) (k0_pay32 v9) k0_pay33 (k0_pay34 v21) (Scalar.ofBits (F := Ideal) .f32 0x00000000#32)) k0_pay45) (k0_pay55 (iota .tc S8x1 32 [0] iota_S8x1_d0_w32) (k0_pay36 (k0_pay24 v9) (k0_pay25 v21) (k0_pay32 v9) k0_pay33 (k0_pay34 v21) (Scalar.ofBits (F := Ideal) .f32 0x00000000#32)) (k0_pay37 (k0_pay24 v9) (k0_pay25 v21) (k0_pay32 v9) k0_pay33 (k0_pay34 v21) (Scalar.ofBits (F := Ideal) .f32 0x00000000#32)) (k0_pay44 (iota .tc S8x1 32 [0] iota_S8x1_d0_w32) (k0_pay24 v9) (k0_pay25 v21) (k0_pay32 v9) k0_pay33 (k0_pay34 v21) (Scalar.ofBits (F := Ideal) .f32 0x00000000#32)) k0_pay45) (Scalar.ofBits (F := Ideal) .f32 0x3F800000#32) (k0_pay56 (iota .tc S8x1 32 [0] iota_S8x1_d0_w32)) = (stage8 4#32 (stage8 6#32 (stage8 7#32 (rows8 v9, rows8 v21)))).2 := by
  rfl

/-- The body's value v435 as a component of the named vector operation. -/
theorem v435_eq (v165 v168 : FVec Ideal S1x512 .f32) :
    k0_pay140 (k0_pay126 v165 v168) (k0_pay127 v165 v168) = (cmul (cmul (cmul (v165, v168) (v165, v168)) (cmul (v165, v168) (v165, v168))) (cmul (cmul (v165, v168) (v165, v168)) (cmul (v165, v168) (v165, v168)))).1 := by
  rfl

/-- The body's value v438 as a component of the named vector operation. -/
theorem v438_eq (v165 v168 : FVec Ideal S1x512 .f32) :
    k0_pay141 (k0_pay126 v165 v168) (k0_pay127 v165 v168) = (cmul (cmul (cmul (v165, v168) (v165, v168)) (cmul (v165, v168) (v165, v168))) (cmul (cmul (v165, v168) (v165, v168)) (cmul (v165, v168) (v165, v168)))).2 := by
  rfl

/-- The body's value v467 as a component of the named vector operation. -/
theorem v467_eq (v435 v438 : FVec Ideal S1x512 .f32) :
    k0_pay146 v435 v438 = (cmul (v435, v438) (v435, v438)).1 := by
  rfl

/-- The body's value v470 as a component of the named vector operation. -/
theorem v470_eq (v435 v438 : FVec Ideal S1x512 .f32) :
    k0_pay147 v435 v438 = (cmul (v435, v438) (v435, v438)).2 := by
  rfl

/-- The body's value v191 as a component of the named vector operation. -/
theorem v191_eq (v165 v168 v22 v23 : FVec Ideal S1x512 .f32) :
    k0_pay61 v22 v23 v165 v168 = (cmul (v165, v168) (v22, v23)).1 := by
  rfl

/-- The body's value v194 as a component of the named vector operation. -/
theorem v194_eq (v165 v168 v22 v23 : FVec Ideal S1x512 .f32) :
    k0_pay62 v22 v23 v165 v168 = (cmul (v165, v168) (v22, v23)).2 := by
  rfl

/-- The body's value v268 as a component of the named vector operation. -/
theorem v268_eq (v161 : FVec Ideal S512x512 .f32) (v191 : FVec Ideal S1x512 .f32) :
    k0_pay99 (iota .tc S64x1 32 [0] iota_S64x1_d0_w32) v161 v191 (k0_pay63 v161) (k0_pay64 v161) (k0_pay65 v161) (k0_pay66 v161) (k0_pay67 v161) (k0_pay68 v161) (k0_pay69 v161) (k0_pay70 v161) (k0_pay71 v161) (k0_pay72 v161) (k0_pay73 v161) (k0_pay74 v161) (k0_pay75 v161) (k0_pay76 v161) (k0_pay77 v161) (k0_pay78 v161) (k0_pay79 v161) (k0_pay80 v161) (k0_pay81 v161) (k0_pay82 v161) (k0_pay83 v161) (k0_pay84 v161) (k0_pay85 v161) (k0_pay86 v161) (k0_pay87 v161) (k0_pay88 v161) (k0_pay89 v161) (k0_pay90 v161) (k0_pay91 v161) (k0_pay92 v161) (k0_pay93 v161) (k0_pay94 v161) (k0_pay95 v161) (k0_pay96 v161) (k0_pay97 v161) (k0_pay98 v161) = (headRows v161 v191) := by
  rfl

/-- The body's value v342 as a component of the named vector operation. -/
theorem v342_eq (v162 : FVec Ideal S512x512 .f32) (v194 : FVec Ideal S1x512 .f32) :
    k0_pay120 (iota .tc S64x1 32 [0] iota_S64x1_d0_w32) v162 v194 (k0_pay100 v162) (k0_pay101 v162) (k0_pay102 v162) (k0_pay103 v162) (k0_pay104 v162) (k0_pay105 v162) (k0_pay106 v162) (k0_pay107 v162) (k0_pay108 v162) (k0_pay109 v162) (k0_pay110 v162) (k0_pay111 v162) (k0_pay112 v162) (k0_pay113 v162) (k0_pay114 v162) (k0_pay115 v162) (k0_pay116 v162) (k0_pay117 v162) (k0_pay118 v162) (k0_pay119 v162) = (headRows v162 v194) := by
  rfl

/-- The body's value v495 as a component of the named vector operation. -/
theorem v495_eq (v435 v438 v165 v168 : FVec Ideal S1x512 .f32) (v268 v342 : FVec Ideal S64x512 .f32) :
    k0_pay150 (iota .tc S64x1 32 [0] iota_S64x1_d0_w32) (k0_pay138 (iota .tc S64x1 32 [0] iota_S64x1_d0_w32) (k0_pay124 (iota .tc S64x1 32 [0] iota_S64x1_d0_w32) v165 v168 v268 v342 (k0_pay121 (iota .tc S64x1 32 [0] iota_S64x1_d0_w32)) 63#32) (k0_pay125 (iota .tc S64x1 32 [0] iota_S64x1_d0_w32) v165 v168 v268 v342 (k0_pay121 (iota .tc S64x1 32 [0] iota_S64x1_d0_w32)) 63#32) (k0_pay126 v165 v168) (k0_pay127 v165 v168) (k0_pay128 (iota .tc S64x1 32 [0] iota_S64x1_d0_w32) v165 v168 v268 v342 (k0_pay121 (iota .tc S64x1 32 [0] iota_S64x1_d0_w32)) 63#32) (k0_pay129 (iota .tc S64x1 32 [0] iota_S64x1_d0_w32) v165 v168 v268 v342 (k0_pay121 (iota .tc S64x1 32 [0] iota_S64x1_d0_w32)) 63#32) (k0_pay130 (iota .tc S64x1 32 [0] iota_S64x1_d0_w32) v165 v168 v268 v342 (k0_pay121 (iota .tc S64x1 32 [0] iota_S64x1_d0_w32)) 63#32) (k0_pay131 v165 v168)) (k0_pay139 (iota .tc S64x1 32 [0] iota_S64x1_d0_w32) (k0_pay124 (iota .tc S64x1 32 [0] iota_S64x1_d0_w32) v165 v168 v268 v342 (k0_pay121 (iota .tc S64x1 32 [0] iota_S64x1_d0_w32)) 63#32) (k0_pay125 (iota .tc S64x1 32 [0] iota_S64x1_d0_w32) v165 v168 v268 v342 (k0_pay121 (iota .tc S64x1 32 [0] iota_S64x1_d0_w32)) 63#32) (k0_pay126 v165 v168) (k0_pay127 v165 v168) (k0_pay128 (iota .tc S64x1 32 [0] iota_S64x1_d0_w32) v165 v168 v268 v342 (k0_pay121 (iota .tc S64x1 32 [0] iota_S64x1_d0_w32)) 63#32) (k0_pay129 (iota .tc S64x1 32 [0] iota_S64x1_d0_w32) v165 v168 v268 v342 (k0_pay121 (iota .tc S64x1 32 [0] iota_S64x1_d0_w32)) 63#32) (k0_pay130 (iota .tc S64x1 32 [0] iota_S64x1_d0_w32) v165 v168 v268 v342 (k0_pay121 (iota .tc S64x1 32 [0] iota_S64x1_d0_w32)) 63#32) (k0_pay131 v165 v168)) v435 v438 (k0_pay142 (iota .tc S64x1 32 [0] iota_S64x1_d0_w32) (k0_pay124 (iota .tc S64x1 32 [0] iota_S64x1_d0_w32) v165 v168 v268 v342 (k0_pay121 (iota .tc S64x1 32 [0] iota_S64x1_d0_w32)) 63#32) (k0_pay125 (iota .tc S64x1 32 [0] iota_S64x1_d0_w32) v165 v168 v268 v342 (k0_pay121 (iota .tc S64x1 32 [0] iota_S64x1_d0_w32)) 63#32) (k0_pay126 v165 v168) (k0_pay127 v165 v168) (k0_pay128 (iota .tc S64x1 32 [0] iota_S64x1_d0_w32) v165 v168 v268 v342 (k0_pay121 (iota .tc S64x1 32 [0] iota_S64x1_d0_w32)) 63#32) (k0_pay129 (iota .tc S64x1 32 [0] iota_S64x1_d0_w32) v165 v168 v268 v342 (k0_pay121 (iota .tc S64x1 32 [0] iota_S64x1_d0_w32)) 63#32) (k0_pay130 (iota .tc S64x1 32 [0] iota_S64x1_d0_w32) v165 v168 v268 v342 (k0_pay121 (iota .tc S64x1 32 [0] iota_S64x1_d0_w32)) 63#32) (k0_pay131 v165 v168)) = (stage64 48#32 (cmul (v435, v438) (v435, v438)) (stage64 56#32 (v435, v438) (stage64 60#32 (cmul (cmul (v165, v168) (v165, v168)) (cmul (v165, v168) (v165, v168))) (stage64 62#32 (cmul (v165, v168) (v165, v168)) (stage64 63#32 (v165, v168) (v268, v342)))))).1 := by
  rfl

/-- The body's value v496 as a component of the named vector operation. -/
theorem v496_eq (v435 v438 v165 v168 : FVec Ideal S1x512 .f32) (v268 v342 : FVec Ideal S64x512 .f32) :
    k0_pay151 (iota .tc S64x1 32 [0] iota_S64x1_d0_w32) (k0_pay138 (iota .tc S64x1 32 [0] iota_S64x1_d0_w32) (k0_pay124 (iota .tc S64x1 32 [0] iota_S64x1_d0_w32) v165 v168 v268 v342 (k0_pay121 (iota .tc S64x1 32 [0] iota_S64x1_d0_w32)) 63#32) (k0_pay125 (iota .tc S64x1 32 [0] iota_S64x1_d0_w32) v165 v168 v268 v342 (k0_pay121 (iota .tc S64x1 32 [0] iota_S64x1_d0_w32)) 63#32) (k0_pay126 v165 v168) (k0_pay127 v165 v168) (k0_pay128 (iota .tc S64x1 32 [0] iota_S64x1_d0_w32) v165 v168 v268 v342 (k0_pay121 (iota .tc S64x1 32 [0] iota_S64x1_d0_w32)) 63#32) (k0_pay129 (iota .tc S64x1 32 [0] iota_S64x1_d0_w32) v165 v168 v268 v342 (k0_pay121 (iota .tc S64x1 32 [0] iota_S64x1_d0_w32)) 63#32) (k0_pay130 (iota .tc S64x1 32 [0] iota_S64x1_d0_w32) v165 v168 v268 v342 (k0_pay121 (iota .tc S64x1 32 [0] iota_S64x1_d0_w32)) 63#32) (k0_pay131 v165 v168)) (k0_pay139 (iota .tc S64x1 32 [0] iota_S64x1_d0_w32) (k0_pay124 (iota .tc S64x1 32 [0] iota_S64x1_d0_w32) v165 v168 v268 v342 (k0_pay121 (iota .tc S64x1 32 [0] iota_S64x1_d0_w32)) 63#32) (k0_pay125 (iota .tc S64x1 32 [0] iota_S64x1_d0_w32) v165 v168 v268 v342 (k0_pay121 (iota .tc S64x1 32 [0] iota_S64x1_d0_w32)) 63#32) (k0_pay126 v165 v168) (k0_pay127 v165 v168) (k0_pay128 (iota .tc S64x1 32 [0] iota_S64x1_d0_w32) v165 v168 v268 v342 (k0_pay121 (iota .tc S64x1 32 [0] iota_S64x1_d0_w32)) 63#32) (k0_pay129 (iota .tc S64x1 32 [0] iota_S64x1_d0_w32) v165 v168 v268 v342 (k0_pay121 (iota .tc S64x1 32 [0] iota_S64x1_d0_w32)) 63#32) (k0_pay130 (iota .tc S64x1 32 [0] iota_S64x1_d0_w32) v165 v168 v268 v342 (k0_pay121 (iota .tc S64x1 32 [0] iota_S64x1_d0_w32)) 63#32) (k0_pay131 v165 v168)) v435 v438 (k0_pay142 (iota .tc S64x1 32 [0] iota_S64x1_d0_w32) (k0_pay124 (iota .tc S64x1 32 [0] iota_S64x1_d0_w32) v165 v168 v268 v342 (k0_pay121 (iota .tc S64x1 32 [0] iota_S64x1_d0_w32)) 63#32) (k0_pay125 (iota .tc S64x1 32 [0] iota_S64x1_d0_w32) v165 v168 v268 v342 (k0_pay121 (iota .tc S64x1 32 [0] iota_S64x1_d0_w32)) 63#32) (k0_pay126 v165 v168) (k0_pay127 v165 v168) (k0_pay128 (iota .tc S64x1 32 [0] iota_S64x1_d0_w32) v165 v168 v268 v342 (k0_pay121 (iota .tc S64x1 32 [0] iota_S64x1_d0_w32)) 63#32) (k0_pay129 (iota .tc S64x1 32 [0] iota_S64x1_d0_w32) v165 v168 v268 v342 (k0_pay121 (iota .tc S64x1 32 [0] iota_S64x1_d0_w32)) 63#32) (k0_pay130 (iota .tc S64x1 32 [0] iota_S64x1_d0_w32) v165 v168 v268 v342 (k0_pay121 (iota .tc S64x1 32 [0] iota_S64x1_d0_w32)) 63#32) (k0_pay131 v165 v168)) = (stage64 48#32 (cmul (v435, v438) (v435, v438)) (stage64 56#32 (v435, v438) (stage64 60#32 (cmul (cmul (v165, v168) (v165, v168)) (cmul (v165, v168) (v165, v168))) (stage64 62#32 (cmul (v165, v168) (v165, v168)) (stage64 63#32 (v165, v168) (v268, v342)))))).2 := by
  rfl

/-- The body's value v527 as a component of the named vector operation. -/
theorem v527_eq (v467 v470 : FVec Ideal S1x512 .f32) (v495 v496 : FVec Ideal S64x512 .f32) :
    k0_pay156 (iota .tc S64x1 32 [0] iota_S64x1_d0_w32) v467 v470 v495 v496 = (stage64 32#32 (cmul (v467, v470) (v467, v470)) (v495, v496)).1 := by
  rfl

/-- The body's value v528 as a component of the named vector operation. -/
theorem v528_eq (v467 v470 : FVec Ideal S1x512 .f32) (v495 v496 : FVec Ideal S64x512 .f32) :
    k0_pay157 (iota .tc S64x1 32 [0] iota_S64x1_d0_w32) v467 v470 v495 v496 = (stage64 32#32 (cmul (v467, v470) (v467, v470)) (v495, v496)).2 := by
  rfl

/-- The body's value v729 as a component of the named vector operation. -/
theorem v729_eq (v22 v467 v470 : FVec Ideal S1x512 .f32) (v495 v496 : FVec Ideal S64x512 .f32) :
    k0_pay223 (k0_pay159 v22 (iota .tc S64x1 32 [0] iota_S64x1_d0_w32) v467 v470 v495 v496) (k0_pay160 v22 (iota .tc S64x1 32 [0] iota_S64x1_d0_w32) v467 v470 v495 v496) (k0_pay161 v22 (iota .tc S64x1 32 [0] iota_S64x1_d0_w32) v467 v470 v495 v496) (k0_pay162 v22 (iota .tc S64x1 32 [0] iota_S64x1_d0_w32) v467 v470 v495 v496) (k0_pay163 (k0_pay158 v22 (iota .tc S64x1 32 [0] iota_S64x1_d0_w32) v467 v470 v495 v496)) (k0_pay164 (k0_pay158 v22 (iota .tc S64x1 32 [0] iota_S64x1_d0_w32) v467 v470 v495 v496)) (k0_pay165 (k0_pay158 v22 (iota .tc S64x1 32 [0] iota_S64x1_d0_w32) v467 v470 v495 v496)) (k0_pay166 (k0_pay158 v22 (iota .tc S64x1 32 [0] iota_S64x1_d0_w32) v467 v470 v495 v496)) (k0_pay167 (k0_pay158 v22 (iota .tc S64x1 32 [0] iota_S64x1_d0_w32) v467 v470 v495 v496)) (k0_pay168 (k0_pay158 v22 (iota .tc S64x1 32 [0] iota_S64x1_d0_w32) v467 v470 v495 v496)) (k0_pay169 (k0_pay158 v22 (iota .tc S64x1 32 [0] iota_S64x1_d0_w32) v467 v470 v495 v496)) (k0_pay170 (k0_pay158 v22 (iota .tc S64x1 32 [0] iota_S64x1_d0_w32) v467 v470 v495 v496)) (k0_pay171 (k0_pay158 v22 (iota .tc S64x1 32 [0] iota_S64x1_d0_w32) v467 v470 v495 v496)) (k0_pay172 (k0_pay158 v22 (iota .tc S64x1 32 [0] iota_S64x1_d0_w32) v467 v470 v495 v496)) (k0_pay173 (k0_pay158 v22 (iota .tc S64x1 32 [0] iota_S64x1_d0_w32) v467 v470 v495 v496)) (k0_pay174 (k0_pay158 v22 (iota .tc S64x1 32 [0] iota_S64x1_d0_w32) v467 v470 v495 v496)) (k0_pay175 (k0_pay158 v22 (iota .tc S64x1 32 [0] iota_S64x1_d0_w32) v467 v470 v495 v496)) (k0_pay176 (k0_pay158 v22 (iota .tc S64x1 32 [0] iota_S64x1_d0_w32) v467 v470 v495 v496)) (k0_pay177 (k0_pay158 v22 (iota .tc S64x1 32 [0] iota_S64x1_d0_w32) v467 v470 v495 v496)) (k0_pay178 (k0_pay158 v22 (iota .tc S64x1 32 [0] iota_S64x1_d0_w32) v467 v470 v495 v496)) (k0_pay179 (k0_pay158 v22 (iota .tc S64x1 32 [0] iota_S64x1_d0_w32) v467 v470 v495 v496)) (k0_pay180 (k0_pay158 v22 (iota .tc S64x1 32 [0] iota_S64x1_d0_w32) v467 v470 v495 v496)) (k0_pay181 (k0_pay158 v22 (iota .tc S64x1 32 [0] iota_S64x1_d0_w32) v467 v470 v495 v496)) (k0_pay182 (k0_pay158 v22 (iota .tc S64x1 32 [0] iota_S64x1_d0_w32) v467 v470 v495 v496)) (k0_pay183 (k0_pay158 v22 (iota .tc S64x1 32 [0] iota_S64x1_d0_w32) v467 v470 v495 v496)) (k0_pay184 (k0_pay158 v22 (iota .tc S64x1 32 [0] iota_S64x1_d0_w32) v467 v470 v495 v496)) (k0_pay185 (k0_pay158 v22 (iota .tc S64x1 32 [0] iota_S64x1_d0_w32) v467 v470 v495 v496)) (k0_pay186 (k0_pay158 v22 (iota .tc S64x1 32 [0] iota_S64x1_d0_w32) v467 v470 v495 v496)) (k0_pay187 (k0_pay158 v22 (iota .tc S64x1 32 [0] iota_S64x1_d0_w32) v467 v470 v495 v496)) (k0_pay188 (k0_pay158 v22 (iota .tc S64x1 32 [0] iota_S64x1_d0_w32) v467 v470 v495 v496)) (k0_pay189 (k0_pay158 v22 (iota .tc S64x1 32 [0] iota_S64x1_d0_w32) v467 v470 v495 v496)) (k0_pay190 (k0_pay158 v22 (iota .tc S64x1 32 [0] iota_S64x1_d0_w32) v467 v470 v495 v496)) (k0_pay191 (k0_pay158 v22 (iota .tc S64x1 32 [0] iota_S64x1_d0_w32) v467 v470 v495 v496)) (k0_pay192 (k0_pay158 v22 (iota .tc S64x1 32 [0] iota_S64x1_d0_w32) v467 v470 v495 v496)) (k0_pay193 (k0_pay158 v22 (iota .tc S64x1 32 [0] iota_S64x1_d0_w32) v467 v470 v495 v496)) (k0_pay194 (k0_pay158 v22 (iota .tc S64x1 32 [0] iota_S64x1_d0_w32) v467 v470 v495 v496)) (k0_pay195 (k0_pay158 v22 (iota .tc S64x1 32 [0] iota_S64x1_d0_w32) v467 v470 v495 v496)) (k0_pay196 (k0_pay158 v22 (iota .tc S64x1 32 [0] iota_S64x1_d0_w32) v467 v470 v495 v496)) (k0_pay197 (k0_pay158 v22 (iota .tc S64x1 32 [0] iota_S64x1_d0_w32) v467 v470 v495 v496)) (k0_pay198 (k0_pay158 v22 (iota .tc S64x1 32 [0] iota_S64x1_d0_w32) v467 v470 v495 v496)) (k0_pay199 (k0_pay158 v22 (iota .tc S64x1 32 [0] iota_S64x1_d0_w32) v467 v470 v495 v496)) (k0_pay200 (k0_pay158 v22 (iota .tc S64x1 32 [0] iota_S64x1_d0_w32) v467 v470 v495 v496)) (k0_pay201 (k0_pay158 v22 (iota .tc S64x1 32 [0] iota_S64x1_d0_w32) v467 v470 v495 v496)) (k0_pay202 (k0_pay158 v22 (iota .tc S64x1 32 [0] iota_S64x1_d0_w32) v467 v470 v495 v496)) (k0_pay203 (k0_pay158 v22 (iota .tc S64x1 32 [0] iota_S64x1_d0_w32) v467 v470 v495 v496)) (k0_pay204 (k0_pay158 v22 (iota .tc S64x1 32 [0] iota_S64x1_d0_w32) v467 v470 v495 v496)) (k0_pay205 (k0_pay158 v22 (iota .tc S64x1 32 [0] iota_S64x1_d0_w32) v467 v470 v495 v496)) (k0_pay206 (k0_pay158 v22 (iota .tc S64x1 32 [0] iota_S64x1_d0_w32) v467 v470 v495 v496)) (k0_pay207 (k0_pay158 v22 (iota .tc S64x1 32 [0] iota_S64x1_d0_w32) v467 v470 v495 v496)) (k0_pay208 (k0_pay158 v22 (iota .tc S64x1 32 [0] iota_S64x1_d0_w32) v467 v470 v495 v496)) (k0_pay209 (k0_pay158 v22 (iota .tc S64x1 32 [0] iota_S64x1_d0_w32) v467 v470 v495 v496)) (k0_pay210 (k0_pay158 v22 (iota .tc S64x1 32 [0] iota_S64x1_d0_w32) v467 v470 v495 v496)) (k0_pay211 (k0_pay158 v22 (iota .tc S64x1 32 [0] iota_S64x1_d0_w32) v467 v470 v495 v496)) (k0_pay212 (k0_pay158 v22 (iota .tc S64x1 32 [0] iota_S64x1_d0_w32) v467 v470 v495 v496)) (k0_pay213 (k0_pay158 v22 (iota .tc S64x1 32 [0] iota_S64x1_d0_w32) v467 v470 v495 v496)) (k0_pay214 (k0_pay158 v22 (iota .tc S64x1 32 [0] iota_S64x1_d0_w32) v467 v470 v495 v496)) (k0_pay215 (k0_pay158 v22 (iota .tc S64x1 32 [0] iota_S64x1_d0_w32) v467 v470 v495 v496)) (k0_pay216 (k0_pay158 v22 (iota .tc S64x1 32 [0] iota_S64x1_d0_w32) v467 v470 v495 v496)) (k0_pay217 (k0_pay158 v22 (iota .tc S64x1 32 [0] iota_S64x1_d0_w32) v467 v470 v495 v496)) (k0_pay218 (k0_pay158 v22 (iota .tc S64x1 32 [0] iota_S64x1_d0_w32) v467 v470 v495 v496)) (k0_pay219 (k0_pay158 v22 (iota .tc S64x1 32 [0] iota_S64x1_d0_w32) v467 v470 v495 v496)) (k0_pay220 (k0_pay158 v22 (iota .tc S64x1 32 [0] iota_S64x1_d0_w32) v467 v470 v495 v496)) (k0_pay221 (k0_pay158 v22 (iota .tc S64x1 32 [0] iota_S64x1_d0_w32) v467 v470 v495 v496)) (k0_pay222 (k0_pay158 v22 (iota .tc S64x1 32 [0] iota_S64x1_d0_w32) v467 v470 v495 v496)) = (spread (shiftIn (stage64 32#32 (cmul (v467, v470) (v467, v470)) (v495, v496)).1 v22)) := by
  rfl

/-- The body's value v939 as a component of the named vector operation. -/
theorem v939_eq (v161 v729 : FVec Ideal S512x512 .f32) (v185 v188 : FVec Ideal S8x512 .f32) (v23 : FVec Ideal S1x512 .f32) (v528 : FVec Ideal S64x512 .f32) :
    k0_pay287 v161 v185 v188 v729 (k0_pay224 v23 (iota .tc S64x1 32 [0] iota_S64x1_d0_w32) v528) (k0_pay225 v23 (iota .tc S64x1 32 [0] iota_S64x1_d0_w32) v528) (k0_pay226 v23 (iota .tc S64x1 32 [0] iota_S64x1_d0_w32) v528) (k0_pay227 v23 (iota .tc S64x1 32 [0] iota_S64x1_d0_w32) v528) (k0_pay228 v23 (iota .tc S64x1 32 [0] iota_S64x1_d0_w32) v528) (k0_pay229 v23 (iota .tc S64x1 32 [0] iota_S64x1_d0_w32) v528) (k0_pay230 v23 (iota .tc S64x1 32 [0] iota_S64x1_d0_w32) v528) (k0_pay231 v23 (iota .tc S64x1 32 [0] iota_S64x1_d0_w32) v528) (k0_pay232 v23 (iota .tc S64x1 32 [0] iota_S64x1_d0_w32) v528) (k0_pay233 v23 (iota .tc S64x1 32 [0] iota_S64x1_d0_w32) v528) (k0_pay234 v23 (iota .tc S64x1 32 [0] iota_S64x1_d0_w32) v528) (k0_pay235 v23 (iota .tc S64x1 32 [0] iota_S64x1_d0_w32) v528) (k0_pay236 v23 (iota .tc S64x1 32 [0] iota_S64x1_d0_w32) v528) (k0_pay237 v23 (iota .tc S64x1 32 [0] iota_S64x1_d0_w32) v528) (k0_pay238 v23 (iota .tc S64x1 32 [0] iota_S64x1_d0_w32) v528) (k0_pay239 v23 (iota .tc S64x1 32 [0] iota_S64x1_d0_w32) v528) (k0_pay240 v23 (iota .tc S64x1 32 [0] iota_S64x1_d0_w32) v528) (k0_pay242 (k0_pay241 v23 (iota .tc S64x1 32 [0] iota_S64x1_d0_w32) v528)) (k0_pay243 (k0_pay224 v23 (iota .tc S64x1 32 [0] iota_S64x1_d0_w32) v528)) (k0_pay244 (k0_pay224 v23 (iota .tc S64x1 32 [0] iota_S64x1_d0_w32) v528)) (k0_pay245 (k0_pay224 v23 (iota .tc S64x1 32 [0] iota_S64x1_d0_w32) v528)) (k0_pay246 (k0_pay224 v23 (iota .tc S64x1 32 [0] iota_S64x1_d0_w32) v528)) (k0_pay247 (k0_pay224 v23 (iota .tc S64x1 32 [0] iota_S64x1_d0_w32) v528)) (k0_pay248 (k0_pay224 v23 (iota .tc S64x1 32 [0] iota_S64x1_d0_w32) v528)) (k0_pay249 (k0_pay224 v23 (iota .tc S64x1 32 [0] iota_S64x1_d0_w32) v528)) (k0_pay250 (k0_pay224 v23 (iota .tc S64x1 32 [0] iota_S64x1_d0_w32) v528)) (k0_pay251 (k0_pay224 v23 (iota .tc S64x1 32 [0] iota_S64x1_d0_w32) v528)) (k0_pay252 (k0_pay224 v23 (iota .tc S64x1 32 [0] iota_S64x1_d0_w32) v528)) (k0_pay253 (k0_pay224 v23 (iota .tc S64x1 32 [0] iota_S64x1_d0_w32) v528)) (k0_pay254 (k0_pay224 v23 (iota .tc S64x1 32 [0] iota_S64x1_d0_w32) v528)) (k0_pay255 (k0_pay224 v23 (iota .tc S64x1 32 [0] iota_S64x1_d0_w32) v528)) (k0_pay256 (k0_pay224 v23 (iota .tc S64x1 32 [0] iota_S64x1_d0_w32) v528)) (k0_pay257 (k0_pay224 v23 (iota .tc S64x1 32 [0] iota_S64x1_d0_w32) v528)) (k0_pay258 (k0_pay224 v23 (iota .tc S64x1 32 [0] iota_S64x1_d0_w32) v528)) (k0_pay259 (k0_pay224 v23 (iota .tc S64x1 32 [0] iota_S64x1_d0_w32) v528)) (k0_pay260 (k0_pay224 v23 (iota .tc S64x1 32 [0] iota_S64x1_d0_w32) v528)) (k0_pay261 (k0_pay224 v23 (iota .tc S64x1 32 [0] iota_S64x1_d0_w32) v528)) (k0_pay263 (k0_pay262 (k0_pay224 v23 (iota .tc S64x1 32 [0] iota_S64x1_d0_w32) v528))) (k0_pay264 (k0_pay224 v23 (iota .tc S64x1 32 [0] iota_S64x1_d0_w32) v528)) (k0_pay265 (k0_pay224 v23 (iota .tc S64x1 32 [0] iota_S64x1_d0_w32) v528)) (k0_pay266 (k0_pay224 v23 (iota .tc S64x1 32 [0] iota_S64x1_d0_w32) v528)) (k0_pay267 (k0_pay224 v23 (iota .tc S64x1 32 [0] iota_S64x1_d0_w32) v528)) (k0_pay268 (k0_pay224 v23 (iota .tc S64x1 32 [0] iota_S64x1_d0_w32) v528)) (k0_pay269 (k0_pay224 v23 (iota .tc S64x1 32 [0] iota_S64x1_d0_w32) v528)) (k0_pay270 (k0_pay224 v23 (iota .tc S64x1 32 [0] iota_S64x1_d0_w32) v528)) (k0_pay271 (k0_pay224 v23 (iota .tc S64x1 32 [0] iota_S64x1_d0_w32) v528)) (k0_pay272 (k0_pay224 v23 (iota .tc S64x1 32 [0] iota_S64x1_d0_w32) v528)) (k0_pay273 (k0_pay224 v23 (iota .tc S64x1 32 [0] iota_S64x1_d0_w32) v528)) (k0_pay274 (k0_pay224 v23 (iota .tc S64x1 32 [0] iota_S64x1_d0_w32) v528)) (k0_pay275 (k0_pay224 v23 (iota .tc S64x1 32 [0] iota_S64x1_d0_w32) v528)) (k0_pay276 (k0_pay224 v23 (iota .tc S64x1 32 [0] iota_S64x1_d0_w32) v528)) (k0_pay277 (k0_pay224 v23 (iota .tc S64x1 32 [0] iota_S64x1_d0_w32) v528)) (k0_pay278 (k0_pay224 v23 (iota .tc S64x1 32 [0] iota_S64x1_d0_w32) v528)) (k0_pay279 (k0_pay224 v23 (iota .tc S64x1 32 [0] iota_S64x1_d0_w32) v528)) (k0_pay280 (k0_pay224 v23 (iota .tc S64x1 32 [0] iota_S64x1_d0_w32) v528)) (k0_pay281 (k0_pay224 v23 (iota .tc S64x1 32 [0] iota_S64x1_d0_w32) v528)) (k0_pay282 (k0_pay224 v23 (iota .tc S64x1 32 [0] iota_S64x1_d0_w32) v528)) (k0_pay283 (k0_pay224 v23 (iota .tc S64x1 32 [0] iota_S64x1_d0_w32) v528)) = (addf v161 (subf (mulf (tiled v185) v729) (mulf (tiled v188) (spread (shiftIn v528 v23))))) := by
  rfl

/-- The body's value v940 as a component of the named vector operation. -/
theorem v940_eq (v162 v729 : FVec Ideal S512x512 .f32) (v185 v188 : FVec Ideal S8x512 .f32) (v23 : FVec Ideal S1x512 .f32) (v528 : FVec Ideal S64x512 .f32) :
    k0_pay288 v162 v185 v188 v729 (k0_pay224 v23 (iota .tc S64x1 32 [0] iota_S64x1_d0_w32) v528) (k0_pay225 v23 (iota .tc S64x1 32 [0] iota_S64x1_d0_w32) v528) (k0_pay226 v23 (iota .tc S64x1 32 [0] iota_S64x1_d0_w32) v528) (k0_pay227 v23 (iota .tc S64x1 32 [0] iota_S64x1_d0_w32) v528) (k0_pay228 v23 (iota .tc S64x1 32 [0] iota_S64x1_d0_w32) v528) (k0_pay229 v23 (iota .tc S64x1 32 [0] iota_S64x1_d0_w32) v528) (k0_pay230 v23 (iota .tc S64x1 32 [0] iota_S64x1_d0_w32) v528) (k0_pay231 v23 (iota .tc S64x1 32 [0] iota_S64x1_d0_w32) v528) (k0_pay232 v23 (iota .tc S64x1 32 [0] iota_S64x1_d0_w32) v528) (k0_pay233 v23 (iota .tc S64x1 32 [0] iota_S64x1_d0_w32) v528) (k0_pay234 v23 (iota .tc S64x1 32 [0] iota_S64x1_d0_w32) v528) (k0_pay235 v23 (iota .tc S64x1 32 [0] iota_S64x1_d0_w32) v528) (k0_pay236 v23 (iota .tc S64x1 32 [0] iota_S64x1_d0_w32) v528) (k0_pay237 v23 (iota .tc S64x1 32 [0] iota_S64x1_d0_w32) v528) (k0_pay238 v23 (iota .tc S64x1 32 [0] iota_S64x1_d0_w32) v528) (k0_pay239 v23 (iota .tc S64x1 32 [0] iota_S64x1_d0_w32) v528) (k0_pay240 v23 (iota .tc S64x1 32 [0] iota_S64x1_d0_w32) v528) (k0_pay242 (k0_pay241 v23 (iota .tc S64x1 32 [0] iota_S64x1_d0_w32) v528)) (k0_pay243 (k0_pay224 v23 (iota .tc S64x1 32 [0] iota_S64x1_d0_w32) v528)) (k0_pay244 (k0_pay224 v23 (iota .tc S64x1 32 [0] iota_S64x1_d0_w32) v528)) (k0_pay245 (k0_pay224 v23 (iota .tc S64x1 32 [0] iota_S64x1_d0_w32) v528)) (k0_pay246 (k0_pay224 v23 (iota .tc S64x1 32 [0] iota_S64x1_d0_w32) v528)) (k0_pay247 (k0_pay224 v23 (iota .tc S64x1 32 [0] iota_S64x1_d0_w32) v528)) (k0_pay248 (k0_pay224 v23 (iota .tc S64x1 32 [0] iota_S64x1_d0_w32) v528)) (k0_pay249 (k0_pay224 v23 (iota .tc S64x1 32 [0] iota_S64x1_d0_w32) v528)) (k0_pay250 (k0_pay224 v23 (iota .tc S64x1 32 [0] iota_S64x1_d0_w32) v528)) (k0_pay251 (k0_pay224 v23 (iota .tc S64x1 32 [0] iota_S64x1_d0_w32) v528)) (k0_pay252 (k0_pay224 v23 (iota .tc S64x1 32 [0] iota_S64x1_d0_w32) v528)) (k0_pay253 (k0_pay224 v23 (iota .tc S64x1 32 [0] iota_S64x1_d0_w32) v528)) (k0_pay254 (k0_pay224 v23 (iota .tc S64x1 32 [0] iota_S64x1_d0_w32) v528)) (k0_pay255 (k0_pay224 v23 (iota .tc S64x1 32 [0] iota_S64x1_d0_w32) v528)) (k0_pay256 (k0_pay224 v23 (iota .tc S64x1 32 [0] iota_S64x1_d0_w32) v528)) (k0_pay257 (k0_pay224 v23 (iota .tc S64x1 32 [0] iota_S64x1_d0_w32) v528)) (k0_pay258 (k0_pay224 v23 (iota .tc S64x1 32 [0] iota_S64x1_d0_w32) v528)) (k0_pay259 (k0_pay224 v23 (iota .tc S64x1 32 [0] iota_S64x1_d0_w32) v528)) (k0_pay260 (k0_pay224 v23 (iota .tc S64x1 32 [0] iota_S64x1_d0_w32) v528)) (k0_pay261 (k0_pay224 v23 (iota .tc S64x1 32 [0] iota_S64x1_d0_w32) v528)) (k0_pay263 (k0_pay262 (k0_pay224 v23 (iota .tc S64x1 32 [0] iota_S64x1_d0_w32) v528))) (k0_pay264 (k0_pay224 v23 (iota .tc S64x1 32 [0] iota_S64x1_d0_w32) v528)) (k0_pay265 (k0_pay224 v23 (iota .tc S64x1 32 [0] iota_S64x1_d0_w32) v528)) (k0_pay266 (k0_pay224 v23 (iota .tc S64x1 32 [0] iota_S64x1_d0_w32) v528)) (k0_pay267 (k0_pay224 v23 (iota .tc S64x1 32 [0] iota_S64x1_d0_w32) v528)) (k0_pay268 (k0_pay224 v23 (iota .tc S64x1 32 [0] iota_S64x1_d0_w32) v528)) (k0_pay269 (k0_pay224 v23 (iota .tc S64x1 32 [0] iota_S64x1_d0_w32) v528)) (k0_pay270 (k0_pay224 v23 (iota .tc S64x1 32 [0] iota_S64x1_d0_w32) v528)) (k0_pay271 (k0_pay224 v23 (iota .tc S64x1 32 [0] iota_S64x1_d0_w32) v528)) (k0_pay272 (k0_pay224 v23 (iota .tc S64x1 32 [0] iota_S64x1_d0_w32) v528)) (k0_pay273 (k0_pay224 v23 (iota .tc S64x1 32 [0] iota_S64x1_d0_w32) v528)) (k0_pay274 (k0_pay224 v23 (iota .tc S64x1 32 [0] iota_S64x1_d0_w32) v528)) (k0_pay275 (k0_pay224 v23 (iota .tc S64x1 32 [0] iota_S64x1_d0_w32) v528)) (k0_pay276 (k0_pay224 v23 (iota .tc S64x1 32 [0] iota_S64x1_d0_w32) v528)) (k0_pay277 (k0_pay224 v23 (iota .tc S64x1 32 [0] iota_S64x1_d0_w32) v528)) (k0_pay278 (k0_pay224 v23 (iota .tc S64x1 32 [0] iota_S64x1_d0_w32) v528)) (k0_pay279 (k0_pay224 v23 (iota .tc S64x1 32 [0] iota_S64x1_d0_w32) v528)) (k0_pay280 (k0_pay224 v23 (iota .tc S64x1 32 [0] iota_S64x1_d0_w32) v528)) (k0_pay281 (k0_pay224 v23 (iota .tc S64x1 32 [0] iota_S64x1_d0_w32) v528)) (k0_pay282 (k0_pay224 v23 (iota .tc S64x1 32 [0] iota_S64x1_d0_w32) v528)) (k0_pay283 (k0_pay224 v23 (iota .tc S64x1 32 [0] iota_S64x1_d0_w32) v528)) = (addf v162 (addf (mulf (tiled v185) (spread (shiftIn v528 v23))) (mulf (tiled v188) v729))) := by
  rfl

/-- The body's value v949 as a component of the named vector operation. -/
theorem v949_eq (v161 v729 : FVec Ideal S512x512 .f32) (v185 v188 : FVec Ideal S8x512 .f32) (v23 : FVec Ideal S1x512 .f32) (v528 : FVec Ideal S64x512 .f32) :
    k0_pay291 v161 v185 v188 v729 (k0_pay224 v23 (iota .tc S64x1 32 [0] iota_S64x1_d0_w32) v528) (k0_pay225 v23 (iota .tc S64x1 32 [0] iota_S64x1_d0_w32) v528) (k0_pay226 v23 (iota .tc S64x1 32 [0] iota_S64x1_d0_w32) v528) (k0_pay227 v23 (iota .tc S64x1 32 [0] iota_S64x1_d0_w32) v528) (k0_pay228 v23 (iota .tc S64x1 32 [0] iota_S64x1_d0_w32) v528) (k0_pay229 v23 (iota .tc S64x1 32 [0] iota_S64x1_d0_w32) v528) (k0_pay230 v23 (iota .tc S64x1 32 [0] iota_S64x1_d0_w32) v528) (k0_pay231 v23 (iota .tc S64x1 32 [0] iota_S64x1_d0_w32) v528) (k0_pay232 v23 (iota .tc S64x1 32 [0] iota_S64x1_d0_w32) v528) (k0_pay233 v23 (iota .tc S64x1 32 [0] iota_S64x1_d0_w32) v528) (k0_pay234 v23 (iota .tc S64x1 32 [0] iota_S64x1_d0_w32) v528) (k0_pay235 v23 (iota .tc S64x1 32 [0] iota_S64x1_d0_w32) v528) (k0_pay236 v23 (iota .tc S64x1 32 [0] iota_S64x1_d0_w32) v528) (k0_pay237 v23 (iota .tc S64x1 32 [0] iota_S64x1_d0_w32) v528) (k0_pay238 v23 (iota .tc S64x1 32 [0] iota_S64x1_d0_w32) v528) (k0_pay239 v23 (iota .tc S64x1 32 [0] iota_S64x1_d0_w32) v528) (k0_pay240 v23 (iota .tc S64x1 32 [0] iota_S64x1_d0_w32) v528) (k0_pay242 (k0_pay241 v23 (iota .tc S64x1 32 [0] iota_S64x1_d0_w32) v528)) (k0_pay243 (k0_pay224 v23 (iota .tc S64x1 32 [0] iota_S64x1_d0_w32) v528)) (k0_pay244 (k0_pay224 v23 (iota .tc S64x1 32 [0] iota_S64x1_d0_w32) v528)) (k0_pay245 (k0_pay224 v23 (iota .tc S64x1 32 [0] iota_S64x1_d0_w32) v528)) (k0_pay246 (k0_pay224 v23 (iota .tc S64x1 32 [0] iota_S64x1_d0_w32) v528)) (k0_pay247 (k0_pay224 v23 (iota .tc S64x1 32 [0] iota_S64x1_d0_w32) v528)) (k0_pay248 (k0_pay224 v23 (iota .tc S64x1 32 [0] iota_S64x1_d0_w32) v528)) (k0_pay249 (k0_pay224 v23 (iota .tc S64x1 32 [0] iota_S64x1_d0_w32) v528)) (k0_pay250 (k0_pay224 v23 (iota .tc S64x1 32 [0] iota_S64x1_d0_w32) v528)) (k0_pay251 (k0_pay224 v23 (iota .tc S64x1 32 [0] iota_S64x1_d0_w32) v528)) (k0_pay252 (k0_pay224 v23 (iota .tc S64x1 32 [0] iota_S64x1_d0_w32) v528)) (k0_pay253 (k0_pay224 v23 (iota .tc S64x1 32 [0] iota_S64x1_d0_w32) v528)) (k0_pay254 (k0_pay224 v23 (iota .tc S64x1 32 [0] iota_S64x1_d0_w32) v528)) (k0_pay255 (k0_pay224 v23 (iota .tc S64x1 32 [0] iota_S64x1_d0_w32) v528)) (k0_pay256 (k0_pay224 v23 (iota .tc S64x1 32 [0] iota_S64x1_d0_w32) v528)) (k0_pay257 (k0_pay224 v23 (iota .tc S64x1 32 [0] iota_S64x1_d0_w32) v528)) (k0_pay258 (k0_pay224 v23 (iota .tc S64x1 32 [0] iota_S64x1_d0_w32) v528)) (k0_pay259 (k0_pay224 v23 (iota .tc S64x1 32 [0] iota_S64x1_d0_w32) v528)) (k0_pay260 (k0_pay224 v23 (iota .tc S64x1 32 [0] iota_S64x1_d0_w32) v528)) (k0_pay261 (k0_pay224 v23 (iota .tc S64x1 32 [0] iota_S64x1_d0_w32) v528)) (k0_pay263 (k0_pay262 (k0_pay224 v23 (iota .tc S64x1 32 [0] iota_S64x1_d0_w32) v528))) (k0_pay264 (k0_pay224 v23 (iota .tc S64x1 32 [0] iota_S64x1_d0_w32) v528)) (k0_pay265 (k0_pay224 v23 (iota .tc S64x1 32 [0] iota_S64x1_d0_w32) v528)) (k0_pay266 (k0_pay224 v23 (iota .tc S64x1 32 [0] iota_S64x1_d0_w32) v528)) (k0_pay267 (k0_pay224 v23 (iota .tc S64x1 32 [0] iota_S64x1_d0_w32) v528)) (k0_pay268 (k0_pay224 v23 (iota .tc S64x1 32 [0] iota_S64x1_d0_w32) v528)) (k0_pay269 (k0_pay224 v23 (iota .tc S64x1 32 [0] iota_S64x1_d0_w32) v528)) (k0_pay270 (k0_pay224 v23 (iota .tc S64x1 32 [0] iota_S64x1_d0_w32) v528)) (k0_pay271 (k0_pay224 v23 (iota .tc S64x1 32 [0] iota_S64x1_d0_w32) v528)) (k0_pay272 (k0_pay224 v23 (iota .tc S64x1 32 [0] iota_S64x1_d0_w32) v528)) (k0_pay273 (k0_pay224 v23 (iota .tc S64x1 32 [0] iota_S64x1_d0_w32) v528)) (k0_pay274 (k0_pay224 v23 (iota .tc S64x1 32 [0] iota_S64x1_d0_w32) v528)) (k0_pay275 (k0_pay224 v23 (iota .tc S64x1 32 [0] iota_S64x1_d0_w32) v528)) (k0_pay276 (k0_pay224 v23 (iota .tc S64x1 32 [0] iota_S64x1_d0_w32) v528)) (k0_pay277 (k0_pay224 v23 (iota .tc S64x1 32 [0] iota_S64x1_d0_w32) v528)) (k0_pay278 (k0_pay224 v23 (iota .tc S64x1 32 [0] iota_S64x1_d0_w32) v528)) (k0_pay279 (k0_pay224 v23 (iota .tc S64x1 32 [0] iota_S64x1_d0_w32) v528)) (k0_pay280 (k0_pay224 v23 (iota .tc S64x1 32 [0] iota_S64x1_d0_w32) v528)) (k0_pay281 (k0_pay224 v23 (iota .tc S64x1 32 [0] iota_S64x1_d0_w32) v528)) (k0_pay282 (k0_pay224 v23 (iota .tc S64x1 32 [0] iota_S64x1_d0_w32) v528)) (k0_pay283 (k0_pay224 v23 (iota .tc S64x1 32 [0] iota_S64x1_d0_w32) v528)) = (truncf .bf16 (addf v161 (subf (mulf (tiled v185) v729) (mulf (tiled v188) (spread (shiftIn v528 v23))))) bitsLt_bf16_f32) := by
  rfl

/-- The body's value v950 as a component of the named vector operation. -/
theorem v950_eq (v162 v729 : FVec Ideal S512x512 .f32) (v185 v188 : FVec Ideal S8x512 .f32) (v23 : FVec Ideal S1x512 .f32) (v528 : FVec Ideal S64x512 .f32) :
    k0_pay292 v162 v185 v188 v729 (k0_pay224 v23 (iota .tc S64x1 32 [0] iota_S64x1_d0_w32) v528) (k0_pay225 v23 (iota .tc S64x1 32 [0] iota_S64x1_d0_w32) v528) (k0_pay226 v23 (iota .tc S64x1 32 [0] iota_S64x1_d0_w32) v528) (k0_pay227 v23 (iota .tc S64x1 32 [0] iota_S64x1_d0_w32) v528) (k0_pay228 v23 (iota .tc S64x1 32 [0] iota_S64x1_d0_w32) v528) (k0_pay229 v23 (iota .tc S64x1 32 [0] iota_S64x1_d0_w32) v528) (k0_pay230 v23 (iota .tc S64x1 32 [0] iota_S64x1_d0_w32) v528) (k0_pay231 v23 (iota .tc S64x1 32 [0] iota_S64x1_d0_w32) v528) (k0_pay232 v23 (iota .tc S64x1 32 [0] iota_S64x1_d0_w32) v528) (k0_pay233 v23 (iota .tc S64x1 32 [0] iota_S64x1_d0_w32) v528) (k0_pay234 v23 (iota .tc S64x1 32 [0] iota_S64x1_d0_w32) v528) (k0_pay235 v23 (iota .tc S64x1 32 [0] iota_S64x1_d0_w32) v528) (k0_pay236 v23 (iota .tc S64x1 32 [0] iota_S64x1_d0_w32) v528) (k0_pay237 v23 (iota .tc S64x1 32 [0] iota_S64x1_d0_w32) v528) (k0_pay238 v23 (iota .tc S64x1 32 [0] iota_S64x1_d0_w32) v528) (k0_pay239 v23 (iota .tc S64x1 32 [0] iota_S64x1_d0_w32) v528) (k0_pay240 v23 (iota .tc S64x1 32 [0] iota_S64x1_d0_w32) v528) (k0_pay242 (k0_pay241 v23 (iota .tc S64x1 32 [0] iota_S64x1_d0_w32) v528)) (k0_pay243 (k0_pay224 v23 (iota .tc S64x1 32 [0] iota_S64x1_d0_w32) v528)) (k0_pay244 (k0_pay224 v23 (iota .tc S64x1 32 [0] iota_S64x1_d0_w32) v528)) (k0_pay245 (k0_pay224 v23 (iota .tc S64x1 32 [0] iota_S64x1_d0_w32) v528)) (k0_pay246 (k0_pay224 v23 (iota .tc S64x1 32 [0] iota_S64x1_d0_w32) v528)) (k0_pay247 (k0_pay224 v23 (iota .tc S64x1 32 [0] iota_S64x1_d0_w32) v528)) (k0_pay248 (k0_pay224 v23 (iota .tc S64x1 32 [0] iota_S64x1_d0_w32) v528)) (k0_pay249 (k0_pay224 v23 (iota .tc S64x1 32 [0] iota_S64x1_d0_w32) v528)) (k0_pay250 (k0_pay224 v23 (iota .tc S64x1 32 [0] iota_S64x1_d0_w32) v528)) (k0_pay251 (k0_pay224 v23 (iota .tc S64x1 32 [0] iota_S64x1_d0_w32) v528)) (k0_pay252 (k0_pay224 v23 (iota .tc S64x1 32 [0] iota_S64x1_d0_w32) v528)) (k0_pay253 (k0_pay224 v23 (iota .tc S64x1 32 [0] iota_S64x1_d0_w32) v528)) (k0_pay254 (k0_pay224 v23 (iota .tc S64x1 32 [0] iota_S64x1_d0_w32) v528)) (k0_pay255 (k0_pay224 v23 (iota .tc S64x1 32 [0] iota_S64x1_d0_w32) v528)) (k0_pay256 (k0_pay224 v23 (iota .tc S64x1 32 [0] iota_S64x1_d0_w32) v528)) (k0_pay257 (k0_pay224 v23 (iota .tc S64x1 32 [0] iota_S64x1_d0_w32) v528)) (k0_pay258 (k0_pay224 v23 (iota .tc S64x1 32 [0] iota_S64x1_d0_w32) v528)) (k0_pay259 (k0_pay224 v23 (iota .tc S64x1 32 [0] iota_S64x1_d0_w32) v528)) (k0_pay260 (k0_pay224 v23 (iota .tc S64x1 32 [0] iota_S64x1_d0_w32) v528)) (k0_pay261 (k0_pay224 v23 (iota .tc S64x1 32 [0] iota_S64x1_d0_w32) v528)) (k0_pay263 (k0_pay262 (k0_pay224 v23 (iota .tc S64x1 32 [0] iota_S64x1_d0_w32) v528))) (k0_pay264 (k0_pay224 v23 (iota .tc S64x1 32 [0] iota_S64x1_d0_w32) v528)) (k0_pay265 (k0_pay224 v23 (iota .tc S64x1 32 [0] iota_S64x1_d0_w32) v528)) (k0_pay266 (k0_pay224 v23 (iota .tc S64x1 32 [0] iota_S64x1_d0_w32) v528)) (k0_pay267 (k0_pay224 v23 (iota .tc S64x1 32 [0] iota_S64x1_d0_w32) v528)) (k0_pay268 (k0_pay224 v23 (iota .tc S64x1 32 [0] iota_S64x1_d0_w32) v528)) (k0_pay269 (k0_pay224 v23 (iota .tc S64x1 32 [0] iota_S64x1_d0_w32) v528)) (k0_pay270 (k0_pay224 v23 (iota .tc S64x1 32 [0] iota_S64x1_d0_w32) v528)) (k0_pay271 (k0_pay224 v23 (iota .tc S64x1 32 [0] iota_S64x1_d0_w32) v528)) (k0_pay272 (k0_pay224 v23 (iota .tc S64x1 32 [0] iota_S64x1_d0_w32) v528)) (k0_pay273 (k0_pay224 v23 (iota .tc S64x1 32 [0] iota_S64x1_d0_w32) v528)) (k0_pay274 (k0_pay224 v23 (iota .tc S64x1 32 [0] iota_S64x1_d0_w32) v528)) (k0_pay275 (k0_pay224 v23 (iota .tc S64x1 32 [0] iota_S64x1_d0_w32) v528)) (k0_pay276 (k0_pay224 v23 (iota .tc S64x1 32 [0] iota_S64x1_d0_w32) v528)) (k0_pay277 (k0_pay224 v23 (iota .tc S64x1 32 [0] iota_S64x1_d0_w32) v528)) (k0_pay278 (k0_pay224 v23 (iota .tc S64x1 32 [0] iota_S64x1_d0_w32) v528)) (k0_pay279 (k0_pay224 v23 (iota .tc S64x1 32 [0] iota_S64x1_d0_w32) v528)) (k0_pay280 (k0_pay224 v23 (iota .tc S64x1 32 [0] iota_S64x1_d0_w32) v528)) (k0_pay281 (k0_pay224 v23 (iota .tc S64x1 32 [0] iota_S64x1_d0_w32) v528)) (k0_pay282 (k0_pay224 v23 (iota .tc S64x1 32 [0] iota_S64x1_d0_w32) v528)) (k0_pay283 (k0_pay224 v23 (iota .tc S64x1 32 [0] iota_S64x1_d0_w32) v528)) = (truncf .bf16 (addf v162 (addf (mulf (tiled v185) (spread (shiftIn v528 v23))) (mulf (tiled v188) v729))) bitsLt_bf16_f32) := by
  rfl

end Cert.KernelIdeal.Scan

end
-- ==== Proof.Regs.lean ====
module

public import proofs.«01_k».proof.Proof.Gen.KernelIdeal.Frame.RunB
public import proofs.«01_k».proof.Proof.Body

/-!
The registers of the two control paths of the kernel's body, as the block-wise scan of `Scan`.
-/

@[expose] public section

set_option maxRecDepth 65536
set_option maxHeartbeats 1000000

noncomputable section

namespace Cert.KernelIdeal.Scan

open Idealize.ShloMosaic Idealize.ShloMosaic.TcCoe Cert.KernelIdeal.Gen ScanMath

variable (c : Dev nD) (i : grid0.Coords) (arg2 : Memref sig .tc .vmem S512x128 .bf16) (harg2 : arg2.IsWhole) (arg3 : Memref sig .tc .vmem S512x128 .bf16) (harg3 : arg3.IsWhole) (arg4 : Memref sig .tc .vmem S512x128 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S8x512 .f32) (harg7 : arg7.IsWhole) (arg8 : Memref sig .tc .vmem S8x512 .f32) (harg8 : arg8.IsWhole) (arg9 : Memref sig .tc .vmem S1x128x512 .bf16) (harg9 : arg9.IsWhole) (arg10 : Memref sig .tc .vmem S1x128x512 .bf16) (harg10 : arg10.IsWhole) (arg11 : Memref sig .tc .vmem S1x512x128 .bf16) (harg11 : arg11.IsWhole) (arg12 : Memref sig .tc .vmem S1x512x128 .bf16) (harg12 : arg12.IsWhole) (arg13 : Memref sig .tc .vmem S1x1x512 .f32) (harg13 : arg13.IsWhole) (arg14 : Memref sig .tc .vmem S1x1x512 .f32) (harg14 : arg14.IsWhole) (arg15 : Memref sig .tc .vmem S512x128 .bf16) (harg15 : arg15.IsWhole) (arg16 : Memref sig .tc .vmem S1x128x512 .f32) (harg16 : arg16.IsWhole) (arg17 : Memref sig .tc .vmem S1x128x512 .f32) (harg17 : arg17.IsWhole) (arg18 : Memref sig .tc .vmem S1x512x128 .f32) (harg18 : arg18.IsWhole) (arg19 : Memref sig .tc .vmem S1x512x128 .f32) (harg19 : arg19.IsWhole) (arg20 : Memref sig .tc .vmem S1x1x512 .f32) (harg20 : arg20.IsWhole) (arg21 : Memref sig .tc .vmem S1x1x512 .f32) (harg21 : arg21.IsWhole) (arg22 : Memref sig .tc .vmem S1x512 .f32) (harg22 : arg22.IsWhole) (arg23 : Memref sig .tc .vmem S1x512 .f32) (harg23 : arg23.IsWhole)
  (x0 : Vec Ideal S512x128 .bf16) (x1 : Vec Ideal S512x128 .bf16) (x2 : Vec Ideal S512x128 .f32) (x3 x4 : Vec Ideal S512x512 .f32) (x5 x6 : Vec Ideal S8x512 .f32) (x7 x8 : Vec Ideal S1x128x512 .bf16) (x9 x10 : Vec Ideal S1x512x128 .bf16) (x11 x12 : Vec Ideal S1x1x512 .f32) (xs0 xs1 : Vec Ideal S1x512 .f32)

/-- What the run holds as v57 at the first point of a block. -/
theorem A_v57 : kernelRun0_A.sl.r_9 (F := Ideal) c arg2 harg2 arg11 harg11 arg12 harg12 arg13 harg13 arg14 harg14 x0 x9 x10 x11 x12 = (stage512 7#32 511#32 ((kernelRun0_A.sl.r_3 (F := Ideal) c arg13 harg13 x11), (kernelRun0_A.sl.r_6 (F := Ideal) c arg14 harg14 x12)) ((kernelRun0_A.sl.r_4 (F := Ideal) c arg2 harg2 arg11 harg11 x0 x9), (kernelRun0_A.sl.r_5 (F := Ideal) c arg2 harg2 arg12 harg12 x0 x10))).1 :=
  v57_eq _ _ _ _

/-- What the run holds as v58 at the first point of a block. -/
theorem A_v58 : kernelRun0_A.sl.r_10 (F := Ideal) c arg2 harg2 arg11 harg11 arg12 harg12 arg13 harg13 arg14 harg14 x0 x9 x10 x11 x12 = (stage512 7#32 511#32 ((kernelRun0_A.sl.r_3 (F := Ideal) c arg13 harg13 x11), (kernelRun0_A.sl.r_6 (F := Ideal) c arg14 harg14 x12)) ((kernelRun0_A.sl.r_4 (F := Ideal) c arg2 harg2 arg11 harg11 x0 x9), (kernelRun0_A.sl.r_5 (F := Ideal) c arg2 harg2 arg12 harg12 x0 x10))).2 :=
  v58_eq _ _ _ _

/-- What the run holds as v61 at the first point of a block. -/
theorem A_v61 : kernelRun0_A.sl.r_11 (F := Ideal) c arg13 harg13 arg14 harg14 x11 x12 = (cmul ((kernelRun0_A.sl.r_3 (F := Ideal) c arg13 harg13 x11), (kernelRun0_A.sl.r_6 (F := Ideal) c arg14 harg14 x12)) ((kernelRun0_A.sl.r_3 (F := Ideal) c arg13 harg13 x11), (kernelRun0_A.sl.r_6 (F := Ideal) c arg14 harg14 x12))).1 :=
  v61_eq _ _

/-- What the run holds as v64 at the first point of a block. -/
theorem A_v64 : kernelRun0_A.sl.r_12 (F := Ideal) c arg13 harg13 arg14 harg14 x11 x12 = (cmul ((kernelRun0_A.sl.r_3 (F := Ideal) c arg13 harg13 x11), (kernelRun0_A.sl.r_6 (F := Ideal) c arg14 harg14 x12)) ((kernelRun0_A.sl.r_3 (F := Ideal) c arg13 harg13 x11), (kernelRun0_A.sl.r_6 (F := Ideal) c arg14 harg14 x12))).2 :=
  v64_eq _ _

/-- What the run holds as v109 at the first point of a block. -/
theorem A_v109 : kernelRun0_A.sl.r_17 (F := Ideal) c arg2 harg2 arg11 harg11 arg12 harg12 arg13 harg13 arg14 harg14 x0 x9 x10 x11 x12 = (stage512 6#32 510#32 ((kernelRun0_A.sl.r_11 (F := Ideal) c arg13 harg13 arg14 harg14 x11 x12), (kernelRun0_A.sl.r_12 (F := Ideal) c arg13 harg13 arg14 harg14 x11 x12)) ((kernelRun0_A.sl.r_9 (F := Ideal) c arg2 harg2 arg11 harg11 arg12 harg12 arg13 harg13 arg14 harg14 x0 x9 x10 x11 x12), (kernelRun0_A.sl.r_10 (F := Ideal) c arg2 harg2 arg11 harg11 arg12 harg12 arg13 harg13 arg14 harg14 x0 x9 x10 x11 x12))).1 :=
  v109_eq _ _ _ _

/-- What the run holds as v110 at the first point of a block. -/
theorem A_v110 : kernelRun0_A.sl.r_18 (F := Ideal) c arg2 harg2 arg11 harg11 arg12 harg12 arg13 harg13 arg14 harg14 x0 x9 x10 x11 x12 = (stage512 6#32 510#32 ((kernelRun0_A.sl.r_11 (F := Ideal) c arg13 harg13 arg14 harg14 x11 x12), (kernelRun0_A.sl.r_12 (F := Ideal) c arg13 harg13 arg14 harg14 x11 x12)) ((kernelRun0_A.sl.r_9 (F := Ideal) c arg2 harg2 arg11 harg11 arg12 harg12 arg13 harg13 arg14 harg14 x0 x9 x10 x11 x12), (kernelRun0_A.sl.r_10 (F := Ideal) c arg2 harg2 arg11 harg11 arg12 harg12 arg13 harg13 arg14 harg14 x0 x9 x10 x11 x12))).2 :=
  v110_eq _ _ _ _

/-- What the run holds as v113 at the first point of a block. -/
theorem A_v113 : kernelRun0_A.sl.r_19 (F := Ideal) c arg13 harg13 arg14 harg14 x11 x12 = (cmul ((kernelRun0_A.sl.r_11 (F := Ideal) c arg13 harg13 arg14 harg14 x11 x12), (kernelRun0_A.sl.r_12 (F := Ideal) c arg13 harg13 arg14 harg14 x11 x12)) ((kernelRun0_A.sl.r_11 (F := Ideal) c arg13 harg13 arg14 harg14 x11 x12), (kernelRun0_A.sl.r_12 (F := Ideal) c arg13 harg13 arg14 harg14 x11 x12))).1 :=
  v113_eq _ _

/-- What the run holds as v116 at the first point of a block. -/
theorem A_v116 : kernelRun0_A.sl.r_20 (F := Ideal) c arg13 harg13 arg14 harg14 x11 x12 = (cmul ((kernelRun0_A.sl.r_11 (F := Ideal) c arg13 harg13 arg14 harg14 x11 x12), (kernelRun0_A.sl.r_12 (F := Ideal) c arg13 harg13 arg14 harg14 x11 x12)) ((kernelRun0_A.sl.r_11 (F := Ideal) c arg13 harg13 arg14 harg14 x11 x12), (kernelRun0_A.sl.r_12 (F := Ideal) c arg13 harg13 arg14 harg14 x11 x12))).2 :=
  v116_eq _ _

/-- What the run holds as v161 at the first point of a block. -/
theorem A_v161 : kernelRun0_A.sl.r_24 (F := Ideal) c arg2 harg2 arg11 harg11 arg12 harg12 arg13 harg13 arg14 harg14 x0 x9 x10 x11 x12 = (stage512 4#32 508#32 ((kernelRun0_A.sl.r_19 (F := Ideal) c arg13 harg13 arg14 harg14 x11 x12), (kernelRun0_A.sl.r_20 (F := Ideal) c arg13 harg13 arg14 harg14 x11 x12)) ((kernelRun0_A.sl.r_17 (F := Ideal) c arg2 harg2 arg11 harg11 arg12 harg12 arg13 harg13 arg14 harg14 x0 x9 x10 x11 x12), (kernelRun0_A.sl.r_18 (F := Ideal) c arg2 harg2 arg11 harg11 arg12 harg12 arg13 harg13 arg14 harg14 x0 x9 x10 x11 x12))).1 :=
  v161_eq _ _ _ _

/-- What the run holds as v162 at the first point of a block. -/
theorem A_v162 : kernelRun0_A.sl.r_25 (F := Ideal) c arg2 harg2 arg11 harg11 arg12 harg12 arg13 harg13 arg14 harg14 x0 x9 x10 x11 x12 = (stage512 4#32 508#32 ((kernelRun0_A.sl.r_19 (F := Ideal) c arg13 harg13 arg14 harg14 x11 x12), (kernelRun0_A.sl.r_20 (F := Ideal) c arg13 harg13 arg14 harg14 x11 x12)) ((kernelRun0_A.sl.r_17 (F := Ideal) c arg2 harg2 arg11 harg11 arg12 harg12 arg13 harg13 arg14 harg14 x0 x9 x10 x11 x12), (kernelRun0_A.sl.r_18 (F := Ideal) c arg2 harg2 arg11 harg11 arg12 harg12 arg13 harg13 arg14 harg14 x0 x9 x10 x11 x12))).2 :=
  v162_eq _ _ _ _

/-- What the run holds as v165 at the first point of a block. -/
theorem A_v165 : kernelRun0_A.sl.r_26 (F := Ideal) c arg13 harg13 arg14 harg14 x11 x12 = (cmul ((kernelRun0_A.sl.r_19 (F := Ideal) c arg13 harg13 arg14 harg14 x11 x12), (kernelRun0_A.sl.r_20 (F := Ideal) c arg13 harg13 arg14 harg14 x11 x12)) ((kernelRun0_A.sl.r_19 (F := Ideal) c arg13 harg13 arg14 harg14 x11 x12), (kernelRun0_A.sl.r_20 (F := Ideal) c arg13 harg13 arg14 harg14 x11 x12))).1 :=
  v165_eq _ _

/-- What the run holds as v168 at the first point of a block. -/
theorem A_v168 : kernelRun0_A.sl.r_27 (F := Ideal) c arg13 harg13 arg14 harg14 x11 x12 = (cmul ((kernelRun0_A.sl.r_19 (F := Ideal) c arg13 harg13 arg14 harg14 x11 x12), (kernelRun0_A.sl.r_20 (F := Ideal) c arg13 harg13 arg14 harg14 x11 x12)) ((kernelRun0_A.sl.r_19 (F := Ideal) c arg13 harg13 arg14 harg14 x11 x12), (kernelRun0_A.sl.r_20 (F := Ideal) c arg13 harg13 arg14 harg14 x11 x12))).2 :=
  v168_eq _ _

/-- What the run holds as v185 at the first point of a block. -/
theorem A_v185 : kernelRun0_A.sl.r_29 (F := Ideal) c arg13 harg13 arg14 harg14 x11 x12 = (stage8 4#32 (stage8 6#32 (stage8 7#32 (rows8 (kernelRun0_A.sl.r_3 (F := Ideal) c arg13 harg13 x11), rows8 (kernelRun0_A.sl.r_6 (F := Ideal) c arg14 harg14 x12))))).1 :=
  v185_eq _ _

/-- What the run holds as v188 at the first point of a block. -/
theorem A_v188 : kernelRun0_A.sl.r_30 (F := Ideal) c arg13 harg13 arg14 harg14 x11 x12 = (stage8 4#32 (stage8 6#32 (stage8 7#32 (rows8 (kernelRun0_A.sl.r_3 (F := Ideal) c arg13 harg13 x11), rows8 (kernelRun0_A.sl.r_6 (F := Ideal) c arg14 harg14 x12))))).2 :=
  v188_eq _ _

/-- What the run holds as v435 at the first point of a block. -/
theorem A_v435 : kernelRun0_A.sl.r_101 (F := Ideal) c arg13 harg13 arg14 harg14 x11 x12 = (cmul (cmul (cmul ((kernelRun0_A.sl.r_26 (F := Ideal) c arg13 harg13 arg14 harg14 x11 x12), (kernelRun0_A.sl.r_27 (F := Ideal) c arg13 harg13 arg14 harg14 x11 x12)) ((kernelRun0_A.sl.r_26 (F := Ideal) c arg13 harg13 arg14 harg14 x11 x12), (kernelRun0_A.sl.r_27 (F := Ideal) c arg13 harg13 arg14 harg14 x11 x12))) (cmul ((kernelRun0_A.sl.r_26 (F := Ideal) c arg13 harg13 arg14 harg14 x11 x12), (kernelRun0_A.sl.r_27 (F := Ideal) c arg13 harg13 arg14 harg14 x11 x12)) ((kernelRun0_A.sl.r_26 (F := Ideal) c arg13 harg13 arg14 harg14 x11 x12), (kernelRun0_A.sl.r_27 (F := Ideal) c arg13 harg13 arg14 harg14 x11 x12)))) (cmul (cmul ((kernelRun0_A.sl.r_26 (F := Ideal) c arg13 harg13 arg14 harg14 x11 x12), (kernelRun0_A.sl.r_27 (F := Ideal) c arg13 harg13 arg14 harg14 x11 x12)) ((kernelRun0_A.sl.r_26 (F := Ideal) c arg13 harg13 arg14 harg14 x11 x12), (kernelRun0_A.sl.r_27 (F := Ideal) c arg13 harg13 arg14 harg14 x11 x12))) (cmul ((kernelRun0_A.sl.r_26 (F := Ideal) c arg13 harg13 arg14 harg14 x11 x12), (kernelRun0_A.sl.r_27 (F := Ideal) c arg13 harg13 arg14 harg14 x11 x12)) ((kernelRun0_A.sl.r_26 (F := Ideal) c arg13 harg13 arg14 harg14 x11 x12), (kernelRun0_A.sl.r_27 (F := Ideal) c arg13 harg13 arg14 harg14 x11 x12))))).1 :=
  v435_eq _ _

/-- What the run holds as v438 at the first point of a block. -/
theorem A_v438 : kernelRun0_A.sl.r_102 (F := Ideal) c arg13 harg13 arg14 harg14 x11 x12 = (cmul (cmul (cmul ((kernelRun0_A.sl.r_26 (F := Ideal) c arg13 harg13 arg14 harg14 x11 x12), (kernelRun0_A.sl.r_27 (F := Ideal) c arg13 harg13 arg14 harg14 x11 x12)) ((kernelRun0_A.sl.r_26 (F := Ideal) c arg13 harg13 arg14 harg14 x11 x12), (kernelRun0_A.sl.r_27 (F := Ideal) c arg13 harg13 arg14 harg14 x11 x12))) (cmul ((kernelRun0_A.sl.r_26 (F := Ideal) c arg13 harg13 arg14 harg14 x11 x12), (kernelRun0_A.sl.r_27 (F := Ideal) c arg13 harg13 arg14 harg14 x11 x12)) ((kernelRun0_A.sl.r_26 (F := Ideal) c arg13 harg13 arg14 harg14 x11 x12), (kernelRun0_A.sl.r_27 (F := Ideal) c arg13 harg13 arg14 harg14 x11 x12)))) (cmul (cmul ((kernelRun0_A.sl.r_26 (F := Ideal) c arg13 harg13 arg14 harg14 x11 x12), (kernelRun0_A.sl.r_27 (F := Ideal) c arg13 harg13 arg14 harg14 x11 x12)) ((kernelRun0_A.sl.r_26 (F := Ideal) c arg13 harg13 arg14 harg14 x11 x12), (kernelRun0_A.sl.r_27 (F := Ideal) c arg13 harg13 arg14 harg14 x11 x12))) (cmul ((kernelRun0_A.sl.r_26 (F := Ideal) c arg13 harg13 arg14 harg14 x11 x12), (kernelRun0_A.sl.r_27 (F := Ideal) c arg13 harg13 arg14 harg14 x11 x12)) ((kernelRun0_A.sl.r_26 (F := Ideal) c arg13 harg13 arg14 harg14 x11 x12), (kernelRun0_A.sl.r_27 (F := Ideal) c arg13 harg13 arg14 harg14 x11 x12))))).2 :=
  v438_eq _ _

/-- What the run holds as v467 at the first point of a block. -/
theorem A_v467 : kernelRun0_A.sl.r_104 (F := Ideal) c arg13 harg13 arg14 harg14 x11 x12 = (cmul ((kernelRun0_A.sl.r_101 (F := Ideal) c arg13 harg13 arg14 harg14 x11 x12), (kernelRun0_A.sl.r_102 (F := Ideal) c arg13 harg13 arg14 harg14 x11 x12)) ((kernelRun0_A.sl.r_101 (F := Ideal) c arg13 harg13 arg14 harg14 x11 x12), (kernelRun0_A.sl.r_102 (F := Ideal) c arg13 harg13 arg14 harg14 x11 x12))).1 :=
  v467_eq _ _

/-- What the run holds as v470 at the first point of a block. -/
theorem A_v470 : kernelRun0_A.sl.r_105 (F := Ideal) c arg13 harg13 arg14 harg14 x11 x12 = (cmul ((kernelRun0_A.sl.r_101 (F := Ideal) c arg13 harg13 arg14 harg14 x11 x12), (kernelRun0_A.sl.r_102 (F := Ideal) c arg13 harg13 arg14 harg14 x11 x12)) ((kernelRun0_A.sl.r_101 (F := Ideal) c arg13 harg13 arg14 harg14 x11 x12), (kernelRun0_A.sl.r_102 (F := Ideal) c arg13 harg13 arg14 harg14 x11 x12))).2 :=
  v470_eq _ _

/-- What the run holds as v191 at the first point of a block. -/
theorem A_v191 : kernelRun0_A.sl.r_31 (F := Ideal) c arg13 harg13 arg14 harg14 arg22 arg23 x11 x12 = (cmul ((kernelRun0_A.sl.r_26 (F := Ideal) c arg13 harg13 arg14 harg14 x11 x12), (kernelRun0_A.sl.r_27 (F := Ideal) c arg13 harg13 arg14 harg14 x11 x12)) ((kernelRun0_A.sl.v22 (F := Ideal) c arg22), (kernelRun0_A.sl.v23 (F := Ideal) c arg23))).1 :=
  v191_eq _ _ _ _

/-- What the run holds as v194 at the first point of a block. -/
theorem A_v194 : kernelRun0_A.sl.r_32 (F := Ideal) c arg13 harg13 arg14 harg14 arg22 arg23 x11 x12 = (cmul ((kernelRun0_A.sl.r_26 (F := Ideal) c arg13 harg13 arg14 harg14 x11 x12), (kernelRun0_A.sl.r_27 (F := Ideal) c arg13 harg13 arg14 harg14 x11 x12)) ((kernelRun0_A.sl.v22 (F := Ideal) c arg22), (kernelRun0_A.sl.v23 (F := Ideal) c arg23))).2 :=
  v194_eq _ _ _ _

/-- What the run holds as v268 at the first point of a block. -/
theorem A_v268 : kernelRun0_A.sl.r_69 (F := Ideal) c arg2 harg2 arg11 harg11 arg12 harg12 arg13 harg13 arg14 harg14 arg22 arg23 x0 x9 x10 x11 x12 = (headRows (kernelRun0_A.sl.r_24 (F := Ideal) c arg2 harg2 arg11 harg11 arg12 harg12 arg13 harg13 arg14 harg14 x0 x9 x10 x11 x12) (kernelRun0_A.sl.r_31 (F := Ideal) c arg13 harg13 arg14 harg14 arg22 arg23 x11 x12)) :=
  v268_eq _ _

/-- What the run holds as v342 at the first point of a block. -/
theorem A_v342 : kernelRun0_A.sl.r_90 (F := Ideal) c arg2 harg2 arg11 harg11 arg12 harg12 arg13 harg13 arg14 harg14 arg22 arg23 x0 x9 x10 x11 x12 = (headRows (kernelRun0_A.sl.r_25 (F := Ideal) c arg2 harg2 arg11 harg11 arg12 harg12 arg13 harg13 arg14 harg14 x0 x9 x10 x11 x12) (kernelRun0_A.sl.r_32 (F := Ideal) c arg13 harg13 arg14 harg14 arg22 arg23 x11 x12)) :=
  v342_eq _ _

/-- What the run holds as v495 at the first point of a block. -/
theorem A_v495 : kernelRun0_A.sl.r_106 (F := Ideal) c arg2 harg2 arg11 harg11 arg12 harg12 arg13 harg13 arg14 harg14 arg22 arg23 x0 x9 x10 x11 x12 = (stage64 48#32 (cmul ((kernelRun0_A.sl.r_101 (F := Ideal) c arg13 harg13 arg14 harg14 x11 x12), (kernelRun0_A.sl.r_102 (F := Ideal) c arg13 harg13 arg14 harg14 x11 x12)) ((kernelRun0_A.sl.r_101 (F := Ideal) c arg13 harg13 arg14 harg14 x11 x12), (kernelRun0_A.sl.r_102 (F := Ideal) c arg13 harg13 arg14 harg14 x11 x12))) (stage64 56#32 ((kernelRun0_A.sl.r_101 (F := Ideal) c arg13 harg13 arg14 harg14 x11 x12), (kernelRun0_A.sl.r_102 (F := Ideal) c arg13 harg13 arg14 harg14 x11 x12)) (stage64 60#32 (cmul (cmul ((kernelRun0_A.sl.r_26 (F := Ideal) c arg13 harg13 arg14 harg14 x11 x12), (kernelRun0_A.sl.r_27 (F := Ideal) c arg13 harg13 arg14 harg14 x11 x12)) ((kernelRun0_A.sl.r_26 (F := Ideal) c arg13 harg13 arg14 harg14 x11 x12), (kernelRun0_A.sl.r_27 (F := Ideal) c arg13 harg13 arg14 harg14 x11 x12))) (cmul ((kernelRun0_A.sl.r_26 (F := Ideal) c arg13 harg13 arg14 harg14 x11 x12), (kernelRun0_A.sl.r_27 (F := Ideal) c arg13 harg13 arg14 harg14 x11 x12)) ((kernelRun0_A.sl.r_26 (F := Ideal) c arg13 harg13 arg14 harg14 x11 x12), (kernelRun0_A.sl.r_27 (F := Ideal) c arg13 harg13 arg14 harg14 x11 x12)))) (stage64 62#32 (cmul ((kernelRun0_A.sl.r_26 (F := Ideal) c arg13 harg13 arg14 harg14 x11 x12), (kernelRun0_A.sl.r_27 (F := Ideal) c arg13 harg13 arg14 harg14 x11 x12)) ((kernelRun0_A.sl.r_26 (F := Ideal) c arg13 harg13 arg14 harg14 x11 x12), (kernelRun0_A.sl.r_27 (F := Ideal) c arg13 harg13 arg14 harg14 x11 x12))) (stage64 63#32 ((kernelRun0_A.sl.r_26 (F := Ideal) c arg13 harg13 arg14 harg14 x11 x12), (kernelRun0_A.sl.r_27 (F := Ideal) c arg13 harg13 arg14 harg14 x11 x12)) ((kernelRun0_A.sl.r_69 (F := Ideal) c arg2 harg2 arg11 harg11 arg12 harg12 arg13 harg13 arg14 harg14 arg22 arg23 x0 x9 x10 x11 x12), (kernelRun0_A.sl.r_90 (F := Ideal) c arg2 harg2 arg11 harg11 arg12 harg12 arg13 harg13 arg14 harg14 arg22 arg23 x0 x9 x10 x11 x12))))))).1 :=
  v495_eq _ _ _ _ _ _

/-- What the run holds as v496 at the first point of a block. -/
theorem A_v496 : kernelRun0_A.sl.r_107 (F := Ideal) c arg2 harg2 arg11 harg11 arg12 harg12 arg13 harg13 arg14 harg14 arg22 arg23 x0 x9 x10 x11 x12 = (stage64 48#32 (cmul ((kernelRun0_A.sl.r_101 (F := Ideal) c arg13 harg13 arg14 harg14 x11 x12), (kernelRun0_A.sl.r_102 (F := Ideal) c arg13 harg13 arg14 harg14 x11 x12)) ((kernelRun0_A.sl.r_101 (F := Ideal) c arg13 harg13 arg14 harg14 x11 x12), (kernelRun0_A.sl.r_102 (F := Ideal) c arg13 harg13 arg14 harg14 x11 x12))) (stage64 56#32 ((kernelRun0_A.sl.r_101 (F := Ideal) c arg13 harg13 arg14 harg14 x11 x12), (kernelRun0_A.sl.r_102 (F := Ideal) c arg13 harg13 arg14 harg14 x11 x12)) (stage64 60#32 (cmul (cmul ((kernelRun0_A.sl.r_26 (F := Ideal) c arg13 harg13 arg14 harg14 x11 x12), (kernelRun0_A.sl.r_27 (F := Ideal) c arg13 harg13 arg14 harg14 x11 x12)) ((kernelRun0_A.sl.r_26 (F := Ideal) c arg13 harg13 arg14 harg14 x11 x12), (kernelRun0_A.sl.r_27 (F := Ideal) c arg13 harg13 arg14 harg14 x11 x12))) (cmul ((kernelRun0_A.sl.r_26 (F := Ideal) c arg13 harg13 arg14 harg14 x11 x12), (kernelRun0_A.sl.r_27 (F := Ideal) c arg13 harg13 arg14 harg14 x11 x12)) ((kernelRun0_A.sl.r_26 (F := Ideal) c arg13 harg13 arg14 harg14 x11 x12), (kernelRun0_A.sl.r_27 (F := Ideal) c arg13 harg13 arg14 harg14 x11 x12)))) (stage64 62#32 (cmul ((kernelRun0_A.sl.r_26 (F := Ideal) c arg13 harg13 arg14 harg14 x11 x12), (kernelRun0_A.sl.r_27 (F := Ideal) c arg13 harg13 arg14 harg14 x11 x12)) ((kernelRun0_A.sl.r_26 (F := Ideal) c arg13 harg13 arg14 harg14 x11 x12), (kernelRun0_A.sl.r_27 (F := Ideal) c arg13 harg13 arg14 harg14 x11 x12))) (stage64 63#32 ((kernelRun0_A.sl.r_26 (F := Ideal) c arg13 harg13 arg14 harg14 x11 x12), (kernelRun0_A.sl.r_27 (F := Ideal) c arg13 harg13 arg14 harg14 x11 x12)) ((kernelRun0_A.sl.r_69 (F := Ideal) c arg2 harg2 arg11 harg11 arg12 harg12 arg13 harg13 arg14 harg14 arg22 arg23 x0 x9 x10 x11 x12), (kernelRun0_A.sl.r_90 (F := Ideal) c arg2 harg2 arg11 harg11 arg12 harg12 arg13 harg13 arg14 harg14 arg22 arg23 x0 x9 x10 x11 x12))))))).2 :=
  v496_eq _ _ _ _ _ _

/-- What the run holds as v527 at the first point of a block. -/
theorem A_v527 : kernelRun0_A.sl.r_108 (F := Ideal) c arg2 harg2 arg11 harg11 arg12 harg12 arg13 harg13 arg14 harg14 arg22 arg23 x0 x9 x10 x11 x12 = (stage64 32#32 (cmul ((kernelRun0_A.sl.r_104 (F := Ideal) c arg13 harg13 arg14 harg14 x11 x12), (kernelRun0_A.sl.r_105 (F := Ideal) c arg13 harg13 arg14 harg14 x11 x12)) ((kernelRun0_A.sl.r_104 (F := Ideal) c arg13 harg13 arg14 harg14 x11 x12), (kernelRun0_A.sl.r_105 (F := Ideal) c arg13 harg13 arg14 harg14 x11 x12))) ((kernelRun0_A.sl.r_106 (F := Ideal) c arg2 harg2 arg11 harg11 arg12 harg12 arg13 harg13 arg14 harg14 arg22 arg23 x0 x9 x10 x11 x12), (kernelRun0_A.sl.r_107 (F := Ideal) c arg2 harg2 arg11 harg11 arg12 harg12 arg13 harg13 arg14 harg14 arg22 arg23 x0 x9 x10 x11 x12))).1 :=
  v527_eq _ _ _ _

/-- What the run holds as v528 at the first point of a block. -/
theorem A_v528 : kernelRun0_A.sl.r_109 (F := Ideal) c arg2 harg2 arg11 harg11 arg12 harg12 arg13 harg13 arg14 harg14 arg22 arg23 x0 x9 x10 x11 x12 = (stage64 32#32 (cmul ((kernelRun0_A.sl.r_104 (F := Ideal) c arg13 harg13 arg14 harg14 x11 x12), (kernelRun0_A.sl.r_105 (F := Ideal) c arg13 harg13 arg14 harg14 x11 x12)) ((kernelRun0_A.sl.r_104 (F := Ideal) c arg13 harg13 arg14 harg14 x11 x12), (kernelRun0_A.sl.r_105 (F := Ideal) c arg13 harg13 arg14 harg14 x11 x12))) ((kernelRun0_A.sl.r_106 (F := Ideal) c arg2 harg2 arg11 harg11 arg12 harg12 arg13 harg13 arg14 harg14 arg22 arg23 x0 x9 x10 x11 x12), (kernelRun0_A.sl.r_107 (F := Ideal) c arg2 harg2 arg11 harg11 arg12 harg12 arg13 harg13 arg14 harg14 arg22 arg23 x0 x9 x10 x11 x12))).2 :=
  v528_eq _ _ _ _

/-- What the run holds as v729 at the first point of a block. -/
theorem A_v729 : kernelRun0_A.sl.r_175 (F := Ideal) c arg2 harg2 arg11 harg11 arg12 harg12 arg13 harg13 arg14 harg14 arg22 arg23 x0 x9 x10 x11 x12 = (spread (shiftIn (stage64 32#32 (cmul ((kernelRun0_A.sl.r_104 (F := Ideal) c arg13 harg13 arg14 harg14 x11 x12), (kernelRun0_A.sl.r_105 (F := Ideal) c arg13 harg13 arg14 harg14 x11 x12)) ((kernelRun0_A.sl.r_104 (F := Ideal) c arg13 harg13 arg14 harg14 x11 x12), (kernelRun0_A.sl.r_105 (F := Ideal) c arg13 harg13 arg14 harg14 x11 x12))) ((kernelRun0_A.sl.r_106 (F := Ideal) c arg2 harg2 arg11 harg11 arg12 harg12 arg13 harg13 arg14 harg14 arg22 arg23 x0 x9 x10 x11 x12), (kernelRun0_A.sl.r_107 (F := Ideal) c arg2 harg2 arg11 harg11 arg12 harg12 arg13 harg13 arg14 harg14 arg22 arg23 x0 x9 x10 x11 x12))).1 (kernelRun0_A.sl.v22 (F := Ideal) c arg22))) :=
  v729_eq _ _ _ _ _

/-- What the run holds as v939 at the first point of a block. -/
theorem A_v939 : kernelRun0_A.sl.r_236 (F := Ideal) c arg2 harg2 arg11 harg11 arg12 harg12 arg13 harg13 arg14 harg14 arg22 arg23 x0 x9 x10 x11 x12 = (addf (kernelRun0_A.sl.r_24 (F := Ideal) c arg2 harg2 arg11 harg11 arg12 harg12 arg13 harg13 arg14 harg14 x0 x9 x10 x11 x12) (subf (mulf (tiled (kernelRun0_A.sl.r_29 (F := Ideal) c arg13 harg13 arg14 harg14 x11 x12)) (kernelRun0_A.sl.r_175 (F := Ideal) c arg2 harg2 arg11 harg11 arg12 harg12 arg13 harg13 arg14 harg14 arg22 arg23 x0 x9 x10 x11 x12)) (mulf (tiled (kernelRun0_A.sl.r_30 (F := Ideal) c arg13 harg13 arg14 harg14 x11 x12)) (spread (shiftIn (kernelRun0_A.sl.r_109 (F := Ideal) c arg2 harg2 arg11 harg11 arg12 harg12 arg13 harg13 arg14 harg14 arg22 arg23 x0 x9 x10 x11 x12) (kernelRun0_A.sl.v23 (F := Ideal) c arg23)))))) :=
  v939_eq _ _ _ _ _ _

/-- What the run holds as v940 at the first point of a block. -/
theorem A_v940 : kernelRun0_A.sl.r_237 (F := Ideal) c arg2 harg2 arg11 harg11 arg12 harg12 arg13 harg13 arg14 harg14 arg22 arg23 x0 x9 x10 x11 x12 = (addf (kernelRun0_A.sl.r_25 (F := Ideal) c arg2 harg2 arg11 harg11 arg12 harg12 arg13 harg13 arg14 harg14 x0 x9 x10 x11 x12) (addf (mulf (tiled (kernelRun0_A.sl.r_29 (F := Ideal) c arg13 harg13 arg14 harg14 x11 x12)) (spread (shiftIn (kernelRun0_A.sl.r_109 (F := Ideal) c arg2 harg2 arg11 harg11 arg12 harg12 arg13 harg13 arg14 harg14 arg22 arg23 x0 x9 x10 x11 x12) (kernelRun0_A.sl.v23 (F := Ideal) c arg23)))) (mulf (tiled (kernelRun0_A.sl.r_30 (F := Ideal) c arg13 harg13 arg14 harg14 x11 x12)) (kernelRun0_A.sl.r_175 (F := Ideal) c arg2 harg2 arg11 harg11 arg12 harg12 arg13 harg13 arg14 harg14 arg22 arg23 x0 x9 x10 x11 x12)))) :=
  v940_eq _ _ _ _ _ _

/-- What the run holds as v949 at the first point of a block. -/
theorem A_v949 : kernelRun0_A.sl.r_238 (F := Ideal) c arg2 harg2 arg11 harg11 arg12 harg12 arg13 harg13 arg14 harg14 arg22 arg23 x0 x9 x10 x11 x12 = (truncf .bf16 (addf (kernelRun0_A.sl.r_24 (F := Ideal) c arg2 harg2 arg11 harg11 arg12 harg12 arg13 harg13 arg14 harg14 x0 x9 x10 x11 x12) (subf (mulf (tiled (kernelRun0_A.sl.r_29 (F := Ideal) c arg13 harg13 arg14 harg14 x11 x12)) (kernelRun0_A.sl.r_175 (F := Ideal) c arg2 harg2 arg11 harg11 arg12 harg12 arg13 harg13 arg14 harg14 arg22 arg23 x0 x9 x10 x11 x12)) (mulf (tiled (kernelRun0_A.sl.r_30 (F := Ideal) c arg13 harg13 arg14 harg14 x11 x12)) (spread (shiftIn (kernelRun0_A.sl.r_109 (F := Ideal) c arg2 harg2 arg11 harg11 arg12 harg12 arg13 harg13 arg14 harg14 arg22 arg23 x0 x9 x10 x11 x12) (kernelRun0_A.sl.v23 (F := Ideal) c arg23)))))) bitsLt_bf16_f32) :=
  v949_eq _ _ _ _ _ _

/-- What the run holds as v950 at the first point of a block. -/
theorem A_v950 : kernelRun0_A.sl.r_239 (F := Ideal) c arg2 harg2 arg11 harg11 arg12 harg12 arg13 harg13 arg14 harg14 arg22 arg23 x0 x9 x10 x11 x12 = (truncf .bf16 (addf (kernelRun0_A.sl.r_25 (F := Ideal) c arg2 harg2 arg11 harg11 arg12 harg12 arg13 harg13 arg14 harg14 x0 x9 x10 x11 x12) (addf (mulf (tiled (kernelRun0_A.sl.r_29 (F := Ideal) c arg13 harg13 arg14 harg14 x11 x12)) (spread (shiftIn (kernelRun0_A.sl.r_109 (F := Ideal) c arg2 harg2 arg11 harg11 arg12 harg12 arg13 harg13 arg14 harg14 arg22 arg23 x0 x9 x10 x11 x12) (kernelRun0_A.sl.v23 (F := Ideal) c arg23)))) (mulf (tiled (kernelRun0_A.sl.r_30 (F := Ideal) c arg13 harg13 arg14 harg14 x11 x12)) (kernelRun0_A.sl.r_175 (F := Ideal) c arg2 harg2 arg11 harg11 arg12 harg12 arg13 harg13 arg14 harg14 arg22 arg23 x0 x9 x10 x11 x12)))) bitsLt_bf16_f32) :=
  v950_eq _ _ _ _ _ _

/-- The real part of the adjoint states that the run computes at the first point of a block. -/
theorem A_lam_re : kernelRun0_A.sl.r_236 (F := Ideal) c arg2 harg2 arg11 harg11 arg12 harg12 arg13 harg13 arg14 harg14 arg22 arg23 x0 x9 x10 x11 x12 = (lam ((kernelRun0_A.sl.r_3 (F := Ideal) c arg13 harg13 x11), (kernelRun0_A.sl.r_6 (F := Ideal) c arg14 harg14 x12)) ((kernelRun0_A.sl.r_4 (F := Ideal) c arg2 harg2 arg11 harg11 x0 x9), (kernelRun0_A.sl.r_5 (F := Ideal) c arg2 harg2 arg12 harg12 x0 x10)) ((kernelRun0_A.sl.v22 (F := Ideal) c arg22), (kernelRun0_A.sl.v23 (F := Ideal) c arg23))).1 := by
  rw [A_v939]
  simp only [A_v57, A_v58, A_v61, A_v64, A_v109, A_v110, A_v113, A_v116, A_v161, A_v162, A_v165, A_v168, A_v185, A_v188, A_v435, A_v438, A_v467, A_v470, A_v191, A_v194, A_v268, A_v342, A_v495, A_v496, A_v527, A_v528, A_v729, Prod.mk.eta]
  rfl

/-- The imaginary part of the adjoint states that the run computes at the first point of a block. -/
theorem A_lam_im : kernelRun0_A.sl.r_237 (F := Ideal) c arg2 harg2 arg11 harg11 arg12 harg12 arg13 harg13 arg14 harg14 arg22 arg23 x0 x9 x10 x11 x12 = (lam ((kernelRun0_A.sl.r_3 (F := Ideal) c arg13 harg13 x11), (kernelRun0_A.sl.r_6 (F := Ideal) c arg14 harg14 x12)) ((kernelRun0_A.sl.r_4 (F := Ideal) c arg2 harg2 arg11 harg11 x0 x9), (kernelRun0_A.sl.r_5 (F := Ideal) c arg2 harg2 arg12 harg12 x0 x10)) ((kernelRun0_A.sl.v22 (F := Ideal) c arg22), (kernelRun0_A.sl.v23 (F := Ideal) c arg23))).2 := by
  rw [A_v940]
  simp only [A_v57, A_v58, A_v61, A_v64, A_v109, A_v110, A_v113, A_v116, A_v161, A_v162, A_v165, A_v168, A_v185, A_v188, A_v435, A_v438, A_v467, A_v470, A_v191, A_v194, A_v268, A_v342, A_v495, A_v496, A_v527, A_v528, A_v729, Prod.mk.eta]
  rfl

/-- The real part of the adjoint states, as rounded for the products, that the run computes at the first point of a block. -/
theorem A_lam_re16 : kernelRun0_A.sl.r_238 (F := Ideal) c arg2 harg2 arg11 harg11 arg12 harg12 arg13 harg13 arg14 harg14 arg22 arg23 x0 x9 x10 x11 x12 = truncf .bf16 (lam ((kernelRun0_A.sl.r_3 (F := Ideal) c arg13 harg13 x11), (kernelRun0_A.sl.r_6 (F := Ideal) c arg14 harg14 x12)) ((kernelRun0_A.sl.r_4 (F := Ideal) c arg2 harg2 arg11 harg11 x0 x9), (kernelRun0_A.sl.r_5 (F := Ideal) c arg2 harg2 arg12 harg12 x0 x10)) ((kernelRun0_A.sl.v22 (F := Ideal) c arg22), (kernelRun0_A.sl.v23 (F := Ideal) c arg23))).1 bitsLt_bf16_f32 := by
  rw [A_v949]
  simp only [A_v57, A_v58, A_v61, A_v64, A_v109, A_v110, A_v113, A_v116, A_v161, A_v162, A_v165, A_v168, A_v185, A_v188, A_v435, A_v438, A_v467, A_v470, A_v191, A_v194, A_v268, A_v342, A_v495, A_v496, A_v527, A_v528, A_v729, Prod.mk.eta]
  rfl

/-- The imaginary part of the adjoint states, as rounded for the products, that the run computes at the first point of a block. -/
theorem A_lam_im16 : kernelRun0_A.sl.r_239 (F := Ideal) c arg2 harg2 arg11 harg11 arg12 harg12 arg13 harg13 arg14 harg14 arg22 arg23 x0 x9 x10 x11 x12 = truncf .bf16 (lam ((kernelRun0_A.sl.r_3 (F := Ideal) c arg13 harg13 x11), (kernelRun0_A.sl.r_6 (F := Ideal) c arg14 harg14 x12)) ((kernelRun0_A.sl.r_4 (F := Ideal) c arg2 harg2 arg11 harg11 x0 x9), (kernelRun0_A.sl.r_5 (F := Ideal) c arg2 harg2 arg12 harg12 x0 x10)) ((kernelRun0_A.sl.v22 (F := Ideal) c arg22), (kernelRun0_A.sl.v23 (F := Ideal) c arg23))).2 bitsLt_bf16_f32 := by
  rw [A_v950]
  simp only [A_v57, A_v58, A_v61, A_v64, A_v109, A_v110, A_v113, A_v116, A_v161, A_v162, A_v165, A_v168, A_v185, A_v188, A_v435, A_v438, A_v467, A_v470, A_v191, A_v194, A_v268, A_v342, A_v495, A_v496, A_v527, A_v528, A_v729, Prod.mk.eta]
  rfl

/-- The real part of the row to be carried on that the run computes at the first point of a block. -/
theorem A_carry_re : k0_pay289 (kernelRun0_A.sl.r_108 (F := Ideal) c arg2 harg2 arg11 harg11 arg12 harg12 arg13 harg13 arg14 harg14 arg22 arg23 x0 x9 x10 x11 x12) = (carry ((kernelRun0_A.sl.r_3 (F := Ideal) c arg13 harg13 x11), (kernelRun0_A.sl.r_6 (F := Ideal) c arg14 harg14 x12)) ((kernelRun0_A.sl.r_4 (F := Ideal) c arg2 harg2 arg11 harg11 x0 x9), (kernelRun0_A.sl.r_5 (F := Ideal) c arg2 harg2 arg12 harg12 x0 x10)) ((kernelRun0_A.sl.v22 (F := Ideal) c arg22), (kernelRun0_A.sl.v23 (F := Ideal) c arg23))).1 := by
  simp only [A_v57, A_v58, A_v61, A_v64, A_v109, A_v110, A_v113, A_v116, A_v161, A_v162, A_v165, A_v168, A_v185, A_v188, A_v435, A_v438, A_v467, A_v470, A_v191, A_v194, A_v268, A_v342, A_v495, A_v496, A_v527, A_v528, A_v729, Prod.mk.eta]
  rfl

/-- The imaginary part of the row to be carried on that the run computes at the first point of a block. -/
theorem A_carry_im : k0_pay290 (kernelRun0_A.sl.r_109 (F := Ideal) c arg2 harg2 arg11 harg11 arg12 harg12 arg13 harg13 arg14 harg14 arg22 arg23 x0 x9 x10 x11 x12) = (carry ((kernelRun0_A.sl.r_3 (F := Ideal) c arg13 harg13 x11), (kernelRun0_A.sl.r_6 (F := Ideal) c arg14 harg14 x12)) ((kernelRun0_A.sl.r_4 (F := Ideal) c arg2 harg2 arg11 harg11 x0 x9), (kernelRun0_A.sl.r_5 (F := Ideal) c arg2 harg2 arg12 harg12 x0 x10)) ((kernelRun0_A.sl.v22 (F := Ideal) c arg22), (kernelRun0_A.sl.v23 (F := Ideal) c arg23))).2 := by
  simp only [A_v57, A_v58, A_v61, A_v64, A_v109, A_v110, A_v113, A_v116, A_v161, A_v162, A_v165, A_v168, A_v185, A_v188, A_v435, A_v438, A_v467, A_v470, A_v191, A_v194, A_v268, A_v342, A_v495, A_v496, A_v527, A_v528, A_v729, Prod.mk.eta]
  rfl

/-- What the run holds as v57 at a later point of a block. -/
theorem B_v57 : kernelRun0_B.sl.r_11 (F := Ideal) c arg2 harg2 arg11 harg11 arg12 harg12 arg13 harg13 arg14 harg14 x0 x9 x10 x11 x12 = (stage512 7#32 511#32 ((kernelRun0_B.sl.r_3 (F := Ideal) c arg13 harg13 x11), (kernelRun0_B.sl.r_6 (F := Ideal) c arg14 harg14 x12)) ((kernelRun0_B.sl.r_4 (F := Ideal) c arg2 harg2 arg11 harg11 x0 x9), (kernelRun0_B.sl.r_5 (F := Ideal) c arg2 harg2 arg12 harg12 x0 x10))).1 :=
  v57_eq _ _ _ _

/-- What the run holds as v58 at a later point of a block. -/
theorem B_v58 : kernelRun0_B.sl.r_12 (F := Ideal) c arg2 harg2 arg11 harg11 arg12 harg12 arg13 harg13 arg14 harg14 x0 x9 x10 x11 x12 = (stage512 7#32 511#32 ((kernelRun0_B.sl.r_3 (F := Ideal) c arg13 harg13 x11), (kernelRun0_B.sl.r_6 (F := Ideal) c arg14 harg14 x12)) ((kernelRun0_B.sl.r_4 (F := Ideal) c arg2 harg2 arg11 harg11 x0 x9), (kernelRun0_B.sl.r_5 (F := Ideal) c arg2 harg2 arg12 harg12 x0 x10))).2 :=
  v58_eq _ _ _ _

/-- What the run holds as v61 at a later point of a block. -/
theorem B_v61 : kernelRun0_B.sl.r_13 (F := Ideal) c arg13 harg13 arg14 harg14 x11 x12 = (cmul ((kernelRun0_B.sl.r_3 (F := Ideal) c arg13 harg13 x11), (kernelRun0_B.sl.r_6 (F := Ideal) c arg14 harg14 x12)) ((kernelRun0_B.sl.r_3 (F := Ideal) c arg13 harg13 x11), (kernelRun0_B.sl.r_6 (F := Ideal) c arg14 harg14 x12))).1 :=
  v61_eq _ _

/-- What the run holds as v64 at a later point of a block. -/
theorem B_v64 : kernelRun0_B.sl.r_14 (F := Ideal) c arg13 harg13 arg14 harg14 x11 x12 = (cmul ((kernelRun0_B.sl.r_3 (F := Ideal) c arg13 harg13 x11), (kernelRun0_B.sl.r_6 (F := Ideal) c arg14 harg14 x12)) ((kernelRun0_B.sl.r_3 (F := Ideal) c arg13 harg13 x11), (kernelRun0_B.sl.r_6 (F := Ideal) c arg14 harg14 x12))).2 :=
  v64_eq _ _

/-- What the run holds as v109 at a later point of a block. -/
theorem B_v109 : kernelRun0_B.sl.r_19 (F := Ideal) c arg2 harg2 arg11 harg11 arg12 harg12 arg13 harg13 arg14 harg14 x0 x9 x10 x11 x12 = (stage512 6#32 510#32 ((kernelRun0_B.sl.r_13 (F := Ideal) c arg13 harg13 arg14 harg14 x11 x12), (kernelRun0_B.sl.r_14 (F := Ideal) c arg13 harg13 arg14 harg14 x11 x12)) ((kernelRun0_B.sl.r_11 (F := Ideal) c arg2 harg2 arg11 harg11 arg12 harg12 arg13 harg13 arg14 harg14 x0 x9 x10 x11 x12), (kernelRun0_B.sl.r_12 (F := Ideal) c arg2 harg2 arg11 harg11 arg12 harg12 arg13 harg13 arg14 harg14 x0 x9 x10 x11 x12))).1 :=
  v109_eq _ _ _ _

/-- What the run holds as v110 at a later point of a block. -/
theorem B_v110 : kernelRun0_B.sl.r_20 (F := Ideal) c arg2 harg2 arg11 harg11 arg12 harg12 arg13 harg13 arg14 harg14 x0 x9 x10 x11 x12 = (stage512 6#32 510#32 ((kernelRun0_B.sl.r_13 (F := Ideal) c arg13 harg13 arg14 harg14 x11 x12), (kernelRun0_B.sl.r_14 (F := Ideal) c arg13 harg13 arg14 harg14 x11 x12)) ((kernelRun0_B.sl.r_11 (F := Ideal) c arg2 harg2 arg11 harg11 arg12 harg12 arg13 harg13 arg14 harg14 x0 x9 x10 x11 x12), (kernelRun0_B.sl.r_12 (F := Ideal) c arg2 harg2 arg11 harg11 arg12 harg12 arg13 harg13 arg14 harg14 x0 x9 x10 x11 x12))).2 :=
  v110_eq _ _ _ _

/-- What the run holds as v113 at a later point of a block. -/
theorem B_v113 : kernelRun0_B.sl.r_21 (F := Ideal) c arg13 harg13 arg14 harg14 x11 x12 = (cmul ((kernelRun0_B.sl.r_13 (F := Ideal) c arg13 harg13 arg14 harg14 x11 x12), (kernelRun0_B.sl.r_14 (F := Ideal) c arg13 harg13 arg14 harg14 x11 x12)) ((kernelRun0_B.sl.r_13 (F := Ideal) c arg13 harg13 arg14 harg14 x11 x12), (kernelRun0_B.sl.r_14 (F := Ideal) c arg13 harg13 arg14 harg14 x11 x12))).1 :=
  v113_eq _ _

/-- What the run holds as v116 at a later point of a block. -/
theorem B_v116 : kernelRun0_B.sl.r_22 (F := Ideal) c arg13 harg13 arg14 harg14 x11 x12 = (cmul ((kernelRun0_B.sl.r_13 (F := Ideal) c arg13 harg13 arg14 harg14 x11 x12), (kernelRun0_B.sl.r_14 (F := Ideal) c arg13 harg13 arg14 harg14 x11 x12)) ((kernelRun0_B.sl.r_13 (F := Ideal) c arg13 harg13 arg14 harg14 x11 x12), (kernelRun0_B.sl.r_14 (F := Ideal) c arg13 harg13 arg14 harg14 x11 x12))).2 :=
  v116_eq _ _

/-- What the run holds as v161 at a later point of a block. -/
theorem B_v161 : kernelRun0_B.sl.r_26 (F := Ideal) c arg2 harg2 arg11 harg11 arg12 harg12 arg13 harg13 arg14 harg14 x0 x9 x10 x11 x12 = (stage512 4#32 508#32 ((kernelRun0_B.sl.r_21 (F := Ideal) c arg13 harg13 arg14 harg14 x11 x12), (kernelRun0_B.sl.r_22 (F := Ideal) c arg13 harg13 arg14 harg14 x11 x12)) ((kernelRun0_B.sl.r_19 (F := Ideal) c arg2 harg2 arg11 harg11 arg12 harg12 arg13 harg13 arg14 harg14 x0 x9 x10 x11 x12), (kernelRun0_B.sl.r_20 (F := Ideal) c arg2 harg2 arg11 harg11 arg12 harg12 arg13 harg13 arg14 harg14 x0 x9 x10 x11 x12))).1 :=
  v161_eq _ _ _ _

/-- What the run holds as v162 at a later point of a block. -/
theorem B_v162 : kernelRun0_B.sl.r_27 (F := Ideal) c arg2 harg2 arg11 harg11 arg12 harg12 arg13 harg13 arg14 harg14 x0 x9 x10 x11 x12 = (stage512 4#32 508#32 ((kernelRun0_B.sl.r_21 (F := Ideal) c arg13 harg13 arg14 harg14 x11 x12), (kernelRun0_B.sl.r_22 (F := Ideal) c arg13 harg13 arg14 harg14 x11 x12)) ((kernelRun0_B.sl.r_19 (F := Ideal) c arg2 harg2 arg11 harg11 arg12 harg12 arg13 harg13 arg14 harg14 x0 x9 x10 x11 x12), (kernelRun0_B.sl.r_20 (F := Ideal) c arg2 harg2 arg11 harg11 arg12 harg12 arg13 harg13 arg14 harg14 x0 x9 x10 x11 x12))).2 :=
  v162_eq _ _ _ _

/-- What the run holds as v165 at a later point of a block. -/
theorem B_v165 : kernelRun0_B.sl.r_28 (F := Ideal) c arg13 harg13 arg14 harg14 x11 x12 = (cmul ((kernelRun0_B.sl.r_21 (F := Ideal) c arg13 harg13 arg14 harg14 x11 x12), (kernelRun0_B.sl.r_22 (F := Ideal) c arg13 harg13 arg14 harg14 x11 x12)) ((kernelRun0_B.sl.r_21 (F := Ideal) c arg13 harg13 arg14 harg14 x11 x12), (kernelRun0_B.sl.r_22 (F := Ideal) c arg13 harg13 arg14 harg14 x11 x12))).1 :=
  v165_eq _ _

/-- What the run holds as v168 at a later point of a block. -/
theorem B_v168 : kernelRun0_B.sl.r_29 (F := Ideal) c arg13 harg13 arg14 harg14 x11 x12 = (cmul ((kernelRun0_B.sl.r_21 (F := Ideal) c arg13 harg13 arg14 harg14 x11 x12), (kernelRun0_B.sl.r_22 (F := Ideal) c arg13 harg13 arg14 harg14 x11 x12)) ((kernelRun0_B.sl.r_21 (F := Ideal) c arg13 harg13 arg14 harg14 x11 x12), (kernelRun0_B.sl.r_22 (F := Ideal) c arg13 harg13 arg14 harg14 x11 x12))).2 :=
  v168_eq _ _

/-- What the run holds as v185 at a later point of a block. -/
theorem B_v185 : kernelRun0_B.sl.r_31 (F := Ideal) c arg13 harg13 arg14 harg14 x11 x12 = (stage8 4#32 (stage8 6#32 (stage8 7#32 (rows8 (kernelRun0_B.sl.r_3 (F := Ideal) c arg13 harg13 x11), rows8 (kernelRun0_B.sl.r_6 (F := Ideal) c arg14 harg14 x12))))).1 :=
  v185_eq _ _

/-- What the run holds as v188 at a later point of a block. -/
theorem B_v188 : kernelRun0_B.sl.r_32 (F := Ideal) c arg13 harg13 arg14 harg14 x11 x12 = (stage8 4#32 (stage8 6#32 (stage8 7#32 (rows8 (kernelRun0_B.sl.r_3 (F := Ideal) c arg13 harg13 x11), rows8 (kernelRun0_B.sl.r_6 (F := Ideal) c arg14 harg14 x12))))).2 :=
  v188_eq _ _

/-- What the run holds as v435 at a later point of a block. -/
theorem B_v435 : kernelRun0_B.sl.r_103 (F := Ideal) c arg13 harg13 arg14 harg14 x11 x12 = (cmul (cmul (cmul ((kernelRun0_B.sl.r_28 (F := Ideal) c arg13 harg13 arg14 harg14 x11 x12), (kernelRun0_B.sl.r_29 (F := Ideal) c arg13 harg13 arg14 harg14 x11 x12)) ((kernelRun0_B.sl.r_28 (F := Ideal) c arg13 harg13 arg14 harg14 x11 x12), (kernelRun0_B.sl.r_29 (F := Ideal) c arg13 harg13 arg14 harg14 x11 x12))) (cmul ((kernelRun0_B.sl.r_28 (F := Ideal) c arg13 harg13 arg14 harg14 x11 x12), (kernelRun0_B.sl.r_29 (F := Ideal) c arg13 harg13 arg14 harg14 x11 x12)) ((kernelRun0_B.sl.r_28 (F := Ideal) c arg13 harg13 arg14 harg14 x11 x12), (kernelRun0_B.sl.r_29 (F := Ideal) c arg13 harg13 arg14 harg14 x11 x12)))) (cmul (cmul ((kernelRun0_B.sl.r_28 (F := Ideal) c arg13 harg13 arg14 harg14 x11 x12), (kernelRun0_B.sl.r_29 (F := Ideal) c arg13 harg13 arg14 harg14 x11 x12)) ((kernelRun0_B.sl.r_28 (F := Ideal) c arg13 harg13 arg14 harg14 x11 x12), (kernelRun0_B.sl.r_29 (F := Ideal) c arg13 harg13 arg14 harg14 x11 x12))) (cmul ((kernelRun0_B.sl.r_28 (F := Ideal) c arg13 harg13 arg14 harg14 x11 x12), (kernelRun0_B.sl.r_29 (F := Ideal) c arg13 harg13 arg14 harg14 x11 x12)) ((kernelRun0_B.sl.r_28 (F := Ideal) c arg13 harg13 arg14 harg14 x11 x12), (kernelRun0_B.sl.r_29 (F := Ideal) c arg13 harg13 arg14 harg14 x11 x12))))).1 :=
  v435_eq _ _

/-- What the run holds as v438 at a later point of a block. -/
theorem B_v438 : kernelRun0_B.sl.r_104 (F := Ideal) c arg13 harg13 arg14 harg14 x11 x12 = (cmul (cmul (cmul ((kernelRun0_B.sl.r_28 (F := Ideal) c arg13 harg13 arg14 harg14 x11 x12), (kernelRun0_B.sl.r_29 (F := Ideal) c arg13 harg13 arg14 harg14 x11 x12)) ((kernelRun0_B.sl.r_28 (F := Ideal) c arg13 harg13 arg14 harg14 x11 x12), (kernelRun0_B.sl.r_29 (F := Ideal) c arg13 harg13 arg14 harg14 x11 x12))) (cmul ((kernelRun0_B.sl.r_28 (F := Ideal) c arg13 harg13 arg14 harg14 x11 x12), (kernelRun0_B.sl.r_29 (F := Ideal) c arg13 harg13 arg14 harg14 x11 x12)) ((kernelRun0_B.sl.r_28 (F := Ideal) c arg13 harg13 arg14 harg14 x11 x12), (kernelRun0_B.sl.r_29 (F := Ideal) c arg13 harg13 arg14 harg14 x11 x12)))) (cmul (cmul ((kernelRun0_B.sl.r_28 (F := Ideal) c arg13 harg13 arg14 harg14 x11 x12), (kernelRun0_B.sl.r_29 (F := Ideal) c arg13 harg13 arg14 harg14 x11 x12)) ((kernelRun0_B.sl.r_28 (F := Ideal) c arg13 harg13 arg14 harg14 x11 x12), (kernelRun0_B.sl.r_29 (F := Ideal) c arg13 harg13 arg14 harg14 x11 x12))) (cmul ((kernelRun0_B.sl.r_28 (F := Ideal) c arg13 harg13 arg14 harg14 x11 x12), (kernelRun0_B.sl.r_29 (F := Ideal) c arg13 harg13 arg14 harg14 x11 x12)) ((kernelRun0_B.sl.r_28 (F := Ideal) c arg13 harg13 arg14 harg14 x11 x12), (kernelRun0_B.sl.r_29 (F := Ideal) c arg13 harg13 arg14 harg14 x11 x12))))).2 :=
  v438_eq _ _

/-- What the run holds as v467 at a later point of a block. -/
theorem B_v467 : kernelRun0_B.sl.r_106 (F := Ideal) c arg13 harg13 arg14 harg14 x11 x12 = (cmul ((kernelRun0_B.sl.r_103 (F := Ideal) c arg13 harg13 arg14 harg14 x11 x12), (kernelRun0_B.sl.r_104 (F := Ideal) c arg13 harg13 arg14 harg14 x11 x12)) ((kernelRun0_B.sl.r_103 (F := Ideal) c arg13 harg13 arg14 harg14 x11 x12), (kernelRun0_B.sl.r_104 (F := Ideal) c arg13 harg13 arg14 harg14 x11 x12))).1 :=
  v467_eq _ _

/-- What the run holds as v470 at a later point of a block. -/
theorem B_v470 : kernelRun0_B.sl.r_107 (F := Ideal) c arg13 harg13 arg14 harg14 x11 x12 = (cmul ((kernelRun0_B.sl.r_103 (F := Ideal) c arg13 harg13 arg14 harg14 x11 x12), (kernelRun0_B.sl.r_104 (F := Ideal) c arg13 harg13 arg14 harg14 x11 x12)) ((kernelRun0_B.sl.r_103 (F := Ideal) c arg13 harg13 arg14 harg14 x11 x12), (kernelRun0_B.sl.r_104 (F := Ideal) c arg13 harg13 arg14 harg14 x11 x12))).2 :=
  v470_eq _ _

/-- What the run holds as v191 at a later point of a block. -/
theorem B_v191 : kernelRun0_B.sl.r_33 (F := Ideal) c arg13 harg13 arg14 harg14 arg22 harg22 arg23 harg23 x11 x12 xs0 xs1 = (cmul ((kernelRun0_B.sl.r_28 (F := Ideal) c arg13 harg13 arg14 harg14 x11 x12), (kernelRun0_B.sl.r_29 (F := Ideal) c arg13 harg13 arg14 harg14 x11 x12)) ((kernelRun0_B.sl.r_7 (F := Ideal) c arg22 harg22 xs0), (kernelRun0_B.sl.r_8 (F := Ideal) c arg23 harg23 xs1))).1 :=
  v191_eq _ _ _ _

/-- What the run holds as v194 at a later point of a block. -/
theorem B_v194 : kernelRun0_B.sl.r_34 (F := Ideal) c arg13 harg13 arg14 harg14 arg22 harg22 arg23 harg23 x11 x12 xs0 xs1 = (cmul ((kernelRun0_B.sl.r_28 (F := Ideal) c arg13 harg13 arg14 harg14 x11 x12), (kernelRun0_B.sl.r_29 (F := Ideal) c arg13 harg13 arg14 harg14 x11 x12)) ((kernelRun0_B.sl.r_7 (F := Ideal) c arg22 harg22 xs0), (kernelRun0_B.sl.r_8 (F := Ideal) c arg23 harg23 xs1))).2 :=
  v194_eq _ _ _ _

/-- What the run holds as v268 at a later point of a block. -/
theorem B_v268 : kernelRun0_B.sl.r_71 (F := Ideal) c arg2 harg2 arg11 harg11 arg12 harg12 arg13 harg13 arg14 harg14 arg22 harg22 arg23 harg23 x0 x9 x10 x11 x12 xs0 xs1 = (headRows (kernelRun0_B.sl.r_26 (F := Ideal) c arg2 harg2 arg11 harg11 arg12 harg12 arg13 harg13 arg14 harg14 x0 x9 x10 x11 x12) (kernelRun0_B.sl.r_33 (F := Ideal) c arg13 harg13 arg14 harg14 arg22 harg22 arg23 harg23 x11 x12 xs0 xs1)) :=
  v268_eq _ _

/-- What the run holds as v342 at a later point of a block. -/
theorem B_v342 : kernelRun0_B.sl.r_92 (F := Ideal) c arg2 harg2 arg11 harg11 arg12 harg12 arg13 harg13 arg14 harg14 arg22 harg22 arg23 harg23 x0 x9 x10 x11 x12 xs0 xs1 = (headRows (kernelRun0_B.sl.r_27 (F := Ideal) c arg2 harg2 arg11 harg11 arg12 harg12 arg13 harg13 arg14 harg14 x0 x9 x10 x11 x12) (kernelRun0_B.sl.r_34 (F := Ideal) c arg13 harg13 arg14 harg14 arg22 harg22 arg23 harg23 x11 x12 xs0 xs1)) :=
  v342_eq _ _

/-- What the run holds as v495 at a later point of a block. -/
theorem B_v495 : kernelRun0_B.sl.r_108 (F := Ideal) c arg2 harg2 arg11 harg11 arg12 harg12 arg13 harg13 arg14 harg14 arg22 harg22 arg23 harg23 x0 x9 x10 x11 x12 xs0 xs1 = (stage64 48#32 (cmul ((kernelRun0_B.sl.r_103 (F := Ideal) c arg13 harg13 arg14 harg14 x11 x12), (kernelRun0_B.sl.r_104 (F := Ideal) c arg13 harg13 arg14 harg14 x11 x12)) ((kernelRun0_B.sl.r_103 (F := Ideal) c arg13 harg13 arg14 harg14 x11 x12), (kernelRun0_B.sl.r_104 (F := Ideal) c arg13 harg13 arg14 harg14 x11 x12))) (stage64 56#32 ((kernelRun0_B.sl.r_103 (F := Ideal) c arg13 harg13 arg14 harg14 x11 x12), (kernelRun0_B.sl.r_104 (F := Ideal) c arg13 harg13 arg14 harg14 x11 x12)) (stage64 60#32 (cmul (cmul ((kernelRun0_B.sl.r_28 (F := Ideal) c arg13 harg13 arg14 harg14 x11 x12), (kernelRun0_B.sl.r_29 (F := Ideal) c arg13 harg13 arg14 harg14 x11 x12)) ((kernelRun0_B.sl.r_28 (F := Ideal) c arg13 harg13 arg14 harg14 x11 x12), (kernelRun0_B.sl.r_29 (F := Ideal) c arg13 harg13 arg14 harg14 x11 x12))) (cmul ((kernelRun0_B.sl.r_28 (F := Ideal) c arg13 harg13 arg14 harg14 x11 x12), (kernelRun0_B.sl.r_29 (F := Ideal) c arg13 harg13 arg14 harg14 x11 x12)) ((kernelRun0_B.sl.r_28 (F := Ideal) c arg13 harg13 arg14 harg14 x11 x12), (kernelRun0_B.sl.r_29 (F := Ideal) c arg13 harg13 arg14 harg14 x11 x12)))) (stage64 62#32 (cmul ((kernelRun0_B.sl.r_28 (F := Ideal) c arg13 harg13 arg14 harg14 x11 x12), (kernelRun0_B.sl.r_29 (F := Ideal) c arg13 harg13 arg14 harg14 x11 x12)) ((kernelRun0_B.sl.r_28 (F := Ideal) c arg13 harg13 arg14 harg14 x11 x12), (kernelRun0_B.sl.r_29 (F := Ideal) c arg13 harg13 arg14 harg14 x11 x12))) (stage64 63#32 ((kernelRun0_B.sl.r_28 (F := Ideal) c arg13 harg13 arg14 harg14 x11 x12), (kernelRun0_B.sl.r_29 (F := Ideal) c arg13 harg13 arg14 harg14 x11 x12)) ((kernelRun0_B.sl.r_71 (F := Ideal) c arg2 harg2 arg11 harg11 arg12 harg12 arg13 harg13 arg14 harg14 arg22 harg22 arg23 harg23 x0 x9 x10 x11 x12 xs0 xs1), (kernelRun0_B.sl.r_92 (F := Ideal) c arg2 harg2 arg11 harg11 arg12 harg12 arg13 harg13 arg14 harg14 arg22 harg22 arg23 harg23 x0 x9 x10 x11 x12 xs0 xs1))))))).1 :=
  v495_eq _ _ _ _ _ _

/-- What the run holds as v496 at a later point of a block. -/
theorem B_v496 : kernelRun0_B.sl.r_109 (F := Ideal) c arg2 harg2 arg11 harg11 arg12 harg12 arg13 harg13 arg14 harg14 arg22 harg22 arg23 harg23 x0 x9 x10 x11 x12 xs0 xs1 = (stage64 48#32 (cmul ((kernelRun0_B.sl.r_103 (F := Ideal) c arg13 harg13 arg14 harg14 x11 x12), (kernelRun0_B.sl.r_104 (F := Ideal) c arg13 harg13 arg14 harg14 x11 x12)) ((kernelRun0_B.sl.r_103 (F := Ideal) c arg13 harg13 arg14 harg14 x11 x12), (kernelRun0_B.sl.r_104 (F := Ideal) c arg13 harg13 arg14 harg14 x11 x12))) (stage64 56#32 ((kernelRun0_B.sl.r_103 (F := Ideal) c arg13 harg13 arg14 harg14 x11 x12), (kernelRun0_B.sl.r_104 (F := Ideal) c arg13 harg13 arg14 harg14 x11 x12)) (stage64 60#32 (cmul (cmul ((kernelRun0_B.sl.r_28 (F := Ideal) c arg13 harg13 arg14 harg14 x11 x12), (kernelRun0_B.sl.r_29 (F := Ideal) c arg13 harg13 arg14 harg14 x11 x12)) ((kernelRun0_B.sl.r_28 (F := Ideal) c arg13 harg13 arg14 harg14 x11 x12), (kernelRun0_B.sl.r_29 (F := Ideal) c arg13 harg13 arg14 harg14 x11 x12))) (cmul ((kernelRun0_B.sl.r_28 (F := Ideal) c arg13 harg13 arg14 harg14 x11 x12), (kernelRun0_B.sl.r_29 (F := Ideal) c arg13 harg13 arg14 harg14 x11 x12)) ((kernelRun0_B.sl.r_28 (F := Ideal) c arg13 harg13 arg14 harg14 x11 x12), (kernelRun0_B.sl.r_29 (F := Ideal) c arg13 harg13 arg14 harg14 x11 x12)))) (stage64 62#32 (cmul ((kernelRun0_B.sl.r_28 (F := Ideal) c arg13 harg13 arg14 harg14 x11 x12), (kernelRun0_B.sl.r_29 (F := Ideal) c arg13 harg13 arg14 harg14 x11 x12)) ((kernelRun0_B.sl.r_28 (F := Ideal) c arg13 harg13 arg14 harg14 x11 x12), (kernelRun0_B.sl.r_29 (F := Ideal) c arg13 harg13 arg14 harg14 x11 x12))) (stage64 63#32 ((kernelRun0_B.sl.r_28 (F := Ideal) c arg13 harg13 arg14 harg14 x11 x12), (kernelRun0_B.sl.r_29 (F := Ideal) c arg13 harg13 arg14 harg14 x11 x12)) ((kernelRun0_B.sl.r_71 (F := Ideal) c arg2 harg2 arg11 harg11 arg12 harg12 arg13 harg13 arg14 harg14 arg22 harg22 arg23 harg23 x0 x9 x10 x11 x12 xs0 xs1), (kernelRun0_B.sl.r_92 (F := Ideal) c arg2 harg2 arg11 harg11 arg12 harg12 arg13 harg13 arg14 harg14 arg22 harg22 arg23 harg23 x0 x9 x10 x11 x12 xs0 xs1))))))).2 :=
  v496_eq _ _ _ _ _ _

/-- What the run holds as v527 at a later point of a block. -/
theorem B_v527 : kernelRun0_B.sl.r_110 (F := Ideal) c arg2 harg2 arg11 harg11 arg12 harg12 arg13 harg13 arg14 harg14 arg22 harg22 arg23 harg23 x0 x9 x10 x11 x12 xs0 xs1 = (stage64 32#32 (cmul ((kernelRun0_B.sl.r_106 (F := Ideal) c arg13 harg13 arg14 harg14 x11 x12), (kernelRun0_B.sl.r_107 (F := Ideal) c arg13 harg13 arg14 harg14 x11 x12)) ((kernelRun0_B.sl.r_106 (F := Ideal) c arg13 harg13 arg14 harg14 x11 x12), (kernelRun0_B.sl.r_107 (F := Ideal) c arg13 harg13 arg14 harg14 x11 x12))) ((kernelRun0_B.sl.r_108 (F := Ideal) c arg2 harg2 arg11 harg11 arg12 harg12 arg13 harg13 arg14 harg14 arg22 harg22 arg23 harg23 x0 x9 x10 x11 x12 xs0 xs1), (kernelRun0_B.sl.r_109 (F := Ideal) c arg2 harg2 arg11 harg11 arg12 harg12 arg13 harg13 arg14 harg14 arg22 harg22 arg23 harg23 x0 x9 x10 x11 x12 xs0 xs1))).1 :=
  v527_eq _ _ _ _

/-- What the run holds as v528 at a later point of a block. -/
theorem B_v528 : kernelRun0_B.sl.r_111 (F := Ideal) c arg2 harg2 arg11 harg11 arg12 harg12 arg13 harg13 arg14 harg14 arg22 harg22 arg23 harg23 x0 x9 x10 x11 x12 xs0 xs1 = (stage64 32#32 (cmul ((kernelRun0_B.sl.r_106 (F := Ideal) c arg13 harg13 arg14 harg14 x11 x12), (kernelRun0_B.sl.r_107 (F := Ideal) c arg13 harg13 arg14 harg14 x11 x12)) ((kernelRun0_B.sl.r_106 (F := Ideal) c arg13 harg13 arg14 harg14 x11 x12), (kernelRun0_B.sl.r_107 (F := Ideal) c arg13 harg13 arg14 harg14 x11 x12))) ((kernelRun0_B.sl.r_108 (F := Ideal) c arg2 harg2 arg11 harg11 arg12 harg12 arg13 harg13 arg14 harg14 arg22 harg22 arg23 harg23 x0 x9 x10 x11 x12 xs0 xs1), (kernelRun0_B.sl.r_109 (F := Ideal) c arg2 harg2 arg11 harg11 arg12 harg12 arg13 harg13 arg14 harg14 arg22 harg22 arg23 harg23 x0 x9 x10 x11 x12 xs0 xs1))).2 :=
  v528_eq _ _ _ _

/-- What the run holds as v729 at a later point of a block. -/
theorem B_v729 : kernelRun0_B.sl.r_177 (F := Ideal) c arg2 harg2 arg11 harg11 arg12 harg12 arg13 harg13 arg14 harg14 arg22 harg22 arg23 harg23 x0 x9 x10 x11 x12 xs0 xs1 = (spread (shiftIn (stage64 32#32 (cmul ((kernelRun0_B.sl.r_106 (F := Ideal) c arg13 harg13 arg14 harg14 x11 x12), (kernelRun0_B.sl.r_107 (F := Ideal) c arg13 harg13 arg14 harg14 x11 x12)) ((kernelRun0_B.sl.r_106 (F := Ideal) c arg13 harg13 arg14 harg14 x11 x12), (kernelRun0_B.sl.r_107 (F := Ideal) c arg13 harg13 arg14 harg14 x11 x12))) ((kernelRun0_B.sl.r_108 (F := Ideal) c arg2 harg2 arg11 harg11 arg12 harg12 arg13 harg13 arg14 harg14 arg22 harg22 arg23 harg23 x0 x9 x10 x11 x12 xs0 xs1), (kernelRun0_B.sl.r_109 (F := Ideal) c arg2 harg2 arg11 harg11 arg12 harg12 arg13 harg13 arg14 harg14 arg22 harg22 arg23 harg23 x0 x9 x10 x11 x12 xs0 xs1))).1 (kernelRun0_B.sl.r_7 (F := Ideal) c arg22 harg22 xs0))) :=
  v729_eq _ _ _ _ _

/-- What the run holds as v939 at a later point of a block. -/
theorem B_v939 : kernelRun0_B.sl.r_238 (F := Ideal) c arg2 harg2 arg11 harg11 arg12 harg12 arg13 harg13 arg14 harg14 arg22 harg22 arg23 harg23 x0 x9 x10 x11 x12 xs0 xs1 = (addf (kernelRun0_B.sl.r_26 (F := Ideal) c arg2 harg2 arg11 harg11 arg12 harg12 arg13 harg13 arg14 harg14 x0 x9 x10 x11 x12) (subf (mulf (tiled (kernelRun0_B.sl.r_31 (F := Ideal) c arg13 harg13 arg14 harg14 x11 x12)) (kernelRun0_B.sl.r_177 (F := Ideal) c arg2 harg2 arg11 harg11 arg12 harg12 arg13 harg13 arg14 harg14 arg22 harg22 arg23 harg23 x0 x9 x10 x11 x12 xs0 xs1)) (mulf (tiled (kernelRun0_B.sl.r_32 (F := Ideal) c arg13 harg13 arg14 harg14 x11 x12)) (spread (shiftIn (kernelRun0_B.sl.r_111 (F := Ideal) c arg2 harg2 arg11 harg11 arg12 harg12 arg13 harg13 arg14 harg14 arg22 harg22 arg23 harg23 x0 x9 x10 x11 x12 xs0 xs1) (kernelRun0_B.sl.r_8 (F := Ideal) c arg23 harg23 xs1)))))) :=
  v939_eq _ _ _ _ _ _

/-- What the run holds as v940 at a later point of a block. -/
theorem B_v940 : kernelRun0_B.sl.r_239 (F := Ideal) c arg2 harg2 arg11 harg11 arg12 harg12 arg13 harg13 arg14 harg14 arg22 harg22 arg23 harg23 x0 x9 x10 x11 x12 xs0 xs1 = (addf (kernelRun0_B.sl.r_27 (F := Ideal) c arg2 harg2 arg11 harg11 arg12 harg12 arg13 harg13 arg14 harg14 x0 x9 x10 x11 x12) (addf (mulf (tiled (kernelRun0_B.sl.r_31 (F := Ideal) c arg13 harg13 arg14 harg14 x11 x12)) (spread (shiftIn (kernelRun0_B.sl.r_111 (F := Ideal) c arg2 harg2 arg11 harg11 arg12 harg12 arg13 harg13 arg14 harg14 arg22 harg22 arg23 harg23 x0 x9 x10 x11 x12 xs0 xs1) (kernelRun0_B.sl.r_8 (F := Ideal) c arg23 harg23 xs1)))) (mulf (tiled (kernelRun0_B.sl.r_32 (F := Ideal) c arg13 harg13 arg14 harg14 x11 x12)) (kernelRun0_B.sl.r_177 (F := Ideal) c arg2 harg2 arg11 harg11 arg12 harg12 arg13 harg13 arg14 harg14 arg22 harg22 arg23 harg23 x0 x9 x10 x11 x12 xs0 xs1)))) :=
  v940_eq _ _ _ _ _ _

/-- What the run holds as v949 at a later point of a block. -/
theorem B_v949 : kernelRun0_B.sl.r_240 (F := Ideal) c arg2 harg2 arg11 harg11 arg12 harg12 arg13 harg13 arg14 harg14 arg22 harg22 arg23 harg23 x0 x9 x10 x11 x12 xs0 xs1 = (truncf .bf16 (addf (kernelRun0_B.sl.r_26 (F := Ideal) c arg2 harg2 arg11 harg11 arg12 harg12 arg13 harg13 arg14 harg14 x0 x9 x10 x11 x12) (subf (mulf (tiled (kernelRun0_B.sl.r_31 (F := Ideal) c arg13 harg13 arg14 harg14 x11 x12)) (kernelRun0_B.sl.r_177 (F := Ideal) c arg2 harg2 arg11 harg11 arg12 harg12 arg13 harg13 arg14 harg14 arg22 harg22 arg23 harg23 x0 x9 x10 x11 x12 xs0 xs1)) (mulf (tiled (kernelRun0_B.sl.r_32 (F := Ideal) c arg13 harg13 arg14 harg14 x11 x12)) (spread (shiftIn (kernelRun0_B.sl.r_111 (F := Ideal) c arg2 harg2 arg11 harg11 arg12 harg12 arg13 harg13 arg14 harg14 arg22 harg22 arg23 harg23 x0 x9 x10 x11 x12 xs0 xs1) (kernelRun0_B.sl.r_8 (F := Ideal) c arg23 harg23 xs1)))))) bitsLt_bf16_f32) :=
  v949_eq _ _ _ _ _ _

/-- What the run holds as v950 at a later point of a block. -/
theorem B_v950 : kernelRun0_B.sl.r_241 (F := Ideal) c arg2 harg2 arg11 harg11 arg12 harg12 arg13 harg13 arg14 harg14 arg22 harg22 arg23 harg23 x0 x9 x10 x11 x12 xs0 xs1 = (truncf .bf16 (addf (kernelRun0_B.sl.r_27 (F := Ideal) c arg2 harg2 arg11 harg11 arg12 harg12 arg13 harg13 arg14 harg14 x0 x9 x10 x11 x12) (addf (mulf (tiled (kernelRun0_B.sl.r_31 (F := Ideal) c arg13 harg13 arg14 harg14 x11 x12)) (spread (shiftIn (kernelRun0_B.sl.r_111 (F := Ideal) c arg2 harg2 arg11 harg11 arg12 harg12 arg13 harg13 arg14 harg14 arg22 harg22 arg23 harg23 x0 x9 x10 x11 x12 xs0 xs1) (kernelRun0_B.sl.r_8 (F := Ideal) c arg23 harg23 xs1)))) (mulf (tiled (kernelRun0_B.sl.r_32 (F := Ideal) c arg13 harg13 arg14 harg14 x11 x12)) (kernelRun0_B.sl.r_177 (F := Ideal) c arg2 harg2 arg11 harg11 arg12 harg12 arg13 harg13 arg14 harg14 arg22 harg22 arg23 harg23 x0 x9 x10 x11 x12 xs0 xs1)))) bitsLt_bf16_f32) :=
  v950_eq _ _ _ _ _ _

/-- The real part of the adjoint states that the run computes at a later point of a block. -/
theorem B_lam_re : kernelRun0_B.sl.r_238 (F := Ideal) c arg2 harg2 arg11 harg11 arg12 harg12 arg13 harg13 arg14 harg14 arg22 harg22 arg23 harg23 x0 x9 x10 x11 x12 xs0 xs1 = (lam ((kernelRun0_B.sl.r_3 (F := Ideal) c arg13 harg13 x11), (kernelRun0_B.sl.r_6 (F := Ideal) c arg14 harg14 x12)) ((kernelRun0_B.sl.r_4 (F := Ideal) c arg2 harg2 arg11 harg11 x0 x9), (kernelRun0_B.sl.r_5 (F := Ideal) c arg2 harg2 arg12 harg12 x0 x10)) ((kernelRun0_B.sl.r_7 (F := Ideal) c arg22 harg22 xs0), (kernelRun0_B.sl.r_8 (F := Ideal) c arg23 harg23 xs1))).1 := by
  rw [B_v939]
  simp only [B_v57, B_v58, B_v61, B_v64, B_v109, B_v110, B_v113, B_v116, B_v161, B_v162, B_v165, B_v168, B_v185, B_v188, B_v435, B_v438, B_v467, B_v470, B_v191, B_v194, B_v268, B_v342, B_v495, B_v496, B_v527, B_v528, B_v729, Prod.mk.eta]
  rfl

/-- The imaginary part of the adjoint states that the run computes at a later point of a block. -/
theorem B_lam_im : kernelRun0_B.sl.r_239 (F := Ideal) c arg2 harg2 arg11 harg11 arg12 harg12 arg13 harg13 arg14 harg14 arg22 harg22 arg23 harg23 x0 x9 x10 x11 x12 xs0 xs1 = (lam ((kernelRun0_B.sl.r_3 (F := Ideal) c arg13 harg13 x11), (kernelRun0_B.sl.r_6 (F := Ideal) c arg14 harg14 x12)) ((kernelRun0_B.sl.r_4 (F := Ideal) c arg2 harg2 arg11 harg11 x0 x9), (kernelRun0_B.sl.r_5 (F := Ideal) c arg2 harg2 arg12 harg12 x0 x10)) ((kernelRun0_B.sl.r_7 (F := Ideal) c arg22 harg22 xs0), (kernelRun0_B.sl.r_8 (F := Ideal) c arg23 harg23 xs1))).2 := by
  rw [B_v940]
  simp only [B_v57, B_v58, B_v61, B_v64, B_v109, B_v110, B_v113, B_v116, B_v161, B_v162, B_v165, B_v168, B_v185, B_v188, B_v435, B_v438, B_v467, B_v470, B_v191, B_v194, B_v268, B_v342, B_v495, B_v496, B_v527, B_v528, B_v729, Prod.mk.eta]
  rfl

/-- The real part of the adjoint states, as rounded for the products, that the run computes at a later point of a block. -/
theorem B_lam_re16 : kernelRun0_B.sl.r_240 (F := Ideal) c arg2 harg2 arg11 harg11 arg12 harg12 arg13 harg13 arg14 harg14 arg22 harg22 arg23 harg23 x0 x9 x10 x11 x12 xs0 xs1 = truncf .bf16 (lam ((kernelRun0_B.sl.r_3 (F := Ideal) c arg13 harg13 x11), (kernelRun0_B.sl.r_6 (F := Ideal) c arg14 harg14 x12)) ((kernelRun0_B.sl.r_4 (F := Ideal) c arg2 harg2 arg11 harg11 x0 x9), (kernelRun0_B.sl.r_5 (F := Ideal) c arg2 harg2 arg12 harg12 x0 x10)) ((kernelRun0_B.sl.r_7 (F := Ideal) c arg22 harg22 xs0), (kernelRun0_B.sl.r_8 (F := Ideal) c arg23 harg23 xs1))).1 bitsLt_bf16_f32 := by
  rw [B_v949]
  simp only [B_v57, B_v58, B_v61, B_v64, B_v109, B_v110, B_v113, B_v116, B_v161, B_v162, B_v165, B_v168, B_v185, B_v188, B_v435, B_v438, B_v467, B_v470, B_v191, B_v194, B_v268, B_v342, B_v495, B_v496, B_v527, B_v528, B_v729, Prod.mk.eta]
  rfl

/-- The imaginary part of the adjoint states, as rounded for the products, that the run computes at a later point of a block. -/
theorem B_lam_im16 : kernelRun0_B.sl.r_241 (F := Ideal) c arg2 harg2 arg11 harg11 arg12 harg12 arg13 harg13 arg14 harg14 arg22 harg22 arg23 harg23 x0 x9 x10 x11 x12 xs0 xs1 = truncf .bf16 (lam ((kernelRun0_B.sl.r_3 (F := Ideal) c arg13 harg13 x11), (kernelRun0_B.sl.r_6 (F := Ideal) c arg14 harg14 x12)) ((kernelRun0_B.sl.r_4 (F := Ideal) c arg2 harg2 arg11 harg11 x0 x9), (kernelRun0_B.sl.r_5 (F := Ideal) c arg2 harg2 arg12 harg12 x0 x10)) ((kernelRun0_B.sl.r_7 (F := Ideal) c arg22 harg22 xs0), (kernelRun0_B.sl.r_8 (F := Ideal) c arg23 harg23 xs1))).2 bitsLt_bf16_f32 := by
  rw [B_v950]
  simp only [B_v57, B_v58, B_v61, B_v64, B_v109, B_v110, B_v113, B_v116, B_v161, B_v162, B_v165, B_v168, B_v185, B_v188, B_v435, B_v438, B_v467, B_v470, B_v191, B_v194, B_v268, B_v342, B_v495, B_v496, B_v527, B_v528, B_v729, Prod.mk.eta]
  rfl

/-- The real part of the row to be carried on that the run computes at a later point of a block. -/
theorem B_carry_re : k0_pay289 (kernelRun0_B.sl.r_110 (F := Ideal) c arg2 harg2 arg11 harg11 arg12 harg12 arg13 harg13 arg14 harg14 arg22 harg22 arg23 harg23 x0 x9 x10 x11 x12 xs0 xs1) = (carry ((kernelRun0_B.sl.r_3 (F := Ideal) c arg13 harg13 x11), (kernelRun0_B.sl.r_6 (F := Ideal) c arg14 harg14 x12)) ((kernelRun0_B.sl.r_4 (F := Ideal) c arg2 harg2 arg11 harg11 x0 x9), (kernelRun0_B.sl.r_5 (F := Ideal) c arg2 harg2 arg12 harg12 x0 x10)) ((kernelRun0_B.sl.r_7 (F := Ideal) c arg22 harg22 xs0), (kernelRun0_B.sl.r_8 (F := Ideal) c arg23 harg23 xs1))).1 := by
  simp only [B_v57, B_v58, B_v61, B_v64, B_v109, B_v110, B_v113, B_v116, B_v161, B_v162, B_v165, B_v168, B_v185, B_v188, B_v435, B_v438, B_v467, B_v470, B_v191, B_v194, B_v268, B_v342, B_v495, B_v496, B_v527, B_v528, B_v729, Prod.mk.eta]
  rfl

/-- The imaginary part of the row to be carried on that the run computes at a later point of a block. -/
theorem B_carry_im : k0_pay290 (kernelRun0_B.sl.r_111 (F := Ideal) c arg2 harg2 arg11 harg11 arg12 harg12 arg13 harg13 arg14 harg14 arg22 harg22 arg23 harg23 x0 x9 x10 x11 x12 xs0 xs1) = (carry ((kernelRun0_B.sl.r_3 (F := Ideal) c arg13 harg13 x11), (kernelRun0_B.sl.r_6 (F := Ideal) c arg14 harg14 x12)) ((kernelRun0_B.sl.r_4 (F := Ideal) c arg2 harg2 arg11 harg11 x0 x9), (kernelRun0_B.sl.r_5 (F := Ideal) c arg2 harg2 arg12 harg12 x0 x10)) ((kernelRun0_B.sl.r_7 (F := Ideal) c arg22 harg22 xs0), (kernelRun0_B.sl.r_8 (F := Ideal) c arg23 harg23 xs1))).2 := by
  simp only [B_v57, B_v58, B_v61, B_v64, B_v109, B_v110, B_v113, B_v116, B_v161, B_v162, B_v165, B_v168, B_v185, B_v188, B_v435, B_v438, B_v467, B_v470, B_v191, B_v194, B_v268, B_v342, B_v495, B_v496, B_v527, B_v528, B_v729, Prod.mk.eta]
  rfl

end Cert.KernelIdeal.Scan

end
-- ==== Proof.ScanRep.lean ====
module

public import proofs.«01_k».proof.Proof.Scan
public import Idealize.ShloMosaic.Lib.Pipeline.Value
public import Idealize.ShloMosaic.Lib.ValueLayout

/-!
On real inputs the kernel's scan of a block is, in every column, the recurrence `ScanMath.carried`.
-/

@[expose] public section

set_option maxRecDepth 16384

noncomputable section

namespace Cert.KernelIdeal.Scan

open Idealize.ShloMosaic Cert.KernelIdeal.Gen ScanMath

/-- A select by a bit is an `if` on the bit's proposition. -/
theorem select_of {α : Type} {b : BitVec 1} {p : Prop} [Decidable p] (h : b = if p then 1#1 else 0#1) (x y : α) :
    Scalar.select b x y = if p then x else y := by
  subst h
  by_cases hp : p <;> simp [hp, Scalar.select]

/-- An entry of the tile moved up inside its segments of eight rows. -/
theorem shift512_apply (lim rot : BitVec 32) (x : FVec Ideal S512x512 .f32) (r l : Fin 512) :
    shift512 lim rot x (ix2 r l) = Scalar.select (IntOp.cmpi CmpIPredicate.slt (IntOp.andi (BitVec.ofNat 32 ↑r) 7#32) lim)
      (x (ix2 ⟨(↑r + 512 - rot.toNat % 512) % 512, Nat.mod_lt _ (by omega)⟩ l)) 0 := by
  pointwise [shift512, k0_pay23]

/-- An entry of an eight-row tile moved up, with a filler past its end. -/
theorem shift8_apply (lim rot fill : BitVec 32) (x : FVec Ideal S8x512 .f32) (r : Fin 8) (l : Fin 512) :
    shift8 lim rot fill x (ix2 r l) = Scalar.select (IntOp.cmpi CmpIPredicate.slt (BitVec.ofNat 32 ↑r) lim)
      (x (ix2 ⟨(↑r + 8 - rot.toNat % 8) % 8, Nat.mod_lt _ (by omega)⟩ l)) (Ideal.ofBits .f32 fill) := by
  pointwise [shift8]

/-- An entry of a sixty-four-row tile moved up, with zeros past its end. -/
theorem shift64_apply (lim rot : BitVec 32) (x : FVec Ideal S64x512 .f32) (r : Fin 64) (l : Fin 512) :
    shift64 lim rot x (ix2 r l) = Scalar.select (IntOp.cmpi CmpIPredicate.slt (BitVec.ofNat 32 ↑r) lim)
      (x (ix2 ⟨(↑r + 64 - rot.toNat % 64) % 64, Nat.mod_lt _ (by omega)⟩ l)) 0 := by
  pointwise [shift64, mask64]

/-- An entry of a sixty-four-row tile moved up by one, with the carried row coming in at its end. -/
theorem shiftIn_apply (x : FVec Ideal S64x512 .f32) (c : FVec Ideal S1x512 .f32) (r : Fin 64) (l : Fin 512) :
    shiftIn x c (ix2 r l) = Scalar.select (IntOp.cmpi CmpIPredicate.slt (BitVec.ofNat 32 ↑r) 63#32)
      (x (ix2 ⟨(↑r + 64 - 63) % 64, Nat.mod_lt _ (by omega)⟩ l)) (c (ix2 0 l)) := by
  pointwise [shiftIn, mask64]

/-- An entry of the first rows of the segments. -/
theorem firsts_apply (x : FVec Ideal S512x512 .f32) (γ : Fin 64) (l : Fin 512) :
    firsts x (ix2 γ l) = x (ix2 ⟨8 * γ.val, by omega⟩ l) := by
  refine (concatenate_ofFn_apply (t := S64x512) (s₁ := S1x512) (0 : Fin 2) (N := 64) _ _ rfl 1 rfl (ix2 γ l) γ (Nat.div_one _) (ix2 0 l) (Nat.mod_one _).symm ?_).trans ?_
  · intro b hb; fin_cases b
    · exact absurd rfl hb
    · rfl
  · pointwise

/-- An entry of the sixty-four rows, each repeated over its segment. -/
theorem spread_apply (x : FVec Ideal S64x512 .f32) (r l : Fin 512) :
    spread x (ix2 r l) = x (ix2 ⟨r.val / 8, by omega⟩ l) := by
  refine (concatenate_ofFn_apply (t := S512x512) (s₁ := S8x512) (0 : Fin 2) (N := 64) _ _ rfl 8 rfl (ix2 r l) ⟨r.val / 8, by omega⟩ rfl (ix2 ⟨r.val % 8, by omega⟩ l) rfl ?_).trans ?_
  · intro b hb; fin_cases b
    · exact absurd rfl hb
    · rfl
  · pointwise [rows8]

/-- An entry of eight rows repeated for each segment. -/
theorem tiled_apply (x : FVec Ideal S8x512 .f32) (r l : Fin 512) :
    tiled x (ix2 r l) = x (ix2 ⟨r.val % 8, by omega⟩ l) := by
  refine concatenate_ofFn_apply (t := S512x512) (s₁ := S8x512) (0 : Fin 2) (N := 64) _ _ rfl 8 rfl (ix2 r l) ⟨r.val / 8, by omega⟩ rfl (ix2 ⟨r.val % 8, by omega⟩ l) rfl ?_
  intro b hb; fin_cases b
  · exact absurd rfl hb
  · rfl

/-- An entry of the segments' heads. -/
theorem headRows_apply (x : FVec Ideal S512x512 .f32) (j : FVec Ideal S1x512 .f32) (γ : Fin 64) (l : Fin 512) :
    headRows x j (ix2 γ l) = x (ix2 ⟨8 * γ.val, by omega⟩ l) + Scalar.select (IntOp.cmpi CmpIPredicate.eq (BitVec.ofNat 32 ↑γ) 63#32) (j (ix2 0 l)) 0 := by
  pointwise [headRows]
  rw [firsts_apply]

/-- A represented row, repeated over the rows of a tile, represents its constant. -/
theorem rows_rep {n : ℕ} {l : Fin 512} {p : Row} {a : ℂ} (hp : Rep l p (fun _ => a)) (h : S1x512.Broadcasts ⟨2, ![n, 512]⟩) :
    Rep l (broadcastTo ⟨2, ![n, 512]⟩ p.1 h, broadcastTo ⟨2, ![n, 512]⟩ p.2 h) (fun _ => a) := fun r => by
  exact ⟨(ValueIdx.broadcastTo_1b_ab_apply p.1 h r l).trans (hp 0).1, (ValueIdx.broadcastTo_1b_ab_apply p.2 h r l).trans (hp 0).2⟩

/-- A stage on the 512 rows is `ScanMath.stage` in segments of 8. -/
theorem stage512_rep {l : Fin 512} {p : Row} {x : Tile} {a : ℂ} {z : ℕ → ℂ} (lim rot : BitVec 32) (k : ℕ) (hk : 0 < k) (hk' : k < 8)
    (hrot : rot.toNat = 512 - k)
    (hmask : ∀ r : Fin 512, IntOp.cmpi CmpIPredicate.slt (IntOp.andi (BitVec.ofNat 32 ↑r) 7#32) lim = if (r : ℕ) % 8 < 8 - k then 1#1 else 0#1)
    (hp : Rep l p (fun _ => a)) (hx : Rep l x z) : Rep l (stage512 lim rot p x) (stage 8 k a z) := by
  refine add_rep hx (cmul_rep (y := fun _ => a) (rows_rep hp _) (fun r => ?_))
  have hr := r.isLt
  constructor
  · refine (shift512_apply _ _ _ r l).trans ?_
    rw [select_of (hmask r)]
    split
    · rw [(hx _).1]
      congr 4
      simp only [hrot]; omega
    · simp
  · refine (shift512_apply _ _ _ r l).trans ?_
    rw [select_of (hmask r)]
    split
    · rw [(hx _).2]
      congr 4
      simp only [hrot]; omega
    · simp

/-- A stage on the 64 first rows is `ScanMath.stage` in one segment of 64. -/
theorem stage64_rep {l : Fin 512} {p : Row} {x : Tile64} {a : ℂ} {z : ℕ → ℂ} (lim : BitVec 32) (k : ℕ) (hk : 0 < k) (hk' : k < 64)
    (hrot : lim.toNat = 64 - k)
    (hmask : ∀ r : Fin 64, IntOp.cmpi CmpIPredicate.slt (BitVec.ofNat 32 ↑r) lim = if (r : ℕ) % 64 < 64 - k then 1#1 else 0#1)
    (hp : Rep l p (fun _ => a)) (hx : Rep l x z) : Rep l (stage64 lim p x) (stage 64 k a z) := by
  refine add_rep hx (cmul_rep (y := fun _ => a) (rows_rep hp _) (fun r => ?_))
  have hr := r.isLt
  constructor
  · refine (shift64_apply _ _ _ r l).trans ?_
    rw [select_of (hmask r)]
    split
    · rw [(hx _).1]
      congr 4
      simp only [hrot]; omega
    · simp
  · refine (shift64_apply _ _ _ r l).trans ?_
    rw [select_of (hmask r)]
    split
    · rw [(hx _).2]
      congr 4
      simp only [hrot]; omega
    · simp

/-- A stage of one segment's powers is `ScanMath.powStage`. -/
theorem stage8_rep {l : Fin 512} {w : Tile8} {z : ℕ → ℂ} (lim : BitVec 32) (k : ℕ) (hk : 0 < k) (hk' : k < 8)
    (hrot : lim.toNat = 8 - k)
    (hmask : ∀ r : Fin 8, IntOp.cmpi CmpIPredicate.slt (BitVec.ofNat 32 ↑r) lim = if (r : ℕ) < 8 - k then 1#1 else 0#1)
    (hw : Rep l w z) : Rep l (stage8 lim w) (powStage 8 k z) := by
  refine cmul_rep hw (fun r => ?_)
  have hr := r.isLt
  constructor
  · refine (shift8_apply _ _ _ _ r l).trans ?_
    rw [select_of (hmask r), Ideal.ofBits_one_f32]
    split
    · rw [(hw _).1]
      congr 4
      simp only [hrot]; omega
    · simp
  · refine (shift8_apply _ _ _ _ r l).trans ?_
    rw [select_of (hmask r), Ideal.ofBits_zero_f32]
    split
    · rw [(hw _).2]
      congr 4
      simp only [hrot]; omega
    · simp

/-- A pair that represents one sequence represents any sequence with the same entries. -/
theorem Rep.congr {n : ℕ} {l : Fin 512} {v : FVec Ideal ⟨2, ![n, 512]⟩ .f32 × FVec Ideal ⟨2, ![n, 512]⟩ .f32} {y z : ℕ → ℂ}
    (h : Rep l v y) (e : ∀ r, r < n → y r = z r) : Rep l v z := fun r => by
  rw [← e r r.isLt]; exact h r

/-- The square of a represented power represents the power with twice the exponent. -/
theorem sq_rep {l : Fin 512} {p : Row} {a : ℂ} (k : ℕ) (hp : Rep l p (fun _ => a ^ k)) : Rep l (cmul p p) (fun _ => a ^ (2 * k)) :=
  (cmul_rep (n := 1) hp hp).congr fun _ _ => by ring

/-- The sums inside the segments of 8. -/
theorem segs_rep {l : Fin 512} {p : Row} {x : Tile} {a : ℂ} {z : ℕ → ℂ} (hp : Rep l p (fun _ => a)) (hx : Rep l x z) :
    Rep l (segs p x) (segSum 8 8 a z) := by
  have h1 : Rep l p (fun _ => a ^ 1) := by simpa using hp
  have h2 := sq_rep 1 h1
  have h4 := sq_rep 2 h2
  have s1 : Rep l (stage512 7#32 511#32 p x) (segSum 8 2 a z) :=
    (stage512_rep 7#32 511#32 1 (by omega) (by omega) rfl (by decide +kernel) h1 (hx.congr fun r _ => (segSum_one (by omega) a z r).symm)).congr
      fun r _ => stage_segSum (by omega) a z r
  have s2 : Rep l (stage512 6#32 510#32 (cmul p p) (stage512 7#32 511#32 p x)) (segSum 8 4 a z) :=
    (stage512_rep 6#32 510#32 2 (by omega) (by omega) rfl (by decide +kernel) h2 s1).congr fun r _ => stage_segSum (by omega) a z r
  exact (stage512_rep 4#32 508#32 4 (by omega) (by omega) rfl (by decide +kernel) h4 s2).congr fun r _ => stage_segSum (by omega) a z r

/-- The eighth power. -/
theorem pow8_rep {l : Fin 512} {p : Row} {a : ℂ} (hp : Rep l p (fun _ => a)) : Rep l (pow8 p) (fun _ => a ^ 8) :=
  sq_rep 4 (sq_rep 2 (sq_rep 1 (by simpa using hp)))

/-- The powers of one segment. -/
theorem powers_rep {l : Fin 512} {p : Row} {a : ℂ} (hp : Rep l p (fun _ => a)) : Rep l (powers p) (segPow 8 8 a) := by
  have s0 : Rep l (rows8 p.1, rows8 p.2) (segPow 8 1 a) := fun r => by
    have e : segPow 8 1 a r = a := by
      have := r.isLt
      rw [segPow, show min 1 (8 - (r : ℕ)) = 1 by omega, pow_one]
    have h1 : rows8 p.1 (ix2 r l) = p.1 (ix2 0 l) := by pointwise [rows8]
    have h2 : rows8 p.2 (ix2 r l) = p.2 (ix2 0 l) := by pointwise [rows8]
    rw [e]
    exact ⟨h1.trans (hp 0).1, h2.trans (hp 0).2⟩
  have s1 := (stage8_rep 7#32 1 (by omega) (by omega) rfl (by decide +kernel) s0).congr fun r hr => powStage_segPow a hr
  have s2 := (stage8_rep 6#32 2 (by omega) (by omega) rfl (by decide +kernel) s1).congr fun r hr => powStage_segPow a hr
  exact (stage8_rep 4#32 4 (by omega) (by omega) rfl (by decide +kernel) s2).congr fun r hr => powStage_segPow a hr

/-- The doubling over the 64 first rows. -/
theorem doubled_rep {l : Fin 512} {p : Row} {h : Tile64} {a : ℂ} {z : ℕ → ℂ} (hp : Rep l p (fun _ => a)) (hh : Rep l h z) :
    Rep l (doubled p h) (segSum 64 64 a z) := by
  have h1 : Rep l p (fun _ => a ^ 1) := by simpa using hp
  have h2 := sq_rep 1 h1
  have h4 := sq_rep 2 h2
  have h8 := sq_rep 4 h4
  have h16 := sq_rep 8 h8
  have h32 := sq_rep 16 h16
  have s1 := (stage64_rep 63#32 1 (by omega) (by omega) rfl (by decide +kernel) h1 (hh.congr fun r _ => (segSum_one (m := 64) (by omega) a z r).symm)).congr
      fun r _ => stage_segSum (by omega) a z r
  have s2 := (stage64_rep 62#32 2 (by omega) (by omega) rfl (by decide +kernel) h2 s1).congr fun r _ => stage_segSum (by omega) a z r
  have s4 := (stage64_rep 60#32 4 (by omega) (by omega) rfl (by decide +kernel) h4 s2).congr fun r _ => stage_segSum (by omega) a z r
  have s8 := (stage64_rep 56#32 8 (by omega) (by omega) rfl (by decide +kernel) h8 s4).congr fun r _ => stage_segSum (by omega) a z r
  have s16 := (stage64_rep 48#32 16 (by omega) (by omega) rfl (by decide +kernel) h16 s8).congr fun r _ => stage_segSum (by omega) a z r
  exact (stage64_rep 32#32 32 (by omega) (by omega) rfl (by decide +kernel) h32 s16).congr fun r _ => stage_segSum (by omega) a z r

/-- The first rows of the segments' sums, with the carry in the last. -/
theorem headRows_rep {l : Fin 512} {x : Tile} {j : Row} {a c : ℂ} {z : ℕ → ℂ} (hx : Rep l x (segSum 8 8 a z)) (hj : Rep l j (fun _ => a ^ 8 * c)) :
    Rep l (headRows x.1 j.1, headRows x.2 j.2) (heads 8 64 a z c) := fun γ => by
  have hm : ∀ r : Fin 64, IntOp.cmpi CmpIPredicate.eq (BitVec.ofNat 32 ↑r) 63#32 = if (r : ℕ) = 64 - 1 then 1#1 else 0#1 := by decide +kernel
  refine ⟨(headRows_apply _ _ γ l).trans ?_, (headRows_apply _ _ γ l).trans ?_⟩
  · rw [select_of (hm γ), (hx _).1, (hj 0).1, heads]
    split
    · rw [Complex.add_re]; norm_cast
    · simp
  · rw [select_of (hm γ), (hx _).2, (hj 0).2, heads]
    split
    · rw [Complex.add_im]; norm_cast
    · simp

/-- The recurrence at the segments' first rows. -/
theorem heads64_rep {l : Fin 512} {p c : Row} {x : Tile} {a b : ℂ} {z : ℕ → ℂ} (hp : Rep l p (fun _ => a)) (hx : Rep l x z) (hc : Rep l c (fun _ => b)) :
    Rep l (heads64 p x c) (fun γ => carried 512 a z b (8 * γ)) :=
  (doubled_rep (pow8_rep hp) (headRows_rep (segs_rep hp hx) (cmul_rep (n := 1) (pow8_rep hp) hc))).congr fun _ hγ => segSum_heads (by omega) a z b hγ

/-- The recurrence at every row of the block. -/
theorem lam_rep {l : Fin 512} {p c : Row} {x : Tile} {a b : ℂ} {z : ℕ → ℂ} (hp : Rep l p (fun _ => a)) (hx : Rep l x z) (hc : Rep l c (fun _ => b)) :
    Rep l (lam p x c) (carried 512 a z b) := by
  have hh := heads64_rep hp hx hc
  have hm : ∀ r : Fin 64, IntOp.cmpi CmpIPredicate.slt (BitVec.ofNat 32 ↑r) 63#32 = if (r : ℕ) < 64 - 1 then 1#1 else 0#1 := by decide +kernel
  have hw : Rep l (tiled (powers p).1, tiled (powers p).2) (fun r => segPow 8 8 a (r % 8)) := fun r =>
    ⟨(tiled_apply _ r l).trans (powers_rep hp _).1, (tiled_apply _ r l).trans (powers_rep hp _).2⟩
  have he : Rep l (spread (shiftIn (heads64 p x c).1 c.1), spread (shiftIn (heads64 p x c).2 c.2))
      (fun r => if r / 8 < 64 - 1 then carried (8 * 64) a z b (8 * (r / 8 + 1)) else b) := fun r => by
    have hr := r.isLt
    refine ⟨(spread_apply _ r l).trans ((shiftIn_apply _ _ _ l).trans ?_), (spread_apply _ r l).trans ((shiftIn_apply _ _ _ l).trans ?_)⟩
    · rw [select_of (hm _), (hh _).1, (hc 0).1]
      dsimp only
      split
      · rw [show (↑r / 8 + 64 - 63) % 64 = ↑r / 8 + 1 by omega]
      · rfl
    · rw [select_of (hm _), (hh _).2, (hc 0).2]
      dsimp only
      split
      · rw [show (↑r / 8 + 64 - 63) % 64 = ↑r / 8 + 1 by omega]
      · rfl
  exact (add_rep (segs_rep hp hx) (cmul_rep hw he)).congr fun r hr => carried_of_segment (by omega) a z b (by omega) _ rfl

/-- The carry that leaves the block is the recurrence at its first row. -/
theorem carry_rep {l : Fin 512} {p c : Row} {x : Tile} {a b : ℂ} {z : ℕ → ℂ} (hp : Rep l p (fun _ => a)) (hx : Rep l x z) (hc : Rep l c (fun _ => b)) :
    Rep l (carry p x c) (fun _ => carried 512 a z b 0) := fun r => by
  have hh := heads64_rep hp hx hc 0
  have e : ∀ v : FVec Ideal S64x512 .f32, shapeCast S1x512 (extractStridedSlice S1x512 ![0, 0] v slices_S64x512_o0_0_S1x512) shapeCasts_S1x512_S1x512 (ix2 r l) = v (ix2 0 l) := fun v => by
    pointwise
  exact ⟨(e _).trans hh.1, (e _).trans hh.2⟩

end Cert.KernelIdeal.Scan

end
-- ==== Proof.Grad.lean ====
module

public import Idealize.ShloMosaic.Lib.Pointwise
public import proofs.«01_k».proof.Proof.ScanMath

/-!
The adjoint of the scan as a recurrence over the complex numbers, on plain tables of real numbers, and the sums that
both programs' results come down to.
-/

@[expose] public section

noncomputable section

namespace ScanMath

open scoped BigOperators

/-- The real tables the recurrence reads: the incoming gradient, the read-out matrices and the decay of every head. -/
structure Tables where
  dy : Fin 4096 → Fin 1024 → ℝ
  cre : Fin 64 → Fin 16 → Fin 64 → ℝ
  cim : Fin 64 → Fin 16 → Fin 64 → ℝ
  are : Fin 64 → Fin 64 → ℝ
  aim : Fin 64 → Fin 64 → ℝ

/-- The column of channel `p` of head `h`. -/
def chan (h : Fin 64) (p : Fin 16) : Fin 1024 := ⟨h.val * 16 + p.val, by omega⟩

/-- The column of state `n` of head `h`. -/
def stat (h : Fin 64) (n : Fin 64) : Fin 4096 := ⟨h.val * 64 + n.val, by omega⟩

variable (D : Tables)

/-- What enters the adjoint state `n` of head `h` at time `t` through the read-out. -/
def Tables.g (h n : Fin 64) (t : ℕ) : ℂ :=
  if ht : t < 4096 then
    ⟨∑ p, D.dy ⟨t, ht⟩ (chan h p) * D.cre h p n, -∑ p, D.dy ⟨t, ht⟩ (chan h p) * D.cim h p n⟩
  else 0

/-- The conjugate of the state's decay. -/
def Tables.α (h n : Fin 64) : ℂ := ⟨D.are h n, -D.aim h n⟩

/-- The adjoint state `n` of head `h` at time `t`. -/
def Tables.lam (h n : Fin 64) (t : ℕ) : ℂ := whole 4096 (D.α h n) (D.g h n) t

/-- Its real part among the extended reals. -/
def Tables.lr (h n : Fin 64) (t : ℕ) : EReal := ((D.lam h n t).re : EReal)
/-- Its imaginary part among the extended reals. -/
def Tables.li (h n : Fin 64) (t : ℕ) : EReal := ((D.lam h n t).im : EReal)

/-- A finite sum of reals, taken among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The real part of what enters, summed among the extended reals. -/
theorem Tables.g_re (h n : Fin 64) (t : Fin 4096) :
    ((D.g h n t.val).re : EReal) = ∑ p, (D.dy t (chan h p) : EReal) * (D.cre h p n : EReal) := by
  rw [Tables.g, dif_pos t.isLt, coe_sum]
  exact Finset.sum_congr rfl fun p _ => EReal.coe_mul _ _

/-- The imaginary part of what enters, summed among the extended reals. -/
theorem Tables.g_im (h n : Fin 64) (t : Fin 4096) :
    ((D.g h n t.val).im : EReal) = -∑ p, (D.dy t (chan h p) : EReal) * (D.cim h p n : EReal) := by
  rw [Tables.g, dif_pos t.isLt, EReal.coe_neg, coe_sum]
  exact congrArg _ (Finset.sum_congr rfl fun p _ => EReal.coe_mul _ _)

/-- A negated factor comes out of a sum of real products. -/
theorem sum_neg_mul {ι : Type*} [Fintype ι] (f g : ι → ℝ) :
    ∑ i, -(f i : EReal) * (g i : EReal) = -∑ i, (f i : EReal) * (g i : EReal) := by
  have e1 : ∑ i, -(f i : EReal) * (g i : EReal) = ((∑ i, -(f i) * g i : ℝ) : EReal) := by
    rw [coe_sum]; exact Finset.sum_congr rfl fun i _ => by rw [EReal.coe_mul, EReal.coe_neg]
  have e2 : ∑ i, (f i : EReal) * (g i : EReal) = ((∑ i, f i * g i : ℝ) : EReal) := by
    rw [coe_sum]; exact Finset.sum_congr rfl fun i _ => by rw [EReal.coe_mul]
  rw [e1, e2, ← EReal.coe_neg]
  congr 1
  simp [neg_mul]

/-- A sum over 128 channels of eight heads of which only head `j`'s channels count. -/
theorem sum_head16 {M : Type*} [AddCommMonoid M] (j : Fin 8) (f : Fin 128 → M) (φ : Fin 16 → M)
    (h0 : ∀ x : Fin 128, x.val / 16 ≠ j.val → f x = 0)
    (h1 : ∀ p : Fin 16, f ⟨16 * j.val + p.val, by omega⟩ = φ p) : ∑ x, f x = ∑ p, φ p := by
  symm
  refine Finset.sum_of_injOn (fun p : Fin 16 => (⟨16 * j.val + p.val, by omega⟩ : Fin 128)) ?_ (fun _ _ => Finset.mem_coe.2 (Finset.mem_univ _)) ?_
    (fun p _ => (h1 p).symm)
  · intro a _ b _ e
    have := congrArg Fin.val e
    dsimp only at this
    exact Fin.ext (by omega)
  · intro x _ hx
    refine h0 x fun hj => hx ⟨⟨x.val % 16, by omega⟩, Finset.mem_coe.2 (Finset.mem_univ _), Fin.ext ?_⟩
    show 16 * j.val + x.val % 16 = x.val
    omega

/-- A sum over 512 states of eight heads of which only head `j`'s states count. -/
theorem sum_head64 {M : Type*} [AddCommMonoid M] (j : Fin 8) (f : Fin 512 → M) (φ : Fin 64 → M)
    (h0 : ∀ x : Fin 512, x.val / 64 ≠ j.val → f x = 0)
    (h1 : ∀ p : Fin 64, f ⟨64 * j.val + p.val, by omega⟩ = φ p) : ∑ x, f x = ∑ p, φ p := by
  symm
  refine Finset.sum_of_injOn (fun p : Fin 64 => (⟨64 * j.val + p.val, by omega⟩ : Fin 512)) ?_ (fun _ _ => Finset.mem_coe.2 (Finset.mem_univ _)) ?_
    (fun p _ => (h1 p).symm)
  · intro a _ b _ e
    have := congrArg Fin.val e
    dsimp only at this
    exact Fin.ext (by omega)
  · intro x _ hx
    refine h0 x fun hj => hx ⟨⟨x.val % 64, by omega⟩, Finset.mem_coe.2 (Finset.mem_univ _), Fin.ext ?_⟩
    show 64 * j.val + x.val % 64 = x.val
    omega

/-- The sum over eight blocks of 512 rows, the last block first, is the sum over all rows. -/
theorem sum_blocks {M : Type*} [AddCommMonoid M] (G : ℕ → M) :
    ∑ s ∈ Finset.range 8, ∑ r : Fin 512, G ((7 - s) * 512 + r.val) = ∑ t : Fin 4096, G t.val := by
  rw [← Finset.sum_range_reflect, Fin.sum_univ_eq_sum_range (fun i => G i) 4096]
  have e : ∀ s ∈ Finset.range 8, ∑ r : Fin 512, G ((7 - (8 - 1 - s)) * 512 + r.val) = ∑ r ∈ Finset.range 512, G (s * 512 + r) := fun s hs => by
    rw [Finset.mem_range] at hs
    rw [Fin.sum_univ_eq_sum_range (fun i => G ((7 - (8 - 1 - s)) * 512 + i)) 512, show 7 - (8 - 1 - s) = s by omega]
  rw [Finset.sum_congr rfl e]
  have key : ∀ n, ∑ s ∈ Finset.range n, ∑ r ∈ Finset.range 512, G (s * 512 + r) = ∑ i ∈ Finset.range (n * 512), G i := fun n => by
    induction n with
    | zero => simp
    | succ n ih => rw [Finset.sum_range_succ, ih, Nat.succ_mul, Finset.sum_range_add]
  exact key 8

/-- A sum over all times whose first term is zero, read from the second time on. -/
theorem sum_from_one {M : Type*} [AddCommMonoid M] (G : ℕ → M) (h0 : G 0 = 0) :
    ∑ t : Fin 4096, G t.val = ∑ t : Fin 4095, G (t.val + 1) := by
  rw [Fin.sum_univ_succ (n := 4095)]
  simp only [Fin.val_zero, h0, zero_add, Fin.val_succ]

end ScanMath

end
-- ==== Proof.PointRegs.lean ====
module

public import proofs.«01_k».proof.Proof.Regs
public import proofs.«01_k».proof.Proof.Run
public import proofs.«01_k».proof.Proof.ScanRep
public import proofs.«01_k».proof.Proof.Grad
public import Idealize.ShloMosaic.Lib.Pipeline.ValueKit
public import Idealize.ShloMosaic.Lib.Pipeline.ReadBack
public import Idealize.ShloMosaic.Lib.Pipeline.FrameBody

/-!
What every grid point leaves, as the block-wise scan of the point's input blocks.
-/

@[expose] public section

set_option maxRecDepth 65536
set_option maxHeartbeats 4000000

noncomputable section

namespace Cert.KernelIdeal.Scan

open Idealize.ShloMosaic Idealize.ShloMosaic.TcCoe Cert.KernelIdeal.Gen ScanMath

variable (m : (ℓ : Loc nD τ sig) → Buf (Elt Ideal) ℓ) (c : Dev nD) (t : Fin cfg0.N)

/-- The decays of the point's columns. -/
def aRow : Row := (k0_pay19 (iblk m c 11 t), k0_pay22 (iblk m c 12 t))

/-- What enters the adjoint states in the point's rows. -/
def xTile : Tile := (k0_pay20 (iblk m c 0 t) (iblk m c 9 t), k0_pay21 (iblk m c 0 t) (iblk m c 10 t))

/-- The carry at a block's first point. -/
def noCarry : Row := (k0_pay17, k0_pay18)

/-- A load of a whole buffer reads what was put into it. -/
theorem readAt_whole {S : Shape} {e : EltTy} {sp : Space} (r : Memref sig .tc sp S e) (h : r.IsWhole) (x : Vec Ideal S e)
    {off : Fin S.rank → ℕ} (inb : ∀ a, off a + S.size a ≤ S.size a) (hz : ∀ a, off a = 0) :
    View.readAt (Elt Ideal) r.view (Rect.unit off S.size inb).toLoadRect (h.unread x) = x := by
  rw [View.readAt_eq_ld, h.read_unread]
  exact View.ld_unit_lit _ _ hz

/-- A load of part of a buffer reads that part of what was put into it. -/
theorem readAt_part {S : Shape} {e : EltTy} {sp : Space} (r : Memref sig .tc sp S e) (h : r.IsWhole) (x : Vec Ideal S e)
    (R : Rect S) : View.readAt (Elt Ideal) r.view R.toLoadRect (h.unread x) = View.ld x R := by
  rw [View.readAt_eq_ld, h.read_unread]

/-- The state before the point's rows, real part, in its rows. -/
def prevRe : FVec Ideal S512x512 .f32 :=
  k0_pay297 (kernelRun0_A.sl.v0 (grid0.coords t)) kernelRun0_A.sl.v5 (iblk m c 3 t) (View.ld (iblk m c 5 t) (Rect.unit ![7, 0] S1x512.size inb_S8x512_S1x512_7_0))

/-- The state before the point's rows, imaginary part, in its rows. -/
def prevIm : FVec Ideal S512x512 .f32 :=
  k0_pay298 (kernelRun0_A.sl.v0 (grid0.coords t)) kernelRun0_A.sl.v5 (iblk m c 4 t) (View.ld (iblk m c 6 t) (Rect.unit ![7, 0] S1x512.size inb_S8x512_S1x512_7_0))

/-- The adjoint states of the point's rows from the carry that enters. -/
def lamTile (k : Row) : Tile := lam (aRow m c t) (xTile m c t) k

/-- Their real part in the narrow format. -/
def lamRe16 (k : Row) : FVec Ideal S512x512 .bf16 := truncf .bf16 (lamTile m c t k).1 bitsLt_bf16_f32

/-- Their imaginary part in the narrow format. -/
def lamIm16 (k : Row) : FVec Ideal S512x512 .bf16 := truncf .bf16 (lamTile m c t k).2 bitsLt_bf16_f32

/-- The gradient of the input in the point's rows. -/
def duTile (k : Row) : Vec Ideal S512x128 .bf16 :=
  k0_pay295 (lamRe16 m c t k) (lamIm16 m c t k) (k0_pay294 (iblk m c 7 t)) (constant S512x128 FTy.f32 0#32) (iblk m c 8 t) (iblk m c 1 t)

/-- The value `r` that the run computes at the first point of a block, in terms of the blocks it is given. -/
theorem A_r : kernelRun0_A.sl.r (F := Ideal) c (ms0_0 t) (hs0_0 t) (iblk m c 0 t) = (iblk m c 0 t) :=
  readAt_whole _ _ _ _ (by decide)

/-- The value `r1` that the run computes at the first point of a block, in terms of the blocks it is given. -/
theorem A_r1 : kernelRun0_A.sl.r_1 (F := Ideal) c (ms0_3 t) (hs0_3 t) (iblk m c 3 t) = (iblk m c 3 t) :=
  readAt_whole _ _ _ _ (by decide)

/-- The value `r2` that the run computes at the first point of a block, in terms of the blocks it is given. -/
theorem A_r2 : kernelRun0_A.sl.r_2 (F := Ideal) c (ms0_4 t) (hs0_4 t) (iblk m c 4 t) = (iblk m c 4 t) :=
  readAt_whole _ _ _ _ (by decide)

/-- The value `r3` that the run computes at the first point of a block, in terms of the blocks it is given. -/
theorem A_r3 : kernelRun0_A.sl.r_3 (F := Ideal) c (ms0_11 t) (hs0_11 t) (iblk m c 11 t) = k0_pay19 (iblk m c 11 t) :=
  congrArg k0_pay19 (readAt_whole _ _ _ _ (by decide))

/-- The value `r6` that the run computes at the first point of a block, in terms of the blocks it is given. -/
theorem A_r6 : kernelRun0_A.sl.r_6 (F := Ideal) c (ms0_12 t) (hs0_12 t) (iblk m c 12 t) = k0_pay22 (iblk m c 12 t) :=
  congrArg k0_pay22 (readAt_whole _ _ _ _ (by decide))

/-- The value `r4` that the run computes at the first point of a block, in terms of the blocks it is given. -/
theorem A_r4 : kernelRun0_A.sl.r_4 (F := Ideal) c (ms0_0 t) (hs0_0 t) (ms0_9 t) (hs0_9 t) (iblk m c 0 t) (iblk m c 9 t) = k0_pay20 (iblk m c 0 t) (iblk m c 9 t) :=
  congrArg₂ k0_pay20 (readAt_whole _ _ _ _ (by decide)) (readAt_whole _ _ _ _ (by decide))

/-- The value `r5` that the run computes at the first point of a block, in terms of the blocks it is given. -/
theorem A_r5 : kernelRun0_A.sl.r_5 (F := Ideal) c (ms0_0 t) (hs0_0 t) (ms0_10 t) (hs0_10 t) (iblk m c 0 t) (iblk m c 10 t) = k0_pay21 (iblk m c 0 t) (iblk m c 10 t) :=
  congrArg₂ k0_pay21 (readAt_whole _ _ _ _ (by decide)) (readAt_whole _ _ _ _ (by decide))

/-- The value `k0` that the run computes at the first point of a block, in terms of the blocks it is given. -/
theorem A_k0 : kernelRun0_A.sl.v22 (F := Ideal) c scM0_0 = (k0_pay17 (F := Ideal) : FVec Ideal S1x512 .f32) :=
  by
  unfold kernelRun0_A.sl.v22 kernelRun0_A.sl.HS0_1
  exact View.readCov_unit_lit (Val := Elt Ideal) (S := S1x512) (e := .f32) _ _ (k0_pay17 (F := Ideal)) (by decide)

/-- The value `k1` that the run computes at the first point of a block, in terms of the blocks it is given. -/
theorem A_k1 : kernelRun0_A.sl.v23 (F := Ideal) c scM0_1 = (k0_pay18 (F := Ideal) : FVec Ideal S1x512 .f32) :=
  by
  unfold kernelRun0_A.sl.v23 kernelRun0_A.sl.HS1_1
  exact View.readCov_unit_lit (Val := Elt Ideal) (S := S1x512) (e := .f32) _ _ (k0_pay18 (F := Ideal)) (by decide)

/-- The value `lr` that the run computes at the first point of a block, in terms of the blocks it is given. -/
theorem A_lr : kernelRun0_A.sl.r_236 (F := Ideal) c (ms0_0 t) (hs0_0 t) (ms0_9 t) (hs0_9 t) (ms0_10 t) (hs0_10 t) (ms0_11 t) (hs0_11 t) (ms0_12 t) (hs0_12 t) scM0_0 scM0_1 (iblk m c 0 t) (iblk m c 9 t) (iblk m c 10 t) (iblk m c 11 t) (iblk m c 12 t) = (lamTile m c t noCarry).1 :=
  by
  rw [A_lam_re, A_r3, A_r6, A_r4, A_r5, A_k0, A_k1]
  rfl

/-- The value `li` that the run computes at the first point of a block, in terms of the blocks it is given. -/
theorem A_li : kernelRun0_A.sl.r_237 (F := Ideal) c (ms0_0 t) (hs0_0 t) (ms0_9 t) (hs0_9 t) (ms0_10 t) (hs0_10 t) (ms0_11 t) (hs0_11 t) (ms0_12 t) (hs0_12 t) scM0_0 scM0_1 (iblk m c 0 t) (iblk m c 9 t) (iblk m c 10 t) (iblk m c 11 t) (iblk m c 12 t) = (lamTile m c t noCarry).2 :=
  by
  rw [A_lam_im, A_r3, A_r6, A_r4, A_r5, A_k0, A_k1]
  rfl

/-- The value `lr16` that the run computes at the first point of a block, in terms of the blocks it is given. -/
theorem A_lr16 : kernelRun0_A.sl.r_238 (F := Ideal) c (ms0_0 t) (hs0_0 t) (ms0_9 t) (hs0_9 t) (ms0_10 t) (hs0_10 t) (ms0_11 t) (hs0_11 t) (ms0_12 t) (hs0_12 t) scM0_0 scM0_1 (iblk m c 0 t) (iblk m c 9 t) (iblk m c 10 t) (iblk m c 11 t) (iblk m c 12 t) = lamRe16 m c t noCarry :=
  by
  rw [A_lam_re16, A_r3, A_r6, A_r4, A_r5, A_k0, A_k1]
  rfl

/-- The value `li16` that the run computes at the first point of a block, in terms of the blocks it is given. -/
theorem A_li16 : kernelRun0_A.sl.r_239 (F := Ideal) c (ms0_0 t) (hs0_0 t) (ms0_9 t) (hs0_9 t) (ms0_10 t) (hs0_10 t) (ms0_11 t) (hs0_11 t) (ms0_12 t) (hs0_12 t) scM0_0 scM0_1 (iblk m c 0 t) (iblk m c 9 t) (iblk m c 10 t) (iblk m c 11 t) (iblk m c 12 t) = lamIm16 m c t noCarry :=
  by
  rw [A_lam_im16, A_r3, A_r6, A_r4, A_r5, A_k0, A_k1]
  rfl

/-- The value `kr` that the run computes at the first point of a block, in terms of the blocks it is given. -/
theorem A_kr : k0_pay289 (kernelRun0_A.sl.r_108 (F := Ideal) c (ms0_0 t) (hs0_0 t) (ms0_9 t) (hs0_9 t) (ms0_10 t) (hs0_10 t) (ms0_11 t) (hs0_11 t) (ms0_12 t) (hs0_12 t) scM0_0 scM0_1 (iblk m c 0 t) (iblk m c 9 t) (iblk m c 10 t) (iblk m c 11 t) (iblk m c 12 t)) = (carry (aRow m c t) (xTile m c t) noCarry).1 :=
  by
  rw [A_carry_re, A_r3, A_r6, A_r4, A_r5, A_k0, A_k1]
  rfl

/-- The value `ki` that the run computes at the first point of a block, in terms of the blocks it is given. -/
theorem A_ki : k0_pay290 (kernelRun0_A.sl.r_109 (F := Ideal) c (ms0_0 t) (hs0_0 t) (ms0_9 t) (hs0_9 t) (ms0_10 t) (hs0_10 t) (ms0_11 t) (hs0_11 t) (ms0_12 t) (hs0_12 t) scM0_0 scM0_1 (iblk m c 0 t) (iblk m c 9 t) (iblk m c 10 t) (iblk m c 11 t) (iblk m c 12 t)) = (carry (aRow m c t) (xTile m c t) noCarry).2 :=
  by
  rw [A_carry_im, A_r3, A_r6, A_r4, A_r5, A_k0, A_k1]
  rfl

/-- The value `u` that the run computes at the first point of a block, in terms of the blocks it is given. -/
theorem A_u : kernelRun0_A.sl.r_240 (F := Ideal) c (ms0_2 t) (hs0_2 t) (iblk m c 2 t) = k0_pay293 (iblk m c 2 t) :=
  congrArg k0_pay293 (readAt_whole _ _ _ _ (by decide))

/-- The value `b` that the run computes at the first point of a block, in terms of the blocks it is given. -/
theorem A_b : kernelRun0_A.sl.r_241 (F := Ideal) c (ms0_7 t) (hs0_7 t) (iblk m c 7 t) = k0_pay294 (iblk m c 7 t) :=
  congrArg k0_pay294 (readAt_whole _ _ _ _ (by decide))

/-- The value `pr` that the run computes at the first point of a block, in terms of the blocks it is given. -/
theorem A_pr : kernelRun0_A.sl.r_242 (F := Ideal) c (grid0.coords t) (ms0_3 t) (hs0_3 t) (ms0_5 t) (hs0_5 t) (iblk m c 3 t) (iblk m c 5 t) = prevRe m c t :=
  congrArg₂ (k0_pay297 _ _) (A_r1 m c t) (readAt_part _ _ _ _)

/-- The value `pi` that the run computes at the first point of a block, in terms of the blocks it is given. -/
theorem A_pi : kernelRun0_A.sl.r_243 (F := Ideal) c (grid0.coords t) (ms0_4 t) (hs0_4 t) (ms0_6 t) (hs0_6 t) (iblk m c 4 t) (iblk m c 6 t) = prevIm m c t :=
  congrArg₂ (k0_pay298 _ _) (A_r2 m c t) (readAt_part _ _ _ _)

/-- The value `bre` that the run computes at the first point of a block, in terms of the blocks it is given. -/
theorem A_bre : kernelRun0_A.sl.r_244 (F := Ideal) c (ms0_0 t) (hs0_0 t) (ms0_2 t) (hs0_2 t) (ms0_9 t) (hs0_9 t) (ms0_10 t) (hs0_10 t) (ms0_11 t) (hs0_11 t) (ms0_12 t) (hs0_12 t) scM0_0 scM0_1 (iblk m c 0 t) (iblk m c 2 t) (iblk m c 9 t) (iblk m c 10 t) (iblk m c 11 t) (iblk m c 12 t) = k0_pay299 (lamRe16 m c t noCarry) (k0_pay293 (iblk m c 2 t)) :=
  congrArg₂ k0_pay299 (A_lr16 m c t) (A_u m c t)

/-- The value `bim` that the run computes at the first point of a block, in terms of the blocks it is given. -/
theorem A_bim : kernelRun0_A.sl.r_245 (F := Ideal) c (ms0_0 t) (hs0_0 t) (ms0_2 t) (hs0_2 t) (ms0_9 t) (hs0_9 t) (ms0_10 t) (hs0_10 t) (ms0_11 t) (hs0_11 t) (ms0_12 t) (hs0_12 t) scM0_0 scM0_1 (iblk m c 0 t) (iblk m c 2 t) (iblk m c 9 t) (iblk m c 10 t) (iblk m c 11 t) (iblk m c 12 t) = k0_pay300 (lamIm16 m c t noCarry) (k0_pay293 (iblk m c 2 t)) :=
  congrArg₂ k0_pay300 (A_li16 m c t) (A_u m c t)

/-- The value `cre` that the run computes at the first point of a block, in terms of the blocks it is given. -/
theorem A_cre : kernelRun0_A.sl.r_246 (F := Ideal) c (ms0_0 t) (hs0_0 t) (ms0_3 t) (hs0_3 t) (iblk m c 0 t) (iblk m c 3 t) = k0_pay301 (iblk m c 0 t) (iblk m c 3 t) :=
  congrArg₂ k0_pay301 (A_r m c t) (A_r1 m c t)

/-- The value `r` that the run computes at a later point of a block, in terms of the blocks it is given. -/
theorem B_r : kernelRun0_B.sl.r (F := Ideal) c (ms0_0 t) (hs0_0 t) (iblk m c 0 t) = (iblk m c 0 t) :=
  readAt_whole _ _ _ _ (by decide)

/-- The value `r1` that the run computes at a later point of a block, in terms of the blocks it is given. -/
theorem B_r1 : kernelRun0_B.sl.r_1 (F := Ideal) c (ms0_3 t) (hs0_3 t) (iblk m c 3 t) = (iblk m c 3 t) :=
  readAt_whole _ _ _ _ (by decide)

/-- The value `r2` that the run computes at a later point of a block, in terms of the blocks it is given. -/
theorem B_r2 : kernelRun0_B.sl.r_2 (F := Ideal) c (ms0_4 t) (hs0_4 t) (iblk m c 4 t) = (iblk m c 4 t) :=
  readAt_whole _ _ _ _ (by decide)

/-- The value `r3` that the run computes at a later point of a block, in terms of the blocks it is given. -/
theorem B_r3 : kernelRun0_B.sl.r_3 (F := Ideal) c (ms0_11 t) (hs0_11 t) (iblk m c 11 t) = k0_pay19 (iblk m c 11 t) :=
  congrArg k0_pay19 (readAt_whole _ _ _ _ (by decide))

/-- The value `r6` that the run computes at a later point of a block, in terms of the blocks it is given. -/
theorem B_r6 : kernelRun0_B.sl.r_6 (F := Ideal) c (ms0_12 t) (hs0_12 t) (iblk m c 12 t) = k0_pay22 (iblk m c 12 t) :=
  congrArg k0_pay22 (readAt_whole _ _ _ _ (by decide))

/-- The value `r4` that the run computes at a later point of a block, in terms of the blocks it is given. -/
theorem B_r4 : kernelRun0_B.sl.r_4 (F := Ideal) c (ms0_0 t) (hs0_0 t) (ms0_9 t) (hs0_9 t) (iblk m c 0 t) (iblk m c 9 t) = k0_pay20 (iblk m c 0 t) (iblk m c 9 t) :=
  congrArg₂ k0_pay20 (readAt_whole _ _ _ _ (by decide)) (readAt_whole _ _ _ _ (by decide))

/-- The value `r5` that the run computes at a later point of a block, in terms of the blocks it is given. -/
theorem B_r5 : kernelRun0_B.sl.r_5 (F := Ideal) c (ms0_0 t) (hs0_0 t) (ms0_10 t) (hs0_10 t) (iblk m c 0 t) (iblk m c 10 t) = k0_pay21 (iblk m c 0 t) (iblk m c 10 t) :=
  congrArg₂ k0_pay21 (readAt_whole _ _ _ _ (by decide)) (readAt_whole _ _ _ _ (by decide))

/-- The value `k0` that the run computes at a later point of a block, in terms of the blocks it is given. -/
theorem B_k0 (q : Left Ideal) : kernelRun0_B.sl.r_7 (F := Ideal) c scM0_0 (Memref.isWhole_whole _) q.kre = q.kre :=
  readAt_whole _ _ _ _ (by decide)

/-- The value `k1` that the run computes at a later point of a block, in terms of the blocks it is given. -/
theorem B_k1 (q : Left Ideal) : kernelRun0_B.sl.r_8 (F := Ideal) c scM0_1 (Memref.isWhole_whole _) q.kim = q.kim :=
  readAt_whole _ _ _ _ (by decide)

/-- The value `lr` that the run computes at a later point of a block, in terms of the blocks it is given. -/
theorem B_lr (q : Left Ideal) : kernelRun0_B.sl.r_238 (F := Ideal) c (ms0_0 t) (hs0_0 t) (ms0_9 t) (hs0_9 t) (ms0_10 t) (hs0_10 t) (ms0_11 t) (hs0_11 t) (ms0_12 t) (hs0_12 t) scM0_0 (Memref.isWhole_whole _) scM0_1 (Memref.isWhole_whole _) (iblk m c 0 t) (iblk m c 9 t) (iblk m c 10 t) (iblk m c 11 t) (iblk m c 12 t) q.kre q.kim = (lamTile m c t (q.kre, q.kim)).1 :=
  by
  rw [B_lam_re, B_r3, B_r6, B_r4, B_r5, B_k0, B_k1]
  rfl

/-- The value `li` that the run computes at a later point of a block, in terms of the blocks it is given. -/
theorem B_li (q : Left Ideal) : kernelRun0_B.sl.r_239 (F := Ideal) c (ms0_0 t) (hs0_0 t) (ms0_9 t) (hs0_9 t) (ms0_10 t) (hs0_10 t) (ms0_11 t) (hs0_11 t) (ms0_12 t) (hs0_12 t) scM0_0 (Memref.isWhole_whole _) scM0_1 (Memref.isWhole_whole _) (iblk m c 0 t) (iblk m c 9 t) (iblk m c 10 t) (iblk m c 11 t) (iblk m c 12 t) q.kre q.kim = (lamTile m c t (q.kre, q.kim)).2 :=
  by
  rw [B_lam_im, B_r3, B_r6, B_r4, B_r5, B_k0, B_k1]
  rfl

/-- The value `lr16` that the run computes at a later point of a block, in terms of the blocks it is given. -/
theorem B_lr16 (q : Left Ideal) : kernelRun0_B.sl.r_240 (F := Ideal) c (ms0_0 t) (hs0_0 t) (ms0_9 t) (hs0_9 t) (ms0_10 t) (hs0_10 t) (ms0_11 t) (hs0_11 t) (ms0_12 t) (hs0_12 t) scM0_0 (Memref.isWhole_whole _) scM0_1 (Memref.isWhole_whole _) (iblk m c 0 t) (iblk m c 9 t) (iblk m c 10 t) (iblk m c 11 t) (iblk m c 12 t) q.kre q.kim = lamRe16 m c t (q.kre, q.kim) :=
  by
  rw [B_lam_re16, B_r3, B_r6, B_r4, B_r5, B_k0, B_k1]
  rfl

/-- The value `li16` that the run computes at a later point of a block, in terms of the blocks it is given. -/
theorem B_li16 (q : Left Ideal) : kernelRun0_B.sl.r_241 (F := Ideal) c (ms0_0 t) (hs0_0 t) (ms0_9 t) (hs0_9 t) (ms0_10 t) (hs0_10 t) (ms0_11 t) (hs0_11 t) (ms0_12 t) (hs0_12 t) scM0_0 (Memref.isWhole_whole _) scM0_1 (Memref.isWhole_whole _) (iblk m c 0 t) (iblk m c 9 t) (iblk m c 10 t) (iblk m c 11 t) (iblk m c 12 t) q.kre q.kim = lamIm16 m c t (q.kre, q.kim) :=
  by
  rw [B_lam_im16, B_r3, B_r6, B_r4, B_r5, B_k0, B_k1]
  rfl

/-- The value `kr` that the run computes at a later point of a block, in terms of the blocks it is given. -/
theorem B_kr (q : Left Ideal) : k0_pay289 (kernelRun0_B.sl.r_110 (F := Ideal) c (ms0_0 t) (hs0_0 t) (ms0_9 t) (hs0_9 t) (ms0_10 t) (hs0_10 t) (ms0_11 t) (hs0_11 t) (ms0_12 t) (hs0_12 t) scM0_0 (Memref.isWhole_whole _) scM0_1 (Memref.isWhole_whole _) (iblk m c 0 t) (iblk m c 9 t) (iblk m c 10 t) (iblk m c 11 t) (iblk m c 12 t) q.kre q.kim) = (carry (aRow m c t) (xTile m c t) (q.kre, q.kim)).1 :=
  by
  rw [B_carry_re, B_r3, B_r6, B_r4, B_r5, B_k0, B_k1]
  rfl

/-- The value `ki` that the run computes at a later point of a block, in terms of the blocks it is given. -/
theorem B_ki (q : Left Ideal) : k0_pay290 (kernelRun0_B.sl.r_111 (F := Ideal) c (ms0_0 t) (hs0_0 t) (ms0_9 t) (hs0_9 t) (ms0_10 t) (hs0_10 t) (ms0_11 t) (hs0_11 t) (ms0_12 t) (hs0_12 t) scM0_0 (Memref.isWhole_whole _) scM0_1 (Memref.isWhole_whole _) (iblk m c 0 t) (iblk m c 9 t) (iblk m c 10 t) (iblk m c 11 t) (iblk m c 12 t) q.kre q.kim) = (carry (aRow m c t) (xTile m c t) (q.kre, q.kim)).2 :=
  by
  rw [B_carry_im, B_r3, B_r6, B_r4, B_r5, B_k0, B_k1]
  rfl

/-- The value `u` that the run computes at a later point of a block, in terms of the blocks it is given. -/
theorem B_u : kernelRun0_B.sl.r_242 (F := Ideal) c (ms0_2 t) (hs0_2 t) (iblk m c 2 t) = k0_pay293 (iblk m c 2 t) :=
  congrArg k0_pay293 (readAt_whole _ _ _ _ (by decide))

/-- The value `b` that the run computes at a later point of a block, in terms of the blocks it is given. -/
theorem B_b : kernelRun0_B.sl.r_243 (F := Ideal) c (ms0_7 t) (hs0_7 t) (iblk m c 7 t) = k0_pay294 (iblk m c 7 t) :=
  congrArg k0_pay294 (readAt_whole _ _ _ _ (by decide))

/-- The value `pr` that the run computes at a later point of a block, in terms of the blocks it is given. -/
theorem B_pr : kernelRun0_B.sl.r_244 (F := Ideal) c (grid0.coords t) (ms0_3 t) (hs0_3 t) (ms0_5 t) (hs0_5 t) (iblk m c 3 t) (iblk m c 5 t) = prevRe m c t :=
  congrArg₂ (k0_pay297 _ _) (B_r1 m c t) (readAt_part _ _ _ _)

/-- The value `pi` that the run computes at a later point of a block, in terms of the blocks it is given. -/
theorem B_pi : kernelRun0_B.sl.r_245 (F := Ideal) c (grid0.coords t) (ms0_4 t) (hs0_4 t) (ms0_6 t) (hs0_6 t) (iblk m c 4 t) (iblk m c 6 t) = prevIm m c t :=
  congrArg₂ (k0_pay298 _ _) (B_r2 m c t) (readAt_part _ _ _ _)

/-- The value `bre` that the run computes at a later point of a block, in terms of the blocks it is given. -/
theorem B_bre (q : Left Ideal) : kernelRun0_B.sl.r_246 (F := Ideal) c (ms0_0 t) (hs0_0 t) (ms0_2 t) (hs0_2 t) (ms0_9 t) (hs0_9 t) (ms0_10 t) (hs0_10 t) (ms0_11 t) (hs0_11 t) (ms0_12 t) (hs0_12 t) scM0_0 (Memref.isWhole_whole _) scM0_1 (Memref.isWhole_whole _) (iblk m c 0 t) (iblk m c 2 t) (iblk m c 9 t) (iblk m c 10 t) (iblk m c 11 t) (iblk m c 12 t) q.kre q.kim = k0_pay299 (lamRe16 m c t (q.kre, q.kim)) (k0_pay293 (iblk m c 2 t)) :=
  congrArg₂ k0_pay299 (B_lr16 m c t q) (B_u m c t)

/-- The value `bim` that the run computes at a later point of a block, in terms of the blocks it is given. -/
theorem B_bim (q : Left Ideal) : kernelRun0_B.sl.r_247 (F := Ideal) c (ms0_0 t) (hs0_0 t) (ms0_2 t) (hs0_2 t) (ms0_9 t) (hs0_9 t) (ms0_10 t) (hs0_10 t) (ms0_11 t) (hs0_11 t) (ms0_12 t) (hs0_12 t) scM0_0 (Memref.isWhole_whole _) scM0_1 (Memref.isWhole_whole _) (iblk m c 0 t) (iblk m c 2 t) (iblk m c 9 t) (iblk m c 10 t) (iblk m c 11 t) (iblk m c 12 t) q.kre q.kim = k0_pay300 (lamIm16 m c t (q.kre, q.kim)) (k0_pay293 (iblk m c 2 t)) :=
  congrArg₂ k0_pay300 (B_li16 m c t q) (B_u m c t)

/-- The value `cre` that the run computes at a later point of a block, in terms of the blocks it is given. -/
theorem B_cre : kernelRun0_B.sl.r_248 (F := Ideal) c (ms0_0 t) (hs0_0 t) (ms0_3 t) (hs0_3 t) (iblk m c 0 t) (iblk m c 3 t) = k0_pay301 (iblk m c 0 t) (iblk m c 3 t) :=
  congrArg₂ k0_pay301 (B_r m c t) (B_r1 m c t)

end Cert.KernelIdeal.Scan

end
-- ==== Proof.PayIdx.lean ====
module

public import proofs.«01_k».proof.Proof.PointRegs
public import proofs.«01_k».proof.Proof.ScanRep
public import Idealize.ShloMosaic.Lib.Pointwise

/-!
What a grid point computes, entry by entry.
-/

@[expose] public section

set_option maxRecDepth 65536
set_option maxHeartbeats 400000

noncomputable section

namespace Cert.KernelIdeal.Scan

open Idealize.ShloMosaic Idealize.ShloMosaic.TcCoe Cert.KernelIdeal.Gen ScanMath

/-- The decay's real part as a row. -/
theorem pay19_apply (x : Vec Ideal S1x1x512 .f32) (l : Fin 512) : k0_pay19 x (ix2 0 l) = x (ix3 0 0 l) := by
  pointwise [k0_pay19]

/-- The decay's imaginary part as a row, negated. -/
theorem pay22_apply (x : Vec Ideal S1x1x512 .f32) (l : Fin 512) : k0_pay22 x (ix2 0 l) = -x (ix3 0 0 l) := by
  pointwise [k0_pay22]
  try exact zero_sub _

/-- What enters the states through the read-out, real part. -/
theorem pay20_apply (x : Vec Ideal S512x128 .bf16) (y : Vec Ideal S1x512x128 .bf16) (r l : Fin 512) :
    k0_pay20 x y (ix2 r l) = ∑ q : Fin 128, x (ix2 r q) * y (ix3 0 l q) := by
  pointwise [k0_pay20]

/-- What enters the states through the read-out, imaginary part. -/
theorem pay21_apply (x : Vec Ideal S512x128 .bf16) (y : Vec Ideal S1x512x128 .bf16) (r l : Fin 512) :
    k0_pay21 x y (ix2 r l) = -∑ q : Fin 128, x (ix2 r q) * y (ix3 0 l q) := by
  pointwise [k0_pay21]
  try exact zero_sub _

/-- The empty carry's real part. -/
theorem pay17_apply (l : Fin 512) : (k0_pay17 (F := Ideal)) (ix2 0 l) = 0 := by
  pointwise [k0_pay17]

/-- The empty carry's imaginary part. -/
theorem pay18_apply (l : Fin 512) : (k0_pay18 (F := Ideal)) (ix2 0 l) = 0 := by
  pointwise [k0_pay18]

/-- The gradient of the input. -/
theorem pay295_apply (a b : FVec Ideal S512x512 .bf16) (x y : Vec Ideal S1x128x512 .bf16) (w : Vec Ideal S512x128 .bf16) (r : Fin 512) (q : Fin 128) :
    k0_pay295 a b (k0_pay294 x) (constant S512x128 FTy.f32 0#32) y w (ix2 r q)
      = (∑ l : Fin 512, a (ix2 r l) * x (ix3 0 q l)) + (∑ l : Fin 512, b (ix2 r l) * y (ix3 0 q l)) + w (ix2 r q) := by
  pointwise [k0_pay295, k0_pay294]

/-- A block's first contribution to the gradient of the input matrix, real part. -/
theorem pay4_apply (a : FVec Ideal S512x512 .bf16) (u : Vec Ideal S512x128 .f32) (q : Fin 128) (l : Fin 512) :
    k0_pay4 (k0_pay299 a (k0_pay293 u)) (ix3 0 q l) = ∑ r : Fin 512, u (ix2 r q) * a (ix2 r l) := by
  pointwise [k0_pay4, k0_pay299, k0_pay293]

/-- The same for the imaginary part. -/
theorem pay5_apply (a : FVec Ideal S512x512 .bf16) (u : Vec Ideal S512x128 .f32) (q : Fin 128) (l : Fin 512) :
    k0_pay5 (k0_pay300 a (k0_pay293 u)) (ix3 0 q l) = ∑ r : Fin 512, u (ix2 r q) * a (ix2 r l) := by
  pointwise [k0_pay5, k0_pay300, k0_pay293]

/-- A further contribution is added to what was there. -/
theorem pay12_apply (a : FVec Ideal S512x512 .bf16) (u : Vec Ideal S512x128 .f32) (o : Vec Ideal S1x128x512 .f32) (q : Fin 128) (l : Fin 512) :
    k0_pay12 (k0_pay299 a (k0_pay293 u)) o (ix3 0 q l) = o (ix3 0 q l) + ∑ r : Fin 512, u (ix2 r q) * a (ix2 r l) := by
  pointwise [k0_pay12, k0_pay299, k0_pay293]

/-- The same for the imaginary part. -/
theorem pay13_apply (a : FVec Ideal S512x512 .bf16) (u : Vec Ideal S512x128 .f32) (o : Vec Ideal S1x128x512 .f32) (q : Fin 128) (l : Fin 512) :
    k0_pay13 (k0_pay300 a (k0_pay293 u)) o (ix3 0 q l) = o (ix3 0 q l) + ∑ r : Fin 512, u (ix2 r q) * a (ix2 r l) := by
  pointwise [k0_pay13, k0_pay300, k0_pay293]

/-- A block's first contribution to the gradient of the read-out matrix, real part. -/
theorem pay6_apply (d : Vec Ideal S512x128 .bf16) (x : Vec Ideal S512x512 .f32) (l : Fin 512) (q : Fin 128) :
    k0_pay6 (k0_pay301 d x) (ix3 0 l q) = ∑ r : Fin 512, x (ix2 r l) * d (ix2 r q) := by
  pointwise [k0_pay6, k0_pay301]

/-- A further contribution is added to what was there. -/
theorem pay14_apply (d : Vec Ideal S512x128 .bf16) (x : Vec Ideal S512x512 .f32) (o : Vec Ideal S1x512x128 .f32) (l : Fin 512) (q : Fin 128) :
    k0_pay14 (k0_pay301 d x) o (ix3 0 l q) = o (ix3 0 l q) + ∑ r : Fin 512, x (ix2 r l) * d (ix2 r q) := by
  pointwise [k0_pay14, k0_pay301]

/-- A block's first contribution to the gradient of the read-out matrix, imaginary part. -/
theorem pay7_apply (d : Vec Ideal S512x128 .bf16) (x : Vec Ideal S512x512 .f32) (l : Fin 512) (q : Fin 128) :
    k0_pay7 d x (ix3 0 l q) = -∑ r : Fin 512, x (ix2 r l) * d (ix2 r q) := by
  pointwise [k0_pay7, k0_pay1]
  try exact zero_sub _

/-- A further contribution is added to what was there. -/
theorem pay15_apply (d : Vec Ideal S512x128 .bf16) (x : Vec Ideal S512x512 .f32) (o : Vec Ideal S1x512x128 .f32) (l : Fin 512) (q : Fin 128) :
    k0_pay15 (k0_pay1 d x) o (ix3 0 l q) = o (ix3 0 l q) + -∑ r : Fin 512, x (ix2 r l) * d (ix2 r q) := by
  pointwise [k0_pay15, k0_pay1]
  try exact congrArg _ (zero_sub _)

/-- A block's first contribution to the gradient of the decay, real part. -/
theorem pay8_apply (a b x y : FVec Ideal S512x512 .f32) (l : Fin 512) :
    k0_pay8 a b x y (ix3 0 0 l) = ∑ r : Fin 512, (a (ix2 r l) * x (ix2 r l) + b (ix2 r l) * y (ix2 r l)) := by
  pointwise [k0_pay8, k0_pay2]

/-- A further contribution is added to what was there. -/
theorem pay10_apply (a b x y : FVec Ideal S512x512 .f32) (o : Vec Ideal S1x1x512 .f32) (l : Fin 512) :
    k0_pay10 (k0_pay16 (k0_pay2 a b x y) o) (ix3 0 0 l)
      = o (ix3 0 0 l) + ∑ r : Fin 512, (a (ix2 r l) * x (ix2 r l) + b (ix2 r l) * y (ix2 r l)) := by
  pointwise [k0_pay10, k0_pay16, k0_pay2]

/-- A block's first contribution to the gradient of the decay, imaginary part. -/
theorem pay9_apply (a b x y : FVec Ideal S512x512 .f32) (l : Fin 512) :
    k0_pay9 a b x y (ix3 0 0 l) = ∑ r : Fin 512, (b (ix2 r l) * x (ix2 r l) - a (ix2 r l) * y (ix2 r l)) := by
  pointwise [k0_pay9, k0_pay3]

/-- A further contribution is added to what was there. -/
theorem pay11_apply (a b x y : FVec Ideal S512x512 .f32) (o : Vec Ideal S1x1x512 .f32) (l : Fin 512) :
    k0_pay11 a b x y o (ix3 0 0 l)
      = o (ix3 0 0 l) + ∑ r : Fin 512, (b (ix2 r l) * x (ix2 r l) - a (ix2 r l) * y (ix2 r l)) := by
  pointwise [k0_pay11, k0_pay3]

/-- The state one row earlier, real part: the row carried in comes first. -/
theorem pay297_apply (v : BitVec 32) (x : Vec Ideal S512x512 .f32) (p : Vec Ideal S1x512 .f32) (r l : Fin 512) :
    k0_pay297 v kernelRun0_A.sl.v5 x p (ix2 r l)
      = if r.val = 0 then p (ix2 0 l) * (k0_pay296 (F := Ideal) v : Ideal .f32) else x (ix2 ⟨r.val - 1, by omega⟩ l) := by
  pointwise [k0_pay297, kernelRun0_A.sl.v5]
  have hz : ∀ r : Fin 512, IntOp.cmpi CmpIPredicate.eq (BitVec.ofNat 32 r.val) 0#32 = if r.val = 0 then 1#1 else 0#1 := by decide +kernel
  rw [select_of (hz r)]
  by_cases h : r.val = 0
  · rw [if_pos h, if_pos h]
  · rw [if_neg h, if_neg h]
    exact congrArg (fun i => x (ix2 i l)) (Fin.ext (by show (r.val + 512 - 1) % 512 = r.val - 1; omega))

/-- The same for the imaginary part. -/
theorem pay298_apply (v : BitVec 32) (x : Vec Ideal S512x512 .f32) (p : Vec Ideal S1x512 .f32) (r l : Fin 512) :
    k0_pay298 v kernelRun0_A.sl.v5 x p (ix2 r l)
      = if r.val = 0 then p (ix2 0 l) * (k0_pay296 (F := Ideal) v : Ideal .f32) else x (ix2 ⟨r.val - 1, by omega⟩ l) := by
  pointwise [k0_pay298, kernelRun0_A.sl.v5]
  have hz : ∀ r : Fin 512, IntOp.cmpi CmpIPredicate.eq (BitVec.ofNat 32 r.val) 0#32 = if r.val = 0 then 1#1 else 0#1 := by decide +kernel
  rw [select_of (hz r)]
  by_cases h : r.val = 0
  · rw [if_pos h, if_pos h]
  · rw [if_neg h, if_neg h]
    exact congrArg (fun i => x (ix2 i l)) (Fin.ext (by show (r.val + 512 - 1) % 512 = r.val - 1; omega))

/-- The factor of the row carried in: zero at the first rows in time, one elsewhere. -/
theorem pay296_val (t : Fin cfg0.N) :
    (k0_pay296 (F := Ideal) (kernelRun0_A.sl.v0 (grid0.coords t)) : Ideal .f32) = if t.val % 8 = 7 then (0 : EReal) else (1 : EReal) := by
  have hz : ∀ t : Fin grid0.N, (Scalar.extui (Scalar.cmpi .sgt (kernelRun0_A.sl.v0 (grid0.coords t)) 0#32) : BitVec 32) = if t.val % 8 = 7 then 0#32 else 1#32 := by decide +kernel
  unfold k0_pay296
  dsimp only
  rw [hz t]
  split
  · show ((((0#32 : BitVec 32).toInt : ℤ) : ℝ) : EReal) = 0
    simp
  · show ((((1#32 : BitVec 32).toInt : ℤ) : ℝ) : EReal) = 1
    simp

end Cert.KernelIdeal.Scan

end
-- ==== Proof.Entry.lean ====
module

public import proofs.«01_k».proof.Proof.PointRegs
public import Idealize.ShloMosaic.Lib.Pointwise
public import Idealize.ShloMosaic.Lib.Claim
public import Idealize.ShloMosaic.Lib.StableHlo.RunRead

/-!
The blocks every grid point reads, as entries of the program's arguments.
-/

@[expose] public section

set_option maxRecDepth 65536
set_option maxHeartbeats 400000

noncomputable section

namespace Cert.KernelIdeal.Scan

open Idealize.ShloMosaic Idealize.ShloMosaic.TcCoe Cert.KernelIdeal.Gen ScanMath

variable (m : (ℓ : Loc nD τ sig) → Buf (Elt Ideal) ℓ) (c : Dev nD) (t : Fin cfg0.N)

/-- A choice on whether two head numbers are the same. -/
theorem select_heads {α : Type} {a b : ℕ} (ha : a < 8) (hb : b < 8) (x y : α) :
    Scalar.select (IntOp.cmpi CmpIPredicate.eq (IntOp.addi (BitVec.ofNat 32 a) 0#32) (BitVec.ofNat 32 b)) x y
      = if a = b then x else y := by
  have key : ∀ a b : Fin 8, IntOp.cmpi CmpIPredicate.eq (IntOp.addi (BitVec.ofNat 32 a.val) 0#32) (BitVec.ofNat 32 b.val)
      = if a.val = b.val then 1#1 else 0#1 := by decide
  rw [show a = (⟨a, ha⟩ : Fin 8).val from rfl, show b = (⟨b, hb⟩ : Fin 8).val from rfl, key]
  by_cases h : a = b
  · rw [if_pos h, if_pos h]; rfl
  · rw [if_neg h, if_neg h]; rfl

/-- The input matrices of eight heads at a time, laid out block by block along a diagonal. -/
def denseB (x : FVec Ideal S64x64x16 .f32) : FVec Ideal S8x128x512 .bf16 :=
  truncf FTy.bf16
    (shapeCast S8x128x512
      (select
        (broadcastInDim S8x8x16x8x64 ![0, 1, 2, 3, 4] bcast_S1x8x1x8x1_S8x8x16x8x64_0_1_2_3_4
          (broadcastInDim S1x8x1x8x1 ![1, 3] bcast_S8x8_S1x8x1x8x1_1_3
            (cmpi CmpIPredicate.eq
              (addi (iotaInDim S8x8 32 0) (broadcastInDim S8x8 ![] bcast_S_S8x8 (constantI S_ 32 0#32)))
              (iotaInDim S8x8 32 1))))
        (broadcastInDim S8x8x16x8x64 ![0, 1, 2, 3, 4] bcast_S8x8x16x1x64_S8x8x16x8x64_0_1_2_3_4
          (broadcastInDim S8x8x16x1x64 ![0, 1, 2, 4] bcast_S8x8x16x64_S8x8x16x1x64_0_1_2_4
            (shapeCast S8x8x16x64
              (transpose S64x16x64 [0, 2, 1] x transposes_S64x64x16_S64x16x64_0_2_1)
              shapeCasts_S64x16x64_S8x8x16x64)))
        (broadcastInDim S8x8x16x8x64 ![] bcast_S_S8x8x16x8x64 (constant S_ FTy.f32 0#32)))
      shapeCasts_S8x8x16x8x64_S8x128x512)
    bitsLt_bf16_f32

/-- An entry of that array: the head's own value where row and column belong to one head, zero elsewhere. -/
theorem denseB_apply (x : FVec Ideal S64x64x16 .f32) (k : Fin 8) (q : Fin 128) (l : Fin 512) :
    denseB x (ix3 k q l) = if q.val / 16 = l.val / 64 then x (ix3 ⟨k.val * 8 + q.val / 16, by omega⟩ ⟨l.val % 64, by omega⟩ ⟨q.val % 16, by omega⟩) else 0 := by
  pointwise [denseB]
  exact select_heads (by omega) (by omega) _ _

/-- The read-out matrices of eight heads at a time, laid out block by block along a diagonal. -/
def denseC (x : FVec Ideal S64x16x64 .f32) : FVec Ideal S8x512x128 .bf16 :=
  truncf FTy.bf16
    (shapeCast S8x512x128
      (select
        (broadcastInDim S8x8x64x8x16 ![0, 1, 2, 3, 4] bcast_S1x8x1x8x1_S8x8x64x8x16_0_1_2_3_4
          (broadcastInDim S1x8x1x8x1 ![1, 3] bcast_S8x8_S1x8x1x8x1_1_3
            (cmpi CmpIPredicate.eq
              (addi (iotaInDim S8x8 32 0) (broadcastInDim S8x8 ![] bcast_S_S8x8 (constantI S_ 32 0#32)))
              (iotaInDim S8x8 32 1))))
        (broadcastInDim S8x8x64x8x16 ![0, 1, 2, 3, 4] bcast_S8x8x64x1x16_S8x8x64x8x16_0_1_2_3_4
          (broadcastInDim S8x8x64x1x16 ![0, 1, 2, 4] bcast_S8x8x64x16_S8x8x64x1x16_0_1_2_4
            (shapeCast S8x8x64x16
              (transpose S64x64x16 [0, 2, 1] x transposes_S64x16x64_S64x64x16_0_2_1)
              shapeCasts_S64x64x16_S8x8x64x16)))
        (broadcastInDim S8x8x64x8x16 ![] bcast_S_S8x8x64x8x16 (constant S_ FTy.f32 0#32)))
      shapeCasts_S8x8x64x8x16_S8x512x128)
    bitsLt_bf16_f32

/-- An entry of that array: the head's own value where row and column belong to one head, zero elsewhere. -/
theorem denseC_apply (x : FVec Ideal S64x16x64 .f32) (k : Fin 8) (q : Fin 512) (l : Fin 128) :
    denseC x (ix3 k q l) = if q.val / 64 = l.val / 16 then x (ix3 ⟨k.val * 8 + q.val / 64, by omega⟩ ⟨l.val % 16, by omega⟩ ⟨q.val % 64, by omega⟩) else 0 := by
  pointwise [denseC]
  exact select_heads (by omega) (by omega) _ _

/-- What the host code leaves in buffer `main_v46`. -/
theorem V_v46 : V m c main_v46 = denseB (m ((c : Thread nD τ).loc main_arg5)) := by
  show StableHlo.after (List.flatten [hostOps0, hostOps0_1, hostOps0_2, hostOps0_3, hostOps0_4, hostOps0_5, hostOps0_6, hostOps0_7, hostOps0_8]) (fun b => m (c, b)) (Proc.devRef .tc main_v46) = _
  simp only [hostOps0, hostOps0_1, hostOps0_2, hostOps0_3, hostOps0_4, hostOps0_5, hostOps0_6, hostOps0_7, hostOps0_8, List.flatten_cons, List.flatten_nil, List.append_nil, List.cons_append, List.nil_append]
  after_reads_simp
  rfl

/-- What the host code leaves in buffer `main_v47`. -/
theorem V_v47 : V m c main_v47 = denseB (m ((c : Thread nD τ).loc main_arg6)) := by
  show StableHlo.after (List.flatten [hostOps0, hostOps0_1, hostOps0_2, hostOps0_3, hostOps0_4, hostOps0_5, hostOps0_6, hostOps0_7, hostOps0_8]) (fun b => m (c, b)) (Proc.devRef .tc main_v47) = _
  simp only [hostOps0, hostOps0_1, hostOps0_2, hostOps0_3, hostOps0_4, hostOps0_5, hostOps0_6, hostOps0_7, hostOps0_8, List.flatten_cons, List.flatten_nil, List.append_nil, List.cons_append, List.nil_append]
  after_reads_simp
  rfl

/-- What the host code leaves in buffer `main_v48`. -/
theorem V_v48 : V m c main_v48 = denseC (m ((c : Thread nD τ).loc main_arg7)) := by
  show StableHlo.after (List.flatten [hostOps0, hostOps0_1, hostOps0_2, hostOps0_3, hostOps0_4, hostOps0_5, hostOps0_6, hostOps0_7, hostOps0_8]) (fun b => m (c, b)) (Proc.devRef .tc main_v48) = _
  simp only [hostOps0, hostOps0_1, hostOps0_2, hostOps0_3, hostOps0_4, hostOps0_5, hostOps0_6, hostOps0_7, hostOps0_8, List.flatten_cons, List.flatten_nil, List.append_nil, List.cons_append, List.nil_append]
  after_reads_simp
  rfl

/-- What the host code leaves in buffer `main_v49`. -/
theorem V_v49 : V m c main_v49 = denseC (m ((c : Thread nD τ).loc main_arg8)) := by
  show StableHlo.after (List.flatten [hostOps0, hostOps0_1, hostOps0_2, hostOps0_3, hostOps0_4, hostOps0_5, hostOps0_6, hostOps0_7, hostOps0_8]) (fun b => m (c, b)) (Proc.devRef .tc main_v49) = _
  simp only [hostOps0, hostOps0_1, hostOps0_2, hostOps0_3, hostOps0_4, hostOps0_5, hostOps0_6, hostOps0_7, hostOps0_8, List.flatten_cons, List.flatten_nil, List.append_nil, List.cons_append, List.nil_append]
  after_reads_simp
  rfl

/-- What the host code leaves in buffer `main_v44`. -/
theorem V_v44 : V m c main_v44 = shapeCast S8x1x512 (m ((c : Thread nD τ).loc main_arg9) : FVec Ideal S64x64 .f32) shapeCasts_S64x64_S8x1x512 := by
  show StableHlo.after (List.flatten [hostOps0, hostOps0_1, hostOps0_2, hostOps0_3, hostOps0_4, hostOps0_5, hostOps0_6, hostOps0_7, hostOps0_8]) (fun b => m (c, b)) (Proc.devRef .tc main_v44) = _
  simp only [hostOps0, hostOps0_1, hostOps0_2, hostOps0_3, hostOps0_4, hostOps0_5, hostOps0_6, hostOps0_7, hostOps0_8, List.flatten_cons, List.flatten_nil, List.append_nil, List.cons_append, List.nil_append]
  after_reads_simp
  rfl

/-- What the host code leaves in buffer `main_v45`. -/
theorem V_v45 : V m c main_v45 = shapeCast S8x1x512 (m ((c : Thread nD τ).loc main_arg10) : FVec Ideal S64x64 .f32) shapeCasts_S64x64_S8x1x512 := by
  show StableHlo.after (List.flatten [hostOps0, hostOps0_1, hostOps0_2, hostOps0_3, hostOps0_4, hostOps0_5, hostOps0_6, hostOps0_7, hostOps0_8]) (fun b => m (c, b)) (Proc.devRef .tc main_v45) = _
  simp only [hostOps0, hostOps0_1, hostOps0_2, hostOps0_3, hostOps0_4, hostOps0_5, hostOps0_6, hostOps0_7, hostOps0_8, List.flatten_cons, List.flatten_nil, List.append_nil, List.cons_append, List.nil_append]
  after_reads_simp
  rfl

/-- A per-state array of the heads, laid out as rows of eight heads. -/
theorem headRow_apply (x : FVec Ideal S64x64 .f32) (k : Fin 8) (l : Fin 512) :
    (shapeCast S8x1x512 x shapeCasts_S64x64_S8x1x512) (ix3 k 0 l) = x (ix2 ⟨k.val * 8 + l.val / 64, by omega⟩ ⟨l.val % 64, by omega⟩) := by
  pointwise

/-- The rows of a point lie inside the array. -/
theorem rev_lt (t : Fin cfg0.N) (r : Fin 512) : (7 - t.val % 8) * 512 + r.val < 4096 := by omega

/-- The channels of a point lie inside the array. -/
theorem col128_lt (t : Fin cfg0.N) (q : Fin 128) : t.val / 8 * 128 + q.val < 1024 := by
  have h : t.val < 64 := t.isLt
  omega

/-- The states of a point lie inside the array. -/
theorem col512_lt (t : Fin cfg0.N) (q : Fin 512) : t.val / 8 * 512 + q.val < 4096 := by
  have h : t.val < 64 := t.isLt
  omega

/-- The group of heads of a point. -/
def grp (t : Fin cfg0.N) : Fin 8 := ⟨t.val / 8, by have h : t.val < 64 := t.isLt; omega⟩

/-- The row of the arrays that a point's row `r` is. -/
def row (t : Fin cfg0.N) (r : Fin 512) : Fin 4096 := ⟨(7 - t.val % 8) * 512 + r.val, rev_lt t r⟩
/-- The column of a channel. -/
def col (t : Fin cfg0.N) (q : Fin 128) : Fin 1024 := ⟨t.val / 8 * 128 + q.val, col128_lt t q⟩
/-- The column of a state. -/
def scol (t : Fin cfg0.N) (l : Fin 512) : Fin 4096 := ⟨t.val / 8 * 512 + l.val, col512_lt t l⟩
/-- The head of a channel or a state, from its head within the group. -/
def head (t : Fin cfg0.N) (j : ℕ) (hj : j < 8) : Fin 64 := ⟨t.val / 8 * 8 + j, by have h : t.val < 64 := t.isLt; omega⟩

/-- The block window 0 points at. -/
theorem index_in0 (t : Fin cfg0.N) : win0_0.index t 0 = 7 - t.val % 8 ∧ win0_0.index t 1 = t.val / 8 :=
  (by decide +kernel : ∀ t : Fin grid0.N, win0_0.index t 0 = 7 - t.val % 8 ∧ win0_0.index t 1 = t.val / 8) t

/-- What window 0 reads. -/
theorem blk0 (r : Fin 512) (q : Fin 128) :
    iblk m c 0 t (ix2 r q) = m ((c : Thread nD τ).loc main_arg0) (ix2 (row t r) (col t q)) := by
  blk_simp [iblk]
  rw [V_main_arg0]
  blk_ext
  · rw [(index_in0 t).1]; rfl
  · rw [(index_in0 t).2]; rfl

/-- The block window 1 points at. -/
theorem index_in1 (t : Fin cfg0.N) : win0_1.index t 0 = 7 - t.val % 8 ∧ win0_1.index t 1 = t.val / 8 :=
  (by decide +kernel : ∀ t : Fin grid0.N, win0_1.index t 0 = 7 - t.val % 8 ∧ win0_1.index t 1 = t.val / 8) t

/-- What window 1 reads. -/
theorem blk1 (r : Fin 512) (q : Fin 128) :
    iblk m c 1 t (ix2 r q) = m ((c : Thread nD τ).loc main_arg1) (ix2 (row t r) (col t q)) := by
  blk_simp [iblk]
  rw [V_main_arg1]
  blk_ext
  · rw [(index_in1 t).1]; rfl
  · rw [(index_in1 t).2]; rfl

/-- The block window 2 points at. -/
theorem index_in2 (t : Fin cfg0.N) : win0_2.index t 0 = 7 - t.val % 8 ∧ win0_2.index t 1 = t.val / 8 :=
  (by decide +kernel : ∀ t : Fin grid0.N, win0_2.index t 0 = 7 - t.val % 8 ∧ win0_2.index t 1 = t.val / 8) t

/-- What window 2 reads. -/
theorem blk2 (r : Fin 512) (q : Fin 128) :
    iblk m c 2 t (ix2 r q) = m ((c : Thread nD τ).loc main_arg2) (ix2 (row t r) ⟨t.val / 8 * 128 + q.val, (col128_lt t q).trans (by decide)⟩) := by
  blk_simp [iblk]
  rw [V_main_arg2]
  blk_ext
  · rw [(index_in2 t).1]; rfl
  · rw [(index_in2 t).2]

/-- The block window 3 points at. -/
theorem index_in3 (t : Fin cfg0.N) : win0_3.index t 0 = 7 - t.val % 8 ∧ win0_3.index t 1 = t.val / 8 :=
  (by decide +kernel : ∀ t : Fin grid0.N, win0_3.index t 0 = 7 - t.val % 8 ∧ win0_3.index t 1 = t.val / 8) t

/-- What window 3 reads. -/
theorem blk3 (r : Fin 512) (q : Fin 512) :
    iblk m c 3 t (ix2 r q) = m ((c : Thread nD τ).loc main_arg3) (ix2 (row t r) (scol t q)) := by
  blk_simp [iblk]
  rw [V_main_arg3]
  blk_ext
  · rw [(index_in3 t).1]; rfl
  · rw [(index_in3 t).2]; rfl

/-- The block window 4 points at. -/
theorem index_in4 (t : Fin cfg0.N) : win0_4.index t 0 = 7 - t.val % 8 ∧ win0_4.index t 1 = t.val / 8 :=
  (by decide +kernel : ∀ t : Fin grid0.N, win0_4.index t 0 = 7 - t.val % 8 ∧ win0_4.index t 1 = t.val / 8) t

/-- What window 4 reads. -/
theorem blk4 (r : Fin 512) (q : Fin 512) :
    iblk m c 4 t (ix2 r q) = m ((c : Thread nD τ).loc main_arg4) (ix2 (row t r) (scol t q)) := by
  blk_simp [iblk]
  rw [V_main_arg4]
  blk_ext
  · rw [(index_in4 t).1]; rfl
  · rw [(index_in4 t).2]; rfl

/-- The block window 5 points at. -/
theorem index_in5 (t : Fin cfg0.N) : win0_5.index t 0 = (7 - t.val % 8) * 64 - 1 ∧ win0_5.index t 1 = t.val / 8 :=
  (by decide +kernel : ∀ t : Fin grid0.N, win0_5.index t 0 = (7 - t.val % 8) * 64 - 1 ∧ win0_5.index t 1 = t.val / 8) t

/-- The last row of what window 5 reads, at a point that is not the first in time: the row before the point's rows. -/
theorem blk5 (h : t.val % 8 ≠ 7) (q : Fin 512) :
    iblk m c 5 t (ix2 7 q) = m ((c : Thread nD τ).loc main_arg3) (ix2 ⟨(7 - t.val % 8) * 512 - 1, by omega⟩ (scol t q)) := by
  blk_simp [iblk]
  rw [V_main_arg3]
  blk_ext
  · rw [(index_in5 t).1]
    show ((7 - t.val % 8) * 64 - 1) * 8 + 7 = (7 - t.val % 8) * 512 - 1
    omega
  · rw [(index_in5 t).2]; rfl

/-- The block window 6 points at. -/
theorem index_in6 (t : Fin cfg0.N) : win0_6.index t 0 = (7 - t.val % 8) * 64 - 1 ∧ win0_6.index t 1 = t.val / 8 :=
  (by decide +kernel : ∀ t : Fin grid0.N, win0_6.index t 0 = (7 - t.val % 8) * 64 - 1 ∧ win0_6.index t 1 = t.val / 8) t

/-- The last row of what window 6 reads, at a point that is not the first in time: the row before the point's rows. -/
theorem blk6 (h : t.val % 8 ≠ 7) (q : Fin 512) :
    iblk m c 6 t (ix2 7 q) = m ((c : Thread nD τ).loc main_arg4) (ix2 ⟨(7 - t.val % 8) * 512 - 1, by omega⟩ (scol t q)) := by
  blk_simp [iblk]
  rw [V_main_arg4]
  blk_ext
  · rw [(index_in6 t).1]
    show ((7 - t.val % 8) * 64 - 1) * 8 + 7 = (7 - t.val % 8) * 512 - 1
    omega
  · rw [(index_in6 t).2]; rfl

/-- The block window 7 points at. -/
theorem index_in7 (t : Fin cfg0.N) : win0_7.index t 0 = t.val / 8 ∧ win0_7.index t 1 = 0 ∧ win0_7.index t 2 = 0 :=
  (by decide +kernel : ∀ t : Fin grid0.N, win0_7.index t 0 = t.val / 8 ∧ win0_7.index t 1 = 0 ∧ win0_7.index t 2 = 0) t

/-- What window 7 reads. -/
theorem blk7 (q : Fin 128) (l : Fin 512) :
    iblk m c 7 t (ix3 0 q l) = denseB (m ((c : Thread nD τ).loc main_arg5)) (ix3 (grp t) q l) := by
  blk_simp [iblk]
  rw [V_v46]
  blk_ext
  · rw [(index_in7 t).1]; rfl
  · rw [(index_in7 t).2.1]; simp
  · rw [(index_in7 t).2.2]; simp

/-- The block window 8 points at. -/
theorem index_in8 (t : Fin cfg0.N) : win0_8.index t 0 = t.val / 8 ∧ win0_8.index t 1 = 0 ∧ win0_8.index t 2 = 0 :=
  (by decide +kernel : ∀ t : Fin grid0.N, win0_8.index t 0 = t.val / 8 ∧ win0_8.index t 1 = 0 ∧ win0_8.index t 2 = 0) t

/-- What window 8 reads. -/
theorem blk8 (q : Fin 128) (l : Fin 512) :
    iblk m c 8 t (ix3 0 q l) = denseB (m ((c : Thread nD τ).loc main_arg6)) (ix3 (grp t) q l) := by
  blk_simp [iblk]
  rw [V_v47]
  blk_ext
  · rw [(index_in8 t).1]; rfl
  · rw [(index_in8 t).2.1]; simp
  · rw [(index_in8 t).2.2]; simp

/-- The block window 9 points at. -/
theorem index_in9 (t : Fin cfg0.N) : win0_9.index t 0 = t.val / 8 ∧ win0_9.index t 1 = 0 ∧ win0_9.index t 2 = 0 :=
  (by decide +kernel : ∀ t : Fin grid0.N, win0_9.index t 0 = t.val / 8 ∧ win0_9.index t 1 = 0 ∧ win0_9.index t 2 = 0) t

/-- What window 9 reads. -/
theorem blk9 (q : Fin 512) (l : Fin 128) :
    iblk m c 9 t (ix3 0 q l) = denseC (m ((c : Thread nD τ).loc main_arg7)) (ix3 (grp t) q l) := by
  blk_simp [iblk]
  rw [V_v48]
  blk_ext
  · rw [(index_in9 t).1]; rfl
  · rw [(index_in9 t).2.1]; simp
  · rw [(index_in9 t).2.2]; simp

/-- The block window 10 points at. -/
theorem index_in10 (t : Fin cfg0.N) : win0_10.index t 0 = t.val / 8 ∧ win0_10.index t 1 = 0 ∧ win0_10.index t 2 = 0 :=
  (by decide +kernel : ∀ t : Fin grid0.N, win0_10.index t 0 = t.val / 8 ∧ win0_10.index t 1 = 0 ∧ win0_10.index t 2 = 0) t

/-- What window 10 reads. -/
theorem blk10 (q : Fin 512) (l : Fin 128) :
    iblk m c 10 t (ix3 0 q l) = denseC (m ((c : Thread nD τ).loc main_arg8)) (ix3 (grp t) q l) := by
  blk_simp [iblk]
  rw [V_v49]
  blk_ext
  · rw [(index_in10 t).1]; rfl
  · rw [(index_in10 t).2.1]; simp
  · rw [(index_in10 t).2.2]; simp

/-- The block window 11 points at. -/
theorem index_in11 (t : Fin cfg0.N) : win0_11.index t 0 = t.val / 8 ∧ win0_11.index t 1 = 0 ∧ win0_11.index t 2 = 0 :=
  (by decide +kernel : ∀ t : Fin grid0.N, win0_11.index t 0 = t.val / 8 ∧ win0_11.index t 1 = 0 ∧ win0_11.index t 2 = 0) t

/-- What window 11 reads. -/
theorem blk11 (l : Fin 512) :
    iblk m c 11 t (ix3 0 0 l) = m ((c : Thread nD τ).loc main_arg9) (ix2 (head t (l.val / 64) (by omega)) ⟨l.val % 64, by omega⟩) := by
  have e : iblk m c 11 t (ix3 0 0 l) = (shapeCast S8x1x512 (m ((c : Thread nD τ).loc main_arg9) : FVec Ideal S64x64 .f32) shapeCasts_S64x64_S8x1x512) (ix3 (grp t) 0 l) := by
    blk_simp [iblk]
    rw [V_v44]
    blk_ext
    · rw [(index_in11 t).1]; rfl
    · rw [(index_in11 t).2.1]
    · rw [(index_in11 t).2.2]; simp
  rw [e, headRow_apply]
  rfl

/-- The block window 12 points at. -/
theorem index_in12 (t : Fin cfg0.N) : win0_12.index t 0 = t.val / 8 ∧ win0_12.index t 1 = 0 ∧ win0_12.index t 2 = 0 :=
  (by decide +kernel : ∀ t : Fin grid0.N, win0_12.index t 0 = t.val / 8 ∧ win0_12.index t 1 = 0 ∧ win0_12.index t 2 = 0) t

/-- What window 12 reads. -/
theorem blk12 (l : Fin 512) :
    iblk m c 12 t (ix3 0 0 l) = m ((c : Thread nD τ).loc main_arg10) (ix2 (head t (l.val / 64) (by omega)) ⟨l.val % 64, by omega⟩) := by
  have e : iblk m c 12 t (ix3 0 0 l) = (shapeCast S8x1x512 (m ((c : Thread nD τ).loc main_arg10) : FVec Ideal S64x64 .f32) shapeCasts_S64x64_S8x1x512) (ix3 (grp t) 0 l) := by
    blk_simp [iblk]
    rw [V_v45]
    blk_ext
    · rw [(index_in12 t).1]; rfl
    · rw [(index_in12 t).2.1]
    · rw [(index_in12 t).2.2]; simp
  rw [e, headRow_apply]
  rfl

end Cert.KernelIdeal.Scan

end
-- ==== Proof.PointStoresA.lean ====
module

public import proofs.«01_k».proof.Proof.PointRegs

/-!
The stores of a grid point, window by window.
-/

@[expose] public section

set_option maxRecDepth 65536
set_option maxHeartbeats 4000000

noncomputable section

namespace Cert.KernelIdeal.Scan

open Idealize.ShloMosaic Idealize.ShloMosaic.TcCoe Cert.KernelIdeal.Gen ScanMath

variable (m : (ℓ : Loc nD τ sig) → Buf (Elt Ideal) ℓ) (c : Dev nD) (t : Fin cfg0.N)

/-- The stores of the run, window by window. -/
theorem runA_stores (h0 : t.val % 8 = 0) :
    (runA m c t h0).1 = (⟨(Rect.unit ![0, 0] S512x128.size inb_S512x128_S512x128_0_0 : Rect S512x128), k0_pay295 (kernelRun0_A.sl.r_238 (F := Ideal) c (ms0_0 t) (hs0_0 t) (ms0_9 t) (hs0_9 t) (ms0_10 t) (hs0_10 t) (ms0_11 t) (hs0_11 t) (ms0_12 t) (hs0_12 t) scM0_0 scM0_1 (iblk m c 0 t) (iblk m c 9 t) (iblk m c 10 t) (iblk m c 11 t) (iblk m c 12 t)) (kernelRun0_A.sl.r_239 (F := Ideal) c (ms0_0 t) (hs0_0 t) (ms0_9 t) (hs0_9 t) (ms0_10 t) (hs0_10 t) (ms0_11 t) (hs0_11 t) (ms0_12 t) (hs0_12 t) scM0_0 scM0_1 (iblk m c 0 t) (iblk m c 9 t) (iblk m c 10 t) (iblk m c 11 t) (iblk m c 12 t)) (kernelRun0_A.sl.r_241 (F := Ideal) c (ms0_7 t) (hs0_7 t) (iblk m c 7 t)) kernelRun0_A.sl.cst_104 (View.readAt (Elt Ideal) (ms0_8 t).view ((Rect.unit ![0, 0, 0] S1x128x512.size inb_S1x128x512_S1x128x512_0_0_0 : Rect S1x128x512)).toLoadRect ((hs0_8 t).unread (iblk m c 8 t))) (View.readAt (Elt Ideal) (ms0_1 t).view ((Rect.unit ![0, 0] S512x128.size inb_S512x128_S512x128_0_0 : Rect S512x128)).toLoadRect ((hs0_1 t).unread (iblk m c 1 t)))⟩ :: []) ∧
    (runA m c t h0).2.1 = (⟨(Rect.unit ![0, 0, 0] S1x128x512.size inb_S1x128x512_S1x128x512_0_0_0 : Rect S1x128x512), k0_pay4 (kernelRun0_A.sl.r_244 (F := Ideal) c (ms0_0 t) (hs0_0 t) (ms0_2 t) (hs0_2 t) (ms0_9 t) (hs0_9 t) (ms0_10 t) (hs0_10 t) (ms0_11 t) (hs0_11 t) (ms0_12 t) (hs0_12 t) scM0_0 scM0_1 (iblk m c 0 t) (iblk m c 2 t) (iblk m c 9 t) (iblk m c 10 t) (iblk m c 11 t) (iblk m c 12 t))⟩ :: []) ∧
    (runA m c t h0).2.2.1 = (⟨(Rect.unit ![0, 0, 0] S1x128x512.size inb_S1x128x512_S1x128x512_0_0_0 : Rect S1x128x512), k0_pay5 (kernelRun0_A.sl.r_245 (F := Ideal) c (ms0_0 t) (hs0_0 t) (ms0_2 t) (hs0_2 t) (ms0_9 t) (hs0_9 t) (ms0_10 t) (hs0_10 t) (ms0_11 t) (hs0_11 t) (ms0_12 t) (hs0_12 t) scM0_0 scM0_1 (iblk m c 0 t) (iblk m c 2 t) (iblk m c 9 t) (iblk m c 10 t) (iblk m c 11 t) (iblk m c 12 t))⟩ :: []) ∧
    (runA m c t h0).2.2.2.1 = (⟨(Rect.unit ![0, 0, 0] S1x512x128.size inb_S1x512x128_S1x512x128_0_0_0 : Rect S1x512x128), k0_pay6 (kernelRun0_A.sl.r_246 (F := Ideal) c (ms0_0 t) (hs0_0 t) (ms0_3 t) (hs0_3 t) (iblk m c 0 t) (iblk m c 3 t))⟩ :: []) ∧
    (runA m c t h0).2.2.2.2.1 = (⟨(Rect.unit ![0, 0, 0] S1x512x128.size inb_S1x512x128_S1x512x128_0_0_0 : Rect S1x512x128), k0_pay7 (kernelRun0_A.sl.r (F := Ideal) c (ms0_0 t) (hs0_0 t) (iblk m c 0 t)) (kernelRun0_A.sl.r_2 (F := Ideal) c (ms0_4 t) (hs0_4 t) (iblk m c 4 t))⟩ :: []) ∧
    (runA m c t h0).2.2.2.2.2.1 = (⟨(Rect.unit ![0, 0, 0] S1x1x512.size inb_S1x1x512_S1x1x512_0_0_0 : Rect S1x1x512), k0_pay8 (kernelRun0_A.sl.r_236 (F := Ideal) c (ms0_0 t) (hs0_0 t) (ms0_9 t) (hs0_9 t) (ms0_10 t) (hs0_10 t) (ms0_11 t) (hs0_11 t) (ms0_12 t) (hs0_12 t) scM0_0 scM0_1 (iblk m c 0 t) (iblk m c 9 t) (iblk m c 10 t) (iblk m c 11 t) (iblk m c 12 t)) (kernelRun0_A.sl.r_237 (F := Ideal) c (ms0_0 t) (hs0_0 t) (ms0_9 t) (hs0_9 t) (ms0_10 t) (hs0_10 t) (ms0_11 t) (hs0_11 t) (ms0_12 t) (hs0_12 t) scM0_0 scM0_1 (iblk m c 0 t) (iblk m c 9 t) (iblk m c 10 t) (iblk m c 11 t) (iblk m c 12 t)) (kernelRun0_A.sl.r_242 (F := Ideal) c (grid0.coords t) (ms0_3 t) (hs0_3 t) (ms0_5 t) (hs0_5 t) (iblk m c 3 t) (iblk m c 5 t)) (kernelRun0_A.sl.r_243 (F := Ideal) c (grid0.coords t) (ms0_4 t) (hs0_4 t) (ms0_6 t) (hs0_6 t) (iblk m c 4 t) (iblk m c 6 t))⟩ :: []) ∧
    (runA m c t h0).2.2.2.2.2.2.1 = (⟨(Rect.unit ![0, 0, 0] S1x1x512.size inb_S1x1x512_S1x1x512_0_0_0 : Rect S1x1x512), k0_pay9 (kernelRun0_A.sl.r_236 (F := Ideal) c (ms0_0 t) (hs0_0 t) (ms0_9 t) (hs0_9 t) (ms0_10 t) (hs0_10 t) (ms0_11 t) (hs0_11 t) (ms0_12 t) (hs0_12 t) scM0_0 scM0_1 (iblk m c 0 t) (iblk m c 9 t) (iblk m c 10 t) (iblk m c 11 t) (iblk m c 12 t)) (kernelRun0_A.sl.r_237 (F := Ideal) c (ms0_0 t) (hs0_0 t) (ms0_9 t) (hs0_9 t) (ms0_10 t) (hs0_10 t) (ms0_11 t) (hs0_11 t) (ms0_12 t) (hs0_12 t) scM0_0 scM0_1 (iblk m c 0 t) (iblk m c 9 t) (iblk m c 10 t) (iblk m c 11 t) (iblk m c 12 t)) (kernelRun0_A.sl.r_242 (F := Ideal) c (grid0.coords t) (ms0_3 t) (hs0_3 t) (ms0_5 t) (hs0_5 t) (iblk m c 3 t) (iblk m c 5 t)) (kernelRun0_A.sl.r_243 (F := Ideal) c (grid0.coords t) (ms0_4 t) (hs0_4 t) (ms0_6 t) (hs0_6 t) (iblk m c 4 t) (iblk m c 6 t))⟩ :: []) ∧
    (runA m c t h0).2.2.2.2.2.2.2.1 = (⟨(Rect.unit ![0, 0] S1x512.size inb_S1x512_S1x512_0_0 : Rect S1x512), k0_pay289 (kernelRun0_A.sl.r_108 (F := Ideal) c (ms0_0 t) (hs0_0 t) (ms0_9 t) (hs0_9 t) (ms0_10 t) (hs0_10 t) (ms0_11 t) (hs0_11 t) (ms0_12 t) (hs0_12 t) scM0_0 scM0_1 (iblk m c 0 t) (iblk m c 9 t) (iblk m c 10 t) (iblk m c 11 t) (iblk m c 12 t))⟩ :: kernelRun0_A.sl.HS0_1) ∧
    (runA m c t h0).2.2.2.2.2.2.2.2.1 = (⟨(Rect.unit ![0, 0] S1x512.size inb_S1x512_S1x512_0_0 : Rect S1x512), k0_pay290 (kernelRun0_A.sl.r_109 (F := Ideal) c (ms0_0 t) (hs0_0 t) (ms0_9 t) (hs0_9 t) (ms0_10 t) (hs0_10 t) (ms0_11 t) (hs0_11 t) (ms0_12 t) (hs0_12 t) scM0_0 scM0_1 (iblk m c 0 t) (iblk m c 9 t) (iblk m c 10 t) (iblk m c 11 t) (iblk m c 12 t))⟩ :: kernelRun0_A.sl.HS1_1) := by
  unfold runA kernelRun0_A
  exact ⟨rfl, rfl, rfl, rfl, rfl, rfl, rfl, rfl, rfl⟩

end Cert.KernelIdeal.Scan

end
-- ==== Proof.PointStoresB.lean ====
module

public import proofs.«01_k».proof.Proof.PointRegs

/-!
The stores of a grid point, window by window.
-/

@[expose] public section

set_option maxRecDepth 65536
set_option maxHeartbeats 4000000

noncomputable section

namespace Cert.KernelIdeal.Scan

open Idealize.ShloMosaic Idealize.ShloMosaic.TcCoe Cert.KernelIdeal.Gen ScanMath

variable (m : (ℓ : Loc nD τ sig) → Buf (Elt Ideal) ℓ) (c : Dev nD) (t : Fin cfg0.N)

/-- The stores of the run, window by window. -/
theorem runB_stores (h0 : ¬t.val % 8 = 0) (q : Left Ideal) :
    (runB m c t h0 q).1 = (⟨(Rect.unit ![0, 0] S512x128.size inb_S512x128_S512x128_0_0 : Rect S512x128), k0_pay295 (kernelRun0_B.sl.r_240 (F := Ideal) c (ms0_0 t) (hs0_0 t) (ms0_9 t) (hs0_9 t) (ms0_10 t) (hs0_10 t) (ms0_11 t) (hs0_11 t) (ms0_12 t) (hs0_12 t) scM0_0 (Memref.isWhole_whole _) scM0_1 (Memref.isWhole_whole _) (iblk m c 0 t) (iblk m c 9 t) (iblk m c 10 t) (iblk m c 11 t) (iblk m c 12 t) q.kre q.kim) (kernelRun0_B.sl.r_241 (F := Ideal) c (ms0_0 t) (hs0_0 t) (ms0_9 t) (hs0_9 t) (ms0_10 t) (hs0_10 t) (ms0_11 t) (hs0_11 t) (ms0_12 t) (hs0_12 t) scM0_0 (Memref.isWhole_whole _) scM0_1 (Memref.isWhole_whole _) (iblk m c 0 t) (iblk m c 9 t) (iblk m c 10 t) (iblk m c 11 t) (iblk m c 12 t) q.kre q.kim) (kernelRun0_B.sl.r_243 (F := Ideal) c (ms0_7 t) (hs0_7 t) (iblk m c 7 t)) kernelRun0_B.sl.cst_104 (View.readAt (Elt Ideal) (ms0_8 t).view ((Rect.unit ![0, 0, 0] S1x128x512.size inb_S1x128x512_S1x128x512_0_0_0 : Rect S1x128x512)).toLoadRect ((hs0_8 t).unread (iblk m c 8 t))) (View.readAt (Elt Ideal) (ms0_1 t).view ((Rect.unit ![0, 0] S512x128.size inb_S512x128_S512x128_0_0 : Rect S512x128)).toLoadRect ((hs0_1 t).unread (iblk m c 1 t)))⟩ :: []) ∧
    (runB m c t h0 q).2.1 = (⟨(Rect.unit ![0, 0, 0] S1x128x512.size inb_S1x128x512_S1x128x512_0_0_0 : Rect S1x128x512), k0_pay12 (kernelRun0_B.sl.r_246 (F := Ideal) c (ms0_0 t) (hs0_0 t) (ms0_2 t) (hs0_2 t) (ms0_9 t) (hs0_9 t) (ms0_10 t) (hs0_10 t) (ms0_11 t) (hs0_11 t) (ms0_12 t) (hs0_12 t) scM0_0 (Memref.isWhole_whole _) scM0_1 (Memref.isWhole_whole _) (iblk m c 0 t) (iblk m c 2 t) (iblk m c 9 t) (iblk m c 10 t) (iblk m c 11 t) (iblk m c 12 t) q.kre q.kim) (View.readAt (Elt Ideal) (ms0_14 t).view ((Rect.unit ![0, 0, 0] S1x128x512.size inb_S1x128x512_S1x128x512_0_0_0 : Rect S1x128x512)).toLoadRect ((hs0_14 t).unread q.bre))⟩ :: []) ∧
    (runB m c t h0 q).2.2.1 = (⟨(Rect.unit ![0, 0, 0] S1x128x512.size inb_S1x128x512_S1x128x512_0_0_0 : Rect S1x128x512), k0_pay13 (kernelRun0_B.sl.r_247 (F := Ideal) c (ms0_0 t) (hs0_0 t) (ms0_2 t) (hs0_2 t) (ms0_9 t) (hs0_9 t) (ms0_10 t) (hs0_10 t) (ms0_11 t) (hs0_11 t) (ms0_12 t) (hs0_12 t) scM0_0 (Memref.isWhole_whole _) scM0_1 (Memref.isWhole_whole _) (iblk m c 0 t) (iblk m c 2 t) (iblk m c 9 t) (iblk m c 10 t) (iblk m c 11 t) (iblk m c 12 t) q.kre q.kim) (View.readAt (Elt Ideal) (ms0_15 t).view ((Rect.unit ![0, 0, 0] S1x128x512.size inb_S1x128x512_S1x128x512_0_0_0 : Rect S1x128x512)).toLoadRect ((hs0_15 t).unread q.bim))⟩ :: []) ∧
    (runB m c t h0 q).2.2.2.1 = (⟨(Rect.unit ![0, 0, 0] S1x512x128.size inb_S1x512x128_S1x512x128_0_0_0 : Rect S1x512x128), k0_pay14 (kernelRun0_B.sl.r_248 (F := Ideal) c (ms0_0 t) (hs0_0 t) (ms0_3 t) (hs0_3 t) (iblk m c 0 t) (iblk m c 3 t)) (View.readAt (Elt Ideal) (ms0_16 t).view ((Rect.unit ![0, 0, 0] S1x512x128.size inb_S1x512x128_S1x512x128_0_0_0 : Rect S1x512x128)).toLoadRect ((hs0_16 t).unread q.cre))⟩ :: []) ∧
    (runB m c t h0 q).2.2.2.2.1 = (⟨(Rect.unit ![0, 0, 0] S1x512x128.size inb_S1x512x128_S1x512x128_0_0_0 : Rect S1x512x128), k0_pay15 (k0_pay1 (kernelRun0_B.sl.r (F := Ideal) c (ms0_0 t) (hs0_0 t) (iblk m c 0 t)) (kernelRun0_B.sl.r_2 (F := Ideal) c (ms0_4 t) (hs0_4 t) (iblk m c 4 t))) (View.readAt (Elt Ideal) (ms0_17 t).view ((Rect.unit ![0, 0, 0] S1x512x128.size inb_S1x512x128_S1x512x128_0_0_0 : Rect S1x512x128)).toLoadRect ((hs0_17 t).unread q.cim))⟩ :: []) ∧
    (runB m c t h0 q).2.2.2.2.2.1 = (⟨(Rect.unit ![0, 0, 0] S1x1x512.size inb_S1x1x512_S1x1x512_0_0_0 : Rect S1x1x512), k0_pay10 (kernelRun0_B.sl.r_249 (F := Ideal) c (grid0.coords t) (ms0_0 t) (hs0_0 t) (ms0_3 t) (hs0_3 t) (ms0_4 t) (hs0_4 t) (ms0_5 t) (hs0_5 t) (ms0_6 t) (hs0_6 t) (ms0_9 t) (hs0_9 t) (ms0_10 t) (hs0_10 t) (ms0_11 t) (hs0_11 t) (ms0_12 t) (hs0_12 t) (ms0_18 t) (hs0_18 t) scM0_0 (Memref.isWhole_whole _) scM0_1 (Memref.isWhole_whole _) (iblk m c 0 t) (iblk m c 3 t) (iblk m c 4 t) (iblk m c 5 t) (iblk m c 6 t) (iblk m c 9 t) (iblk m c 10 t) (iblk m c 11 t) (iblk m c 12 t) q.are q.kre q.kim)⟩ :: []) ∧
    (runB m c t h0 q).2.2.2.2.2.2.1 = (⟨(Rect.unit ![0, 0, 0] S1x1x512.size inb_S1x1x512_S1x1x512_0_0_0 : Rect S1x1x512), k0_pay11 (kernelRun0_B.sl.r_238 (F := Ideal) c (ms0_0 t) (hs0_0 t) (ms0_9 t) (hs0_9 t) (ms0_10 t) (hs0_10 t) (ms0_11 t) (hs0_11 t) (ms0_12 t) (hs0_12 t) scM0_0 (Memref.isWhole_whole _) scM0_1 (Memref.isWhole_whole _) (iblk m c 0 t) (iblk m c 9 t) (iblk m c 10 t) (iblk m c 11 t) (iblk m c 12 t) q.kre q.kim) (kernelRun0_B.sl.r_239 (F := Ideal) c (ms0_0 t) (hs0_0 t) (ms0_9 t) (hs0_9 t) (ms0_10 t) (hs0_10 t) (ms0_11 t) (hs0_11 t) (ms0_12 t) (hs0_12 t) scM0_0 (Memref.isWhole_whole _) scM0_1 (Memref.isWhole_whole _) (iblk m c 0 t) (iblk m c 9 t) (iblk m c 10 t) (iblk m c 11 t) (iblk m c 12 t) q.kre q.kim) (kernelRun0_B.sl.r_244 (F := Ideal) c (grid0.coords t) (ms0_3 t) (hs0_3 t) (ms0_5 t) (hs0_5 t) (iblk m c 3 t) (iblk m c 5 t)) (kernelRun0_B.sl.r_245 (F := Ideal) c (grid0.coords t) (ms0_4 t) (hs0_4 t) (ms0_6 t) (hs0_6 t) (iblk m c 4 t) (iblk m c 6 t)) (View.readAt (Elt Ideal) (ms0_19 t).view ((Rect.unit ![0, 0, 0] S1x1x512.size inb_S1x1x512_S1x1x512_0_0_0 : Rect S1x1x512)).toLoadRect ((hs0_19 t).unread q.aim))⟩ :: []) ∧
    (runB m c t h0 q).2.2.2.2.2.2.2.1 = (⟨(Rect.unit ![0, 0] S1x512.size inb_S1x512_S1x512_0_0 : Rect S1x512), k0_pay289 (kernelRun0_B.sl.r_110 (F := Ideal) c (ms0_0 t) (hs0_0 t) (ms0_9 t) (hs0_9 t) (ms0_10 t) (hs0_10 t) (ms0_11 t) (hs0_11 t) (ms0_12 t) (hs0_12 t) scM0_0 (Memref.isWhole_whole _) scM0_1 (Memref.isWhole_whole _) (iblk m c 0 t) (iblk m c 9 t) (iblk m c 10 t) (iblk m c 11 t) (iblk m c 12 t) q.kre q.kim)⟩ :: []) ∧
    (runB m c t h0 q).2.2.2.2.2.2.2.2.1 = (⟨(Rect.unit ![0, 0] S1x512.size inb_S1x512_S1x512_0_0 : Rect S1x512), k0_pay290 (kernelRun0_B.sl.r_111 (F := Ideal) c (ms0_0 t) (hs0_0 t) (ms0_9 t) (hs0_9 t) (ms0_10 t) (hs0_10 t) (ms0_11 t) (hs0_11 t) (ms0_12 t) (hs0_12 t) scM0_0 (Memref.isWhole_whole _) scM0_1 (Memref.isWhole_whole _) (iblk m c 0 t) (iblk m c 9 t) (iblk m c 10 t) (iblk m c 11 t) (iblk m c 12 t) q.kre q.kim)⟩ :: []) := by
  unfold runB kernelRun0_B
  exact ⟨rfl, rfl, rfl, rfl, rfl, rfl, rfl, rfl, rfl⟩

end Cert.KernelIdeal.Scan

end
-- ==== Proof.Points.lean ====
module

public import proofs.«01_k».proof.Proof.PointStoresA
public import proofs.«01_k».proof.Proof.PointStoresB

/-!
What every grid point leaves, as the block-wise scan of its input blocks.
-/

@[expose] public section

set_option maxRecDepth 65536
set_option maxHeartbeats 4000000

noncomputable section

namespace Cert.KernelIdeal.Scan

open Idealize.ShloMosaic Idealize.ShloMosaic.TcCoe Cert.KernelIdeal.Gen ScanMath

variable (m : (ℓ : Loc nD τ sig) → Buf (Elt Ideal) ℓ) (c : Dev nD) (t : Fin cfg0.N)

/-- What the run leaves at the first point of a block as the input gradient. -/
theorem leavesA_du (h0 : t.val % 8 = 0) : (leavesA m c t h0).du = duTile m c t noCarry := by
  unfold leavesA
  dsimp only
  rw [View.read_writes_junk_eq_canon, (runA_stores m c t h0).1]
  refine (View.canon_cons_unit_lit (Val := Elt Ideal) _ _ _ (by decide)).trans ?_
  unfold duTile
  rw [← A_lr16, ← A_li16, ← A_b]
  exact congrArg₂ (k0_pay295 _ _ _ _) (readAt_whole _ _ _ _ (by decide)) (readAt_whole _ _ _ _ (by decide))

/-- What the run leaves at the first point of a block as the read-in gradient's real part. -/
theorem leavesA_bre (h0 : t.val % 8 = 0) : (leavesA m c t h0).bre = k0_pay4 (k0_pay299 (lamRe16 m c t noCarry) (k0_pay293 (iblk m c 2 t))) := by
  unfold leavesA
  dsimp only
  rw [View.read_writes_junk_eq_canon, (runA_stores m c t h0).2.1]
  refine (View.canon_cons_unit_lit (Val := Elt Ideal) _ _ _ (by decide)).trans ?_
  exact congrArg k0_pay4 (A_bre m c t)

/-- What the run leaves at the first point of a block as the read-in gradient's imaginary part. -/
theorem leavesA_bim (h0 : t.val % 8 = 0) : (leavesA m c t h0).bim = k0_pay5 (k0_pay300 (lamIm16 m c t noCarry) (k0_pay293 (iblk m c 2 t))) := by
  unfold leavesA
  dsimp only
  rw [View.read_writes_junk_eq_canon, (runA_stores m c t h0).2.2.1]
  refine (View.canon_cons_unit_lit (Val := Elt Ideal) _ _ _ (by decide)).trans ?_
  exact congrArg k0_pay5 (A_bim m c t)

/-- What the run leaves at the first point of a block as the read-out gradient's real part. -/
theorem leavesA_cre (h0 : t.val % 8 = 0) : (leavesA m c t h0).cre = k0_pay6 (k0_pay301 (iblk m c 0 t) (iblk m c 3 t)) := by
  unfold leavesA
  dsimp only
  rw [View.read_writes_junk_eq_canon, (runA_stores m c t h0).2.2.2.1]
  refine (View.canon_cons_unit_lit (Val := Elt Ideal) _ _ _ (by decide)).trans ?_
  exact congrArg k0_pay6 (A_cre m c t)

/-- What the run leaves at the first point of a block as the read-out gradient's imaginary part. -/
theorem leavesA_cim (h0 : t.val % 8 = 0) : (leavesA m c t h0).cim = k0_pay7 (iblk m c 0 t) (iblk m c 4 t) := by
  unfold leavesA
  dsimp only
  rw [View.read_writes_junk_eq_canon, (runA_stores m c t h0).2.2.2.2.1]
  refine (View.canon_cons_unit_lit (Val := Elt Ideal) _ _ _ (by decide)).trans ?_
  exact congrArg₂ k0_pay7 (A_r m c t) (A_r2 m c t)

/-- What the run leaves at the first point of a block as the decay gradient's real part. -/
theorem leavesA_are (h0 : t.val % 8 = 0) : (leavesA m c t h0).are = k0_pay8 (lamTile m c t noCarry).1 (lamTile m c t noCarry).2 (prevRe m c t) (prevIm m c t) := by
  unfold leavesA
  dsimp only
  rw [View.read_writes_junk_eq_canon, (runA_stores m c t h0).2.2.2.2.2.1]
  refine (View.canon_cons_unit_lit (Val := Elt Ideal) _ _ _ (by decide)).trans ?_
  rw [← A_lr, ← A_li, ← A_pr, ← A_pi]

/-- What the run leaves at the first point of a block as the decay gradient's imaginary part. -/
theorem leavesA_aim (h0 : t.val % 8 = 0) : (leavesA m c t h0).aim = k0_pay9 (lamTile m c t noCarry).1 (lamTile m c t noCarry).2 (prevRe m c t) (prevIm m c t) := by
  unfold leavesA
  dsimp only
  rw [View.read_writes_junk_eq_canon, (runA_stores m c t h0).2.2.2.2.2.2.1]
  refine (View.canon_cons_unit_lit (Val := Elt Ideal) _ _ _ (by decide)).trans ?_
  rw [← A_lr, ← A_li, ← A_pr, ← A_pi]

/-- What the run leaves at the first point of a block as the carried row's real part. -/
theorem leavesA_kre (h0 : t.val % 8 = 0) : (leavesA m c t h0).kre = (carry (aRow m c t) (xTile m c t) noCarry).1 := by
  unfold leavesA
  dsimp only
  rw [View.read_writes_junk_eq_canon, (runA_stores m c t h0).2.2.2.2.2.2.2.1]
  refine (View.canon_cons_unit_lit (Val := Elt Ideal) _ _ _ (by decide)).trans ?_
  exact A_kr m c t

/-- What the run leaves at the first point of a block as the carried row's imaginary part. -/
theorem leavesA_kim (h0 : t.val % 8 = 0) : (leavesA m c t h0).kim = (carry (aRow m c t) (xTile m c t) noCarry).2 := by
  unfold leavesA
  dsimp only
  rw [View.read_writes_junk_eq_canon, (runA_stores m c t h0).2.2.2.2.2.2.2.2]
  refine (View.canon_cons_unit_lit (Val := Elt Ideal) _ _ _ (by decide)).trans ?_
  exact A_ki m c t

/-- What the run leaves at a later point of a block as the input gradient. -/
theorem leavesB_du (h0 : ¬t.val % 8 = 0) (q : Left Ideal) : (leavesB m c t h0 q).du = duTile m c t (q.kre, q.kim) := by
  unfold leavesB
  dsimp only
  rw [View.read_writes_junk_eq_canon, (runB_stores m c t h0 q).1]
  refine (View.canon_cons_unit_lit (Val := Elt Ideal) _ _ _ (by decide)).trans ?_
  unfold duTile
  rw [← B_lr16, ← B_li16, ← B_b]
  exact congrArg₂ (k0_pay295 _ _ _ _) (readAt_whole _ _ _ _ (by decide)) (readAt_whole _ _ _ _ (by decide))

/-- What the run leaves at a later point of a block as the read-in gradient's real part. -/
theorem leavesB_bre (h0 : ¬t.val % 8 = 0) (q : Left Ideal) : (leavesB m c t h0 q).bre = k0_pay12 (k0_pay299 (lamRe16 m c t (q.kre, q.kim)) (k0_pay293 (iblk m c 2 t))) q.bre := by
  unfold leavesB
  dsimp only
  rw [View.read_writes_junk_eq_canon, (runB_stores m c t h0 q).2.1]
  refine (View.canon_cons_unit_lit (Val := Elt Ideal) _ _ _ (by decide)).trans ?_
  exact congrArg₂ k0_pay12 (B_bre m c t q) (readAt_whole _ _ _ _ (by decide))

/-- What the run leaves at a later point of a block as the read-in gradient's imaginary part. -/
theorem leavesB_bim (h0 : ¬t.val % 8 = 0) (q : Left Ideal) : (leavesB m c t h0 q).bim = k0_pay13 (k0_pay300 (lamIm16 m c t (q.kre, q.kim)) (k0_pay293 (iblk m c 2 t))) q.bim := by
  unfold leavesB
  dsimp only
  rw [View.read_writes_junk_eq_canon, (runB_stores m c t h0 q).2.2.1]
  refine (View.canon_cons_unit_lit (Val := Elt Ideal) _ _ _ (by decide)).trans ?_
  exact congrArg₂ k0_pay13 (B_bim m c t q) (readAt_whole _ _ _ _ (by decide))

/-- What the run leaves at a later point of a block as the read-out gradient's real part. -/
theorem leavesB_cre (h0 : ¬t.val % 8 = 0) (q : Left Ideal) : (leavesB m c t h0 q).cre = k0_pay14 (k0_pay301 (iblk m c 0 t) (iblk m c 3 t)) q.cre := by
  unfold leavesB
  dsimp only
  rw [View.read_writes_junk_eq_canon, (runB_stores m c t h0 q).2.2.2.1]
  refine (View.canon_cons_unit_lit (Val := Elt Ideal) _ _ _ (by decide)).trans ?_
  exact congrArg₂ k0_pay14 (B_cre m c t) (readAt_whole _ _ _ _ (by decide))

/-- What the run leaves at a later point of a block as the read-out gradient's imaginary part. -/
theorem leavesB_cim (h0 : ¬t.val % 8 = 0) (q : Left Ideal) : (leavesB m c t h0 q).cim = k0_pay15 (k0_pay1 (iblk m c 0 t) (iblk m c 4 t)) q.cim := by
  unfold leavesB
  dsimp only
  rw [View.read_writes_junk_eq_canon, (runB_stores m c t h0 q).2.2.2.2.1]
  refine (View.canon_cons_unit_lit (Val := Elt Ideal) _ _ _ (by decide)).trans ?_
  exact congrArg₂ k0_pay15 (congrArg₂ k0_pay1 (B_r m c t) (B_r2 m c t)) (readAt_whole _ _ _ _ (by decide))

/-- What the run leaves at a later point of a block as the decay gradient's real part. -/
theorem leavesB_are (h0 : ¬t.val % 8 = 0) (q : Left Ideal) : (leavesB m c t h0 q).are = k0_pay10 (k0_pay16 (k0_pay2 (lamTile m c t (q.kre, q.kim)).1 (lamTile m c t (q.kre, q.kim)).2 (prevRe m c t) (prevIm m c t)) q.are) := by
  unfold leavesB
  dsimp only
  rw [View.read_writes_junk_eq_canon, (runB_stores m c t h0 q).2.2.2.2.2.1]
  refine (View.canon_cons_unit_lit (Val := Elt Ideal) _ _ _ (by decide)).trans ?_
  rw [← B_lr, ← B_li, ← B_pr, ← B_pi]
  exact congrArg k0_pay10 (congrArg (k0_pay16 _) (readAt_whole _ _ _ _ (by decide)))

/-- What the run leaves at a later point of a block as the decay gradient's imaginary part. -/
theorem leavesB_aim (h0 : ¬t.val % 8 = 0) (q : Left Ideal) : (leavesB m c t h0 q).aim = k0_pay11 (lamTile m c t (q.kre, q.kim)).1 (lamTile m c t (q.kre, q.kim)).2 (prevRe m c t) (prevIm m c t) q.aim := by
  unfold leavesB
  dsimp only
  rw [View.read_writes_junk_eq_canon, (runB_stores m c t h0 q).2.2.2.2.2.2.1]
  refine (View.canon_cons_unit_lit (Val := Elt Ideal) _ _ _ (by decide)).trans ?_
  rw [← B_lr, ← B_li, ← B_pr, ← B_pi]
  exact congrArg (k0_pay11 _ _ _ _) (readAt_whole _ _ _ _ (by decide))

/-- What the run leaves at a later point of a block as the carried row's real part. -/
theorem leavesB_kre (h0 : ¬t.val % 8 = 0) (q : Left Ideal) : (leavesB m c t h0 q).kre = (carry (aRow m c t) (xTile m c t) (q.kre, q.kim)).1 := by
  unfold leavesB
  dsimp only
  rw [View.read_writes_junk_eq_canon, (runB_stores m c t h0 q).2.2.2.2.2.2.2.1]
  refine (View.canon_cons_unit_lit (Val := Elt Ideal) _ _ _ (by decide)).trans ?_
  exact B_kr m c t q

/-- What the run leaves at a later point of a block as the carried row's imaginary part. -/
theorem leavesB_kim (h0 : ¬t.val % 8 = 0) (q : Left Ideal) : (leavesB m c t h0 q).kim = (carry (aRow m c t) (xTile m c t) (q.kre, q.kim)).2 := by
  unfold leavesB
  dsimp only
  rw [View.read_writes_junk_eq_canon, (runB_stores m c t h0 q).2.2.2.2.2.2.2.2]
  refine (View.canon_cons_unit_lit (Val := Elt Ideal) _ _ _ (by decide)).trans ?_
  exact B_ki m c t q

end Cert.KernelIdeal.Scan

end
-- ==== Proof.Values.lean ====
module

public import proofs.«01_k».proof.Proof.PayIdx
public import proofs.«01_k».proof.Proof.Entry
public import proofs.«01_k».proof.Proof.Points
public import proofs.«01_k».proof.Proof.Grad

/-!
What the kernel's blocks hold when their last point is done: the adjoint states of the whole recurrence, and the sums
over all rows.
-/

@[expose] public section

set_option maxRecDepth 65536
set_option maxHeartbeats 400000

noncomputable section

namespace Cert.KernelIdeal.Scan

open Idealize.ShloMosaic Idealize.ShloMosaic.TcCoe Cert.KernelIdeal.Gen ScanMath

variable (m : (ℓ : Loc nD τ sig) → Buf (Elt Ideal) ℓ) (c : Dev nD)

/-- Argument 0, entry by entry. -/
def a0 (i : Fin 4096) (j : Fin 1024) : EReal := m ((c : Thread nD τ).loc main_arg0) (ix2 i j)
/-- Argument 1, entry by entry. -/
def a1 (i : Fin 4096) (j : Fin 1024) : EReal := m ((c : Thread nD τ).loc main_arg1) (ix2 i j)
/-- Argument 2, entry by entry. -/
def a2 (i : Fin 4096) (j : Fin 14336) : EReal := m ((c : Thread nD τ).loc main_arg2) (ix2 i j)
/-- Argument 3, entry by entry. -/
def a3 (i : Fin 4096) (j : Fin 4096) : EReal := m ((c : Thread nD τ).loc main_arg3) (ix2 i j)
/-- Argument 4, entry by entry. -/
def a4 (i : Fin 4096) (j : Fin 4096) : EReal := m ((c : Thread nD τ).loc main_arg4) (ix2 i j)
/-- Argument 5, entry by entry. -/
def a5 (i : Fin 64) (j : Fin 64) (k : Fin 16) : EReal := m ((c : Thread nD τ).loc main_arg5) (ix3 i j k)
/-- Argument 6, entry by entry. -/
def a6 (i : Fin 64) (j : Fin 64) (k : Fin 16) : EReal := m ((c : Thread nD τ).loc main_arg6) (ix3 i j k)
/-- Argument 7, entry by entry. -/
def a7 (i : Fin 64) (j : Fin 16) (k : Fin 64) : EReal := m ((c : Thread nD τ).loc main_arg7) (ix3 i j k)
/-- Argument 8, entry by entry. -/
def a8 (i : Fin 64) (j : Fin 16) (k : Fin 64) : EReal := m ((c : Thread nD τ).loc main_arg8) (ix3 i j k)
/-- Argument 9, entry by entry. -/
def a9 (i : Fin 64) (j : Fin 64) : EReal := m ((c : Thread nD τ).loc main_arg9) (ix2 i j)
/-- Argument 10, entry by entry. -/
def a10 (i : Fin 64) (j : Fin 64) : EReal := m ((c : Thread nD τ).loc main_arg10) (ix2 i j)
/-- The read-out matrices as laid out for a group of heads, entry by entry. -/
def dC (y : Fin 64 → Fin 16 → Fin 64 → EReal) (k : Fin 8) (l : Fin 512) (q : Fin 128) : EReal :=
  if l.val / 64 = q.val / 16 then y ⟨k.val * 8 + l.val / 64, by omega⟩ ⟨q.val % 16, by omega⟩ ⟨l.val % 64, by omega⟩ else 0
/-- The input matrices as laid out for a group of heads, entry by entry. -/
def dB (y : Fin 64 → Fin 64 → Fin 16 → EReal) (k : Fin 8) (q : Fin 128) (l : Fin 512) : EReal :=
  if q.val / 16 = l.val / 64 then y ⟨k.val * 8 + q.val / 16, by omega⟩ ⟨l.val % 64, by omega⟩ ⟨q.val % 16, by omega⟩ else 0

/-- The arguments hold the tables, and the imaginary part of the saved states is real. -/
structure Reads (D : Tables) (X : Fin 4096 → Fin 4096 → ℝ) : Prop where
  dy : ∀ T H, a0 m c T H = (D.dy T H : EReal)
  xim : ∀ T H, a4 m c T H = (X T H : EReal)
  cre : ∀ h p n, a7 m c h p n = (D.cre h p n : EReal)
  cim : ∀ h p n, a8 m c h p n = (D.cim h p n : EReal)
  are : ∀ h n, a9 m c h n = (D.are h n : EReal)
  aim : ∀ h n, a10 m c h n = (D.aim h n : EReal)

/-- The head of state column `l` of group `k`. -/
def hd (k : Fin 8) (l : Fin 512) : Fin 64 := ⟨k.val * 8 + l.val / 64, by omega⟩
/-- The state number of column `l`. -/
def sn (l : Fin 512) : Fin 64 := ⟨l.val % 64, by omega⟩
/-- The head of channel column `q` of group `k`. -/
def hq (k : Fin 8) (q : Fin 128) : Fin 64 := ⟨k.val * 8 + q.val / 16, by omega⟩
/-- The channel number of column `q`. -/
def pn (q : Fin 128) : Fin 16 := ⟨q.val % 16, by omega⟩

variable {m c}
variable {D : Tables} {X : Fin 4096 → Fin 4096 → ℝ} (I : Reads m c D X) (t : Fin cfg0.N) (l : Fin 512)

/-- A point's decay, real part. -/
theorem aRow_re (t : Fin cfg0.N) (l : Fin 512) : (aRow m c t).1 (ix2 0 l) = a9 m c (hd (grp t) l) (sn l) := by
  unfold aRow
  dsimp only
  rw [pay19_apply]
  exact blk11 m c t l

/-- A point's decay, imaginary part. -/
theorem aRow_im (t : Fin cfg0.N) (l : Fin 512) : (aRow m c t).2 (ix2 0 l) = -a10 m c (hd (grp t) l) (sn l) := by
  unfold aRow
  dsimp only
  rw [pay22_apply]
  exact congrArg (fun x : EReal => -x) (blk12 m c t l)

include I in
/-- A point's decay is the conjugate decay of the heads it works on. -/
theorem aRow_rep : Rep l (aRow m c t) (fun _ => D.α (hd (grp t) l) (sn l)) := fun r => by
  have e : r = 0 := Subsingleton.elim r 0
  subst e
  refine ⟨?_, ?_⟩
  · rw [aRow_re, I.are]
    exact rfl
  · rw [aRow_im, I.aim]
    exact (EReal.coe_neg _).symm

/-- A read-out sum over a group's channels is the sum over the head's own channels. -/
theorem readout (k : Fin 8) (l : Fin 512) (T : Fin 4096) (x : Fin 128 → EReal) (hx : ∀ q : Fin 128, x q = (D.dy T ⟨k.val * 128 + q.val, by omega⟩ : EReal))
    (y : Fin 64 → Fin 16 → Fin 64 → EReal) (z : Fin 64 → Fin 16 → Fin 64 → ℝ) (hz : ∀ h p n, y h p n = (z h p n : EReal)) :
    ∑ q : Fin 128, x q * dC y k l q
      = ∑ p : Fin 16, (D.dy T (chan (hd k l) p) : EReal) * (z (hd k l) p (sn l) : EReal) := by
  refine sum_head16 (⟨l.val / 64, by omega⟩ : Fin 8) _ _ (fun q h => ?_) fun p => ?_
  · rw [dC, if_neg (Ne.symm h), mul_zero]
  · rw [dC, if_pos (by show l.val / 64 = (16 * (l.val / 64) + p.val) / 16; omega), hx, hz]
    have e1 : (⟨k.val * 128 + (16 * (l.val / 64) + p.val), by omega⟩ : Fin 1024) = chan (hd k l) p := Fin.ext (by
      show k.val * 128 + (16 * (l.val / 64) + p.val) = (k.val * 8 + l.val / 64) * 16 + p.val
      omega)
    have e2 : (⟨(16 * (l.val / 64) + p.val) % 16, by omega⟩ : Fin 16) = p := Fin.ext (by
      show (16 * (l.val / 64) + p.val) % 16 = p.val
      omega)
    exact congrArg₂ (fun a b => (D.dy T a : EReal) * (z (hd k l) b (sn l) : EReal)) e1 e2

/-- What enters a point's states, real part, as a sum over the group's channels. -/
theorem xTile_re (t : Fin cfg0.N) (r l : Fin 512) : (xTile m c t).1 (ix2 r l)
    = ∑ q : Fin 128, a0 m c (row t r) (col t q) * dC (a7 m c) (grp t) l q := by
  unfold xTile
  dsimp only
  rw [pay20_apply]
  exact Finset.sum_congr rfl fun q _ => congrArg₂ (fun a b : EReal => a * b) (blk0 m c t r q) ((blk9 m c t l q).trans (denseC_apply _ _ _ _))

/-- What enters a point's states, imaginary part, as a sum over the group's channels. -/
theorem xTile_im (t : Fin cfg0.N) (r l : Fin 512) : (xTile m c t).2 (ix2 r l)
    = -∑ q : Fin 128, a0 m c (row t r) (col t q) * dC (a8 m c) (grp t) l q := by
  unfold xTile
  dsimp only
  rw [pay21_apply]
  exact congrArg (fun x : EReal => -x) (Finset.sum_congr rfl fun q _ => congrArg₂ (fun a b : EReal => a * b) (blk0 m c t r q) ((blk10 m c t l q).trans (denseC_apply _ _ _ _)))

include I in
/-- What enters a point's states. -/
theorem xTile_rep : Rep l (xTile m c t) (fun r => D.g (hd (grp t) l) (sn l) ((7 - t.val % 8) * 512 + r)) := fun r => by
  refine ⟨?_, ?_⟩
  · rw [xTile_re]
    refine Eq.trans (readout (D := D) (grp t) l (row t r) _ (fun q => I.dy (row t r) (col t q)) _ _ I.cre) ?_
    exact (D.g_re _ _ (row t r)).symm
  · rw [xTile_im]
    refine Eq.trans (congrArg (fun x : EReal => -x) (readout (D := D) (grp t) l (row t r) _ (fun q => I.dy (row t r) (col t q)) _ _ I.cim)) ?_
    exact (D.g_im _ _ (row t r)).symm

/-- The adjoint states of a point's rows, when the carry that enters is the state after them. -/
theorem lam_of (k : Row) (hk : Rep l k (fun _ => D.lam (hd (grp t) l) (sn l) ((7 - t.val % 8) * 512 + 512))) :
    Reads m c D X → Rep l (lamTile m c t k) (fun r => D.lam (hd (grp t) l) (sn l) ((7 - t.val % 8) * 512 + r))
      ∧ Rep l (carry (aRow m c t) (xTile m c t) k) (fun _ => D.lam (hd (grp t) l) (sn l) ((7 - t.val % 8) * 512)) := fun I => by
  have hb : (7 - t.val % 8) * 512 + 512 ≤ 4096 := by omega
  refine ⟨Rep.congr (lam_rep (aRow_rep I t l) (xTile_rep I t l) hk) fun r hr => ?_,
    Rep.congr (carry_rep (aRow_rep I t l) (xTile_rep I t l) hk) fun r _ => ?_⟩
  · exact carried_block _ _ hb (le_of_lt hr)
  · exact carried_block _ _ hb (Nat.zero_le _)

variable (m c)

/-- The carry that enters a point. -/
def kin (t : Fin cfg0.N) : Row := if t.val % 8 = 0 then noCarry else ((prior m c t).kre, (prior m c t).kim)

variable {m c}

/-- The carry a point leaves. -/
theorem left_k : ((left m c t.val t.isLt).kre, (left m c t.val t.isLt).kim) = carry (aRow m c t) (xTile m c t) (kin m c t) := by
  by_cases h : t.val % 8 = 0
  · rw [left_A m c t h, leavesA_kre, leavesA_kim, kin, if_pos h]
  · rw [left_B m c t h, leavesB_kre, leavesB_kim, kin, if_neg h]

/-- The point before. -/
def pt (t : Fin cfg0.N) : Fin cfg0.N := ⟨t.val - 1, Nat.lt_of_le_of_lt (Nat.sub_le _ _) t.isLt⟩

/-- The point before, in the same block, belongs to the same group. -/
theorem grp_pt (h : ¬t.val % 8 = 0) : grp (pt t) = grp t := Fin.ext (by
  show (t.val - 1) / 8 = t.val / 8
  omega)

/-- The point before is one earlier in its block. -/
theorem mod_pt (h : ¬t.val % 8 = 0) : (pt t).val % 8 + 1 = t.val % 8 := by
  show (t.val - 1) % 8 + 1 = t.val % 8
  omega

include I in
/-- The carry that enters a point is the adjoint state after its rows. -/
theorem kin_rep : ∀ (n : ℕ) (t : Fin cfg0.N), t.val = n →
    Rep l (kin m c t) (fun _ => D.lam (hd (grp t) l) (sn l) ((7 - t.val % 8) * 512 + 512)) := fun n => by
  induction n using Nat.strong_induction_on with
  | _ n ih =>
    intro t e
    by_cases h : t.val % 8 = 0
    · rw [kin, if_pos h]
      intro r
      obtain rfl : r = 0 := Subsingleton.elim r 0
      have z : D.lam (hd (grp t) l) (sn l) ((7 - t.val % 8) * 512 + 512) = 0 := by
        rw [h]; exact whole_end _ _ _
      show _ = ((D.lam (hd (grp t) l) (sn l) ((7 - t.val % 8) * 512 + 512)).re : EReal) ∧ _ = ((D.lam (hd (grp t) l) (sn l) ((7 - t.val % 8) * 512 + 512)).im : EReal)
      rw [z]
      exact ⟨(pay17_apply l).trans EReal.coe_zero.symm, (pay18_apply l).trans EReal.coe_zero.symm⟩
    · rw [kin, if_neg h]
      have hp := (lam_of (pt t) l _ (ih (pt t).val (by show t.val - 1 < n; omega) (pt t) rfl) I).2
      rw [← left_k (pt t), grp_pt t h] at hp
      have := mod_pt t h
      rw [show (7 - (pt t).val % 8) * 512 = (7 - t.val % 8) * 512 + 512 by omega] at hp
      exact hp

include I in
/-- The adjoint states of a point's rows. -/
theorem lam_at (r : Fin 512) : (lamTile m c t (kin m c t)).1 (ix2 r l) = D.lr (hd (grp t) l) (sn l) (row t r).val
    ∧ (lamTile m c t (kin m c t)).2 (ix2 r l) = D.li (hd (grp t) l) (sn l) (row t r).val :=
  (lam_of t l _ (kin_rep I l _ t rfl) I).1 r

/-- Sums over eight blocks of rows, each added at its point, are one sum over all rows at the block's last point. -/
theorem acc (f : ∀ n, n < cfg0.N → EReal) (G : Fin 8 → Fin 4096 → EReal)
    (hA : ∀ t : Fin cfg0.N, t.val % 8 = 0 → f t.val t.isLt = ∑ r : Fin 512, G (grp t) (row t r))
    (hB : ∀ t : Fin cfg0.N, ¬t.val % 8 = 0 → f t.val t.isLt = f (pt t).val (pt t).isLt + ∑ r : Fin 512, G (grp t) (row t r))
    (t : Fin cfg0.N) (h7 : t.val % 8 = 7) : f t.val t.isLt = ∑ T : Fin 4096, G (grp t) T := by
  have key : ∀ (n : ℕ) (t : Fin cfg0.N), t.val = n → f t.val t.isLt
      = ∑ s ∈ Finset.range (t.val % 8 + 1), ∑ r : Fin 512, (fun T : ℕ => if hT : T < 4096 then G (grp t) ⟨T, hT⟩ else 0) ((7 - s) * 512 + r.val) := fun n => by
    induction n using Nat.strong_induction_on with
    | _ n ih =>
      intro t e
      have e0 : ∑ r : Fin 512, (fun T : ℕ => if hT : T < 4096 then G (grp t) ⟨T, hT⟩ else 0) ((7 - t.val % 8) * 512 + r.val) = ∑ r : Fin 512, G (grp t) (row t r) :=
        Finset.sum_congr rfl fun r _ => dif_pos (rev_lt t r)
      rw [Finset.sum_range_succ, e0]
      by_cases h : t.val % 8 = 0
      · rw [hA t h, h, Finset.sum_range_zero, zero_add]
      · rw [hB t h, ih (pt t).val (by show t.val - 1 < n; omega) (pt t) rfl, mod_pt t h, grp_pt t h]
  rw [key _ t rfl, h7]
  refine (sum_blocks (fun T : ℕ => if hT : T < 4096 then G (grp t) ⟨T, hT⟩ else 0)).trans ?_
  exact Finset.sum_congr rfl fun T _ => dif_pos T.isLt

end Cert.KernelIdeal.Scan

end
-- ==== Proof.Finals.lean ====
module

public import proofs.«01_k».proof.Proof.Values

/-!
The kernel's blocks at the arrays they belong to: every block's entry as a sum over all rows, or as a sum over a head's
states.
-/

@[expose] public section

set_option maxRecDepth 65536
set_option maxHeartbeats 400000

noncomputable section

namespace Cert.KernelIdeal.Scan

open Idealize.ShloMosaic Idealize.ShloMosaic.TcCoe Cert.KernelIdeal.Gen ScanMath

variable (m : (ℓ : Loc nD τ sig) → Buf (Elt Ideal) ℓ) (c : Dev nD)

/-- The column of channel `q` of group `k` in the input array. -/
def uc (k : Fin 8) (q : Fin 128) : Fin 14336 := ⟨k.val * 128 + q.val, by omega⟩
/-- The column of channel `q` of group `k`. -/
def dc (k : Fin 8) (q : Fin 128) : Fin 1024 := ⟨k.val * 128 + q.val, by omega⟩
/-- The column of state `l` of group `k`. -/
def xc (k : Fin 8) (l : Fin 512) : Fin 4096 := ⟨k.val * 512 + l.val, by omega⟩

/-- An entry of the point's block of argument 0. -/
def b0 (t : Fin cfg0.N) (r : Fin 512) (q : Fin 128) : EReal := iblk m c 0 t (ix2 r q)
/-- An entry of the point's block of argument 2. -/
def b2 (t : Fin cfg0.N) (r : Fin 512) (q : Fin 128) : EReal := iblk m c 2 t (ix2 r q)
/-- An entry of the point's block of argument 3. -/
def b3 (t : Fin cfg0.N) (r : Fin 512) (q : Fin 512) : EReal := iblk m c 3 t (ix2 r q)
/-- An entry of the point's block of argument 4. -/
def b4 (t : Fin cfg0.N) (r : Fin 512) (q : Fin 512) : EReal := iblk m c 4 t (ix2 r q)

/-- The row before row `T`, zero before the first. -/
def prv (a : Fin 4096 → Fin 4096 → EReal) (T : Fin 4096) (j : Fin 4096) : EReal :=
  if T.val = 0 then 0 else a ⟨T.val - 1, by omega⟩ j

/-- The last row of a block of eight rows. -/
theorem ld_seven (x : Vec Ideal S8x512 .f32) (l : Fin 512) :
    (View.ld x (Rect.unit ![7, 0] S1x512.size inb_S8x512_S1x512_7_0) : Vec Ideal S1x512 .f32) (ix2 0 l) = x (ix2 7 l) := by
  pointwise

variable {m c}
variable {D : Tables} {X : Fin 4096 → Fin 4096 → ℝ} (I : Reads m c D X) (t : Fin cfg0.N)

/-- Nothing is carried into the first point of a block. -/
theorem kin_A (h : t.val % 8 = 0) : kin m c t = noCarry := if_pos h
/-- A later point is given what the point before left. -/
theorem kin_B (h : ¬t.val % 8 = 0) : kin m c t = ((prior m c t).kre, (prior m c t).kim) := if_neg h

/-- The state one row earlier, real part. -/
theorem prevRe_apply (r l : Fin 512) : prevRe m c t (ix2 r l) = prv (a3 m c) (row t r) (xc (grp t) l) := by
  have hT : (row t r).val = (7 - t.val % 8) * 512 + r.val := rfl
  unfold prevRe
  rw [pay297_apply, ld_seven, pay296_val, prv]
  by_cases hr : r.val = 0
  · rw [if_pos hr]
    by_cases h7 : t.val % 8 = 7
    · rw [if_pos h7, if_pos (by omega)]
      exact mul_zero _
    · rw [if_neg h7, if_neg (by omega)]
      refine (mul_one _).trans ((blk5 m c t h7 l).trans ?_)
      exact congrArg (fun i => a3 m c i (xc (grp t) l)) (Fin.ext (by
        show (7 - t.val % 8) * 512 - 1 = (row t r).val - 1
        omega))
  · rw [if_neg hr, if_neg (by omega)]
    refine (blk3 m c t _ l).trans ?_
    exact congrArg (fun i => a3 m c i (xc (grp t) l)) (Fin.ext (by
      show (7 - t.val % 8) * 512 + (r.val - 1) = (row t r).val - 1
      omega))

/-- The state one row earlier, imaginary part. -/
theorem prevIm_apply (r l : Fin 512) : prevIm m c t (ix2 r l) = prv (a4 m c) (row t r) (xc (grp t) l) := by
  have hT : (row t r).val = (7 - t.val % 8) * 512 + r.val := rfl
  unfold prevIm
  rw [pay298_apply, ld_seven, pay296_val, prv]
  by_cases hr : r.val = 0
  · rw [if_pos hr]
    by_cases h7 : t.val % 8 = 7
    · rw [if_pos h7, if_pos (by omega)]
      exact mul_zero _
    · rw [if_neg h7, if_neg (by omega)]
      refine (mul_one _).trans ((blk6 m c t h7 l).trans ?_)
      exact congrArg (fun i => a4 m c i (xc (grp t) l)) (Fin.ext (by
        show (7 - t.val % 8) * 512 - 1 = (row t r).val - 1
        omega))
  · rw [if_neg hr, if_neg (by omega)]
    refine (blk4 m c t _ l).trans ?_
    exact congrArg (fun i => a4 m c i (xc (grp t) l)) (Fin.ext (by
      show (7 - t.val % 8) * 512 + (r.val - 1) = (row t r).val - 1
      omega))

variable (m c D) in
/-- One row's share of the gradient of the input matrix, real part. -/
def Gbre (q : Fin 128) (l : Fin 512) (k : Fin 8) (T : Fin 4096) : EReal := a2 m c T (uc k q) * D.lr (hd k l) (sn l) T.val

include I in
/-- A point's share of it. -/
theorem sum_bre (q : Fin 128) (l : Fin 512) :
    (∑ r : Fin 512, b2 m c t r q * (lamTile m c t (kin m c t)).1 (ix2 r l) : EReal) = ∑ r : Fin 512, Gbre m c D q l (grp t) (row t r) :=
  Finset.sum_congr rfl fun r _ => congrArg₂ (fun a b : EReal => a * b) (blk2 m c t r q) (lam_at I t l r).1

include I in
/-- A block's result after its last point. -/
theorem fin_bre (q : Fin 128) (l : Fin 512) (h7 : t.val % 8 = 7) :
    (left m c t.val t.isLt).bre (ix3 0 q l) = ∑ T : Fin 4096, Gbre m c D q l (grp t) T := by
  refine acc (fun n hn => (left m c n hn).bre (ix3 0 q l)) (Gbre m c D q l) (fun t h => ?_) (fun t h => ?_) t h7
  · rw [left_A m c t h, leavesA_bre, pay4_apply, ← kin_A t h]
    exact sum_bre I t q l
  · rw [left_B m c t h, leavesB_bre, pay12_apply, ← kin_B t h]
    exact congrArg (fun x : EReal => (left m c (pt t).val (pt t).isLt).bre (ix3 0 q l) + x) (sum_bre I t q l)

variable (m c D) in
/-- One row's share of the gradient of the input matrix, imaginary part. -/
def Gbim (q : Fin 128) (l : Fin 512) (k : Fin 8) (T : Fin 4096) : EReal := a2 m c T (uc k q) * D.li (hd k l) (sn l) T.val

include I in
/-- A point's share of it. -/
theorem sum_bim (q : Fin 128) (l : Fin 512) :
    (∑ r : Fin 512, b2 m c t r q * (lamTile m c t (kin m c t)).2 (ix2 r l) : EReal) = ∑ r : Fin 512, Gbim m c D q l (grp t) (row t r) :=
  Finset.sum_congr rfl fun r _ => congrArg₂ (fun a b : EReal => a * b) (blk2 m c t r q) (lam_at I t l r).2

include I in
/-- A block's result after its last point. -/
theorem fin_bim (q : Fin 128) (l : Fin 512) (h7 : t.val % 8 = 7) :
    (left m c t.val t.isLt).bim (ix3 0 q l) = ∑ T : Fin 4096, Gbim m c D q l (grp t) T := by
  refine acc (fun n hn => (left m c n hn).bim (ix3 0 q l)) (Gbim m c D q l) (fun t h => ?_) (fun t h => ?_) t h7
  · rw [left_A m c t h, leavesA_bim, pay5_apply, ← kin_A t h]
    exact sum_bim I t q l
  · rw [left_B m c t h, leavesB_bim, pay13_apply, ← kin_B t h]
    exact congrArg (fun x : EReal => (left m c (pt t).val (pt t).isLt).bim (ix3 0 q l) + x) (sum_bim I t q l)

variable (m c) in
/-- One row's share of the gradient of the read-out matrix, real part. -/
def Gcre (l : Fin 512) (q : Fin 128) (k : Fin 8) (T : Fin 4096) : EReal := a3 m c T (xc k l) * a0 m c T (dc k q)

/-- A point's share of it. -/
theorem sum_cre (l : Fin 512) (q : Fin 128) :
    (∑ r : Fin 512, b3 m c t r l * b0 m c t r q : EReal) = ∑ r : Fin 512, Gcre m c l q (grp t) (row t r) :=
  Finset.sum_congr rfl fun r _ => congrArg₂ (fun a b : EReal => a * b) (blk3 m c t r l) (blk0 m c t r q)

/-- A block's result after its last point. -/
theorem fin_cre (l : Fin 512) (q : Fin 128) (h7 : t.val % 8 = 7) :
    (left m c t.val t.isLt).cre (ix3 0 l q) = ∑ T : Fin 4096, Gcre m c l q (grp t) T := by
  refine acc (fun n hn => (left m c n hn).cre (ix3 0 l q)) (Gcre m c l q) (fun t h => ?_) (fun t h => ?_) t h7
  · rw [left_A m c t h, leavesA_cre, pay6_apply]
    exact sum_cre t l q
  · rw [left_B m c t h, leavesB_cre, pay14_apply]
    exact congrArg (fun x : EReal => (left m c (pt t).val (pt t).isLt).cre (ix3 0 l q) + x) (sum_cre t l q)

variable (m c) in
/-- One row's share of the gradient of the read-out matrix, imaginary part. -/
def Gcim (l : Fin 512) (q : Fin 128) (k : Fin 8) (T : Fin 4096) : EReal := -a0 m c T (dc k q) * a4 m c T (xc k l)

include I in
/-- A point's share of it: the sign comes out of a sum of real numbers. -/
theorem sum_cim (l : Fin 512) (q : Fin 128) :
    (-(∑ r : Fin 512, b4 m c t r l * b0 m c t r q : EReal) : EReal) = ∑ r : Fin 512, Gcim m c l q (grp t) (row t r) := by
  have e1 : ∀ r : Fin 512, Gcim m c l q (grp t) (row t r) = -(D.dy (row t r) (dc (grp t) q) : EReal) * (X (row t r) (xc (grp t) l) : EReal) := fun r => by
    rw [Gcim, I.dy, I.xim]
  simp only [e1]
  refine Eq.trans (congrArg (fun x : EReal => -x) (Finset.sum_congr rfl fun r _ => ?_)) (sum_neg_mul _ _).symm
  refine (congrArg₂ (fun a b : EReal => a * b) ((blk4 m c t r l).trans (I.xim (row t r) (xc (grp t) l))) ((blk0 m c t r q).trans (I.dy (row t r) (dc (grp t) q)))).trans ?_
  exact mul_comm _ _

include I in
/-- A block's result after its last point. -/
theorem fin_cim (l : Fin 512) (q : Fin 128) (h7 : t.val % 8 = 7) :
    (left m c t.val t.isLt).cim (ix3 0 l q) = ∑ T : Fin 4096, Gcim m c l q (grp t) T := by
  refine acc (fun n hn => (left m c n hn).cim (ix3 0 l q)) (Gcim m c l q) (fun t h => ?_) (fun t h => ?_) t h7
  · rw [left_A m c t h, leavesA_cim, pay7_apply]
    exact sum_cim I t l q
  · rw [left_B m c t h, leavesB_cim, pay15_apply]
    exact congrArg (fun x : EReal => (left m c (pt t).val (pt t).isLt).cim (ix3 0 l q) + x) (sum_cim I t l q)

variable (m c D) in
/-- One row's share of the gradient of the decay, real part. -/
def Gare (l : Fin 512) (k : Fin 8) (T : Fin 4096) : EReal :=
  D.lr (hd k l) (sn l) T.val * prv (a3 m c) T (xc k l) + D.li (hd k l) (sn l) T.val * prv (a4 m c) T (xc k l)

include I in
/-- A point's share of it. -/
theorem sum_are (l : Fin 512) :
    (∑ r : Fin 512, ((lamTile m c t (kin m c t)).1 (ix2 r l) * prevRe m c t (ix2 r l) + (lamTile m c t (kin m c t)).2 (ix2 r l) * prevIm m c t (ix2 r l)) : EReal)
      = ∑ r : Fin 512, Gare m c D l (grp t) (row t r) :=
  Finset.sum_congr rfl fun r _ => congrArg₂ (fun a b : EReal => a + b)
    (congrArg₂ (fun a b : EReal => a * b) (lam_at I t l r).1 (prevRe_apply t r l))
    (congrArg₂ (fun a b : EReal => a * b) (lam_at I t l r).2 (prevIm_apply t r l))

include I in
/-- A block's result after its last point. -/
theorem fin_are (l : Fin 512) (h7 : t.val % 8 = 7) :
    (left m c t.val t.isLt).are (ix3 0 0 l) = ∑ T : Fin 4096, Gare m c D l (grp t) T := by
  refine acc (fun n hn => (left m c n hn).are (ix3 0 0 l)) (Gare m c D l) (fun t h => ?_) (fun t h => ?_) t h7
  · rw [left_A m c t h, leavesA_are, pay8_apply, ← kin_A t h]
    exact sum_are I t l
  · rw [left_B m c t h, leavesB_are, pay10_apply, ← kin_B t h]
    exact congrArg (fun x : EReal => (left m c (pt t).val (pt t).isLt).are (ix3 0 0 l) + x) (sum_are I t l)

variable (m c D) in
/-- One row's share of the gradient of the decay, imaginary part. -/
def Gaim (l : Fin 512) (k : Fin 8) (T : Fin 4096) : EReal :=
  D.li (hd k l) (sn l) T.val * prv (a3 m c) T (xc k l) - D.lr (hd k l) (sn l) T.val * prv (a4 m c) T (xc k l)

include I in
/-- A point's share of it. -/
theorem sum_aim (l : Fin 512) :
    (∑ r : Fin 512, ((lamTile m c t (kin m c t)).2 (ix2 r l) * prevRe m c t (ix2 r l) - (lamTile m c t (kin m c t)).1 (ix2 r l) * prevIm m c t (ix2 r l)) : EReal)
      = ∑ r : Fin 512, Gaim m c D l (grp t) (row t r) :=
  Finset.sum_congr rfl fun r _ => congrArg₂ (fun a b : EReal => a - b)
    (congrArg₂ (fun a b : EReal => a * b) (lam_at I t l r).2 (prevRe_apply t r l))
    (congrArg₂ (fun a b : EReal => a * b) (lam_at I t l r).1 (prevIm_apply t r l))

include I in
/-- A block's result after its last point. -/
theorem fin_aim (l : Fin 512) (h7 : t.val % 8 = 7) :
    (left m c t.val t.isLt).aim (ix3 0 0 l) = ∑ T : Fin 4096, Gaim m c D l (grp t) T := by
  refine acc (fun n hn => (left m c n hn).aim (ix3 0 0 l)) (Gaim m c D l) (fun t h => ?_) (fun t h => ?_) t h7
  · rw [left_A m c t h, leavesA_aim, pay9_apply, ← kin_A t h]
    exact sum_aim I t l
  · rw [left_B m c t h, leavesB_aim, pay11_apply, ← kin_B t h]
    exact congrArg (fun x : EReal => (left m c (pt t).val (pt t).isLt).aim (ix3 0 0 l) + x) (sum_aim I t l)

/-- A sum over a group's states against the laid-out input matrix is the sum over the head's own states. -/
theorem head_sum (k : Fin 8) (q : Fin 128) (x : Fin 512 → EReal) (z : Fin 64 → EReal) (hx : ∀ l : Fin 512, l.val / 64 = q.val / 16 → x l = z (sn l))
    (y : Fin 64 → Fin 64 → Fin 16 → EReal) :
    ∑ l : Fin 512, x l * dB y k q l = ∑ n : Fin 64, z n * y (hq k q) n (pn q) := by
  refine sum_head64 (⟨q.val / 16, by omega⟩ : Fin 8) _ _ (fun l h => ?_) fun n => ?_
  · rw [dB, if_neg (Ne.symm h), mul_zero]
  · have e : sn ⟨64 * (q.val / 16) + n.val, by omega⟩ = n := Fin.ext (by
      show (64 * (q.val / 16) + n.val) % 64 = n.val
      omega)
    rw [dB, if_pos (by show q.val / 16 = (64 * (q.val / 16) + n.val) / 64; omega), hx _ (by show (64 * (q.val / 16) + n.val) / 64 = q.val / 16; omega), e]
    exact congrArg (fun i => z n * y (hq k q) i (pn q)) e

/-- An entry of the tile of the input's gradient. -/
theorem duTile_apply (k : Row) (r : Fin 512) (q : Fin 128) : duTile m c t k (ix2 r q)
    = (∑ l : Fin 512, (lamTile m c t k).1 (ix2 r l) * dB (a5 m c) (grp t) q l : EReal) + (∑ l : Fin 512, (lamTile m c t k).2 (ix2 r l) * dB (a6 m c) (grp t) q l : EReal) + a1 m c (row t r) (dc (grp t) q) := by
  unfold duTile
  rw [pay295_apply]
  exact congrArg₂ (fun a b : EReal => a + b) (congrArg₂ (fun a b : EReal => a + b)
    (Finset.sum_congr rfl fun l _ => congrArg (fun b : EReal => (lamTile m c t k).1 (ix2 r l) * b) ((blk7 m c t q l).trans (denseB_apply _ _ _ _)))
    (Finset.sum_congr rfl fun l _ => congrArg (fun b : EReal => (lamTile m c t k).2 (ix2 r l) * b) ((blk8 m c t q l).trans (denseB_apply _ _ _ _))))
    (blk1 m c t r q)

variable (m c D) in
/-- The gradient of the input at row `T` and channel `q` of group `k`. -/
def Gdu (T : Fin 4096) (k : Fin 8) (q : Fin 128) : EReal :=
  (∑ n : Fin 64, D.lr (hq k q) n T.val * a5 m c (hq k q) n (pn q)) + (∑ n : Fin 64, D.li (hq k q) n T.val * a6 m c (hq k q) n (pn q)) + a1 m c T (dc k q)

include I in
/-- What a point leaves of the gradient of the input. -/
theorem fin_du (r : Fin 512) (q : Fin 128) : (left m c t.val t.isLt).du (ix2 r q) = Gdu m c D (row t r) (grp t) q := by
  have e : (left m c t.val t.isLt).du = duTile m c t (kin m c t) := by
    by_cases h : t.val % 8 = 0
    · rw [left_A m c t h, leavesA_du, kin_A t h]
    · rw [left_B m c t h, leavesB_du, kin_B t h]
  have hh : ∀ l : Fin 512, l.val / 64 = q.val / 16 → hd (grp t) l = hq (grp t) q := fun l h => Fin.ext (by
    show (grp t).val * 8 + l.val / 64 = (grp t).val * 8 + q.val / 16
    rw [h])
  rw [e, duTile_apply, Gdu]
  rw [head_sum (grp t) q (fun l => (lamTile m c t (kin m c t)).1 (ix2 r l)) (fun n => D.lr (hq (grp t) q) n (row t r).val)
      (fun l h => ((lam_at I t l r).1.trans (by rw [hh l h]))) (a5 m c),
    head_sum (grp t) q (fun l => (lamTile m c t (kin m c t)).2 (ix2 r l)) (fun n => D.li (hq (grp t) q) n (row t r).val)
      (fun l h => ((lam_at I t l r).2.trans (by rw [hh l h]))) (a6 m c)]

end Cert.KernelIdeal.Scan

end
-- ==== Proof.Arrays.lean ====
module

public import proofs.«01_k».proof.Proof.Finals

/-!
The arrays the kernel's pipeline leaves.
-/

@[expose] public section

set_option maxRecDepth 65536
set_option maxHeartbeats 400000

noncomputable section

namespace Cert.KernelIdeal.Scan

open Idealize.ShloMosaic Idealize.ShloMosaic.TcCoe Cert.KernelIdeal.Gen ScanMath

variable (m : (ℓ : Loc nD τ sig) → Buf (Elt Ideal) ℓ) (c : Dev nD)
variable (D : Tables)

variable {m c D}

variable (m c D) in
/-- The gradient of the input, entry by entry. -/
def oDu : FVec Ideal S4096x1024 .bf16 := fun ix => Gdu m c D (ix 0) ⟨(ix 1).val / 128, by have : (ix 1).val < 1024 := (ix 1).isLt; omega⟩ ⟨(ix 1).val % 128, by omega⟩

/-- At a column named by its group and channel. -/
theorem oDu_apply (T : Fin 4096) (k : Fin 8) (q : Fin 128) : oDu m c D (ix2 T (dc k q)) = Gdu m c D T k q :=
  congrArg₂ (Gdu m c D T) (Fin.ext (by show (k.val * 128 + q.val) / 128 = k.val; omega)) (Fin.ext (by show (k.val * 128 + q.val) % 128 = q.val; omega))

variable {X : Fin 4096 → Fin 4096 → ℝ} (I : Reads m c D X)

/-- The block window 13 points at. -/
theorem index_out13 (t : Fin cfg0.N) : win0_13.index t 0 = 7 - t.val % 8 ∧ win0_13.index t 1 = t.val / 8 :=
  (by decide +kernel : ∀ t : Fin grid0.N, win0_13.index t 0 = 7 - t.val % 8 ∧ win0_13.index t 1 = t.val / 8) t

/-- Where an entry of that block lies. -/
theorem emb13 (t : Fin cfg0.N) (r : Fin 512) (q : Fin 128) : (win0_13.blk t).view.emb (ix2 r q) = (ix2 (row t r) (dc (grp t) q) : S4096x1024.Idx) := by
  funext a
  refine Fin.ext ?_
  fin_cases a
  · blk_simp
    refine (congrArg (fun x => x * 512 + r.val) (index_out13 t).1).trans rfl
  · blk_simp
    refine (congrArg (fun x => x * 128 + q.val) (index_out13 t).2).trans rfl

include I in
/-- The gradient of the input when the pipeline is done. -/
theorem arr13 : (dats m 0 c).arrAt 13 cfg0.N = oDu m c D := by
  refine (dats m 0 c).arrAt_eq_of_covers 13 _ (by decide +kernel) fun t hf y => ?_
  blk_simp
  rw [after0_13]
  have h : ∀ (r : Fin 512) (q : Fin 128), (left m c t.val t.isLt).du (ix2 r q) = oDu m c D ((win0_13.blk t).view.emb (ix2 r q)) := fun r q => by
    rw [emb13]
    exact (fin_du I t r q).trans (oDu_apply _ _ _).symm
  exact (congrArg (fun y => (left m c t.val t.isLt).du y = oDu m c D ((win0_13.blk t).view.emb y)) (eq_ix2 y)).mpr (h (y 0) (y 1))

/-- An index of a block with one leading entry. -/
theorem eq_unit3 {a b : ℕ} (y : (⟨3, ![1, a, b]⟩ : Shape).Idx) : y = ix3 (0 : Fin 1) (y 1) (y 2) := by
  funext a
  fin_cases a
  · exact Subsingleton.elim (α := Fin 1) _ _
  · rfl
  · rfl

/-- An index of a block with two leading unit axes. -/
theorem eq_unit31 {b : ℕ} (y : (⟨3, ![1, 1, b]⟩ : Shape).Idx) : y = ix3 (0 : Fin 1) (0 : Fin 1) (y 2) := by
  funext a
  fin_cases a
  · exact Subsingleton.elim (α := Fin 1) _ _
  · exact Subsingleton.elim (α := Fin 1) _ _
  · rfl

/-- The accumulated results are written out at a block's last point. -/
theorem flush_out (t : Fin cfg0.N) : ((cfg0.win 14).flush t = true → t.val % 8 = 7) ∧ ((cfg0.win 15).flush t = true → t.val % 8 = 7)
    ∧ ((cfg0.win 16).flush t = true → t.val % 8 = 7) ∧ ((cfg0.win 17).flush t = true → t.val % 8 = 7)
    ∧ ((cfg0.win 18).flush t = true → t.val % 8 = 7) ∧ ((cfg0.win 19).flush t = true → t.val % 8 = 7) :=
  (by decide +kernel : ∀ t : Fin grid0.N, ((cfg0.win 14).flush t = true → t.val % 8 = 7) ∧ ((cfg0.win 15).flush t = true → t.val % 8 = 7)
    ∧ ((cfg0.win 16).flush t = true → t.val % 8 = 7) ∧ ((cfg0.win 17).flush t = true → t.val % 8 = 7)
    ∧ ((cfg0.win 18).flush t = true → t.val % 8 = 7) ∧ ((cfg0.win 19).flush t = true → t.val % 8 = 7)) t

variable (m c D) in
/-- The gradient of the input matrix, real part, group by group. -/
def oBre : FVec Ideal S8x128x512 .f32 := fun ix => ∑ T : Fin 4096, Gbre m c D (ix 1) (ix 2) (ix 0) T

/-- The block window 14 points at. -/
theorem index_out14 (t : Fin cfg0.N) : win0_14.index t 0 = t.val / 8 ∧ win0_14.index t 1 = 0 ∧ win0_14.index t 2 = 0 :=
  (by decide +kernel : ∀ t : Fin grid0.N, win0_14.index t 0 = t.val / 8 ∧ win0_14.index t 1 = 0 ∧ win0_14.index t 2 = 0) t

/-- Where an entry of that block lies. -/
theorem emb14 (t : Fin cfg0.N) (q : Fin 128) (l : Fin 512) : (win0_14.blk t).view.emb (ix3 0 q l) = ((ix3 (grp t) q l) : S8x128x512.Idx) := by
  funext a
  refine Fin.ext ?_
  fin_cases a
  · blk_simp
    exact (index_out14 t).1
  · blk_simp
    exact (congrArg (fun x => x * 128 + q.val) (index_out14 t).2.1).trans (by show 0 * 128 + q.val = q.val; omega)
  · blk_simp
    exact (congrArg (fun x => x * 512 + l.val) (index_out14 t).2.2).trans (by show 0 * 512 + l.val = l.val; omega)

include I in
/-- That array when the pipeline is done. -/
theorem arr14 : (dats m 0 c).arrAt 14 cfg0.N = oBre m c D := by
  refine (dats m 0 c).arrAt_eq_of_covers 14 _ (by decide +kernel) fun t hf y => ?_
  blk_simp
  rw [after0_14]
  have h : ∀ (q : Fin 128) (l : Fin 512), (left m c t.val t.isLt).bre (ix3 0 q l) = oBre m c D ((win0_14.blk t).view.emb (ix3 0 q l)) := fun q l => by
    rw [emb14]
    exact fin_bre I t q l ((flush_out t).1 hf)
  exact (congrArg (fun y => (left m c t.val t.isLt).bre y = oBre m c D ((win0_14.blk t).view.emb y)) (eq_unit3 y)).mpr (h (y 1) (y 2))

variable (m c D) in
/-- The gradient of the input matrix, imaginary part, group by group. -/
def oBim : FVec Ideal S8x128x512 .f32 := fun ix => ∑ T : Fin 4096, Gbim m c D (ix 1) (ix 2) (ix 0) T

/-- The block window 15 points at. -/
theorem index_out15 (t : Fin cfg0.N) : win0_15.index t 0 = t.val / 8 ∧ win0_15.index t 1 = 0 ∧ win0_15.index t 2 = 0 :=
  (by decide +kernel : ∀ t : Fin grid0.N, win0_15.index t 0 = t.val / 8 ∧ win0_15.index t 1 = 0 ∧ win0_15.index t 2 = 0) t

/-- Where an entry of that block lies. -/
theorem emb15 (t : Fin cfg0.N) (q : Fin 128) (l : Fin 512) : (win0_15.blk t).view.emb (ix3 0 q l) = ((ix3 (grp t) q l) : S8x128x512.Idx) := by
  funext a
  refine Fin.ext ?_
  fin_cases a
  · blk_simp
    exact (index_out15 t).1
  · blk_simp
    exact (congrArg (fun x => x * 128 + q.val) (index_out15 t).2.1).trans (by show 0 * 128 + q.val = q.val; omega)
  · blk_simp
    exact (congrArg (fun x => x * 512 + l.val) (index_out15 t).2.2).trans (by show 0 * 512 + l.val = l.val; omega)

include I in
/-- That array when the pipeline is done. -/
theorem arr15 : (dats m 0 c).arrAt 15 cfg0.N = oBim m c D := by
  refine (dats m 0 c).arrAt_eq_of_covers 15 _ (by decide +kernel) fun t hf y => ?_
  blk_simp
  rw [after0_15]
  have h : ∀ (q : Fin 128) (l : Fin 512), (left m c t.val t.isLt).bim (ix3 0 q l) = oBim m c D ((win0_15.blk t).view.emb (ix3 0 q l)) := fun q l => by
    rw [emb15]
    exact fin_bim I t q l ((flush_out t).2.1 hf)
  exact (congrArg (fun y => (left m c t.val t.isLt).bim y = oBim m c D ((win0_15.blk t).view.emb y)) (eq_unit3 y)).mpr (h (y 1) (y 2))

variable (m c) in
/-- The gradient of the read-out matrix, real part, group by group. -/
def oCre : FVec Ideal S8x512x128 .f32 := fun ix => ∑ T : Fin 4096, Gcre m c (ix 1) (ix 2) (ix 0) T

/-- The block window 16 points at. -/
theorem index_out16 (t : Fin cfg0.N) : win0_16.index t 0 = t.val / 8 ∧ win0_16.index t 1 = 0 ∧ win0_16.index t 2 = 0 :=
  (by decide +kernel : ∀ t : Fin grid0.N, win0_16.index t 0 = t.val / 8 ∧ win0_16.index t 1 = 0 ∧ win0_16.index t 2 = 0) t

/-- Where an entry of that block lies. -/
theorem emb16 (t : Fin cfg0.N) (q : Fin 512) (l : Fin 128) : (win0_16.blk t).view.emb (ix3 0 q l) = ((ix3 (grp t) q l) : S8x512x128.Idx) := by
  funext a
  refine Fin.ext ?_
  fin_cases a
  · blk_simp
    exact (index_out16 t).1
  · blk_simp
    exact (congrArg (fun x => x * 512 + q.val) (index_out16 t).2.1).trans (by show 0 * 512 + q.val = q.val; omega)
  · blk_simp
    exact (congrArg (fun x => x * 128 + l.val) (index_out16 t).2.2).trans (by show 0 * 128 + l.val = l.val; omega)

/-- That array when the pipeline is done. -/
theorem arr16 : (dats m 0 c).arrAt 16 cfg0.N = oCre m c := by
  refine (dats m 0 c).arrAt_eq_of_covers 16 _ (by decide +kernel) fun t hf y => ?_
  blk_simp
  rw [after0_16]
  have h : ∀ (q : Fin 512) (l : Fin 128), (left m c t.val t.isLt).cre (ix3 0 q l) = oCre m c ((win0_16.blk t).view.emb (ix3 0 q l)) := fun q l => by
    rw [emb16]
    exact fin_cre t q l ((flush_out t).2.2.1 hf)
  exact (congrArg (fun y => (left m c t.val t.isLt).cre y = oCre m c ((win0_16.blk t).view.emb y)) (eq_unit3 y)).mpr (h (y 1) (y 2))

variable (m c) in
/-- The gradient of the read-out matrix, imaginary part, group by group. -/
def oCim : FVec Ideal S8x512x128 .f32 := fun ix => ∑ T : Fin 4096, Gcim m c (ix 1) (ix 2) (ix 0) T

/-- The block window 17 points at. -/
theorem index_out17 (t : Fin cfg0.N) : win0_17.index t 0 = t.val / 8 ∧ win0_17.index t 1 = 0 ∧ win0_17.index t 2 = 0 :=
  (by decide +kernel : ∀ t : Fin grid0.N, win0_17.index t 0 = t.val / 8 ∧ win0_17.index t 1 = 0 ∧ win0_17.index t 2 = 0) t

/-- Where an entry of that block lies. -/
theorem emb17 (t : Fin cfg0.N) (q : Fin 512) (l : Fin 128) : (win0_17.blk t).view.emb (ix3 0 q l) = ((ix3 (grp t) q l) : S8x512x128.Idx) := by
  funext a
  refine Fin.ext ?_
  fin_cases a
  · blk_simp
    exact (index_out17 t).1
  · blk_simp
    exact (congrArg (fun x => x * 512 + q.val) (index_out17 t).2.1).trans (by show 0 * 512 + q.val = q.val; omega)
  · blk_simp
    exact (congrArg (fun x => x * 128 + l.val) (index_out17 t).2.2).trans (by show 0 * 128 + l.val = l.val; omega)

include I in
/-- That array when the pipeline is done. -/
theorem arr17 : (dats m 0 c).arrAt 17 cfg0.N = oCim m c := by
  refine (dats m 0 c).arrAt_eq_of_covers 17 _ (by decide +kernel) fun t hf y => ?_
  blk_simp
  rw [after0_17]
  have h : ∀ (q : Fin 512) (l : Fin 128), (left m c t.val t.isLt).cim (ix3 0 q l) = oCim m c ((win0_17.blk t).view.emb (ix3 0 q l)) := fun q l => by
    rw [emb17]
    exact fin_cim I t q l ((flush_out t).2.2.2.1 hf)
  exact (congrArg (fun y => (left m c t.val t.isLt).cim y = oCim m c ((win0_17.blk t).view.emb y)) (eq_unit3 y)).mpr (h (y 1) (y 2))

variable (m c D) in
/-- The gradient of the decay, real part, group by group. -/
def oAre : FVec Ideal S8x1x512 .f32 := fun ix => ∑ T : Fin 4096, Gare m c D (ix 2) (ix 0) T

/-- The block window 18 points at. -/
theorem index_out18 (t : Fin cfg0.N) : win0_18.index t 0 = t.val / 8 ∧ win0_18.index t 1 = 0 ∧ win0_18.index t 2 = 0 :=
  (by decide +kernel : ∀ t : Fin grid0.N, win0_18.index t 0 = t.val / 8 ∧ win0_18.index t 1 = 0 ∧ win0_18.index t 2 = 0) t

/-- Where an entry of that block lies. -/
theorem emb18 (t : Fin cfg0.N) (l : Fin 512) : (win0_18.blk t).view.emb (ix3 0 0 l) = ((ix3 (grp t) 0 l) : S8x1x512.Idx) := by
  funext a
  refine Fin.ext ?_
  fin_cases a
  · blk_simp
    exact (index_out18 t).1
  · blk_simp
    exact (congrArg (fun x => x * 1 + 0) (index_out18 t).2.1).trans (by rfl)
  · blk_simp
    exact (congrArg (fun x => x * 512 + l.val) (index_out18 t).2.2).trans (by show 0 * 512 + l.val = l.val; omega)

include I in
/-- That array when the pipeline is done. -/
theorem arr18 : (dats m 0 c).arrAt 18 cfg0.N = oAre m c D := by
  refine (dats m 0 c).arrAt_eq_of_covers 18 _ (by decide +kernel) fun t hf y => ?_
  blk_simp
  rw [after0_18]
  have h : ∀ (l : Fin 512), (left m c t.val t.isLt).are (ix3 0 0 l) = oAre m c D ((win0_18.blk t).view.emb (ix3 0 0 l)) := fun l => by
    rw [emb18]
    exact fin_are I t l ((flush_out t).2.2.2.2.1 hf)
  exact (congrArg (fun y => (left m c t.val t.isLt).are y = oAre m c D ((win0_18.blk t).view.emb y)) (eq_unit31 y)).mpr (h (y 2))

variable (m c D) in
/-- The gradient of the decay, imaginary part, group by group. -/
def oAim : FVec Ideal S8x1x512 .f32 := fun ix => ∑ T : Fin 4096, Gaim m c D (ix 2) (ix 0) T

/-- The block window 19 points at. -/
theorem index_out19 (t : Fin cfg0.N) : win0_19.index t 0 = t.val / 8 ∧ win0_19.index t 1 = 0 ∧ win0_19.index t 2 = 0 :=
  (by decide +kernel : ∀ t : Fin grid0.N, win0_19.index t 0 = t.val / 8 ∧ win0_19.index t 1 = 0 ∧ win0_19.index t 2 = 0) t

/-- Where an entry of that block lies. -/
theorem emb19 (t : Fin cfg0.N) (l : Fin 512) : (win0_19.blk t).view.emb (ix3 0 0 l) = ((ix3 (grp t) 0 l) : S8x1x512.Idx) := by
  funext a
  refine Fin.ext ?_
  fin_cases a
  · blk_simp
    exact (index_out19 t).1
  · blk_simp
    exact (congrArg (fun x => x * 1 + 0) (index_out19 t).2.1).trans (by rfl)
  · blk_simp
    exact (congrArg (fun x => x * 512 + l.val) (index_out19 t).2.2).trans (by show 0 * 512 + l.val = l.val; omega)

include I in
/-- That array when the pipeline is done. -/
theorem arr19 : (dats m 0 c).arrAt 19 cfg0.N = oAim m c D := by
  refine (dats m 0 c).arrAt_eq_of_covers 19 _ (by decide +kernel) fun t hf y => ?_
  blk_simp
  rw [after0_19]
  have h : ∀ (l : Fin 512), (left m c t.val t.isLt).aim (ix3 0 0 l) = oAim m c D ((win0_19.blk t).view.emb (ix3 0 0 l)) := fun l => by
    rw [emb19]
    exact fin_aim I t l ((flush_out t).2.2.2.2.2 hf)
  exact (congrArg (fun y => (left m c t.val t.isLt).aim y = oAim m c D ((win0_19.blk t).view.emb y)) (eq_unit31 y)).mpr (h (y 2))

end Cert.KernelIdeal.Scan

end
-- ==== Proof.Tail.lean ====
module

public import proofs.«01_k».proof.Proof.Arrays
public import Idealize.ShloMosaic.Lib.Claim
public import Idealize.ShloMosaic.Lib.StableHlo.RunRead
public import Idealize.ShloMosaic.Lib.Pointwise

/-!
What the host code after the pipeline makes of its arrays.
-/

@[expose] public section

set_option maxRecDepth 65536
set_option maxHeartbeats 400000

noncomputable section

namespace Cert.KernelIdeal.Scan

open Idealize.ShloMosaic Idealize.ShloMosaic.TcCoe Cert.KernelIdeal.Gen ScanMath

variable (m : (ℓ : Loc nD τ sig) → Buf (Elt Ideal) ℓ) (c : Dev nD)
variable (D : Tables)

/-- A choice on whether two head numbers are the same. -/
theorem select_same {α : Type} {a b : ℕ} (ha : a < 8) (hb : b < 8) (x y : α) :
    Scalar.select (IntOp.cmpi CmpIPredicate.eq (BitVec.ofNat 32 a) (BitVec.ofNat 32 b)) x y = if a = b then x else y := by
  have key : ∀ a b : Fin 8, IntOp.cmpi CmpIPredicate.eq (BitVec.ofNat 32 a.val) (BitVec.ofNat 32 b.val)
      = if a.val = b.val then 1#1 else 0#1 := by decide
  rw [show a = (⟨a, ha⟩ : Fin 8).val from rfl, show b = (⟨b, hb⟩ : Fin 8).val from rfl, key]
  exact select_of rfl x y

/-- The blocks along the diagonal, head by head, of the gradients of the input matrices. -/
def diagB (x : FVec Ideal S8x128x512 .f32) : FVec Ideal S64x64x16 .f32 :=
  transpose S64x64x16 [0, 2, 1]
    (shapeCast S64x16x64
      (transpose S8x8x16x64 [0, 2, 1, 3]
        (Host.reduceAdd
          (select
            (broadcastInDim S8x8x16x8x64 ![1, 3] bcast_S8x8_S8x8x16x8x64_1_3
              (cmpi CmpIPredicate.eq (iotaInDim S8x8 32 0) (iotaInDim S8x8 32 1)))
            (shapeCast S8x8x16x8x64 x shapeCasts_S8x128x512_S8x8x16x8x64)
            (broadcastInDim S8x8x16x8x64 ![] bcast_S_S8x8x16x8x64 (constant S_ FTy.f32 0#32)))
          (constant S_ FTy.f32 0#32) reducesTo_S8x8x16x8x64_S8x16x8x64_d1 h_S_)
        transposes_S8x16x8x64_S8x8x16x64_0_2_1_3)
      shapeCasts_S8x8x16x64_S64x16x64)
    transposes_S64x16x64_S64x64x16_0_2_1

/-- An entry of it: the entry of the head's own block. -/
theorem diagB_apply (x : FVec Ideal S8x128x512 .f32) (h : Fin 64) (n : Fin 64) (p : Fin 16) :
    diagB x (ix3 h n p) = x (ix3 ⟨h.val / 8, by omega⟩ ⟨h.val % 8 * 16 + p.val, by omega⟩ ⟨h.val % 8 * 64 + n.val, by omega⟩) := by
  pointwise [diagB]
  have e : ∀ j : Fin 8, Scalar.select (IntOp.cmpi CmpIPredicate.eq (BitVec.ofNat 32 j.val) (BitVec.ofNat 32 (h.val % 8)))
      (x (ix3 ⟨h.val / 8, by omega⟩ ⟨j.val * 16 + p.val, by omega⟩ ⟨h.val % 8 * 64 + n.val, by omega⟩)) (0 : EReal)
      = if j = ⟨h.val % 8, by omega⟩ then x (ix3 ⟨h.val / 8, by omega⟩ ⟨h.val % 8 * 16 + p.val, by omega⟩ ⟨h.val % 8 * 64 + n.val, by omega⟩) else (0 : EReal) := fun j => by
    rw [select_same j.isLt (by omega)]
    by_cases hj : j.val = h.val % 8
    · rw [if_pos hj, if_pos (Fin.ext hj)]
      exact congrArg (fun i => x (ix3 ⟨h.val / 8, by omega⟩ i ⟨h.val % 8 * 64 + n.val, by omega⟩)) (Fin.ext (by show j.val * 16 + p.val = h.val % 8 * 16 + p.val; rw [hj]))
    · rw [if_neg hj, if_neg (fun q => hj (congrArg Fin.val q))]
  refine (Finset.sum_congr rfl fun j _ => e j).trans ?_
  exact Fintype.sum_ite_eq' _ _

/-- The blocks along the diagonal, head by head, of the gradients of the read-out matrices. -/
def diagC (x : FVec Ideal S8x512x128 .f32) : FVec Ideal S64x16x64 .f32 :=
  transpose S64x16x64 [0, 2, 1]
    (shapeCast S64x64x16
      (transpose S8x8x64x16 [0, 2, 1, 3]
        (Host.reduceAdd
          (select
            (broadcastInDim S8x8x64x8x16 ![1, 3] bcast_S8x8_S8x8x64x8x16_1_3
              (cmpi CmpIPredicate.eq (iotaInDim S8x8 32 0) (iotaInDim S8x8 32 1)))
            (shapeCast S8x8x64x8x16 x shapeCasts_S8x512x128_S8x8x64x8x16)
            (broadcastInDim S8x8x64x8x16 ![] bcast_S_S8x8x64x8x16 (constant S_ FTy.f32 0#32)))
          (constant S_ FTy.f32 0#32) reducesTo_S8x8x64x8x16_S8x64x8x16_d1 h_S_)
        transposes_S8x64x8x16_S8x8x64x16_0_2_1_3)
      shapeCasts_S8x8x64x16_S64x64x16)
    transposes_S64x64x16_S64x16x64_0_2_1

/-- An entry of it: the entry of the head's own block. -/
theorem diagC_apply (x : FVec Ideal S8x512x128 .f32) (h : Fin 64) (n : Fin 16) (p : Fin 64) :
    diagC x (ix3 h n p) = x (ix3 ⟨h.val / 8, by omega⟩ ⟨h.val % 8 * 64 + p.val, by omega⟩ ⟨h.val % 8 * 16 + n.val, by omega⟩) := by
  pointwise [diagC]
  have e : ∀ j : Fin 8, Scalar.select (IntOp.cmpi CmpIPredicate.eq (BitVec.ofNat 32 j.val) (BitVec.ofNat 32 (h.val % 8)))
      (x (ix3 ⟨h.val / 8, by omega⟩ ⟨j.val * 64 + p.val, by omega⟩ ⟨h.val % 8 * 16 + n.val, by omega⟩)) (0 : EReal)
      = if j = ⟨h.val % 8, by omega⟩ then x (ix3 ⟨h.val / 8, by omega⟩ ⟨h.val % 8 * 64 + p.val, by omega⟩ ⟨h.val % 8 * 16 + n.val, by omega⟩) else (0 : EReal) := fun j => by
    rw [select_same j.isLt (by omega)]
    by_cases hj : j.val = h.val % 8
    · rw [if_pos hj, if_pos (Fin.ext hj)]
      exact congrArg (fun i => x (ix3 ⟨h.val / 8, by omega⟩ i ⟨h.val % 8 * 16 + n.val, by omega⟩)) (Fin.ext (by show j.val * 64 + p.val = h.val % 8 * 64 + p.val; rw [hj]))
    · rw [if_neg hj, if_neg (fun q => hj (congrArg Fin.val q))]
  refine (Finset.sum_congr rfl fun j _ => e j).trans ?_
  exact Fintype.sum_ite_eq' _ _

/-- The rows of eight heads as one row per head. -/
def rowsA (x : FVec Ideal S8x1x512 .f32) : FVec Ideal S64x64 .f32 := shapeCast S64x64 x shapeCasts_S8x1x512_S64x64

/-- An entry of it. -/
theorem rowsA_apply (x : FVec Ideal S8x1x512 .f32) (h n : Fin 64) :
    rowsA x (ix2 h n) = x (ix3 ⟨h.val / 8, by omega⟩ 0 ⟨h.val % 8 * 64 + n.val, by omega⟩) := by
  pointwise [rowsA]

/-- What the host code leaves in buffer `main_v61`. -/
theorem T_v61 : Pipeline.afterTail₀ cfgs (dats m) 0 (V0 m) [hostOps1] c main_v61 = diagB ((dats m 0 c).arrAt 14 cfg0.N) := by
  have hW : Pipeline.withArrays (cfgs 0).spec c (V0 m c) (fun w => (dats m 0 c).arrAt w (cfgs 0).N) (Proc.devRef .tc main_v50_1) = (dats m 0 c).arrAt 14 cfg0.N :=
    Pipeline.withArrays_arr_shared spec0 c (V0 m c) _ (Pipeline.Dat.arrAt_sharedIn (dats m 0 c) sharedIn0 (V0 m c) (A_eq m c) cfg0.N) 14
  rw [← hW]
  unfold Pipeline.afterTail₀
  generalize Pipeline.withArrays (cfgs 0).spec c (V0 m c) (fun w => (dats m 0 c).arrAt w (cfgs 0).N) = W
  simp only [hostOps1, List.flatten_cons, List.flatten_nil, List.append_nil, List.cons_append, List.nil_append]
  after_reads_simp
  rfl

/-- What the host code leaves in buffer `main_v72`. -/
theorem T_v72 : Pipeline.afterTail₀ cfgs (dats m) 0 (V0 m) [hostOps1] c main_v72 = diagB ((dats m 0 c).arrAt 15 cfg0.N) := by
  have hW : Pipeline.withArrays (cfgs 0).spec c (V0 m c) (fun w => (dats m 0 c).arrAt w (cfgs 0).N) (Proc.devRef .tc main_v50_2) = (dats m 0 c).arrAt 15 cfg0.N :=
    Pipeline.withArrays_arr_shared spec0 c (V0 m c) _ (Pipeline.Dat.arrAt_sharedIn (dats m 0 c) sharedIn0 (V0 m c) (A_eq m c) cfg0.N) 15
  rw [← hW]
  unfold Pipeline.afterTail₀
  generalize Pipeline.withArrays (cfgs 0).spec c (V0 m c) (fun w => (dats m 0 c).arrAt w (cfgs 0).N) = W
  simp only [hostOps1, List.flatten_cons, List.flatten_nil, List.append_nil, List.cons_append, List.nil_append]
  after_reads_simp
  rfl

/-- What the host code leaves in buffer `main_v83`. -/
theorem T_v83 : Pipeline.afterTail₀ cfgs (dats m) 0 (V0 m) [hostOps1] c main_v83 = diagC ((dats m 0 c).arrAt 16 cfg0.N) := by
  have hW : Pipeline.withArrays (cfgs 0).spec c (V0 m c) (fun w => (dats m 0 c).arrAt w (cfgs 0).N) (Proc.devRef .tc main_v50_3) = (dats m 0 c).arrAt 16 cfg0.N :=
    Pipeline.withArrays_arr_shared spec0 c (V0 m c) _ (Pipeline.Dat.arrAt_sharedIn (dats m 0 c) sharedIn0 (V0 m c) (A_eq m c) cfg0.N) 16
  rw [← hW]
  unfold Pipeline.afterTail₀
  generalize Pipeline.withArrays (cfgs 0).spec c (V0 m c) (fun w => (dats m 0 c).arrAt w (cfgs 0).N) = W
  simp only [hostOps1, List.flatten_cons, List.flatten_nil, List.append_nil, List.cons_append, List.nil_append]
  after_reads_simp
  rfl

/-- What the host code leaves in buffer `main_v94`. -/
theorem T_v94 : Pipeline.afterTail₀ cfgs (dats m) 0 (V0 m) [hostOps1] c main_v94 = diagC ((dats m 0 c).arrAt 17 cfg0.N) := by
  have hW : Pipeline.withArrays (cfgs 0).spec c (V0 m c) (fun w => (dats m 0 c).arrAt w (cfgs 0).N) (Proc.devRef .tc main_v50_4) = (dats m 0 c).arrAt 17 cfg0.N :=
    Pipeline.withArrays_arr_shared spec0 c (V0 m c) _ (Pipeline.Dat.arrAt_sharedIn (dats m 0 c) sharedIn0 (V0 m c) (A_eq m c) cfg0.N) 17
  rw [← hW]
  unfold Pipeline.afterTail₀
  generalize Pipeline.withArrays (cfgs 0).spec c (V0 m c) (fun w => (dats m 0 c).arrAt w (cfgs 0).N) = W
  simp only [hostOps1, List.flatten_cons, List.flatten_nil, List.append_nil, List.cons_append, List.nil_append]
  after_reads_simp
  rfl

/-- What the host code leaves in buffer `main_v95`. -/
theorem T_v95 : Pipeline.afterTail₀ cfgs (dats m) 0 (V0 m) [hostOps1] c main_v95 = rowsA ((dats m 0 c).arrAt 18 cfg0.N) := by
  have hW : Pipeline.withArrays (cfgs 0).spec c (V0 m c) (fun w => (dats m 0 c).arrAt w (cfgs 0).N) (Proc.devRef .tc main_v50_5) = (dats m 0 c).arrAt 18 cfg0.N :=
    Pipeline.withArrays_arr_shared spec0 c (V0 m c) _ (Pipeline.Dat.arrAt_sharedIn (dats m 0 c) sharedIn0 (V0 m c) (A_eq m c) cfg0.N) 18
  rw [← hW]
  unfold Pipeline.afterTail₀
  generalize Pipeline.withArrays (cfgs 0).spec c (V0 m c) (fun w => (dats m 0 c).arrAt w (cfgs 0).N) = W
  simp only [hostOps1, List.flatten_cons, List.flatten_nil, List.append_nil, List.cons_append, List.nil_append]
  after_reads_simp
  rfl

/-- What the host code leaves in buffer `main_v96`. -/
theorem T_v96 : Pipeline.afterTail₀ cfgs (dats m) 0 (V0 m) [hostOps1] c main_v96 = rowsA ((dats m 0 c).arrAt 19 cfg0.N) := by
  have hW : Pipeline.withArrays (cfgs 0).spec c (V0 m c) (fun w => (dats m 0 c).arrAt w (cfgs 0).N) (Proc.devRef .tc main_v50_6) = (dats m 0 c).arrAt 19 cfg0.N :=
    Pipeline.withArrays_arr_shared spec0 c (V0 m c) _ (Pipeline.Dat.arrAt_sharedIn (dats m 0 c) sharedIn0 (V0 m c) (A_eq m c) cfg0.N) 19
  rw [← hW]
  unfold Pipeline.afterTail₀
  generalize Pipeline.withArrays (cfgs 0).spec c (V0 m c) (fun w => (dats m 0 c).arrAt w (cfgs 0).N) = W
  simp only [hostOps1, List.flatten_cons, List.flatten_nil, List.append_nil, List.cons_append, List.nil_append]
  after_reads_simp
  rfl

end Cert.KernelIdeal.Scan

end
-- ==== Proof.KernelRun.lean ====
module

public import proofs.«01_k».proof.Proof.Tail

/-!
What a run of the idealized kernel leaves in its results and its arguments.
-/

@[expose] public section

set_option maxRecDepth 65536

noncomputable section

namespace Cert.KernelIdeal.Scan

open Idealize.ShloMosaic Idealize.ShloMosaic.TcCoe Idealize.SL.Sem Cert.KernelIdeal.Gen ScanMath

variable (m : (ℓ : Loc nD τ sig) → Buf (Elt Ideal) ℓ) (ρ : Dev nD → PrngReg)
variable (D : Dev nD → Tables) (X : Dev nD → Fin 4096 → Fin 4096 → ℝ)

/-- The results of a run, in the real numbers its arguments hold. -/
theorem run_values (I : ∀ c, Reads m c (D c) (X c)) :
    θ_run (defs (F := Ideal)) (onTc (τ := τ) (main (F := Ideal))) ⟨m, fun _ => 0, ρ⟩ fun r => ∀ c : Dev nD,
      r.2.mem ((c.tc : Thread nD τ).loc main_v50_0) = oDu m c (D c)
      ∧ r.2.mem ((c.tc : Thread nD τ).loc main_v61) = diagB (oBre m c (D c))
      ∧ r.2.mem ((c.tc : Thread nD τ).loc main_v72) = diagB (oBim m c (D c))
      ∧ r.2.mem ((c.tc : Thread nD τ).loc main_v83) = diagC (oCre m c)
      ∧ r.2.mem ((c.tc : Thread nD τ).loc main_v94) = diagC (oCim m c)
      ∧ r.2.mem ((c.tc : Thread nD τ).loc main_v95) = rowsA (oAre m c (D c))
      ∧ r.2.mem ((c.tc : Thread nD τ).loc main_v96) = rowsA (oAim m c (D c)) :=
  (θ_run defs _ _).mono (fun r h c =>
    ⟨(Pipeline.FramePost.out_eq h c 13).trans (arr13 (I c)),
     ((Pipeline.FramePost.rest_eq h c main_v61 (by decide)).trans (T_v61 m c)).trans (congrArg diagB (arr14 (I c))),
     ((Pipeline.FramePost.rest_eq h c main_v72 (by decide)).trans (T_v72 m c)).trans (congrArg diagB (arr15 (I c))),
     ((Pipeline.FramePost.rest_eq h c main_v83 (by decide)).trans (T_v83 m c)).trans (congrArg diagC (arr16)),
     ((Pipeline.FramePost.rest_eq h c main_v94 (by decide)).trans (T_v94 m c)).trans (congrArg diagC (arr17 (I c))),
     ((Pipeline.FramePost.rest_eq h c main_v95 (by decide)).trans (T_v95 m c)).trans (congrArg rowsA (arr18 (I c))),
     ((Pipeline.FramePost.rest_eq h c main_v96 (by decide)).trans (T_v96 m c)).trans (congrArg rowsA (arr19 (I c)))⟩)
    (run_main m ρ)

end Cert.KernelIdeal.Scan
-- ==== Proof.RefVal.lean ====
module

public import proofs.«01_k».proof.Proof.RefStep
public import proofs.«01_k».proof.Proof.Grad

/-!
The reference's loop is the adjoint recurrence of `ScanMath.Tables`, and its results are the sums over that recurrence.
-/

@[expose] public section

set_option maxRecDepth 16384

noncomputable section

namespace Cert.ReferenceIdeal.Scan

open Idealize.ShloMosaic Cert.ReferenceIdeal Cert.ReferenceIdeal.Gen Cert.ReferenceIdeal.Step ScanMath
open scoped BigOperators

/-- An array of the reference at the ideal values. -/
abbrev Arr (S : Shape) (e : EltTy) := (⟨S, e⟩ : BufTy).Contents (Elt Ideal)

variable (a0 a1 : Arr S4096x1024 .bf16) (a2 : Arr S4096x14336 .f32) (a3 a4 : Arr S4096x4096 .f32)
  (a5 a6 : Arr S64x64x16 .f32) (a7 a8 : Arr S64x16x64 .f32) (a9 a10 : Arr S64x64 .f32)

/-- What enters the real part of the adjoint state. -/
theorem v8_apply (t : Fin 4096) (h n : Fin 64) :
    A_main_v8 a0 a7 a8 (ix3 t h n) = ∑ p : Fin 16, a0 (ix2 t (chan h p)) * a7 (ix3 h p n) := by
  pointwise [A_main_v8, A_main_v7, A_main_v6, A_main_v1, A_main_v0]
  rfl

/-- What enters the imaginary part of the adjoint state. -/
theorem v5_apply (t : Fin 4096) (h n : Fin 64) :
    A_main_v5 a0 a7 a8 (ix3 t h n) = ∑ p : Fin 16, -a0 (ix2 t (chan h p)) * a8 (ix3 h p n) := by
  pointwise [A_main_v5, A_main_v4, A_main_v3, A_main_v2, A_main_v1, A_main_v0]
  rfl

/-- The gradient of the input of channel `p` of head `h`. -/
theorem v65_apply (s : State Ideal) (t : Fin 4096) (h : Fin 64) (p : Fin 16) :
    R_main_v65 s a1 a5 a6 (ix2 t (chan h p)) = (∑ n : Fin 64, s.main_v14_8 (ix3 t h n) * a6 (ix3 h n p)) + (∑ n : Fin 64, s.main_v14_7 (ix3 t h n) * a5 (ix3 h n p)) + a1 (ix2 t (chan h p)) := by
  pointwise [R_main_v65]
  have e1 : ∀ hh, (⟨(chan h p).val / 16, hh⟩ : Fin 64) = h := fun _ => Fin.ext (by show (h.val * 16 + p.val) / 16 = h.val; omega)
  have e2 : ∀ hh, (⟨(chan h p).val % 16, hh⟩ : Fin 16) = p := fun _ => Fin.ext (by show (h.val * 16 + p.val) % 16 = p.val; omega)
  simp only [e1, e2]

/-- The gradient of the real part of the read-in matrices. -/
theorem v29_apply (s : State Ideal) (h n : Fin 64) (p : Fin 16) :
    R_main_v29 s a2 (ix3 h n p) = ∑ t : Fin 4096, s.main_v14_7 (ix3 t h n) * a2 (ix2 t ⟨h.val * 16 + p.val, by omega⟩) := by
  pointwise [R_main_v29]

/-- The gradient of the imaginary part of the read-in matrices. -/
theorem v27_apply (s : State Ideal) (h n : Fin 64) (p : Fin 16) :
    R_main_v27 s a2 (ix3 h n p) = ∑ t : Fin 4096, s.main_v14_8 (ix3 t h n) * a2 (ix2 t ⟨h.val * 16 + p.val, by omega⟩) := by
  pointwise [R_main_v27]

/-- The gradient of the real part of the read-out matrices. -/
theorem v23_apply (s : State Ideal) (h n : Fin 64) (p : Fin 16) :
    R_main_v23 s a0 a3 (ix3 h p n) = ∑ t : Fin 4096, a0 (ix2 t (chan h p)) * a3 (ix2 t (stat h n)) := by
  pointwise [R_main_v23]
  rfl

/-- The gradient of the imaginary part of the read-out matrices. -/
theorem v21_apply (s : State Ideal) (h n : Fin 64) (p : Fin 16) :
    R_main_v21 s a0 a4 (ix3 h p n) = ∑ t : Fin 4096, -a0 (ix2 t (chan h p)) * a4 (ix2 t (stat h n)) := by
  pointwise [R_main_v21]
  rfl

/-- The gradient of the real part of the decay. -/
theorem v61_apply (s : State Ideal) (h n : Fin 64) :
    R_main_v61 s a3 a4 (ix2 h n) = (∑ t : Fin 4095, s.main_v14_8 (ix3 ⟨t.val + 1, by omega⟩ h n) * a4 (ix2 ⟨t.val, by omega⟩ (stat h n)))
      + ∑ t : Fin 4095, s.main_v14_7 (ix3 ⟨t.val + 1, by omega⟩ h n) * a3 (ix2 ⟨t.val, by omega⟩ (stat h n)) := by
  pointwise [R_main_v61]
  simp only [Finset.univ_unique, Finset.sum_singleton, Nat.add_comm 1]
  rfl

/-- The gradient of the imaginary part of the decay. -/
theorem v56_apply (s : State Ideal) (h n : Fin 64) :
    R_main_v56 s a3 a4 (ix2 h n) = (∑ t : Fin 4095, s.main_v14_8 (ix3 ⟨t.val + 1, by omega⟩ h n) * a3 (ix2 ⟨t.val, by omega⟩ (stat h n)))
      + ∑ t : Fin 4095, -s.main_v14_7 (ix3 ⟨t.val + 1, by omega⟩ h n) * a4 (ix2 ⟨t.val, by omega⟩ (stat h n)) := by
  pointwise [R_main_v56]
  simp only [Finset.univ_unique, Finset.sum_singleton, Nat.add_comm 1]
  rfl

/-- The row a trip works on. -/
theorem b3_toInt (j : ℕ) (hj : j < 4096) (s : State Ideal) : (b3 j s (Shape.Idx.first h_S_)).toInt = ((4095 - j : ℕ) : Int) := by
  show ((4096#32 - BitVec.ofNat 32 j) - 1#32).toInt = _
  have e : (4096#32 - BitVec.ofNat 32 j) - 1#32 = BitVec.ofNat 32 (4095 - j) := by
    apply BitVec.eq_of_toNat_eq
    simp only [BitVec.toNat_sub, BitVec.toNat_ofNat]
    omega
  rw [e, BitVec.toInt_eq_toNat_of_lt (by rw [BitVec.toNat_ofNat]; omega), BitVec.toNat_ofNat]
  omega

/-- Where a trip's row starts. -/
theorem start_of (j : ℕ) (hj : j < 4096) (s : State Ideal) (hr : S1x64x64.rank = S4096x64x64.rank) (z1 z2 : (⟨S_, .i32⟩ : BufTy).Contents (Elt Ideal))
    (h1 : (z1 (Shape.Idx.first h_S_)).toInt = 0) (h2 : (z2 (Shape.Idx.first h_S_)).toInt = 0) (a : Fin 3) :
    Host.clampedStart S4096x64x64 S1x64x64 hr (fun k => (((![b3 j s, z1, z2] : Fin 3 → (⟨S_, .i32⟩ : BufTy).Contents (Elt Ideal))) k (Shape.Idx.first h_S_)).toInt) a
      = (![4095 - j, 0, 0] : Fin 3 → ℕ) a := by
  refine Host.clampedStart_of_le hr _ a _ ?_ ?_
  · fin_cases a
    · exact b3_toInt j hj s
    · exact h1
    · exact h2
  · fin_cases a
    · show 4095 - j + 1 ≤ 4096; omega
    · exact Nat.le_refl 64
    · exact Nat.le_refl 64

/-- The slice a trip takes of an array of rows. -/
theorem slice_apply (j : ℕ) (hj : j < 4096) (s : State Ideal) (z1 z2 : (⟨S_, .i32⟩ : BufTy).Contents (Elt Ideal))
    (h1 : (z1 (Shape.Idx.first h_S_)).toInt = 0) (h2 : (z2 (Shape.Idx.first h_S_)).toInt = 0) (x : S4096x64x64.Idx → EReal) (h n : Fin 64) :
    Host.dynamicSlice S1x64x64 x (fun k => (((![b3 j s, z1, z2] : Fin 3 → (⟨S_, .i32⟩ : BufTy).Contents (Elt Ideal))) k (Shape.Idx.first h_S_)).toInt) sliceFits_S4096x64x64_S1x64x64 (ix3 0 h n)
      = x (ix3 ⟨4095 - j, by omega⟩ h n) := by
  rw [Host.dynamicSlice_apply]
  refine congrArg x ?_
  funext a
  apply Fin.ext
  have e := start_of j hj s sliceFits_S4096x64x64_S1x64x64.1 z1 z2 h1 h2 a
  fin_cases a
  · exact (congrArg (· + 0) e).trans rfl
  · exact (congrArg (· + h.val) e).trans (Nat.zero_add _)
  · exact (congrArg (· + n.val) e).trans (Nat.zero_add _)

/-- The row a trip writes into an array of rows. -/
theorem update_apply (j : ℕ) (hj : j < 4096) (s : State Ideal) (z1 z2 : (⟨S_, .i32⟩ : BufTy).Contents (Elt Ideal))
    (h1 : (z1 (Shape.Idx.first h_S_)).toInt = 0) (h2 : (z2 (Shape.Idx.first h_S_)).toInt = 0) (x : S4096x64x64.Idx → EReal) (u : S1x64x64.Idx → EReal)
    (t : Fin 4096) (h n : Fin 64) :
    Host.dynamicUpdateSlice x u (fun k => (((![b3 j s, z1, z2] : Fin 3 → (⟨S_, .i32⟩ : BufTy).Contents (Elt Ideal))) k (Shape.Idx.first h_S_)).toInt) updateFits_S4096x64x64_S1x64x64 (ix3 t h n)
      = if t.val = 4095 - j then u (ix3 0 h n) else x (ix3 t h n) := by
  rw [Host.dynamicUpdateSlice_apply]
  have e := start_of j hj s updateFits_S4096x64x64_S1x64x64.1 z1 z2 h1 h2
  by_cases ht : t.val = 4095 - j
  · rw [if_pos ht, dif_pos]
    · refine congrArg u ?_
      funext a
      apply Fin.ext
      fin_cases a
      · exact (congrArg (t.val - ·) (e 0)).trans (by show t.val - (4095 - j) = 0; omega)
      · exact (congrArg (h.val - ·) (e 1)).trans (Nat.sub_zero _)
      · exact (congrArg (n.val - ·) (e 2)).trans (Nat.sub_zero _)
    · intro a
      rw [e a]
      fin_cases a
      · show 4095 - j ≤ t.val ∧ t.val < 4095 - j + 1; omega
      · exact ⟨Nat.zero_le _, by show h.val < 0 + 64; omega⟩
      · exact ⟨Nat.zero_le _, by show n.val < 0 + 64; omega⟩
  · rw [if_neg ht, dif_neg]
    intro hin
    have h0 := hin 0
    rw [e 0] at h0
    have h0' : 4095 - j ≤ t.val ∧ t.val < 4095 - j + 1 := h0
    omega

/-- One trip's new row of the real part. -/
theorem b12_apply (j : ℕ) (hj : j < 4096) (s : State Ideal) (h n : Fin 64) :
    b12 j s (ix2 h n) = s.main_v14_5 (ix2 h n) + s.main_v14_0 (ix3 ⟨4095 - j, by omega⟩ h n) := by
  have e : b7 j s (ix2 h n) = b6 j s (ix3 0 h n) := by pointwise [b7]
  have e' := slice_apply j hj s (b4 j s) (b5 j s) rfl rfl s.main_v14_0 h n
  show s.main_v14_5 (ix2 h n) + b7 j s (ix2 h n) = _
  rw [e, b6, e']

/-- One trip's new row of the imaginary part. -/
theorem b13_apply (j : ℕ) (hj : j < 4096) (s : State Ideal) (h n : Fin 64) :
    b13 j s (ix2 h n) = s.main_v14_6 (ix2 h n) + s.main_v14_1 (ix3 ⟨4095 - j, by omega⟩ h n) := by
  have e : b11 j s (ix2 h n) = b10 j s (ix3 0 h n) := by pointwise [b11]
  have e' := slice_apply j hj s (b8 j s) (b9 j s) rfl rfl s.main_v14_1 h n
  show s.main_v14_6 (ix2 h n) + b11 j s (ix2 h n) = _
  rw [e, b10, e']

/-- One trip's array of real parts. -/
theorem b24_apply (j : ℕ) (hj : j < 4096) (s : State Ideal) (t : Fin 4096) (h n : Fin 64) :
    b24 j s (ix3 t h n) = if t.val = 4095 - j then b12 j s (ix2 h n) else s.main_v14_7 (ix3 t h n) := by
  have e : b21 j s (ix3 0 h n) = b12 j s (ix2 h n) := by pointwise [b21]
  rw [b24, update_apply j hj s (b22 j s) (b23 j s) rfl rfl s.main_v14_7 (b21 j s) t h n, e]

/-- One trip's array of imaginary parts. -/
theorem b28_apply (j : ℕ) (hj : j < 4096) (s : State Ideal) (t : Fin 4096) (h n : Fin 64) :
    b28 j s (ix3 t h n) = if t.val = 4095 - j then b13 j s (ix2 h n) else s.main_v14_8 (ix3 t h n) := by
  have e : b25 j s (ix3 0 h n) = b13 j s (ix2 h n) := by pointwise [b25]
  rw [b28, update_apply j hj s (b26 j s) (b27 j s) rfl rfl s.main_v14_8 (b25 j s) t h n, e]

/-- One trip's carry, real part. -/
theorem b20_apply (j : ℕ) (s : State Ideal) (h n : Fin 64) :
    b20 j s (ix2 h n) = s.main_v14_3 (ix2 h n) * b13 j s (ix2 h n) + s.main_v14_2 (ix2 h n) * b12 j s (ix2 h n) := by
  pointwise [b20, b14, b19]

/-- One trip's carry, imaginary part. -/
theorem b18_apply (j : ℕ) (s : State Ideal) (h n : Fin 64) :
    b18 j s (ix2 h n) = s.main_v14_2 (ix2 h n) * b13 j s (ix2 h n) + s.main_v14_3 (ix2 h n) * -b12 j s (ix2 h n) := by
  pointwise [b18, b15, b17, b16]

/-- The arrays the loop reads hold the tables. -/
structure Reads (D : Tables) : Prop where
  dy : ∀ t H, a0 (ix2 t H) = (D.dy t H : EReal)
  cre : ∀ h p n, a7 (ix3 h p n) = (D.cre h p n : EReal)
  cim : ∀ h p n, a8 (ix3 h p n) = (D.cim h p n : EReal)
  are : ∀ h n, a9 (ix2 h n) = (D.are h n : EReal)
  aim : ∀ h n, a10 (ix2 h n) = (D.aim h n : EReal)

/-- The states of the loop. -/
def it : ℕ → State Ideal
  | 0 => init a9 a10 a0 a7 a8
  | j + 1 => step j (it j)

/-- What holds after `j` trips: the carry is the decayed adjoint state, and the rows written so far hold it. -/
structure Inv (D : Tables) (j : ℕ) (s : State Ideal) : Prop where
  re : ∀ h n, s.main_v14_5 (ix2 h n) = ((D.α h n * D.lam h n (4096 - j)).re : EReal)
  im : ∀ h n, s.main_v14_6 (ix2 h n) = ((D.α h n * D.lam h n (4096 - j)).im : EReal)
  lr : ∀ (t : Fin 4096) h n, 4096 - j ≤ t.val → s.main_v14_7 (ix3 t h n) = D.lr h n t.val
  li : ∀ (t : Fin 4096) h n, 4096 - j ≤ t.val → s.main_v14_8 (ix3 t h n) = D.li h n t.val
  gr : ∀ (t : Fin 4096) h n, s.main_v14_0 (ix3 t h n) = ((D.g h n t.val).re : EReal)
  gi : ∀ (t : Fin 4096) h n, s.main_v14_1 (ix3 t h n) = ((D.g h n t.val).im : EReal)
  ar : ∀ h n, s.main_v14_2 (ix2 h n) = (D.are h n : EReal)
  ai : ∀ h n, s.main_v14_3 (ix2 h n) = (D.aim h n : EReal)

/-- Before the first trip. -/
theorem inv_zero (D : Tables) (R : Reads a0 a7 a8 a9 a10 D) : Inv D 0 (init a9 a10 a0 a7 a8) where
  re h n := by
    rw [Tables.lam, Nat.sub_zero, whole_end, mul_zero]
    show K_main_v10 (F := Ideal) (ix2 h n) = _
    pointwise [K_main_v10, K_main_cst_0]
    rw [Complex.zero_re, EReal.coe_zero]
  im h n := by
    rw [Tables.lam, Nat.sub_zero, whole_end, mul_zero]
    show K_main_v11 (F := Ideal) (ix2 h n) = _
    pointwise [K_main_v11, K_main_cst_1]
    rw [Complex.zero_im, EReal.coe_zero]
  lr t h n ht := absurd t.isLt (by omega)
  li t h n ht := absurd t.isLt (by omega)
  gr t h n := by
    show A_main_v8 a0 a7 a8 (ix3 t h n) = _
    rw [v8_apply, Tables.g_re]
    exact Finset.sum_congr rfl fun p _ => by rw [R.dy, R.cre]
  gi t h n := by
    show A_main_v5 a0 a7 a8 (ix3 t h n) = _
    rw [v5_apply, Tables.g_im, ← sum_neg_mul]
    exact Finset.sum_congr rfl fun p _ => by rw [R.dy, R.cim]
  ar h n := R.are h n
  ai h n := R.aim h n

/-- One trip keeps it. -/
theorem inv_step (D : Tables) (j : ℕ) (hj : j < 4096) (s : State Ideal) (I : Inv D j s) : Inv D (j + 1) (step j s) := by
  have hw : ∀ h n, D.lam h n (4095 - j) = D.g h n (4095 - j) + D.α h n * D.lam h n (4096 - j) := fun h n => by
    have := whole_step (N := 4096) (D.α h n) (D.g h n) (t := 4095 - j) (by omega)
    rw [show 4095 - j + 1 = 4096 - j by omega] at this
    exact this
  have h12 : ∀ h n, b12 j s (ix2 h n) = ((D.lam h n (4095 - j)).re : EReal) := fun h n => by
    rw [b12_apply j hj, I.re, I.gr, ← EReal.coe_add, hw, Complex.add_re, add_comm]
  have h13 : ∀ h n, b13 j s (ix2 h n) = ((D.lam h n (4095 - j)).im : EReal) := fun h n => by
    rw [b13_apply j hj, I.im, I.gi, ← EReal.coe_add, hw, Complex.add_im, add_comm]
  refine ⟨fun h n => ?_, fun h n => ?_, fun t h n ht => ?_, fun t h n ht => ?_, I.gr, I.gi, I.ar, I.ai⟩
  · rw [step_main_v14_5, b20_apply, h12, h13, I.ar, I.ai, show 4096 - (j + 1) = 4095 - j by omega, ← EReal.coe_mul, ← EReal.coe_mul, ← EReal.coe_add]
    congr 1
    rw [Complex.mul_re]
    show _ = D.are h n * _ - -D.aim h n * _
    ring
  · rw [step_main_v14_6, b18_apply, h12, h13, I.ar, I.ai, show 4096 - (j + 1) = 4095 - j by omega, ← EReal.coe_neg, ← EReal.coe_mul, ← EReal.coe_mul, ← EReal.coe_add]
    congr 1
    rw [Complex.mul_im]
    show _ = D.are h n * _ + -D.aim h n * _
    ring
  · rw [step_main_v14_7, b24_apply j hj]
    split
    · next e => rw [h12, e]; rfl
    · exact I.lr t h n (by omega)
  · rw [step_main_v14_8, b28_apply j hj]
    split
    · next e => rw [h13, e]; rfl
    · exact I.li t h n (by omega)

/-- After any number of trips up to all of them. -/
theorem inv_it (D : Tables) (R : Reads a0 a7 a8 a9 a10 D) : ∀ j, j ≤ 4096 → Inv D j (it a0 a7 a8 a9 a10 j)
  | 0, _ => inv_zero a0 a7 a8 a9 a10 D R
  | j + 1, h => inv_step D j h _ (inv_it D R j (Nat.le_of_succ_le h))

variable {s : State Ideal} {D : Tables} (I : Inv D 4096 s)
include I

/-- The gradient of the input after the loop. -/
theorem ref_du (t : Fin 4096) (h : Fin 64) (p : Fin 16) :
    R_main_v65 s a1 a5 a6 (ix2 t (chan h p)) = (∑ n : Fin 64, D.li h n t.val * a6 (ix3 h n p)) + (∑ n : Fin 64, D.lr h n t.val * a5 (ix3 h n p)) + a1 (ix2 t (chan h p)) := by
  rw [v65_apply]
  simp only [I.lr t h _ (Nat.zero_le _), I.li t h _ (Nat.zero_le _)]

/-- The gradient of the read-in matrices after the loop, real part. -/
theorem ref_bre (h n : Fin 64) (p : Fin 16) :
    R_main_v29 s a2 (ix3 h n p) = ∑ t : Fin 4096, D.lr h n t.val * a2 (ix2 t ⟨h.val * 16 + p.val, by omega⟩) := by
  rw [v29_apply]
  exact Finset.sum_congr rfl fun t _ => by rw [I.lr t h n (Nat.zero_le _)]

/-- The gradient of the read-in matrices after the loop, imaginary part. -/
theorem ref_bim (h n : Fin 64) (p : Fin 16) :
    R_main_v27 s a2 (ix3 h n p) = ∑ t : Fin 4096, D.li h n t.val * a2 (ix2 t ⟨h.val * 16 + p.val, by omega⟩) := by
  rw [v27_apply]
  exact Finset.sum_congr rfl fun t _ => by rw [I.li t h n (Nat.zero_le _)]

/-- The gradient of the decay after the loop, real part. -/
theorem ref_are (h n : Fin 64) :
    R_main_v61 s a3 a4 (ix2 h n) = (∑ t : Fin 4095, D.li h n (t.val + 1) * a4 (ix2 ⟨t.val, by omega⟩ (stat h n)))
      + ∑ t : Fin 4095, D.lr h n (t.val + 1) * a3 (ix2 ⟨t.val, by omega⟩ (stat h n)) := by
  rw [v61_apply]
  simp only [I.lr _ h n (Nat.zero_le _), I.li _ h n (Nat.zero_le _)]

/-- The gradient of the decay after the loop, imaginary part. -/
theorem ref_aim (h n : Fin 64) :
    R_main_v56 s a3 a4 (ix2 h n) = (∑ t : Fin 4095, D.li h n (t.val + 1) * a3 (ix2 ⟨t.val, by omega⟩ (stat h n)))
      + ∑ t : Fin 4095, -D.lr h n (t.val + 1) * a4 (ix2 ⟨t.val, by omega⟩ (stat h n)) := by
  rw [v56_apply]
  simp only [I.lr _ h n (Nat.zero_le _), I.li _ h n (Nat.zero_le _)]

end Cert.ReferenceIdeal.Scan

end
-- ==== Proof.Match.lean ====
module

public import proofs.«01_k».proof.Proof.Tail
public import proofs.«01_k».proof.Proof.RefVal

/-!
The reference's results, read from the states after the loop, are the arrays the kernel and the
host code after it leave.
-/

@[expose] public section

set_option maxRecDepth 65536

noncomputable section

namespace Cert.KernelIdeal.Scan

open Idealize.ShloMosaic Idealize.ShloMosaic.TcCoe Cert.KernelIdeal.Gen ScanMath
open Cert.ReferenceIdeal.Scan (Arr)
open Cert.ReferenceIdeal.Step (State R_main_v65 R_main_v29 R_main_v27 R_main_v23 R_main_v21 R_main_v61 R_main_v56)
open scoped BigOperators

variable (m : (ℓ : Loc nD τ sig) → Buf (Elt Ideal) ℓ) (c : Dev nD)
variable (D : Tables)

/-- The group of a head. -/
def gp (h : Fin 64) : Fin 8 := ⟨h.val / 8, by omega⟩
/-- The channel column of a head inside its group. -/
def cq (h : Fin 64) (p : Fin 16) : Fin 128 := ⟨h.val % 8 * 16 + p.val, by omega⟩
/-- The state column of a head inside its group. -/
def cl (h : Fin 64) (n : Fin 64) : Fin 512 := ⟨h.val % 8 * 64 + n.val, by omega⟩

/-- The dense column at a head's group and place is the head's channel. -/
theorem dc_gp (h : Fin 64) (p : Fin 16) : dc (gp h) (cq h p) = chan h p :=
  Fin.ext (show h.val / 8 * 128 + (h.val % 8 * 16 + p.val) = h.val * 16 + p.val by omega)
/-- The dense state at a head's group and place is the head's state. -/
theorem xc_gp (h n : Fin 64) : xc (gp h) (cl h n) = stat h n :=
  Fin.ext (show h.val / 8 * 512 + (h.val % 8 * 64 + n.val) = h.val * 64 + n.val by omega)
/-- The input's column at a head's group and place is the head's input. -/
theorem uc_gp (h : Fin 64) (p : Fin 16) : uc (gp h) (cq h p) = ⟨h.val * 16 + p.val, by omega⟩ :=
  Fin.ext (show h.val / 8 * 128 + (h.val % 8 * 16 + p.val) = h.val * 16 + p.val by omega)
/-- A state's place in its group leads back to its head. -/
theorem hd_gp (h n : Fin 64) : hd (gp h) (cl h n) = h :=
  Fin.ext (show h.val / 8 * 8 + (h.val % 8 * 64 + n.val) / 64 = h.val by omega)
/-- A state's place in its group leads back to its number. -/
theorem sn_gp (h n : Fin 64) : sn (cl h n) = n :=
  Fin.ext (show (h.val % 8 * 64 + n.val) % 64 = n.val by omega)
/-- An input's place in its group leads back to its head. -/
theorem hq_gp (h : Fin 64) (p : Fin 16) : hq (gp h) (cq h p) = h :=
  Fin.ext (show h.val / 8 * 8 + (h.val % 8 * 16 + p.val) / 16 = h.val by omega)
/-- An input's place in its group leads back to its number. -/
theorem pn_gp (h : Fin 64) (p : Fin 16) : pn (cq h p) = p :=
  Fin.ext (show (h.val % 8 * 16 + p.val) % 16 = p.val by omega)

variable {m c D}
variable {b0 b1 : Arr S4096x1024 .bf16} {b2 : Arr S4096x14336 .f32} {b3 b4 : Arr S4096x4096 .f32}
  {b5 b6 : Arr S64x64x16 .f32} {s : State Ideal}

/-- The gradient of the input. -/
theorem same_du (I : Cert.ReferenceIdeal.Scan.Inv D 4096 s) (e1 : ∀ i j, b1 (ix2 i j) = a1 m c i j)
    (e5 : ∀ i j k, b5 (ix3 i j k) = a5 m c i j k) (e6 : ∀ i j k, b6 (ix3 i j k) = a6 m c i j k) :
    R_main_v65 s b1 b5 b6 = oDu m c D := by
  have key : ∀ (T : Fin 4096) (h : Fin 64) (p : Fin 16), R_main_v65 s b1 b5 b6 (ix2 T (chan h p)) = oDu m c D (ix2 T (chan h p)) := by
    intro T h p
    refine (Cert.ReferenceIdeal.Scan.ref_du b1 b5 b6 I T h p).trans ?_
    refine Eq.trans ?_ (congrArg (fun j => oDu m c D (ix2 T j)) (dc_gp h p))
    refine Eq.trans ?_ (oDu_apply T (gp h) (cq h p)).symm
    unfold Gdu
    simp only [hq_gp, pn_gp, dc_gp, e1, e5, e6]
    rw [add_comm (∑ n : Fin 64, D.li h n T.val * a6 m c h n p)]
  funext ix
  have e : ix = ix2 (ix 0) (chan ⟨(ix 1).val / 16, by have : (ix 1).val < 1024 := (ix 1).isLt; omega⟩ ⟨(ix 1).val % 16, by omega⟩) :=
    (eq_ix2 ix).trans (congrArg (fun j => ix2 (ix 0) j) (Fin.ext (show (ix 1).val = (ix 1).val / 16 * 16 + (ix 1).val % 16 by omega)))
  exact (congrArg (fun y => R_main_v65 s b1 b5 b6 y = oDu m c D y) e).mpr (key (ix 0) _ _)

/-- The gradient of the real part of the input matrices. -/
theorem same_bre (I : Cert.ReferenceIdeal.Scan.Inv D 4096 s) (e2 : ∀ i j, b2 (ix2 i j) = a2 m c i j) :
    R_main_v29 s b2 = diagB (oBre m c D) := by
  have key : ∀ (h n : Fin 64) (p : Fin 16), R_main_v29 s b2 (ix3 h n p) = diagB (oBre m c D) (ix3 h n p) := by
    intro h n p
    refine (Cert.ReferenceIdeal.Scan.ref_bre b2 I h n p).trans ?_
    refine Eq.trans ?_ (diagB_apply (oBre m c D) h n p).symm
    refine Finset.sum_congr rfl fun T _ => ?_
    refine Eq.trans ?_ (show a2 m c T (uc (gp h) (cq h p)) * D.lr (hd (gp h) (cl h n)) (sn (cl h n)) T.val = _ from rfl)
    rw [uc_gp, hd_gp, sn_gp, e2]
    exact mul_comm _ _
  funext ix
  exact (congrArg (fun y => R_main_v29 s b2 y = diagB (oBre m c D) y) (eq_ix3 ix)).mpr (key (ix 0) (ix 1) (ix 2))

/-- The gradient of the imaginary part of the input matrices. -/
theorem same_bim (I : Cert.ReferenceIdeal.Scan.Inv D 4096 s) (e2 : ∀ i j, b2 (ix2 i j) = a2 m c i j) :
    R_main_v27 s b2 = diagB (oBim m c D) := by
  have key : ∀ (h n : Fin 64) (p : Fin 16), R_main_v27 s b2 (ix3 h n p) = diagB (oBim m c D) (ix3 h n p) := by
    intro h n p
    refine (Cert.ReferenceIdeal.Scan.ref_bim b2 I h n p).trans ?_
    refine Eq.trans ?_ (diagB_apply (oBim m c D) h n p).symm
    refine Finset.sum_congr rfl fun T _ => ?_
    refine Eq.trans ?_ (show a2 m c T (uc (gp h) (cq h p)) * D.li (hd (gp h) (cl h n)) (sn (cl h n)) T.val = _ from rfl)
    rw [uc_gp, hd_gp, sn_gp, e2]
    exact mul_comm _ _
  funext ix
  exact (congrArg (fun y => R_main_v27 s b2 y = diagB (oBim m c D) y) (eq_ix3 ix)).mpr (key (ix 0) (ix 1) (ix 2))

/-- The gradient of the real part of the read-out matrices. -/
theorem same_cre (e0 : ∀ i j, b0 (ix2 i j) = a0 m c i j) (e3 : ∀ i j, b3 (ix2 i j) = a3 m c i j) :
    R_main_v23 s b0 b3 = diagC (oCre m c) := by
  have key : ∀ (h : Fin 64) (p : Fin 16) (n : Fin 64), R_main_v23 s b0 b3 (ix3 h p n) = diagC (oCre m c) (ix3 h p n) := by
    intro h p n
    refine (Cert.ReferenceIdeal.Scan.v23_apply b0 b3 s h n p).trans ?_
    refine Eq.trans ?_ (diagC_apply (oCre m c) h p n).symm
    refine Finset.sum_congr rfl fun T _ => ?_
    refine Eq.trans ?_ (show a3 m c T (xc (gp h) (cl h n)) * a0 m c T (dc (gp h) (cq h p)) = _ from rfl)
    rw [xc_gp, dc_gp, e0, e3]
    exact mul_comm _ _
  funext ix
  exact (congrArg (fun y => R_main_v23 s b0 b3 y = diagC (oCre m c) y) (eq_ix3 ix)).mpr (key (ix 0) (ix 1) (ix 2))

/-- The gradient of the imaginary part of the read-out matrices. -/
theorem same_cim (e0 : ∀ i j, b0 (ix2 i j) = a0 m c i j) (e4 : ∀ i j, b4 (ix2 i j) = a4 m c i j) :
    R_main_v21 s b0 b4 = diagC (oCim m c) := by
  have key : ∀ (h : Fin 64) (p : Fin 16) (n : Fin 64), R_main_v21 s b0 b4 (ix3 h p n) = diagC (oCim m c) (ix3 h p n) := by
    intro h p n
    refine (Cert.ReferenceIdeal.Scan.v21_apply b0 b4 s h n p).trans ?_
    refine Eq.trans ?_ (diagC_apply (oCim m c) h p n).symm
    refine Finset.sum_congr rfl fun T _ => ?_
    refine Eq.trans ?_ (show -a0 m c T (dc (gp h) (cq h p)) * a4 m c T (xc (gp h) (cl h n)) = _ from rfl)
    rw [xc_gp, dc_gp, e0, e4]
  funext ix
  exact (congrArg (fun y => R_main_v21 s b0 b4 y = diagC (oCim m c) y) (eq_ix3 ix)).mpr (key (ix 0) (ix 1) (ix 2))

/-- The row before the first is zero. -/
theorem prv_zero (a : Fin 4096 → Fin 4096 → EReal) (j : Fin 4096) : prv a ⟨0, by omega⟩ j = 0 := if_pos rfl

/-- The row before a later one. -/
theorem prv_succ (a : Fin 4096 → Fin 4096 → EReal) (t : Fin 4095) (j : Fin 4096) :
    prv a ⟨t.val + 1, by omega⟩ j = a ⟨t.val, by omega⟩ j := if_neg (Nat.succ_ne_zero _)

/-- A sum over the rows against the rows before them leaves the first out. -/
theorem sum_prv (f : ℕ → EReal) (a : Fin 4096 → Fin 4096 → EReal) (j : Fin 4096) :
    (∑ T : Fin 4096, f T.val * prv a T j) = ∑ t : Fin 4095, f (t.val + 1) * a ⟨t.val, by omega⟩ j := by
  rw [Fin.sum_univ_succ (n := 4095)]
  refine Eq.trans (congrArg₂ (· + ·) (show _ = (0 : EReal) from ?_) rfl) (zero_add _)
  exact (congrArg (fun x : EReal => f 0 * x) (prv_zero a j)).trans (mul_zero _)

/-- The gradient of the real part of the decay. -/
theorem same_are (I : Cert.ReferenceIdeal.Scan.Inv D 4096 s) (e3 : ∀ i j, b3 (ix2 i j) = a3 m c i j) (e4 : ∀ i j, b4 (ix2 i j) = a4 m c i j) :
    R_main_v61 s b3 b4 = rowsA (oAre m c D) := by
  have key : ∀ (h n : Fin 64), R_main_v61 s b3 b4 (ix2 h n) = rowsA (oAre m c D) (ix2 h n) := by
    intro h n
    refine (Cert.ReferenceIdeal.Scan.ref_are b3 b4 I h n).trans ?_
    refine Eq.trans ?_ (rowsA_apply (oAre m c D) h n).symm
    refine Eq.trans ?_ (show (∑ T : Fin 4096, Gare m c D (cl h n) (gp h) T) = _ from rfl)
    unfold Gare
    rw [Finset.sum_add_distrib]
    simp only [hd_gp, sn_gp, xc_gp, e3, e4]
    rw [sum_prv (fun r => D.lr h n r), sum_prv (fun r => D.li h n r)]
    exact add_comm _ _
  funext ix
  exact (congrArg (fun y => R_main_v61 s b3 b4 y = rowsA (oAre m c D) y) (eq_ix2 ix)).mpr (key (ix 0) (ix 1))

/-- The gradient of the imaginary part of the decay. -/
theorem same_aim (I : Cert.ReferenceIdeal.Scan.Inv D 4096 s) (e3 : ∀ i j, b3 (ix2 i j) = a3 m c i j) (e4 : ∀ i j, b4 (ix2 i j) = a4 m c i j) :
    R_main_v56 s b3 b4 = rowsA (oAim m c D) := by
  have key : ∀ (h n : Fin 64), R_main_v56 s b3 b4 (ix2 h n) = rowsA (oAim m c D) (ix2 h n) := by
    intro h n
    refine (Cert.ReferenceIdeal.Scan.ref_aim b3 b4 I h n).trans ?_
    refine Eq.trans ?_ (rowsA_apply (oAim m c D) h n).symm
    refine Eq.trans ?_ (show (∑ T : Fin 4096, Gaim m c D (cl h n) (gp h) T) = _ from rfl)
    unfold Gaim
    simp only [sub_eq_add_neg, ← EReal.neg_mul]
    rw [Finset.sum_add_distrib]
    simp only [hd_gp, sn_gp, xc_gp, e3, e4]
    rw [sum_prv (fun r => D.li h n r), sum_prv (fun r => -D.lr h n r)]
  funext ix
  exact (congrArg (fun y => R_main_v56 s b3 b4 y = rowsA (oAim m c D) y) (eq_ix2 ix)).mpr (key (ix 0) (ix 1))

end Cert.KernelIdeal.Scan
-- ==== Proof.Finite.lean ====
module

public import proofs.«01_k».proof.Proof.Values
public import proofs.«01_k».proof.Defs
public import Idealize.ShloMosaic.Lib.Pointwise

/-!
What the precondition says of the arguments: the numbers the scan reads are real.
-/

@[expose] public section

noncomputable section

namespace Cert.KernelIdeal.Scan

open Idealize.ShloMosaic Idealize.ShloMosaic.TcCoe Cert.KernelIdeal.Gen ScanMath

/-- An extended real whose absolute value lies below the top is a real number. -/
theorem real_of_lt {x : EReal} (h : max x (-x) < ⊤) : x = ((x.toReal : ℝ) : EReal) := by
  have h1 : x < ⊤ := lt_of_le_of_lt (le_max_left _ _) h
  have h2 : -x < ⊤ := lt_of_le_of_lt (le_max_right _ _) h
  refine (EReal.coe_toReal h1.ne ?_).symm
  rintro rfl
  exact absurd h2 (by simp)

/-- A comparison with an array of tops that comes out one everywhere: every element is a real number. -/
theorem real_of_cmp {S : Shape} {e : FTy} (x y : FVec Ideal S e) (h : cmpf .olt (Host.absf x) y = fun _ => 1#1)
    (hy : ∀ ix, (y ix : EReal) = ⊤) (ix : S.Idx) : (x ix : EReal) = (((x ix : EReal).toReal : ℝ) : EReal) := by
  have e1 : Ideal.cmp .olt (max (x ix) (-(x ix)) : EReal) (y ix) = 1#1 := congrFun h ix
  rw [hy ix] at e1
  refine real_of_lt ?_
  by_contra hn
  simp [Ideal.cmp, hn] at e1

/-- The pattern of infinity in `bf16` denotes the top. -/
theorem inf_bf16 : (Ideal.ofBits .bf16 0x7F80#16 : EReal) = ⊤ := by simp [Ideal.ofBits, Ideal.ieee]

/-- The pattern of infinity in `f32` denotes the top. -/
theorem inf_f32 : (Ideal.ofBits .f32 0x7F800000#32 : EReal) = ⊤ := by simp [Ideal.ofBits, Ideal.ieee]

/-- The side conditions of the precondition's operations. -/
theorem pre_facts : Cert.Pre_finite_inputs.Facts := ⟨by decide, by decide, by decide, by decide⟩

section
variable (m : (ℓ : Loc nD τ sig) → Buf (Elt Ideal) ℓ) (c : Dev nD)

/-- The real numbers the arguments hold. -/
def tab : Tables where
  dy := fun T H => (a0 m c T H).toReal
  cre := fun h p n => (a7 m c h p n).toReal
  cim := fun h p n => (a8 m c h p n).toReal
  are := fun h n => (a9 m c h n).toReal
  aim := fun h n => (a10 m c h n).toReal

/-- The real numbers the imaginary part of the saved states holds. -/
def sav : Fin 4096 → Fin 4096 → ℝ := fun T H => (a4 m c T H).toReal

/-- Under the precondition the arguments hold those real numbers. -/
theorem reads (P : Cert.Pre_KernelIdeal_finite_inputs (hPre_finite_inputs := pre_facts) m) : Reads m c (tab m c) (sav m c) := by
  obtain ⟨p0, p4, p7, p8, p9, p10⟩ := P c
  exact ⟨fun T H => real_of_cmp _ _ p0 (fun _ => inf_bf16) (ix2 T H), fun T H => real_of_cmp _ _ p4 (fun _ => inf_f32) (ix2 T H),
    fun h p n => real_of_cmp _ _ p7 (fun _ => inf_f32) (ix3 h p n), fun h p n => real_of_cmp _ _ p8 (fun _ => inf_f32) (ix3 h p n),
    fun h n => real_of_cmp _ _ p9 (fun _ => inf_f32) (ix2 h n), fun h n => real_of_cmp _ _ p10 (fun _ => inf_f32) (ix2 h n)⟩

end

end Cert.KernelIdeal.Scan
-- ==== Proof.Product.lean ====
module

public import proofs.«01_k».proof.Proof.Gen.Kernel2Ideal.Value
public import proofs.«01_k».proof.Proof.Gen.Reference2Ideal.Run
public import proofs.«01_k».proof.Proof.Gen.Reference2Ideal.Read
public import Idealize.ShloMosaic.Lib.Pointwise
public import Idealize.ShloMosaic.Lib.Pipeline.ValueKit
public import Idealize.ShloMosaic.Lib.Claim

/-!
The gradient of the combined projection's weights: the second kernel and its reference, entry by entry.
-/

@[expose] public section

set_option maxRecDepth 65536
set_option maxHeartbeats 400000

noncomputable section

namespace Cert.Kernel2Ideal.Product

open Idealize.ShloMosaic Idealize.ShloMosaic.TcCoe Cert.Kernel2Ideal.Gen Cert.Kernel2Ideal.Value Idealize.SL.Sem

/-- The product over the tokens of the normed input and the gradient that reaches the projection. -/
def product (h : FVec Ideal S4096x2048 .bf16) (dz : FVec Ideal S4096x14336 .bf16) : FVec Ideal S2048x14336 .bf16 :=
  fun ix => ∑ k : Fin 4096, h (ix2 k (ix 0)) * dz (ix2 k (ix 1))

/-- What a grid point computes from its two blocks. -/
theorem pay_apply (x y : Vec Ideal S4096x1024 .bf16) (a b : Fin 1024) :
    k0_pay1 x y (ix2 a b) = ∑ k : Fin 4096, x (ix2 k a) * y (ix2 k b) := by
  pointwise [k0_pay1]

/-- A grid point's one store covers its block. -/
theorem out_eq (x y : Vec Ideal S4096x1024 .bf16) : out0_2 x y = k0_pay1 x y := by
  unfold out0_2
  rw [View.canon_cons_unit_lit _ _ _ (by decide), View.ld_unit_lit _ _ (by decide), View.ld_unit_lit _ _ (by decide)]

variable (m : (ℓ : Loc nD τ sig) → Buf (Elt Ideal) ℓ) (c : Dev nD) (t : Fin cfg0.N)

/-- The row of the result that a grid point's row is. -/
def row (a : Fin 1024) : Fin 2048 := ⟨t.val / 14 * 1024 + a.val, by have : t.val < 28 := t.isLt; omega⟩

/-- The column of the result that a grid point's column is. -/
def col (b : Fin 1024) : Fin 14336 := ⟨t.val % 14 * 1024 + b.val, by omega⟩

/-- The block window 0 points at. -/
theorem index_in0 (t : Fin cfg0.N) : win0_0.index t 0 = 0 ∧ win0_0.index t 1 = t.val / 14 :=
  (by decide +kernel : ∀ t : Fin grid0.N, win0_0.index t 0 = 0 ∧ win0_0.index t 1 = t.val / 14) t

/-- What window 0 reads. -/
theorem blk0 (k : Fin 4096) (a : Fin 1024) :
    iblk m c 0 t (ix2 k a) = m ((c : Thread nD τ).loc main_arg0) (ix2 k (row t a)) := by
  blk_simp [iblk]
  rw [V_main_arg0]
  blk_ext
  · rw [(index_in0 t).1]; exact (congrArg (· + k.val) (Nat.zero_mul _)).trans (Nat.zero_add _)
  · rw [(index_in0 t).2]; rfl

/-- The block window 1 points at. -/
theorem index_in1 (t : Fin cfg0.N) : win0_1.index t 0 = 0 ∧ win0_1.index t 1 = t.val % 14 :=
  (by decide +kernel : ∀ t : Fin grid0.N, win0_1.index t 0 = 0 ∧ win0_1.index t 1 = t.val % 14) t

/-- What window 1 reads. -/
theorem blk1 (k : Fin 4096) (b : Fin 1024) :
    iblk m c 1 t (ix2 k b) = m ((c : Thread nD τ).loc main_arg1) (ix2 k (col t b)) := by
  blk_simp [iblk]
  rw [V_main_arg1]
  blk_ext
  · rw [(index_in1 t).1]; exact (congrArg (· + k.val) (Nat.zero_mul _)).trans (Nat.zero_add _)
  · rw [(index_in1 t).2]; rfl

/-- The block window 2 points at. -/
theorem index_out (t : Fin cfg0.N) : win0_2.index t 0 = t.val / 14 ∧ win0_2.index t 1 = t.val % 14 :=
  (by decide +kernel : ∀ t : Fin grid0.N, win0_2.index t 0 = t.val / 14 ∧ win0_2.index t 1 = t.val % 14) t

/-- Where an entry of that block lies. -/
theorem emb_out (a b : Fin 1024) : (win0_2.blk t).view.emb (ix2 a b) = (ix2 (row t a) (col t b) : S2048x14336.Idx) := by
  funext x
  refine Fin.ext ?_
  fin_cases x
  · blk_simp
    refine (congrArg (fun x => x * 1024 + a.val) (index_out t).1).trans rfl
  · blk_simp
    refine (congrArg (fun x => x * 1024 + b.val) (index_out t).2).trans rfl

/-- The result when the pipeline is done. -/
theorem arr_out : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  rw [after0_2, out_eq]
  have h : ∀ a b : Fin 1024, k0_pay1 (iblk m c 0 t) (iblk m c 1 t) (ix2 a b)
      = product (m ((c : Thread nD τ).loc main_arg0)) (m ((c : Thread nD τ).loc main_arg1)) ((win0_2.blk t).view.emb (ix2 a b)) := fun a b => by
    rw [emb_out, pay_apply]
    exact Finset.sum_congr rfl fun k _ => congrArg₂ (· * ·) (blk0 m c t k a) (blk1 m c t k b)
  exact (congrArg (fun y => k0_pay1 (iblk m c 0 t) (iblk m c 1 t) y
    = product (m ((c : Thread nD τ).loc main_arg0)) (m ((c : Thread nD τ).loc main_arg1)) ((win0_2.blk t).view.emb y)) (eq_ix2 y)).mpr (h (y 0) (y 1))

/-- The reference's result is the same product, its factors the other way round. -/
theorem ref_eq (h : FVec Ideal S4096x2048 .bf16) (dz : FVec Ideal S4096x14336 .bf16) :
    Cert.Reference2Ideal.Read.val_main_v4 (F := Ideal) h dz = product h dz := by
  funext ix
  rw [Cert.Reference2Ideal.Read.val_main_v4_apply, Cert.Reference2Ideal.Read.val_main_v3_apply, Cert.Reference2Ideal.Read.val_main_v2_apply]
  refine Finset.sum_congr rfl fun k _ => ?_
  refine (mul_comm _ _).trans (congrArg₂ (· * ·) (congrArg h ?_) (congrArg dz ?_))
  · exact eq_ix2 _
  · exact eq_ix2 _

end Cert.Kernel2Ideal.Product

end
-- ==== Proof.Forward.lean ====
module

public import proofs.«01_k».proof.Proof.Gen.Kernel3Ideal.Value
public import proofs.«01_k».proof.Proof.Gen.Reference3Ideal.Run
public import proofs.«01_k».proof.Proof.Gen.Reference3Ideal.Read
public import Idealize.ShloMosaic.Lib.Pointwise
public import Idealize.ShloMosaic.Lib.Pipeline.ValueKit
public import Idealize.ShloMosaic.Lib.Claim

/-!
The combined projection of the forward pass: the third kernel and its reference, entry by entry.
-/

@[expose] public section

set_option maxRecDepth 65536
set_option maxHeartbeats 400000

noncomputable section

namespace Cert.Kernel3Ideal.Product

open Idealize.ShloMosaic Idealize.ShloMosaic.TcCoe Cert.Kernel3Ideal.Gen Cert.Kernel3Ideal.Value Idealize.SL.Sem

/-- The combined projection: the normed input times the weights. -/
def product (h : FVec Ideal S4096x2048 .bf16) (w : FVec Ideal S2048x14336 .bf16) : FVec Ideal S4096x14336 .f32 :=
  fun ix => ∑ k : Fin 2048, h (ix2 (ix 0) k) * w (ix2 k (ix 1))

/-- What a grid point computes from its two blocks. -/
theorem pay_apply (x : Vec Ideal S1024x2048 .bf16) (y : Vec Ideal S2048x2048 .bf16) (a : Fin 1024) (b : Fin 2048) :
    k0_pay1 x y (ix2 a b) = ∑ k : Fin 2048, x (ix2 a k) * y (ix2 k b) := by
  pointwise [k0_pay1]

/-- A grid point's one store covers its block. -/
theorem out_eq (x : Vec Ideal S1024x2048 .bf16) (y : Vec Ideal S2048x2048 .bf16) : out0_2 x y = k0_pay1 x y := by
  unfold out0_2
  rw [View.canon_cons_unit_lit _ _ _ (by decide), View.ld_unit_lit _ _ (by decide), View.ld_unit_lit _ _ (by decide)]

variable (m : (ℓ : Loc nD τ sig) → Buf (Elt Ideal) ℓ) (c : Dev nD) (t : Fin cfg0.N)

/-- The row of the result that a grid point's row is. -/
def row (a : Fin 1024) : Fin 4096 := ⟨t.val / 7 * 1024 + a.val, by have : t.val < 28 := t.isLt; omega⟩

/-- The column of the result that a grid point's column is. -/
def col (b : Fin 2048) : Fin 14336 := ⟨t.val % 7 * 2048 + b.val, by omega⟩

/-- The block window 0 points at. -/
theorem index_in0 (t : Fin cfg0.N) : win0_0.index t 0 = t.val / 7 ∧ win0_0.index t 1 = 0 :=
  (by decide +kernel : ∀ t : Fin grid0.N, win0_0.index t 0 = t.val / 7 ∧ win0_0.index t 1 = 0) t

/-- What window 0 reads. -/
theorem blk0 (a : Fin 1024) (k : Fin 2048) :
    iblk m c 0 t (ix2 a k) = m ((c : Thread nD τ).loc main_arg0) (ix2 (row t a) k) := by
  blk_simp [iblk]
  rw [V_main_arg0]
  blk_ext
  · rw [(index_in0 t).1]; rfl
  · rw [(index_in0 t).2]; exact (congrArg (· + k.val) (Nat.zero_mul _)).trans (Nat.zero_add _)

/-- The block window 1 points at. -/
theorem index_in1 (t : Fin cfg0.N) : win0_1.index t 0 = 0 ∧ win0_1.index t 1 = t.val % 7 :=
  (by decide +kernel : ∀ t : Fin grid0.N, win0_1.index t 0 = 0 ∧ win0_1.index t 1 = t.val % 7) t

/-- What window 1 reads. -/
theorem blk1 (k b : Fin 2048) :
    iblk m c 1 t (ix2 k b) = m ((c : Thread nD τ).loc main_arg1) (ix2 k (col t b)) := by
  blk_simp [iblk]
  rw [V_main_arg1]
  blk_ext
  · rw [(index_in1 t).1]; exact (congrArg (· + k.val) (Nat.zero_mul _)).trans (Nat.zero_add _)
  · rw [(index_in1 t).2]; rfl

/-- The block window 2 points at. -/
theorem index_out (t : Fin cfg0.N) : win0_2.index t 0 = t.val / 7 ∧ win0_2.index t 1 = t.val % 7 :=
  (by decide +kernel : ∀ t : Fin grid0.N, win0_2.index t 0 = t.val / 7 ∧ win0_2.index t 1 = t.val % 7) t

/-- Where an entry of that block lies. -/
theorem emb_out (a : Fin 1024) (b : Fin 2048) : (win0_2.blk t).view.emb (ix2 a b) = (ix2 (row t a) (col t b) : S4096x14336.Idx) := by
  funext x
  refine Fin.ext ?_
  fin_cases x
  · blk_simp
    refine (congrArg (fun x => x * 1024 + a.val) (index_out t).1).trans rfl
  · blk_simp
    refine (congrArg (fun x => x * 2048 + b.val) (index_out t).2).trans rfl

/-- The result when the pipeline is done. -/
theorem arr_out : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  rw [after0_2, out_eq]
  have h : ∀ (a : Fin 1024) (b : Fin 2048), k0_pay1 (iblk m c 0 t) (iblk m c 1 t) (ix2 a b)
      = product (m ((c : Thread nD τ).loc main_arg0)) (m ((c : Thread nD τ).loc main_arg1)) ((win0_2.blk t).view.emb (ix2 a b)) := fun a b => by
    rw [emb_out, pay_apply]
    exact Finset.sum_congr rfl fun k _ => congrArg₂ (· * ·) (blk0 m c t a k) (blk1 m c t k b)
  exact (congrArg (fun y => k0_pay1 (iblk m c 0 t) (iblk m c 1 t) y
    = product (m ((c : Thread nD τ).loc main_arg0)) (m ((c : Thread nD τ).loc main_arg1)) ((win0_2.blk t).view.emb y)) (eq_ix2 y)).mpr (h (y 0) (y 1))

/-- The reference's result is the same product. -/
theorem ref_eq (h : FVec Ideal S4096x2048 .bf16) (w : FVec Ideal S2048x14336 .bf16) :
    Cert.Reference3Ideal.Read.val_main_v2 (F := Ideal) h w = product h w := by
  funext ix
  rw [Cert.Reference3Ideal.Read.val_main_v2_apply]
  refine Finset.sum_congr rfl fun k _ => ?_
  refine congrArg₂ (· * ·) (congrArg h ?_) (congrArg w ?_)
  · exact eq_ix2 _
  · exact eq_ix2 _

end Cert.Kernel3Ideal.Product

end
-- ==== Proof.Backward.lean ====
module

public import proofs.«01_k».proof.Proof.Gen.Kernel4Ideal.Value
public import proofs.«01_k».proof.Proof.Gen.Reference4Ideal.Run
public import proofs.«01_k».proof.Proof.Gen.Reference4Ideal.Read
public import Idealize.ShloMosaic.Lib.Pointwise
public import Idealize.ShloMosaic.Lib.Pipeline.ValueKit
public import Idealize.ShloMosaic.Lib.Claim

/-!
The gradient of the combined projection's input: the fourth kernel and its reference, entry by entry.
-/

@[expose] public section

set_option maxRecDepth 65536
set_option maxHeartbeats 400000

noncomputable section

namespace Cert.Kernel4Ideal.Product

open Idealize.ShloMosaic Idealize.ShloMosaic.TcCoe Cert.Kernel4Ideal.Gen Cert.Kernel4Ideal.Value Idealize.SL.Sem

/-- The gradient that reaches the projection, times the weights transposed. -/
def product (dz : FVec Ideal S4096x14336 .bf16) (w : FVec Ideal S2048x14336 .bf16) : FVec Ideal S4096x2048 .f32 :=
  fun ix => ∑ k : Fin 14336, dz (ix2 (ix 0) k) * w (ix2 (ix 1) k)

/-- An entry of the product of two blocks. -/
def piece (x y : Vec Ideal S1024x3584 .bf16) (j : S1024x1024.Idx) : EReal := ∑ k : Fin 3584, x (ix2 (j 0) k) * y (ix2 (j 1) k)

/-- The product that starts the sum, entry by entry. -/
theorem first_apply (x y : Vec Ideal S1024x3584 .bf16) (j : S1024x1024.Idx) :
    k0_pay2 x y j = piece x y j := by
  have h : ∀ a b : Fin 1024, k0_pay2 x y (ix2 a b) = ∑ k : Fin 3584, x (ix2 a k) * y (ix2 b k) := fun a b => by
    pointwise [k0_pay2, k0_pay1]
  exact (congrArg (fun j => k0_pay2 x y j = piece x y j) (eq_ix2 j)).mpr (h (j 0) (j 1))

/-- A later product added to what the sum holds, entry by entry. -/
theorem next_apply (x y : Vec Ideal S1024x3584 .bf16) (z : Vec Ideal S1024x1024 .f32) (j : S1024x1024.Idx) :
    k0_pay3 x y z j = z j + piece x y j := by
  have h : ∀ a b : Fin 1024, k0_pay3 x y z (ix2 a b) = z (ix2 a b) + ∑ k : Fin 3584, x (ix2 a k) * y (ix2 b k) := fun a b => by
    pointwise [k0_pay3, k0_pay1]
  exact (congrArg (fun j => k0_pay3 x y z j = z j + piece x y j) (eq_ix2 j)).mpr (h (j 0) (j 1))

variable (m : (ℓ : Loc nD τ sig) → Buf (Elt Ideal) ℓ) (c : Dev nD) (t : Fin cfg0.N)

/-- The row of the result that a grid point's row is. -/
def row (a : Fin 1024) : Fin 4096 := ⟨t.val / 8 * 1024 + a.val, by have : t.val < 32 := t.isLt; omega⟩

/-- The column of the result that a grid point's column is. -/
def col (b : Fin 1024) : Fin 2048 := ⟨t.val / 4 % 2 * 1024 + b.val, by omega⟩

/-- The entry of the contracted axis that a grid point's entry is. -/
def inner (k : Fin 3584) : Fin 14336 := ⟨t.val % 4 * 3584 + k.val, by omega⟩

/-- The block window 0 points at. -/
theorem index_in0 (t : Fin cfg0.N) : win0_0.index t 0 = t.val / 8 ∧ win0_0.index t 1 = t.val % 4 :=
  (by decide +kernel : ∀ t : Fin grid0.N, win0_0.index t 0 = t.val / 8 ∧ win0_0.index t 1 = t.val % 4) t

/-- What window 0 reads. -/
theorem blk0 (a : Fin 1024) (k : Fin 3584) :
    iblk m c 0 t (ix2 a k) = m ((c : Thread nD τ).loc main_arg0) (ix2 (row t a) (inner t k)) := by
  blk_simp [iblk]
  rw [V_main_arg0]
  blk_ext
  · rw [(index_in0 t).1]; rfl
  · rw [(index_in0 t).2]; rfl

/-- The block window 1 points at. -/
theorem index_in1 (t : Fin cfg0.N) : win0_1.index t 0 = t.val / 4 % 2 ∧ win0_1.index t 1 = t.val % 4 :=
  (by decide +kernel : ∀ t : Fin grid0.N, win0_1.index t 0 = t.val / 4 % 2 ∧ win0_1.index t 1 = t.val % 4) t

/-- What window 1 reads. -/
theorem blk1 (b : Fin 1024) (k : Fin 3584) :
    iblk m c 1 t (ix2 b k) = m ((c : Thread nD τ).loc main_arg1) (ix2 (col t b) (inner t k)) := by
  blk_simp [iblk]
  rw [V_main_arg1]
  blk_ext
  · rw [(index_in1 t).1]; rfl
  · rw [(index_in1 t).2]; rfl

/-- The block window 3 points at. -/
theorem index_out (t : Fin cfg0.N) : win0_3.index t 0 = t.val / 8 ∧ win0_3.index t 1 = t.val / 4 % 2 :=
  (by decide +kernel : ∀ t : Fin grid0.N, win0_3.index t 0 = t.val / 8 ∧ win0_3.index t 1 = t.val / 4 % 2) t

/-- Where an entry of that block lies. -/
theorem emb_out (a b : Fin 1024) : (win0_3.blk t).view.emb (ix2 a b) = (ix2 (row t a) (col t b) : S4096x2048.Idx) := by
  funext x
  refine Fin.ext ?_
  fin_cases x
  · blk_simp
    refine (congrArg (fun x => x * 1024 + a.val) (index_out t).1).trans rfl
  · blk_simp
    refine (congrArg (fun x => x * 1024 + b.val) (index_out t).2).trans rfl

/-- What a grid point adds to an entry of the sum. -/
def part (j : S1024x1024.Idx) : EReal := piece (iblk m c 0 t) (iblk m c 1 t) j

/-- The running sum after the last of a block's four points. -/
theorem sum_eq (h3 : t.val % 4 = 3) (j : S1024x1024.Idx) :
    (outsAt0 m c t.val t.isLt).2 j = 0 + ∑ s : Fin 4, part m c ⟨4 * (t.val / 4) + s.val, Pipeline.run_point_lt_of_flush t h3 s⟩ j := by
  refine Pipeline.eq_sum_fin_of_reset_step_apply_of_flush (fun n h => (outsAt0 m c n h).2) 4 (fun _ => (0 : EReal)) (part m c) ?_ ?_ t h3 j
  · intro t h j
    rw [outsAt0_A m c t h (by omega) (by omega)]
    frame_out
    exact (first_apply _ _ j).trans (zero_add _).symm
  · intro t h j
    by_cases h3 : t.val % 4 = 3
    · rw [outsAt0_C m c t h (by omega) h3]
      frame_out
      exact (next_apply _ _ _ j).trans (congrArg (· + part m c t j) (congrFun ((Memref.isWhole_whole cc0_scratch0).read_unread _) j))
    · rw [outsAt0_B m c t h (by omega) h3]
      frame_out
      exact (next_apply _ _ _ j).trans (congrArg (· + part m c t j) (congrFun ((Memref.isWhole_whole cc0_scratch0).read_unread _) j))

/-- At that point the block written back is the running sum. -/
theorem out_eq (h3 : t.val % 4 = 3) : (outsAt0 m c t.val t.isLt).1 = (outsAt0 m c t.val t.isLt).2 := by
  rw [outsAt0_C m c t (by omega) (by omega) h3]
  frame_out

/-- So it is the product over the whole contracted axis. -/
theorem left_eq (h3 : t.val % 4 = 3) (a b : Fin 1024) : (outsAt0 m c t.val t.isLt).1 (ix2 a b)
    = product (m ((c : Thread nD τ).loc main_arg0)) (m ((c : Thread nD τ).loc main_arg1)) (ix2 (row t a) (col t b)) := by
  rw [out_eq m c t h3, sum_eq m c t h3, zero_add]
  unfold part piece product
  refine Fin.sum_mul_add_congr (fun s k hl => ?_)
  have hi : inner ⟨4 * (t.val / 4) + s.val, Pipeline.run_point_lt_of_flush t h3 s⟩ k = ⟨s.val * 3584 + k.val, hl⟩ :=
    Fin.ext (by show (4 * (t.val / 4) + s.val) % 4 * 3584 + k.val = s.val * 3584 + k.val; omega)
  have hr : row ⟨4 * (t.val / 4) + s.val, Pipeline.run_point_lt_of_flush t h3 s⟩ a = row t a :=
    Fin.ext (by show (4 * (t.val / 4) + s.val) / 8 * 1024 + a.val = t.val / 8 * 1024 + a.val; omega)
  have hc : col ⟨4 * (t.val / 4) + s.val, Pipeline.run_point_lt_of_flush t h3 s⟩ b = col t b :=
    Fin.ext (by show (4 * (t.val / 4) + s.val) / 4 % 2 * 1024 + b.val = t.val / 4 % 2 * 1024 + b.val; omega)
  refine congrArg₂ (· * ·) ((blk0 m c _ a k).trans ?_) ((blk1 m c _ b k).trans ?_)
  · rw [hr, hi]; rfl
  · rw [hc, hi]; rfl

/-- The result when the pipeline is done. -/
theorem arr_out : (dats m 0 c).arrAt 3 cfg0.N
    = product (m ((c : Thread nD τ).loc main_arg0)) (m ((c : Thread nD τ).loc main_arg1)) := by
  refine (dats m 0 c).arrAt_eq_of_covers 3 _ (by decide +kernel) fun t hf y => ?_
  have h3 : t.val % 4 = 3 := (flush0_3 t).mp hf
  blk_simp
  rw [after0_3]
  have h : ∀ a b : Fin 1024, (outsAt0 m c t.val t.isLt).1 (ix2 a b)
      = product (m ((c : Thread nD τ).loc main_arg0)) (m ((c : Thread nD τ).loc main_arg1)) ((win0_3.blk t).view.emb (ix2 a b)) := fun a b => by
    rw [emb_out]
    exact left_eq m c t h3 a b
  exact (congrArg (fun y => (outsAt0 m c t.val t.isLt).1 y
    = product (m ((c : Thread nD τ).loc main_arg0)) (m ((c : Thread nD τ).loc main_arg1)) ((win0_3.blk t).view.emb y)) (eq_ix2 y)).mpr (h (y 0) (y 1))

/-- The reference's result is the same product. -/
theorem ref_eq (dz : FVec Ideal S4096x14336 .bf16) (w : FVec Ideal S2048x14336 .bf16) :
    Cert.Reference4Ideal.Read.val_main_v2 (F := Ideal) dz w = product dz w := by
  funext ix
  rw [Cert.Reference4Ideal.Read.val_main_v2_apply]
  refine Finset.sum_congr rfl fun k _ => ?_
  refine congrArg₂ (· * ·) (congrArg dz ?_) (congrArg w ?_)
  · exact eq_ix2 _
  · exact eq_ix2 _

end Cert.Kernel4Ideal.Product

end
-- ==== Proof.ForwardAfter.lean ====
module

public import proofs.«01_k».proof.Proof.Gen.Kernel5Ideal.Value
public import proofs.«01_k».proof.Proof.Gen.Reference5Ideal.Run
public import proofs.«01_k».proof.Proof.Gen.Reference5Ideal.Read
public import Idealize.ShloMosaic.Lib.Pointwise
public import Idealize.ShloMosaic.Lib.Pipeline.ValueKit
public import Idealize.ShloMosaic.Lib.Claim

/-!
The combined projection of the forward pass where it waits for another layer's weights: the fifth kernel and its reference, entry by entry.
-/

@[expose] public section

set_option maxRecDepth 65536
set_option maxHeartbeats 400000

noncomputable section

namespace Cert.Kernel5Ideal.Product

open Idealize.ShloMosaic Idealize.ShloMosaic.TcCoe Cert.Kernel5Ideal.Gen Cert.Kernel5Ideal.Value Idealize.SL.Sem

/-- The combined projection: the normed input times the weights. -/
def product (h : FVec Ideal S4096x2048 .bf16) (w : FVec Ideal S2048x14336 .bf16) : FVec Ideal S4096x14336 .f32 :=
  fun ix => ∑ k : Fin 2048, h (ix2 (ix 0) k) * w (ix2 k (ix 1))

/-- What a grid point computes from its two blocks. -/
theorem pay_apply (x : Vec Ideal S1024x2048 .bf16) (y : Vec Ideal S2048x2048 .bf16) (a : Fin 1024) (b : Fin 2048) :
    k0_pay1 x y (ix2 a b) = ∑ k : Fin 2048, x (ix2 a k) * y (ix2 k b) := by
  pointwise [k0_pay1]

/-- A grid point's one store covers its block. -/
theorem out_eq (x : Vec Ideal S1024x2048 .bf16) (y : Vec Ideal S2048x2048 .bf16) (z : Vec Ideal S8x128 .f32) : out0_3 x y z = k0_pay1 x y := by
  unfold out0_3
  rw [View.canon_cons_unit_lit _ _ _ (by decide), View.ld_unit_lit _ _ (by decide), View.ld_unit_lit _ _ (by decide)]

variable (m : (ℓ : Loc nD τ sig) → Buf (Elt Ideal) ℓ) (c : Dev nD) (t : Fin cfg0.N)

/-- The row of the result that a grid point's row is. -/
def row (a : Fin 1024) : Fin 4096 := ⟨t.val / 7 * 1024 + a.val, by have : t.val < 28 := t.isLt; omega⟩

/-- The column of the result that a grid point's column is. -/
def col (b : Fin 2048) : Fin 14336 := ⟨t.val % 7 * 2048 + b.val, by omega⟩

/-- The block window 0 points at. -/
theorem index_in0 (t : Fin cfg0.N) : win0_0.index t 0 = t.val / 7 ∧ win0_0.index t 1 = 0 :=
  (by decide +kernel : ∀ t : Fin grid0.N, win0_0.index t 0 = t.val / 7 ∧ win0_0.index t 1 = 0) t

/-- What window 0 reads. -/
theorem blk0 (a : Fin 1024) (k : Fin 2048) :
    iblk m c 0 t (ix2 a k) = m ((c : Thread nD τ).loc main_arg0) (ix2 (row t a) k) := by
  blk_simp [iblk]
  rw [V_main_arg0]
  blk_ext
  · rw [(index_in0 t).1]; rfl
  · rw [(index_in0 t).2]; exact (congrArg (· + k.val) (Nat.zero_mul _)).trans (Nat.zero_add _)

/-- The block window 1 points at. -/
theorem index_in1 (t : Fin cfg0.N) : win0_1.index t 0 = 0 ∧ win0_1.index t 1 = t.val % 7 :=
  (by decide +kernel : ∀ t : Fin grid0.N, win0_1.index t 0 = 0 ∧ win0_1.index t 1 = t.val % 7) t

/-- What window 1 reads. -/
theorem blk1 (k b : Fin 2048) :
    iblk m c 1 t (ix2 k b) = m ((c : Thread nD τ).loc main_arg1) (ix2 k (col t b)) := by
  blk_simp [iblk]
  rw [V_main_arg1]
  blk_ext
  · rw [(index_in1 t).1]; exact (congrArg (· + k.val) (Nat.zero_mul _)).trans (Nat.zero_add _)
  · rw [(index_in1 t).2]; rfl

/-- The block window 3 points at. -/
theorem index_out (t : Fin cfg0.N) : win0_3.index t 0 = t.val / 7 ∧ win0_3.index t 1 = t.val % 7 :=
  (by decide +kernel : ∀ t : Fin grid0.N, win0_3.index t 0 = t.val / 7 ∧ win0_3.index t 1 = t.val % 7) t

/-- Where an entry of that block lies. -/
theorem emb_out (a : Fin 1024) (b : Fin 2048) : (win0_3.blk t).view.emb (ix2 a b) = (ix2 (row t a) (col t b) : S4096x14336.Idx) := by
  funext x
  refine Fin.ext ?_
  fin_cases x
  · blk_simp
    refine (congrArg (fun x => x * 1024 + a.val) (index_out t).1).trans rfl
  · blk_simp
    refine (congrArg (fun x => x * 2048 + b.val) (index_out t).2).trans rfl

/-- The result when the pipeline is done. -/
theorem arr_out : (dats m 0 c).arrAt 3 cfg0.N
    = product (m ((c : Thread nD τ).loc main_arg0)) (m ((c : Thread nD τ).loc main_arg1)) := by
  refine (dats m 0 c).arrAt_eq_of_covers 3 _ (by decide +kernel) fun t hf y => ?_
  blk_simp
  rw [after0_3, out_eq]
  have h : ∀ (a : Fin 1024) (b : Fin 2048), k0_pay1 (iblk m c 0 t) (iblk m c 1 t) (ix2 a b)
      = product (m ((c : Thread nD τ).loc main_arg0)) (m ((c : Thread nD τ).loc main_arg1)) ((win0_3.blk t).view.emb (ix2 a b)) := fun a b => by
    rw [emb_out, pay_apply]
    exact Finset.sum_congr rfl fun k _ => congrArg₂ (· * ·) (blk0 m c t a k) (blk1 m c t k b)
  exact (congrArg (fun y => k0_pay1 (iblk m c 0 t) (iblk m c 1 t) y
    = product (m ((c : Thread nD τ).loc main_arg0)) (m ((c : Thread nD τ).loc main_arg1)) ((win0_3.blk t).view.emb y)) (eq_ix2 y)).mpr (h (y 0) (y 1))

/-- The reference's result is the same product. -/
theorem ref_eq (h : FVec Ideal S4096x2048 .bf16) (w : FVec Ideal S2048x14336 .bf16) :
    Cert.Reference5Ideal.Read.val_main_v2 (F := Ideal) h w = product h w := by
  funext ix
  rw [Cert.Reference5Ideal.Read.val_main_v2_apply]
  refine Finset.sum_congr rfl fun k _ => ?_
  refine congrArg₂ (· * ·) (congrArg h ?_) (congrArg w ?_)
  · exact eq_ix2 _
  · exact eq_ix2 _

end Cert.Kernel5Ideal.Product

end
-- ==== Proof.Out.lean ====
module

public import proofs.«01_k».proof.Proof.Gen.Kernel6Ideal.Value
public import proofs.«01_k».proof.Proof.Gen.Reference6Ideal.Run
public import proofs.«01_k».proof.Proof.Gen.Reference6Ideal.Read
public import Idealize.ShloMosaic.Lib.Pointwise
public import Idealize.ShloMosaic.Lib.Pipeline.ValueKit
public import Idealize.ShloMosaic.Lib.Claim

/-!
The output projection of the forward pass: the sixth kernel and its reference, entry by entry.
-/

@[expose] public section

set_option maxRecDepth 65536
set_option maxHeartbeats 400000

noncomputable section

namespace Cert.Kernel6Ideal.Product

open Idealize.ShloMosaic Idealize.ShloMosaic.TcCoe Cert.Kernel6Ideal.Gen Cert.Kernel6Ideal.Value Idealize.SL.Sem

/-- The merged branches times the weights, and the layer's input. -/
def product (g : FVec Ideal S4096x2048 .bf16) (w : FVec Ideal S2048x2048 .bf16) (u : FVec Ideal S4096x2048 .f32) : FVec Ideal S4096x2048 .f32 :=
  fun ix => (∑ k : Fin 2048, g (ix2 (ix 0) k) * w (ix2 k (ix 1))) + u ix

/-- What a grid point computes from its three blocks. -/
theorem pay_apply (x : Vec Ideal S1024x2048 .bf16) (y : Vec Ideal S2048x1024 .bf16) (z : Vec Ideal S1024x1024 .f32) (a b : Fin 1024) :
    k0_pay1 x y z (ix2 a b) = (∑ k : Fin 2048, x (ix2 a k) * y (ix2 k b)) + z (ix2 a b) := by
  pointwise [k0_pay1]

/-- A grid point's one store covers its block. -/
theorem out_eq (x : Vec Ideal S1024x2048 .bf16) (y : Vec Ideal S2048x1024 .bf16) (z : Vec Ideal S1024x1024 .f32) : out0_3 x y z = k0_pay1 x y z := by
  unfold out0_3
  rw [View.canon_cons_unit_lit _ _ _ (by decide), View.ld_unit_lit _ _ (by decide), View.ld_unit_lit _ _ (by decide), View.ld_unit_lit _ _ (by decide)]

variable (m : (ℓ : Loc nD τ sig) → Buf (Elt Ideal) ℓ) (c : Dev nD) (t : Fin cfg0.N)

/-- The row of the result that a grid point's row is. -/
def row (a : Fin 1024) : Fin 4096 := ⟨t.val / 2 * 1024 + a.val, by have : t.val < 8 := t.isLt; omega⟩

/-- The column of the result that a grid point's column is. -/
def col (b : Fin 1024) : Fin 2048 := ⟨t.val % 2 * 1024 + b.val, by omega⟩

/-- The block window 0 points at. -/
theorem index_in0 (t : Fin cfg0.N) : win0_0.index t 0 = t.val / 2 ∧ win0_0.index t 1 = 0 :=
  (by decide +kernel : ∀ t : Fin grid0.N, win0_0.index t 0 = t.val / 2 ∧ win0_0.index t 1 = 0) t

/-- What window 0 reads. -/
theorem blk0 (a : Fin 1024) (k : Fin 2048) :
    iblk m c 0 t (ix2 a k) = m ((c : Thread nD τ).loc main_arg0) (ix2 (row t a) k) := by
  blk_simp [iblk]
  rw [V_main_arg0]
  blk_ext
  · rw [(index_in0 t).1]; rfl
  · rw [(index_in0 t).2]; exact (congrArg (· + k.val) (Nat.zero_mul _)).trans (Nat.zero_add _)

/-- The block window 1 points at. -/
theorem index_in1 (t : Fin cfg0.N) : win0_1.index t 0 = 0 ∧ win0_1.index t 1 = t.val % 2 :=
  (by decide +kernel : ∀ t : Fin grid0.N, win0_1.index t 0 = 0 ∧ win0_1.index t 1 = t.val % 2) t

/-- What window 1 reads. -/
theorem blk1 (k : Fin 2048) (b : Fin 1024) :
    iblk m c 1 t (ix2 k b) = m ((c : Thread nD τ).loc main_arg1) (ix2 k (col t b)) := by
  blk_simp [iblk]
  rw [V_main_arg1]
  blk_ext
  · rw [(index_in1 t).1]; exact (congrArg (· + k.val) (Nat.zero_mul _)).trans (Nat.zero_add _)
  · rw [(index_in1 t).2]; rfl

/-- The block window 2 points at. -/
theorem index_in2 (t : Fin cfg0.N) : win0_2.index t 0 = t.val / 2 ∧ win0_2.index t 1 = t.val % 2 :=
  (by decide +kernel : ∀ t : Fin grid0.N, win0_2.index t 0 = t.val / 2 ∧ win0_2.index t 1 = t.val % 2) t

/-- What window 2 reads. -/
theorem blk2 (a b : Fin 1024) :
    iblk m c 2 t (ix2 a b) = m ((c : Thread nD τ).loc main_arg2) (ix2 (row t a) (col t b)) := by
  blk_simp [iblk]
  rw [V_main_arg2]
  blk_ext
  · rw [(index_in2 t).1]; rfl
  · rw [(index_in2 t).2]; rfl

/-- The block window 3 points at. -/
theorem index_out (t : Fin cfg0.N) : win0_3.index t 0 = t.val / 2 ∧ win0_3.index t 1 = t.val % 2 :=
  (by decide +kernel : ∀ t : Fin grid0.N, win0_3.index t 0 = t.val / 2 ∧ win0_3.index t 1 = t.val % 2) t

/-- Where an entry of that block lies. -/
theorem emb_out (a b : Fin 1024) : (win0_3.blk t).view.emb (ix2 a b) = (ix2 (row t a) (col t b) : S4096x2048.Idx) := by
  funext x
  refine Fin.ext ?_
  fin_cases x
  · blk_simp
    refine (congrArg (fun x => x * 1024 + a.val) (index_out t).1).trans rfl
  · blk_simp
    refine (congrArg (fun x => x * 1024 + b.val) (index_out t).2).trans rfl

/-- The result when the pipeline is done. -/
theorem arr_out : (dats m 0 c).arrAt 3 cfg0.N
    = product (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, out_eq]
  have h : ∀ (a b : Fin 1024), k0_pay1 (iblk m c 0 t) (iblk m c 1 t) (iblk m c 2 t) (ix2 a b)
      = product (m ((c : Thread nD τ).loc main_arg0)) (m ((c : Thread nD τ).loc main_arg1)) (m ((c : Thread nD τ).loc main_arg2)) ((win0_3.blk t).view.emb (ix2 a b)) := fun a b => by
    rw [emb_out, pay_apply]
    exact congrArg₂ (· + ·) (Finset.sum_congr rfl fun k _ => congrArg₂ (· * ·) (blk0 m c t a k) (blk1 m c t k b)) (blk2 m c t a b)
  exact (congrArg (fun y => k0_pay1 (iblk m c 0 t) (iblk m c 1 t) (iblk m c 2 t) y
    = product (m ((c : Thread nD τ).loc main_arg0)) (m ((c : Thread nD τ).loc main_arg1)) (m ((c : Thread nD τ).loc main_arg2)) ((win0_3.blk t).view.emb y)) (eq_ix2 y)).mpr (h (y 0) (y 1))

/-- The reference's result is the same sum, its two parts the other way round. -/
theorem ref_eq (g : FVec Ideal S4096x2048 .bf16) (w : FVec Ideal S2048x2048 .bf16) (u : FVec Ideal S4096x2048 .f32) :
    Cert.Reference6Ideal.Read.val_main_v3 (F := Ideal) g w u = product g w u := by
  funext ix
  rw [Cert.Reference6Ideal.Read.val_main_v3_apply]
  refine (add_comm _ _).trans (congrArg (· + u ix) ?_)
  rw [Cert.Reference6Ideal.Read.val_main_v2_apply]
  refine Finset.sum_congr rfl fun k _ => ?_
  refine congrArg₂ (· * ·) (congrArg g ?_) (congrArg w ?_)
  · exact eq_ix2 _
  · exact eq_ix2 _

end Cert.Kernel6Ideal.Product

end
-- ==== Proof.OutWeights.lean ====
module

public import proofs.«01_k».proof.Proof.Gen.Kernel7Ideal.Value
public import proofs.«01_k».proof.Proof.Gen.Reference7Ideal.Run
public import proofs.«01_k».proof.Proof.Gen.Reference7Ideal.Read
public import Idealize.ShloMosaic.Lib.Pointwise
public import Idealize.ShloMosaic.Lib.Pipeline.ValueKit
public import Idealize.ShloMosaic.Lib.Claim

/-!
The gradient of the output projection's weights: the seventh kernel and its reference, entry by entry.
-/

@[expose] public section

set_option maxRecDepth 65536
set_option maxHeartbeats 400000

noncomputable section

namespace Cert.Kernel7Ideal.Product

open Idealize.ShloMosaic Idealize.ShloMosaic.TcCoe Cert.Kernel7Ideal.Gen Cert.Kernel7Ideal.Value Idealize.SL.Sem

/-- The product over the tokens of the merged branches and the gradient that reaches the output projection. -/
def product (h : FVec Ideal S4096x2048 .bf16) (dx : FVec Ideal S4096x2048 .bf16) : FVec Ideal S2048x2048 .bf16 :=
  fun ix => ∑ k : Fin 4096, h (ix2 k (ix 0)) * dx (ix2 k (ix 1))

/-- What a grid point computes from its two blocks. -/
theorem pay_apply (x y : Vec Ideal S4096x1024 .bf16) (a b : Fin 1024) :
    k0_pay1 x y (ix2 a b) = ∑ k : Fin 4096, x (ix2 k a) * y (ix2 k b) := by
  pointwise [k0_pay1]

/-- A grid point's one store covers its block. -/
theorem out_eq (x y : Vec Ideal S4096x1024 .bf16) : out0_2 x y = k0_pay1 x y := by
  unfold out0_2
  rw [View.canon_cons_unit_lit _ _ _ (by decide), View.ld_unit_lit _ _ (by decide), View.ld_unit_lit _ _ (by decide)]

variable (m : (ℓ : Loc nD τ sig) → Buf (Elt Ideal) ℓ) (c : Dev nD) (t : Fin cfg0.N)

/-- The row of the result that a grid point's row is. -/
def row (a : Fin 1024) : Fin 2048 := ⟨t.val / 2 * 1024 + a.val, by have : t.val < 4 := t.isLt; omega⟩

/-- The column of the result that a grid point's column is. -/
def col (b : Fin 1024) : Fin 2048 := ⟨t.val % 2 * 1024 + b.val, by omega⟩

/-- The block window 0 points at. -/
theorem index_in0 (t : Fin cfg0.N) : win0_0.index t 0 = 0 ∧ win0_0.index t 1 = t.val / 2 :=
  (by decide +kernel : ∀ t : Fin grid0.N, win0_0.index t 0 = 0 ∧ win0_0.index t 1 = t.val / 2) t

/-- What window 0 reads. -/
theorem blk0 (k : Fin 4096) (a : Fin 1024) :
    iblk m c 0 t (ix2 k a) = m ((c : Thread nD τ).loc main_arg0) (ix2 k (row t a)) := by
  blk_simp [iblk]
  rw [V_main_arg0]
  blk_ext
  · rw [(index_in0 t).1]; exact (congrArg (· + k.val) (Nat.zero_mul _)).trans (Nat.zero_add _)
  · rw [(index_in0 t).2]; rfl

/-- The block window 1 points at. -/
theorem index_in1 (t : Fin cfg0.N) : win0_1.index t 0 = 0 ∧ win0_1.index t 1 = t.val % 2 :=
  (by decide +kernel : ∀ t : Fin grid0.N, win0_1.index t 0 = 0 ∧ win0_1.index t 1 = t.val % 2) t

/-- What window 1 reads. -/
theorem blk1 (k : Fin 4096) (b : Fin 1024) :
    iblk m c 1 t (ix2 k b) = m ((c : Thread nD τ).loc main_arg1) (ix2 k (col t b)) := by
  blk_simp [iblk]
  rw [V_main_arg1]
  blk_ext
  · rw [(index_in1 t).1]; exact (congrArg (· + k.val) (Nat.zero_mul _)).trans (Nat.zero_add _)
  · rw [(index_in1 t).2]; rfl

/-- The block window 2 points at. -/
theorem index_out (t : Fin cfg0.N) : win0_2.index t 0 = t.val / 2 ∧ win0_2.index t 1 = t.val % 2 :=
  (by decide +kernel : ∀ t : Fin grid0.N, win0_2.index t 0 = t.val / 2 ∧ win0_2.index t 1 = t.val % 2) t

/-- Where an entry of that block lies. -/
theorem emb_out (a b : Fin 1024) : (win0_2.blk t).view.emb (ix2 a b) = (ix2 (row t a) (col t b) : S2048x2048.Idx) := by
  funext x
  refine Fin.ext ?_
  fin_cases x
  · blk_simp
    refine (congrArg (fun x => x * 1024 + a.val) (index_out t).1).trans rfl
  · blk_simp
    refine (congrArg (fun x => x * 1024 + b.val) (index_out t).2).trans rfl

/-- The result when the pipeline is done. -/
theorem arr_out : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  rw [after0_2, out_eq]
  have h : ∀ a b : Fin 1024, k0_pay1 (iblk m c 0 t) (iblk m c 1 t) (ix2 a b)
      = product (m ((c : Thread nD τ).loc main_arg0)) (m ((c : Thread nD τ).loc main_arg1)) ((win0_2.blk t).view.emb (ix2 a b)) := fun a b => by
    rw [emb_out, pay_apply]
    exact Finset.sum_congr rfl fun k _ => congrArg₂ (· * ·) (blk0 m c t k a) (blk1 m c t k b)
  exact (congrArg (fun y => k0_pay1 (iblk m c 0 t) (iblk m c 1 t) y
    = product (m ((c : Thread nD τ).loc main_arg0)) (m ((c : Thread nD τ).loc main_arg1)) ((win0_2.blk t).view.emb y)) (eq_ix2 y)).mpr (h (y 0) (y 1))

/-- The reference's result is the same product, its factors the other way round. -/
theorem ref_eq (h : FVec Ideal S4096x2048 .bf16) (dx : FVec Ideal S4096x2048 .bf16) :
    Cert.Reference7Ideal.Read.val_main_v4 (F := Ideal) h dx = product h dx := by
  funext ix
  rw [Cert.Reference7Ideal.Read.val_main_v4_apply, Cert.Reference7Ideal.Read.val_main_v3_apply, Cert.Reference7Ideal.Read.val_main_v2_apply]
  refine Finset.sum_congr rfl fun k _ => ?_
  refine (mul_comm _ _).trans (congrArg₂ (· * ·) (congrArg h ?_) (congrArg dx ?_))
  · exact eq_ix2 _
  · exact eq_ix2 _

end Cert.Kernel7Ideal.Product

end
-- ==== Proof.OutBackward.lean ====
module

public import proofs.«01_k».proof.Proof.Gen.Kernel8Ideal.Value
public import proofs.«01_k».proof.Proof.Gen.Reference8Ideal.Run
public import proofs.«01_k».proof.Proof.Gen.Reference8Ideal.Read
public import Idealize.ShloMosaic.Lib.Pointwise
public import Idealize.ShloMosaic.Lib.Pipeline.ValueKit
public import Idealize.ShloMosaic.Lib.Claim

/-!
The gradient of the output projection's input: the eighth kernel and its reference, entry by entry.
-/

@[expose] public section

set_option maxRecDepth 65536
set_option maxHeartbeats 400000

noncomputable section

namespace Cert.Kernel8Ideal.Product

open Idealize.ShloMosaic Idealize.ShloMosaic.TcCoe Cert.Kernel8Ideal.Gen Cert.Kernel8Ideal.Value Idealize.SL.Sem

/-- The gradient that reaches the output projection, times the weights transposed. -/
def product (dx : FVec Ideal S4096x2048 .bf16) (w : FVec Ideal S2048x2048 .bf16) : FVec Ideal S4096x2048 .bf16 :=
  fun ix => ∑ k : Fin 2048, dx (ix2 (ix 0) k) * w (ix2 (ix 1) k)

/-- What a grid point computes from its two blocks. -/
theorem pay_apply (x : Vec Ideal S1024x2048 .bf16) (y : Vec Ideal S2048x2048 .bf16) (a : Fin 1024) (b : Fin 2048) :
    k0_pay1 x y (ix2 a b) = ∑ k : Fin 2048, x (ix2 a k) * y (ix2 b k) := by
  pointwise [k0_pay1]

/-- A grid point's one store covers its block. -/
theorem out_eq (x : Vec Ideal S1024x2048 .bf16) (y : Vec Ideal S2048x2048 .bf16) (z : Vec Ideal S8x128 .f32) : out0_3 x y z = k0_pay1 x y := by
  unfold out0_3
  rw [View.canon_cons_unit_lit _ _ _ (by decide), View.ld_unit_lit _ _ (by decide), View.ld_unit_lit _ _ (by decide)]

variable (m : (ℓ : Loc nD τ sig) → Buf (Elt Ideal) ℓ) (c : Dev nD) (t : Fin cfg0.N)

/-- The row of the result that a grid point's row is. -/
def row (a : Fin 1024) : Fin 4096 := ⟨t.val * 1024 + a.val, by have : t.val < 4 := t.isLt; omega⟩

/-- The block window 0 points at. -/
theorem index_in0 (t : Fin cfg0.N) : win0_0.index t 0 = t.val ∧ win0_0.index t 1 = 0 :=
  (by decide +kernel : ∀ t : Fin grid0.N, win0_0.index t 0 = t.val ∧ win0_0.index t 1 = 0) t

/-- What window 0 reads. -/
theorem blk0 (a : Fin 1024) (k : Fin 2048) :
    iblk m c 0 t (ix2 a k) = m ((c : Thread nD τ).loc main_arg0) (ix2 (row t a) k) := by
  blk_simp [iblk]
  rw [V_main_arg0]
  blk_ext
  · rw [(index_in0 t).1]; rfl
  · rw [(index_in0 t).2]; exact (congrArg (· + k.val) (Nat.zero_mul _)).trans (Nat.zero_add _)

/-- The block window 1 points at. -/
theorem index_in1 (t : Fin cfg0.N) : win0_1.index t 0 = 0 ∧ win0_1.index t 1 = 0 :=
  (by decide +kernel : ∀ t : Fin grid0.N, win0_1.index t 0 = 0 ∧ win0_1.index t 1 = 0) t

/-- What window 1 reads. -/
theorem blk1 (b k : Fin 2048) :
    iblk m c 1 t (ix2 b k) = m ((c : Thread nD τ).loc main_arg1) (ix2 b k) := by
  blk_simp [iblk]
  rw [V_main_arg1]
  blk_ext
  · rw [(index_in1 t).1]; exact (congrArg (· + b.val) (Nat.zero_mul _)).trans (Nat.zero_add _)
  · rw [(index_in1 t).2]; exact (congrArg (· + k.val) (Nat.zero_mul _)).trans (Nat.zero_add _)

/-- The block window 3 points at. -/
theorem index_out (t : Fin cfg0.N) : win0_3.index t 0 = t.val ∧ win0_3.index t 1 = 0 :=
  (by decide +kernel : ∀ t : Fin grid0.N, win0_3.index t 0 = t.val ∧ win0_3.index t 1 = 0) t

/-- Where an entry of that block lies. -/
theorem emb_out (a : Fin 1024) (b : Fin 2048) : (win0_3.blk t).view.emb (ix2 a b) = (ix2 (row t a) b : S4096x2048.Idx) := by
  funext x
  refine Fin.ext ?_
  fin_cases x
  · blk_simp
    refine (congrArg (fun x => x * 1024 + a.val) (index_out t).1).trans rfl
  · blk_simp
    refine (congrArg (fun x => x * 2048 + b.val) (index_out t).2).trans ((congrArg (· + b.val) (Nat.zero_mul _)).trans (Nat.zero_add _))

/-- The result when the pipeline is done. -/
theorem arr_out : (dats m 0 c).arrAt 3 cfg0.N
    = product (m ((c : Thread nD τ).loc main_arg0)) (m ((c : Thread nD τ).loc main_arg1)) := by
  refine (dats m 0 c).arrAt_eq_of_covers 3 _ (by decide +kernel) fun t hf y => ?_
  blk_simp
  rw [after0_3, out_eq]
  have h : ∀ (a : Fin 1024) (b : Fin 2048), k0_pay1 (iblk m c 0 t) (iblk m c 1 t) (ix2 a b)
      = product (m ((c : Thread nD τ).loc main_arg0)) (m ((c : Thread nD τ).loc main_arg1)) ((win0_3.blk t).view.emb (ix2 a b)) := fun a b => by
    rw [emb_out, pay_apply]
    exact Finset.sum_congr rfl fun k _ => congrArg₂ (· * ·) (blk0 m c t a k) (blk1 m c t b k)
  exact (congrArg (fun y => k0_pay1 (iblk m c 0 t) (iblk m c 1 t) y
    = product (m ((c : Thread nD τ).loc main_arg0)) (m ((c : Thread nD τ).loc main_arg1)) ((win0_3.blk t).view.emb y)) (eq_ix2 y)).mpr (h (y 0) (y 1))

/-- The reference's result is the same product. -/
theorem ref_eq (dx : FVec Ideal S4096x2048 .bf16) (w : FVec Ideal S2048x2048 .bf16) :
    Cert.Reference8Ideal.Read.val_main_v3 (F := Ideal) dx w = product dx w := by
  funext ix
  rw [Cert.Reference8Ideal.Read.val_main_v3_apply]
  refine (Cert.Reference8Ideal.Read.val_main_v2_apply dx w ix).trans ?_
  refine Finset.sum_congr rfl fun k _ => ?_
  refine congrArg₂ (· * ·) (congrArg dx ?_) (congrArg w ?_)
  · exact eq_ix2 _
  · exact eq_ix2 _

end Cert.Kernel8Ideal.Product

end
-- ==== Proof.OutBackwardLast.lean ====
module

public import proofs.«01_k».proof.Proof.Gen.Kernel9Ideal.Value
public import proofs.«01_k».proof.Proof.Gen.Reference9Ideal.Run
public import proofs.«01_k».proof.Proof.Gen.Reference9Ideal.Read
public import Idealize.ShloMosaic.Lib.Pointwise
public import Idealize.ShloMosaic.Lib.Pipeline.ValueKit
public import Idealize.ShloMosaic.Lib.Claim

/-!
The gradient of the output projection's input in the last layer: the ninth kernel and its reference, entry by entry.
-/

@[expose] public section

set_option maxRecDepth 65536
set_option maxHeartbeats 400000

noncomputable section

namespace Cert.Kernel9Ideal.Product

open Idealize.ShloMosaic Idealize.ShloMosaic.TcCoe Cert.Kernel9Ideal.Gen Cert.Kernel9Ideal.Value Idealize.SL.Sem

/-- The gradient that reaches the output projection, times the weights transposed. -/
def product (dx : FVec Ideal S4096x2048 .bf16) (w : FVec Ideal S2048x2048 .bf16) : FVec Ideal S4096x2048 .bf16 :=
  fun ix => ∑ k : Fin 2048, dx (ix2 (ix 0) k) * w (ix2 (ix 1) k)

/-- What a grid point computes from its two blocks. -/
theorem pay_apply (x : Vec Ideal S1024x2048 .bf16) (y : Vec Ideal S2048x2048 .bf16) (a : Fin 1024) (b : Fin 2048) :
    k0_pay1 x y (ix2 a b) = ∑ k : Fin 2048, x (ix2 a k) * y (ix2 b k) := by
  pointwise [k0_pay1]

/-- A grid point's one store covers its block. -/
theorem out_eq (x : Vec Ideal S1024x2048 .bf16) (y : Vec Ideal S2048x2048 .bf16) : out0_2 x y = k0_pay1 x y := by
  unfold out0_2
  rw [View.canon_cons_unit_lit _ _ _ (by decide), View.ld_unit_lit _ _ (by decide), View.ld_unit_lit _ _ (by decide)]

variable (m : (ℓ : Loc nD τ sig) → Buf (Elt Ideal) ℓ) (c : Dev nD) (t : Fin cfg0.N)

/-- The row of the result that a grid point's row is. -/
def row (a : Fin 1024) : Fin 4096 := ⟨t.val * 1024 + a.val, by have : t.val < 4 := t.isLt; omega⟩

/-- The block window 0 points at. -/
theorem index_in0 (t : Fin cfg0.N) : win0_0.index t 0 = t.val ∧ win0_0.index t 1 = 0 :=
  (by decide +kernel : ∀ t : Fin grid0.N, win0_0.index t 0 = t.val ∧ win0_0.index t 1 = 0) t

/-- What window 0 reads. -/
theorem blk0 (a : Fin 1024) (k : Fin 2048) :
    iblk m c 0 t (ix2 a k) = m ((c : Thread nD τ).loc main_arg0) (ix2 (row t a) k) := by
  blk_simp [iblk]
  rw [V_main_arg0]
  blk_ext
  · rw [(index_in0 t).1]; rfl
  · rw [(index_in0 t).2]; exact (congrArg (· + k.val) (Nat.zero_mul _)).trans (Nat.zero_add _)

/-- The block window 1 points at. -/
theorem index_in1 (t : Fin cfg0.N) : win0_1.index t 0 = 0 ∧ win0_1.index t 1 = 0 :=
  (by decide +kernel : ∀ t : Fin grid0.N, win0_1.index t 0 = 0 ∧ win0_1.index t 1 = 0) t

/-- What window 1 reads. -/
theorem blk1 (b k : Fin 2048) :
    iblk m c 1 t (ix2 b k) = m ((c : Thread nD τ).loc main_arg1) (ix2 b k) := by
  blk_simp [iblk]
  rw [V_main_arg1]
  blk_ext
  · rw [(index_in1 t).1]; exact (congrArg (· + b.val) (Nat.zero_mul _)).trans (Nat.zero_add _)
  · rw [(index_in1 t).2]; exact (congrArg (· + k.val) (Nat.zero_mul _)).trans (Nat.zero_add _)

/-- The block window 2 points at. -/
theorem index_out (t : Fin cfg0.N) : win0_2.index t 0 = t.val ∧ win0_2.index t 1 = 0 :=
  (by decide +kernel : ∀ t : Fin grid0.N, win0_2.index t 0 = t.val ∧ win0_2.index t 1 = 0) t

/-- Where an entry of that block lies. -/
theorem emb_out (a : Fin 1024) (b : Fin 2048) : (win0_2.blk t).view.emb (ix2 a b) = (ix2 (row t a) b : S4096x2048.Idx) := by
  funext x
  refine Fin.ext ?_
  fin_cases x
  · blk_simp
    refine (congrArg (fun x => x * 1024 + a.val) (index_out t).1).trans rfl
  · blk_simp
    refine (congrArg (fun x => x * 2048 + b.val) (index_out t).2).trans ((congrArg (· + b.val) (Nat.zero_mul _)).trans (Nat.zero_add _))

/-- The result when the pipeline is done. -/
theorem arr_out : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  rw [after0_2, out_eq]
  have h : ∀ (a : Fin 1024) (b : Fin 2048), k0_pay1 (iblk m c 0 t) (iblk m c 1 t) (ix2 a b)
      = product (m ((c : Thread nD τ).loc main_arg0)) (m ((c : Thread nD τ).loc main_arg1)) ((win0_2.blk t).view.emb (ix2 a b)) := fun a b => by
    rw [emb_out, pay_apply]
    exact Finset.sum_congr rfl fun k _ => congrArg₂ (· * ·) (blk0 m c t a k) (blk1 m c t b k)
  exact (congrArg (fun y => k0_pay1 (iblk m c 0 t) (iblk m c 1 t) y
    = product (m ((c : Thread nD τ).loc main_arg0)) (m ((c : Thread nD τ).loc main_arg1)) ((win0_2.blk t).view.emb y)) (eq_ix2 y)).mpr (h (y 0) (y 1))

/-- The reference's result is the same product. -/
theorem ref_eq (dx : FVec Ideal S4096x2048 .bf16) (w : FVec Ideal S2048x2048 .bf16) :
    Cert.Reference9Ideal.Read.val_main_v3 (F := Ideal) dx w = product dx w := by
  funext ix
  rw [Cert.Reference9Ideal.Read.val_main_v3_apply]
  refine (Cert.Reference9Ideal.Read.val_main_v2_apply dx w ix).trans ?_
  refine Finset.sum_congr rfl fun k _ => ?_
  refine congrArg₂ (· * ·) (congrArg dx ?_) (congrArg w ?_)
  · exact eq_ix2 _
  · exact eq_ix2 _

end Cert.Kernel9Ideal.Product

end
-- ==== Proof.Branch.lean ====
module

public import proofs.«01_k».proof.Proof.Gen.Kernel10Ideal.Value
public import proofs.«01_k».proof.Proof.Gen.Reference10Ideal.Run
public import proofs.«01_k».proof.Proof.Gen.Reference10Ideal.Read
public import Idealize.ShloMosaic.Lib.Pointwise
public import Idealize.ShloMosaic.Lib.Pipeline.ValueKit
public import Idealize.ShloMosaic.Lib.Claim

/-!
The projection of a branch: the tenth kernel and its reference, entry by entry.
-/

@[expose] public section

set_option maxRecDepth 65536
set_option maxHeartbeats 400000

noncomputable section

namespace Cert.Kernel10Ideal.Product

open Idealize.ShloMosaic Idealize.ShloMosaic.TcCoe Cert.Kernel10Ideal.Gen Cert.Kernel10Ideal.Value Idealize.SL.Sem

/-- A branch's output times the branch's weights. -/
def product (v : FVec Ideal S4096x1024 .bf16) (w : FVec Ideal S1024x2048 .bf16) : FVec Ideal S4096x2048 .bf16 :=
  fun ix => ∑ k : Fin 1024, v (ix2 (ix 0) k) * w (ix2 k (ix 1))

/-- What a grid point computes from its two blocks. -/
theorem pay_apply (x : Vec Ideal S1024x1024 .bf16) (y : Vec Ideal S1024x2048 .bf16) (a : Fin 1024) (b : Fin 2048) :
    k0_pay1 x y (ix2 a b) = ∑ k : Fin 1024, x (ix2 a k) * y (ix2 k b) := by
  pointwise [k0_pay1]

/-- A grid point's one store covers its block. -/
theorem out_eq (x : Vec Ideal S1024x1024 .bf16) (y : Vec Ideal S1024x2048 .bf16) : out0_2 x y = k0_pay1 x y := by
  unfold out0_2
  rw [View.canon_cons_unit_lit _ _ _ (by decide), View.ld_unit_lit _ _ (by decide), View.ld_unit_lit _ _ (by decide)]

variable (m : (ℓ : Loc nD τ sig) → Buf (Elt Ideal) ℓ) (c : Dev nD) (t : Fin cfg0.N)

/-- The row of the result that a grid point's row is. -/
def row (a : Fin 1024) : Fin 4096 := ⟨t.val * 1024 + a.val, by have : t.val < 4 := t.isLt; omega⟩

/-- The block window 0 points at. -/
theorem index_in0 (t : Fin cfg0.N) : win0_0.index t 0 = t.val ∧ win0_0.index t 1 = 0 :=
  (by decide +kernel : ∀ t : Fin grid0.N, win0_0.index t 0 = t.val ∧ win0_0.index t 1 = 0) t

/-- What window 0 reads. -/
theorem blk0 (a : Fin 1024) (k : Fin 1024) :
    iblk m c 0 t (ix2 a k) = m ((c : Thread nD τ).loc main_arg0) (ix2 (row t a) k) := by
  blk_simp [iblk]
  rw [V_main_arg0]
  blk_ext
  · rw [(index_in0 t).1]; rfl
  · rw [(index_in0 t).2]; exact (congrArg (· + k.val) (Nat.zero_mul _)).trans (Nat.zero_add _)

/-- The block window 1 points at. -/
theorem index_in1 (t : Fin cfg0.N) : win0_1.index t 0 = 0 ∧ win0_1.index t 1 = 0 :=
  (by decide +kernel : ∀ t : Fin grid0.N, win0_1.index t 0 = 0 ∧ win0_1.index t 1 = 0) t

/-- What window 1 reads. -/
theorem blk1 (k : Fin 1024) (b : Fin 2048) :
    iblk m c 1 t (ix2 k b) = m ((c : Thread nD τ).loc main_arg1) (ix2 k b) := by
  blk_simp [iblk]
  rw [V_main_arg1]
  blk_ext
  · rw [(index_in1 t).1]; exact (congrArg (· + k.val) (Nat.zero_mul _)).trans (Nat.zero_add _)
  · rw [(index_in1 t).2]; exact (congrArg (· + b.val) (Nat.zero_mul _)).trans (Nat.zero_add _)

/-- The block window 2 points at. -/
theorem index_out (t : Fin cfg0.N) : win0_2.index t 0 = t.val ∧ win0_2.index t 1 = 0 :=
  (by decide +kernel : ∀ t : Fin grid0.N, win0_2.index t 0 = t.val ∧ win0_2.index t 1 = 0) t

/-- Where an entry of that block lies. -/
theorem emb_out (a : Fin 1024) (b : Fin 2048) : (win0_2.blk t).view.emb (ix2 a b) = (ix2 (row t a) b : S4096x2048.Idx) := by
  funext x
  refine Fin.ext ?_
  fin_cases x
  · blk_simp
    refine (congrArg (fun x => x * 1024 + a.val) (index_out t).1).trans rfl
  · blk_simp
    refine (congrArg (fun x => x * 2048 + b.val) (index_out t).2).trans ((congrArg (· + b.val) (Nat.zero_mul _)).trans (Nat.zero_add _))

/-- The result when the pipeline is done. -/
theorem arr_out : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  rw [after0_2, out_eq]
  have h : ∀ (a : Fin 1024) (b : Fin 2048), k0_pay1 (iblk m c 0 t) (iblk m c 1 t) (ix2 a b)
      = product (m ((c : Thread nD τ).loc main_arg0)) (m ((c : Thread nD τ).loc main_arg1)) ((win0_2.blk t).view.emb (ix2 a b)) := fun a b => by
    rw [emb_out, pay_apply]
    exact Finset.sum_congr rfl fun k _ => congrArg₂ (· * ·) (blk0 m c t a k) (blk1 m c t k b)
  exact (congrArg (fun y => k0_pay1 (iblk m c 0 t) (iblk m c 1 t) y
    = product (m ((c : Thread nD τ).loc main_arg0)) (m ((c : Thread nD τ).loc main_arg1)) ((win0_2.blk t).view.emb y)) (eq_ix2 y)).mpr (h (y 0) (y 1))

/-- The reference's result is the same product. -/
theorem ref_eq (v : FVec Ideal S4096x1024 .bf16) (w : FVec Ideal S1024x2048 .bf16) :
    Cert.Reference10Ideal.Read.val_main_v3 (F := Ideal) v w = product v w := by
  funext ix
  rw [Cert.Reference10Ideal.Read.val_main_v3_apply]
  refine (Cert.Reference10Ideal.Read.val_main_v2_apply v w ix).trans ?_
  refine Finset.sum_congr rfl fun k _ => ?_
  refine congrArg₂ (· * ·) (congrArg v ?_) (congrArg w ?_)
  · exact eq_ix2 _
  · exact eq_ix2 _

end Cert.Kernel10Ideal.Product

end
-- ==== Proof.BranchBackward.lean ====
module

public import proofs.«01_k».proof.Proof.Gen.Kernel11Ideal.Value
public import proofs.«01_k».proof.Proof.Gen.Reference11Ideal.Run
public import proofs.«01_k».proof.Proof.Gen.Reference11Ideal.Read
public import Idealize.ShloMosaic.Lib.Pointwise
public import Idealize.ShloMosaic.Lib.Pipeline.ValueKit
public import Idealize.ShloMosaic.Lib.Claim

/-!
The gradient of a branch projection's input: the eleventh kernel and its reference, entry by entry.
-/

@[expose] public section

set_option maxRecDepth 65536
set_option maxHeartbeats 400000

noncomputable section

namespace Cert.Kernel11Ideal.Product

open Idealize.ShloMosaic Idealize.ShloMosaic.TcCoe Cert.Kernel11Ideal.Gen Cert.Kernel11Ideal.Value Idealize.SL.Sem

/-- The gradient that reaches a branch's projection, times the branch's weights transposed. -/
def product (d : FVec Ideal S4096x2048 .bf16) (w : FVec Ideal S1024x2048 .bf16) : FVec Ideal S4096x1024 .bf16 :=
  fun ix => ∑ k : Fin 2048, d (ix2 (ix 0) k) * w (ix2 (ix 1) k)

/-- What a grid point computes from its two blocks. -/
theorem pay_apply (x : Vec Ideal S1024x2048 .bf16) (y : Vec Ideal S1024x2048 .bf16) (a b : Fin 1024) :
    k0_pay1 x y (ix2 a b) = ∑ k : Fin 2048, x (ix2 a k) * y (ix2 b k) := by
  pointwise [k0_pay1]

/-- A grid point's one store covers its block. -/
theorem out_eq (x : Vec Ideal S1024x2048 .bf16) (y : Vec Ideal S1024x2048 .bf16) : out0_2 x y = k0_pay1 x y := by
  unfold out0_2
  rw [View.canon_cons_unit_lit _ _ _ (by decide), View.ld_unit_lit _ _ (by decide), View.ld_unit_lit _ _ (by decide)]

variable (m : (ℓ : Loc nD τ sig) → Buf (Elt Ideal) ℓ) (c : Dev nD) (t : Fin cfg0.N)

/-- The row of the result that a grid point's row is. -/
def row (a : Fin 1024) : Fin 4096 := ⟨t.val * 1024 + a.val, by have : t.val < 4 := t.isLt; omega⟩

/-- The block window 0 points at. -/
theorem index_in0 (t : Fin cfg0.N) : win0_0.index t 0 = t.val ∧ win0_0.index t 1 = 0 :=
  (by decide +kernel : ∀ t : Fin grid0.N, win0_0.index t 0 = t.val ∧ win0_0.index t 1 = 0) t

/-- What window 0 reads. -/
theorem blk0 (a : Fin 1024) (k : Fin 2048) :
    iblk m c 0 t (ix2 a k) = m ((c : Thread nD τ).loc main_arg0) (ix2 (row t a) k) := by
  blk_simp [iblk]
  rw [V_main_arg0]
  blk_ext
  · rw [(index_in0 t).1]; rfl
  · rw [(index_in0 t).2]; exact (congrArg (· + k.val) (Nat.zero_mul _)).trans (Nat.zero_add _)

/-- The block window 1 points at. -/
theorem index_in1 (t : Fin cfg0.N) : win0_1.index t 0 = 0 ∧ win0_1.index t 1 = 0 :=
  (by decide +kernel : ∀ t : Fin grid0.N, win0_1.index t 0 = 0 ∧ win0_1.index t 1 = 0) t

/-- What window 1 reads. -/
theorem blk1 (b : Fin 1024) (k : Fin 2048) :
    iblk m c 1 t (ix2 b k) = m ((c : Thread nD τ).loc main_arg1) (ix2 b k) := by
  blk_simp [iblk]
  rw [V_main_arg1]
  blk_ext
  · rw [(index_in1 t).1]; exact (congrArg (· + b.val) (Nat.zero_mul _)).trans (Nat.zero_add _)
  · rw [(index_in1 t).2]; exact (congrArg (· + k.val) (Nat.zero_mul _)).trans (Nat.zero_add _)

/-- The block window 2 points at. -/
theorem index_out (t : Fin cfg0.N) : win0_2.index t 0 = t.val ∧ win0_2.index t 1 = 0 :=
  (by decide +kernel : ∀ t : Fin grid0.N, win0_2.index t 0 = t.val ∧ win0_2.index t 1 = 0) t

/-- Where an entry of that block lies. -/
theorem emb_out (a b : Fin 1024) : (win0_2.blk t).view.emb (ix2 a b) = (ix2 (row t a) b : S4096x1024.Idx) := by
  funext x
  refine Fin.ext ?_
  fin_cases x
  · blk_simp
    refine (congrArg (fun x => x * 1024 + a.val) (index_out t).1).trans rfl
  · blk_simp
    refine (congrArg (fun x => x * 1024 + b.val) (index_out t).2).trans ((congrArg (· + b.val) (Nat.zero_mul _)).trans (Nat.zero_add _))

/-- The result when the pipeline is done. -/
theorem arr_out : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  rw [after0_2, out_eq]
  have h : ∀ (a b : Fin 1024), k0_pay1 (iblk m c 0 t) (iblk m c 1 t) (ix2 a b)
      = product (m ((c : Thread nD τ).loc main_arg0)) (m ((c : Thread nD τ).loc main_arg1)) ((win0_2.blk t).view.emb (ix2 a b)) := fun a b => by
    rw [emb_out, pay_apply]
    exact Finset.sum_congr rfl fun k _ => congrArg₂ (· * ·) (blk0 m c t a k) (blk1 m c t b k)
  exact (congrArg (fun y => k0_pay1 (iblk m c 0 t) (iblk m c 1 t) y
    = product (m ((c : Thread nD τ).loc main_arg0)) (m ((c : Thread nD τ).loc main_arg1)) ((win0_2.blk t).view.emb y)) (eq_ix2 y)).mpr (h (y 0) (y 1))

/-- The reference's result is the same product. -/
theorem ref_eq (d : FVec Ideal S4096x2048 .bf16) (w : FVec Ideal S1024x2048 .bf16) :
    Cert.Reference11Ideal.Read.val_main_v3 (F := Ideal) d w = product d w := by
  funext ix
  rw [Cert.Reference11Ideal.Read.val_main_v3_apply]
  refine (Cert.Reference11Ideal.Read.val_main_v2_apply d w ix).trans ?_
  refine Finset.sum_congr rfl fun k _ => ?_
  refine congrArg₂ (· * ·) (congrArg d ?_) (congrArg w ?_)
  · exact eq_ix2 _
  · exact eq_ix2 _

end Cert.Kernel11Ideal.Product

end
-- ==== Proof.BranchWeights.lean ====
module

public import proofs.«01_k».proof.Proof.Gen.Kernel12Ideal.Value
public import proofs.«01_k».proof.Proof.Gen.Reference12Ideal.Run
public import proofs.«01_k».proof.Proof.Gen.Reference12Ideal.Read
public import Idealize.ShloMosaic.Lib.Pointwise
public import Idealize.ShloMosaic.Lib.Pipeline.ValueKit
public import Idealize.ShloMosaic.Lib.Claim

/-!
The gradient of a branch's weights: the twelfth kernel and its reference, entry by entry.
-/

@[expose] public section

set_option maxRecDepth 65536
set_option maxHeartbeats 400000

noncomputable section

namespace Cert.Kernel12Ideal.Product

open Idealize.ShloMosaic Idealize.ShloMosaic.TcCoe Cert.Kernel12Ideal.Gen Cert.Kernel12Ideal.Value Idealize.SL.Sem

/-- The product over the tokens of a branch's output and the gradient that reaches its projection. -/
def product (h : FVec Ideal S4096x1024 .bf16) (d : FVec Ideal S4096x2048 .bf16) : FVec Ideal S1024x2048 .bf16 :=
  fun ix => ∑ k : Fin 4096, h (ix2 k (ix 0)) * d (ix2 k (ix 1))

/-- What a grid point computes from its two blocks. -/
theorem pay_apply (x y : Vec Ideal S4096x1024 .bf16) (a b : Fin 1024) :
    k0_pay1 x y (ix2 a b) = ∑ k : Fin 4096, x (ix2 k a) * y (ix2 k b) := by
  pointwise [k0_pay1]

/-- A grid point's one store covers its block. -/
theorem out_eq (x y : Vec Ideal S4096x1024 .bf16) : out0_2 x y = k0_pay1 x y := by
  unfold out0_2
  rw [View.canon_cons_unit_lit _ _ _ (by decide), View.ld_unit_lit _ _ (by decide), View.ld_unit_lit _ _ (by decide)]

variable (m : (ℓ : Loc nD τ sig) → Buf (Elt Ideal) ℓ) (c : Dev nD) (t : Fin cfg0.N)

/-- The row of the result that a grid point's row is. -/
def row (a : Fin 1024) : Fin 1024 := ⟨t.val / 2 * 1024 + a.val, by have : t.val < 2 := t.isLt; omega⟩

/-- The column of the result that a grid point's column is. -/
def col (b : Fin 1024) : Fin 2048 := ⟨t.val % 2 * 1024 + b.val, by omega⟩

/-- The block window 0 points at. -/
theorem index_in0 (t : Fin cfg0.N) : win0_0.index t 0 = 0 ∧ win0_0.index t 1 = t.val / 2 :=
  (by decide +kernel : ∀ t : Fin grid0.N, win0_0.index t 0 = 0 ∧ win0_0.index t 1 = t.val / 2) t

/-- What window 0 reads. -/
theorem blk0 (k : Fin 4096) (a : Fin 1024) :
    iblk m c 0 t (ix2 k a) = m ((c : Thread nD τ).loc main_arg0) (ix2 k (row t a)) := by
  blk_simp [iblk]
  rw [V_main_arg0]
  blk_ext
  · rw [(index_in0 t).1]; exact (congrArg (· + k.val) (Nat.zero_mul _)).trans (Nat.zero_add _)
  · rw [(index_in0 t).2]; rfl

/-- The block window 1 points at. -/
theorem index_in1 (t : Fin cfg0.N) : win0_1.index t 0 = 0 ∧ win0_1.index t 1 = t.val % 2 :=
  (by decide +kernel : ∀ t : Fin grid0.N, win0_1.index t 0 = 0 ∧ win0_1.index t 1 = t.val % 2) t

/-- What window 1 reads. -/
theorem blk1 (k : Fin 4096) (b : Fin 1024) :
    iblk m c 1 t (ix2 k b) = m ((c : Thread nD τ).loc main_arg1) (ix2 k (col t b)) := by
  blk_simp [iblk]
  rw [V_main_arg1]
  blk_ext
  · rw [(index_in1 t).1]; exact (congrArg (· + k.val) (Nat.zero_mul _)).trans (Nat.zero_add _)
  · rw [(index_in1 t).2]; rfl

/-- The block window 2 points at. -/
theorem index_out (t : Fin cfg0.N) : win0_2.index t 0 = t.val / 2 ∧ win0_2.index t 1 = t.val % 2 :=
  (by decide +kernel : ∀ t : Fin grid0.N, win0_2.index t 0 = t.val / 2 ∧ win0_2.index t 1 = t.val % 2) t

/-- Where an entry of that block lies. -/
theorem emb_out (a b : Fin 1024) : (win0_2.blk t).view.emb (ix2 a b) = (ix2 (row t a) (col t b) : S1024x2048.Idx) := by
  funext x
  refine Fin.ext ?_
  fin_cases x
  · blk_simp
    refine (congrArg (fun x => x * 1024 + a.val) (index_out t).1).trans rfl
  · blk_simp
    refine (congrArg (fun x => x * 1024 + b.val) (index_out t).2).trans rfl

/-- The result when the pipeline is done. -/
theorem arr_out : (dats m 0 c).arrAt 2 cfg0.N
    = product (m ((c : Thread nD τ).loc main_arg0)) (m ((c : Thread nD τ).loc main_arg1)) := by
  refine (dats m 0 c).arrAt_eq_of_covers 2 _ (by decide +kernel) fun t hf y => ?_
  blk_simp
  rw [after0_2, out_eq]
  have h : ∀ a b : Fin 1024, k0_pay1 (iblk m c 0 t) (iblk m c 1 t) (ix2 a b)
      = product (m ((c : Thread nD τ).loc main_arg0)) (m ((c : Thread nD τ).loc main_arg1)) ((win0_2.blk t).view.emb (ix2 a b)) := fun a b => by
    rw [emb_out, pay_apply]
    exact Finset.sum_congr rfl fun k _ => congrArg₂ (· * ·) (blk0 m c t k a) (blk1 m c t k b)
  exact (congrArg (fun y => k0_pay1 (iblk m c 0 t) (iblk m c 1 t) y
    = product (m ((c : Thread nD τ).loc main_arg0)) (m ((c : Thread nD τ).loc main_arg1)) ((win0_2.blk t).view.emb y)) (eq_ix2 y)).mpr (h (y 0) (y 1))

/-- The reference's result is the same product, its factors the other way round. -/
theorem ref_eq (h : FVec Ideal S4096x1024 .bf16) (d : FVec Ideal S4096x2048 .bf16) :
    Cert.Reference12Ideal.Read.val_main_v4 (F := Ideal) h d = product h d := by
  funext ix
  rw [Cert.Reference12Ideal.Read.val_main_v4_apply, Cert.Reference12Ideal.Read.val_main_v3_apply, Cert.Reference12Ideal.Read.val_main_v2_apply]
  refine Finset.sum_congr rfl fun k _ => ?_
  refine (mul_comm _ _).trans (congrArg₂ (· * ·) (congrArg h ?_) (congrArg d ?_))
  · exact eq_ix2 _
  · exact eq_ix2 _

end Cert.Kernel12Ideal.Product

end
-- ==== Proof.SmallUpdate.lean ====
module

public import proofs.«01_k».proof.Proof.Gen.Kernel13Ideal.Value
public import proofs.«01_k».proof.Proof.Gen.Reference13Ideal.Run
public import proofs.«01_k».proof.Proof.Gen.Reference13Ideal.Read
public import Idealize.ShloMosaic.Lib.Pointwise
public import Idealize.ShloMosaic.Lib.Pipeline.ValueKit
public import Idealize.ShloMosaic.Lib.Claim

/-!
The optimiser's update of the small weights: the thirteenth kernel and its reference, entry by entry.
-/

@[expose] public section

set_option maxRecDepth 65536
set_option maxHeartbeats 400000

noncomputable section

namespace Cert.Kernel13Ideal.Update

open Idealize.ShloMosaic Idealize.ShloMosaic.TcCoe Cert.Kernel13Ideal.Gen Cert.Kernel13Ideal.Value Idealize.SL.Sem

/-- The gradient: the sum of the devices' own gradients. -/
def total (g : FVec Ideal S8x13312x128 .bf16) : FVec Ideal S1x13312x128 .f32 :=
  fun ix => ∑ d : Fin 8, g (ix3 d (ix 1) (ix 2))

/-- The new first moment. -/
def first (u : FVec Ideal S1x13312x128 .f32) (g : FVec Ideal S8x13312x128 .bf16) : FVec Ideal S1x13312x128 .f32 :=
  fun ix => FloatOps.addf (FloatOps.mulf (Scalar.ofBits .f32 0x3F666666#32) (u ix))
    (FloatOps.mulf (Scalar.ofBits .f32 0x3DCCCCCD#32) (total g ix))

/-- The new second moment. -/
def second (u : FVec Ideal S1x13312x128 .f32) (g : FVec Ideal S8x13312x128 .bf16) : FVec Ideal S1x13312x128 .f32 :=
  fun ix => FloatOps.addf (FloatOps.mulf (Scalar.ofBits .f32 0x3F7FBE77#32) (u ix))
    (FloatOps.mulf (Scalar.ofBits .f32 0x3A83126F#32) (FloatOps.mulf (total g ix) (total g ix)))

/-- The sum of eight slots of a block. -/
theorem eight (f : Fin 8 → EReal) (p0 p1 p2 p3 p4 p5 p6 p7 : EReal) (h0 : p0 = f 0) (h1 : p1 = f 1) (h2 : p2 = f 2)
    (h3 : p3 = f 3) (h4 : p4 = f 4) (h5 : p5 = f 5) (h6 : p6 = f 6) (h7 : p7 = f 7) :
    p0 + p1 + p2 + p3 + p4 + p5 + p6 + p7 = ∑ d : Fin 8, f d := by
  rw [Fin.sum_univ_eight, h0, h1, h2, h3, h4, h5, h6, h7]

/-- The sum of the eight slots at an entry, as a grid point adds them up. -/
theorem sum_apply (x : Vec Ideal S8x512x128 .bf16) (a : Fin 1) (b : Fin 512) (d : Fin 128) :
    E4 (View.ld x r0_0) (View.ld x r0_1) (View.ld x r0_2) (View.ld x r0_3) (View.ld x r0_4) (View.ld x r0_5) (View.ld x r0_6)
      (View.ld x r0_7) (ix3 a b d) = ∑ k : Fin 8, x (ix3 k b d) := by
  refine eight (fun k => x (ix3 k b d)) _ _ _ _ _ _ _ _ ?_ ?_ ?_ ?_ ?_ ?_ ?_ ?_ <;>
  · refine congrArg x (funext fun i => Fin.ext ?_)
    fin_cases i
    · rfl
    · exact (congrArg (0 + ·) (Nat.one_mul b.val)).trans (Nat.zero_add b.val)
    · exact (congrArg (0 + ·) (Nat.one_mul d.val)).trans (Nat.zero_add d.val)

/-- A load of a whole block reads the block. -/
theorem whole (x : Vec Ideal S1x512x128 .f32) : View.ld x r0_8 = x := View.ld_unit_lit _ _ (by decide)

/-- What a grid point leaves of the gradient. -/
theorem out4_apply (x0 x1 x2 : Vec Ideal S1x512x128 .f32) (x : Vec Ideal S8x512x128 .bf16) (a : Fin 1) (b : Fin 512) (d : Fin 128) :
    out0_4 x0 x1 x2 x (ix3 a b d) = ∑ k : Fin 8, x (ix3 k b d) :=
  (canon4_eq _ _ _ _ _ _ _ _ _).trans (sum_apply x a b d)

/-- What a grid point leaves of the first moment. -/
theorem out6_apply (x0 x1 x2 : Vec Ideal S1x512x128 .f32) (x : Vec Ideal S8x512x128 .bf16) (b : Fin 512) (d : Fin 128) :
    out0_6 x0 x1 x2 x (ix3 0 b d)
      = (Ideal.ofBits .f32 0x3F666666#32 * x1 (ix3 0 b d) + Ideal.ofBits .f32 0x3DCCCCCD#32 * ∑ k : Fin 8, x (ix3 k b d) : EReal) := by
  refine (canon6_eq (View.ld x1 r0_8) _ _ _ _ _ _ _ _ _).trans ?_
  rw [whole]
  exact congrArg₂ (fun p q : EReal => Ideal.ofBits .f32 0x3F666666#32 * p + Ideal.ofBits .f32 0x3DCCCCCD#32 * q)
    (congrArg x1 (eq_ix3 _)) (sum_apply x 0 b d)

/-- What a grid point leaves of the second moment. -/
theorem out7_apply (x0 x1 x2 : Vec Ideal S1x512x128 .f32) (x : Vec Ideal S8x512x128 .bf16) (b : Fin 512) (d : Fin 128) :
    out0_7 x0 x1 x2 x (ix3 0 b d)
      = (Ideal.ofBits .f32 0x3F7FBE77#32 * x2 (ix3 0 b d)
        + Ideal.ofBits .f32 0x3A83126F#32 * ((∑ k : Fin 8, x (ix3 k b d)) * ∑ k : Fin 8, x (ix3 k b d)) : EReal) := by
  refine (canon7_eq (View.ld x2 r0_8) _ _ _ _ _ _ _ _ _).trans ?_
  rw [whole]
  exact congrArg₂ (fun p q : EReal => Ideal.ofBits .f32 0x3F7FBE77#32 * p + Ideal.ofBits .f32 0x3A83126F#32 * (q * q))
    (congrArg x2 (eq_ix3 _)) (sum_apply x 0 b d)

variable (m : (ℓ : Loc nD τ sig) → Buf (Elt Ideal) ℓ) (c : Dev nD) (t : Fin cfg0.N)

/-- The row of an array that a grid point's row is. -/
def row (b : Fin 512) : Fin 13312 := ⟨t.val * 512 + b.val, by have : t.val < 26 := t.isLt; omega⟩

/-- The blocks the windows point at: the same rows of each array. -/
theorem index_all (t : Fin cfg0.N) : (win0_1.index t 0 = 0 ∧ win0_1.index t 1 = t.val ∧ win0_1.index t 2 = 0)
    ∧ (win0_2.index t 0 = 0 ∧ win0_2.index t 1 = t.val ∧ win0_2.index t 2 = 0)
    ∧ (win0_3.index t 0 = 0 ∧ win0_3.index t 1 = t.val ∧ win0_3.index t 2 = 0)
    ∧ (win0_4.index t 0 = 0 ∧ win0_4.index t 1 = t.val ∧ win0_4.index t 2 = 0)
    ∧ (win0_6.index t 0 = 0 ∧ win0_6.index t 1 = t.val ∧ win0_6.index t 2 = 0)
    ∧ (win0_7.index t 0 = 0 ∧ win0_7.index t 1 = t.val ∧ win0_7.index t 2 = 0) :=
  (by decide +kernel : ∀ t : Fin grid0.N, (win0_1.index t 0 = 0 ∧ win0_1.index t 1 = t.val ∧ win0_1.index t 2 = 0)
    ∧ (win0_2.index t 0 = 0 ∧ win0_2.index t 1 = t.val ∧ win0_2.index t 2 = 0)
    ∧ (win0_3.index t 0 = 0 ∧ win0_3.index t 1 = t.val ∧ win0_3.index t 2 = 0)
    ∧ (win0_4.index t 0 = 0 ∧ win0_4.index t 1 = t.val ∧ win0_4.index t 2 = 0)
    ∧ (win0_6.index t 0 = 0 ∧ win0_6.index t 1 = t.val ∧ win0_6.index t 2 = 0)
    ∧ (win0_7.index t 0 = 0 ∧ win0_7.index t 1 = t.val ∧ win0_7.index t 2 = 0)) t

/-- What window 1 reads. -/
theorem blk1 (b : Fin 512) (d : Fin 128) :
    iblk m c 1 t (ix3 0 b d) = m ((c : Thread nD τ).loc main_arg1) (ix3 0 (row t b) d) := by
  obtain ⟨⟨h0, h1, h2⟩, -⟩ := index_all t
  blk_simp [iblk]
  rw [V_main_arg1]
  blk_ext
  rw [h1]; rfl

/-- What window 2 reads. -/
theorem blk2 (b : Fin 512) (d : Fin 128) :
    iblk m c 2 t (ix3 0 b d) = m ((c : Thread nD τ).loc main_arg2) (ix3 0 (row t b) d) := by
  obtain ⟨-, ⟨h0, h1, h2⟩, -⟩ := index_all t
  blk_simp [iblk]
  rw [V_main_arg2]
  blk_ext
  rw [h1]; rfl

/-- What window 3 reads. -/
theorem blk3 (k : Fin 8) (b : Fin 512) (d : Fin 128) :
    iblk m c 3 t (ix3 k b d) = m ((c : Thread nD τ).loc main_arg3) (ix3 k (row t b) d) := by
  obtain ⟨-, -, ⟨h0, h1, h2⟩, -⟩ := index_all t
  blk_simp [iblk]
  rw [V_main_arg3]
  blk_ext
  rw [h1]; rfl

/-- The devices' sum at an entry of a block. -/
theorem sum_blk (b : Fin 512) (d : Fin 128) : (∑ k : Fin 8, iblk m c 3 t (ix3 k b d) : EReal)
    = total (m ((c : Thread nD τ).loc main_arg3)) (ix3 0 (row t b) d) :=
  Finset.sum_congr rfl fun k _ => blk3 m c t k b d

/-- Where an entry of window 4's block lies. -/
theorem emb4 (b : Fin 512) (d : Fin 128) : (win0_4.blk t).view.emb (ix3 0 b d) = (ix3 0 (row t b) d : S1x13312x128.Idx) := by
  obtain ⟨-, -, -, ⟨h0, h1, h2⟩, -⟩ := index_all t
  funext x
  refine Fin.ext ?_
  fin_cases x
  · blk_simp
    exact (congrArg (fun x => x * 1 + 0) h0).trans rfl
  · blk_simp
    exact (congrArg (fun x => x * 512 + b.val) h1).trans rfl
  · blk_simp
    exact (congrArg (fun x => x * 128 + d.val) h2).trans ((congrArg (· + d.val) (Nat.zero_mul _)).trans (Nat.zero_add _))

/-- Where an entry of window 6's block lies. -/
theorem emb6 (b : Fin 512) (d : Fin 128) : (win0_6.blk t).view.emb (ix3 0 b d) = (ix3 0 (row t b) d : S1x13312x128.Idx) := by
  obtain ⟨-, -, -, -, ⟨h0, h1, h2⟩, -⟩ := index_all t
  funext x
  refine Fin.ext ?_
  fin_cases x
  · blk_simp
    exact (congrArg (fun x => x * 1 + 0) h0).trans rfl
  · blk_simp
    exact (congrArg (fun x => x * 512 + b.val) h1).trans rfl
  · blk_simp
    exact (congrArg (fun x => x * 128 + d.val) h2).trans ((congrArg (· + d.val) (Nat.zero_mul _)).trans (Nat.zero_add _))

/-- Where an entry of window 7's block lies. -/
theorem emb7 (b : Fin 512) (d : Fin 128) : (win0_7.blk t).view.emb (ix3 0 b d) = (ix3 0 (row t b) d : S1x13312x128.Idx) := by
  obtain ⟨-, -, -, -, -, h0, h1, h2⟩ := index_all t
  funext x
  refine Fin.ext ?_
  fin_cases x
  · blk_simp
    exact (congrArg (fun x => x * 1 + 0) h0).trans rfl
  · blk_simp
    exact (congrArg (fun x => x * 512 + b.val) h1).trans rfl
  · blk_simp
    exact (congrArg (fun x => x * 128 + d.val) h2).trans ((congrArg (· + d.val) (Nat.zero_mul _)).trans (Nat.zero_add _))

/-- An index of a block, whose first coordinate can only be zero. -/
theorem eq_ix (y : S1x512x128.Idx) : y = ix3 0 (y 1) (y 2) :=
  (eq_ix3 y).trans (congrArg (fun a : Fin 1 => (ix3 a (y 1) (y 2) : S1x512x128.Idx)) (Fin.eq_zero (y 0)))

/-- The gradient when the pipeline is done. -/
theorem arr4 : (dats m 0 c).arrAt 4 cfg0.N = total (m ((c : Thread nD τ).loc main_arg3)) := by
  refine (dats m 0 c).arrAt_eq_of_covers 4 _ (by decide +kernel) fun t hf y => ?_
  blk_simp
  rw [after0_4]
  have h : ∀ (b : Fin 512) (d : Fin 128), out0_4 (iblk m c 0 t) (iblk m c 1 t) (iblk m c 2 t) (iblk m c 3 t) (ix3 0 b d)
      = total (m ((c : Thread nD τ).loc main_arg3)) ((win0_4.blk t).view.emb (ix3 0 b d)) := fun b d => by
    rw [emb4, out4_apply]
    exact sum_blk m c t b d
  exact (congrArg (fun y => out0_4 (iblk m c 0 t) (iblk m c 1 t) (iblk m c 2 t) (iblk m c 3 t) y
    = total (m ((c : Thread nD τ).loc main_arg3)) ((win0_4.blk t).view.emb y)) (eq_ix y)).mpr (h (y 1) (y 2))

/-- The first moment when the pipeline is done. -/
theorem arr6 : (dats m 0 c).arrAt 6 cfg0.N
    = first (m ((c : Thread nD τ).loc main_arg1)) (m ((c : Thread nD τ).loc main_arg3)) := by
  refine (dats m 0 c).arrAt_eq_of_covers 6 _ (by decide +kernel) fun t hf y => ?_
  blk_simp
  rw [after0_6]
  have h : ∀ (b : Fin 512) (d : Fin 128), out0_6 (iblk m c 0 t) (iblk m c 1 t) (iblk m c 2 t) (iblk m c 3 t) (ix3 0 b d)
      = first (m ((c : Thread nD τ).loc main_arg1)) (m ((c : Thread nD τ).loc main_arg3)) ((win0_6.blk t).view.emb (ix3 0 b d)) :=
    fun b d => by
    rw [emb6, out6_apply]
    exact congrArg₂ (fun p q : EReal => Ideal.ofBits .f32 0x3F666666#32 * p + Ideal.ofBits .f32 0x3DCCCCCD#32 * q)
      (blk1 m c t b d) (sum_blk m c t b d)
  exact (congrArg (fun y => out0_6 (iblk m c 0 t) (iblk m c 1 t) (iblk m c 2 t) (iblk m c 3 t) y
    = first (m ((c : Thread nD τ).loc main_arg1)) (m ((c : Thread nD τ).loc main_arg3)) ((win0_6.blk t).view.emb y)) (eq_ix y)).mpr
    (h (y 1) (y 2))

/-- The second moment when the pipeline is done. -/
theorem arr7 : (dats m 0 c).arrAt 7 cfg0.N
    = second (m ((c : Thread nD τ).loc main_arg2)) (m ((c : Thread nD τ).loc main_arg3)) := by
  refine (dats m 0 c).arrAt_eq_of_covers 7 _ (by decide +kernel) fun t hf y => ?_
  blk_simp
  rw [after0_7]
  have h : ∀ (b : Fin 512) (d : Fin 128), out0_7 (iblk m c 0 t) (iblk m c 1 t) (iblk m c 2 t) (iblk m c 3 t) (ix3 0 b d)
      = second (m ((c : Thread nD τ).loc main_arg2)) (m ((c : Thread nD τ).loc main_arg3)) ((win0_7.blk t).view.emb (ix3 0 b d)) :=
    fun b d => by
    rw [emb7, out7_apply]
    exact congrArg₂ (fun p q : EReal => Ideal.ofBits .f32 0x3F7FBE77#32 * p + Ideal.ofBits .f32 0x3A83126F#32 * (q * q))
      (blk2 m c t b d) (sum_blk m c t b d)
  exact (congrArg (fun y => out0_7 (iblk m c 0 t) (iblk m c 1 t) (iblk m c 2 t) (iblk m c 3 t) y
    = second (m ((c : Thread nD τ).loc main_arg2)) (m ((c : Thread nD τ).loc main_arg3)) ((win0_7.blk t).view.emb y)) (eq_ix y)).mpr
    (h (y 1) (y 2))

/-- The bits of zero. -/
theorem zero_f32 : (Ideal.ofBits .f32 0x00000000#32 : EReal) = 0 := by simp [Ideal.ofBits, Ideal.ieee]

/-- The reference's gradient is the same sum. -/
theorem ref2 (g : FVec Ideal S8x13312x128 .bf16) : Cert.Reference13Ideal.Read.val_main_v2 (F := Ideal) g = total g := by
  funext ix
  rw [Cert.Reference13Ideal.Read.val_main_v2_apply, Cert.Reference13Ideal.Read.val_main_v1_apply]
  refine (congrArg (· + _) zero_f32).trans ((zero_add _).trans (Finset.sum_congr rfl fun k _ => ?_))
  exact congrArg g (eq_ix3 _)

/-- The reference's first moment is the same. -/
theorem ref7 (u : FVec Ideal S1x13312x128 .f32) (g : FVec Ideal S8x13312x128 .bf16) :
    Cert.Reference13Ideal.Read.val_main_v7 (F := Ideal) u g = first u g := by
  funext ix
  rw [Cert.Reference13Ideal.Read.val_main_v7_apply, Cert.Reference13Ideal.Read.val_main_v6_apply, ref2,
    Cert.Reference13Ideal.Read.val_main_v4_apply, Cert.Reference13Ideal.Read.val_main_v3_apply, Cert.Reference13Ideal.Read.val_main_v5_apply]
  rfl

/-- The reference's second moment is the same. -/
theorem ref13 (u : FVec Ideal S1x13312x128 .f32) (g : FVec Ideal S8x13312x128 .bf16) :
    Cert.Reference13Ideal.Read.val_main_v13 (F := Ideal) u g = second u g := by
  funext ix
  rw [Cert.Reference13Ideal.Read.val_main_v13_apply, Cert.Reference13Ideal.Read.val_main_v12_apply,
    Cert.Reference13Ideal.Read.val_main_v10_apply, ref2,
    Cert.Reference13Ideal.Read.val_main_v9_apply, Cert.Reference13Ideal.Read.val_main_v8_apply, Cert.Reference13Ideal.Read.val_main_v11_apply]
  rfl

end Cert.Kernel13Ideal.Update

end
-- ==== Proof.ConvUpdate.lean ====
module

public import proofs.«01_k».proof.Proof.Gen.Kernel14Ideal.Value
public import proofs.«01_k».proof.Proof.Gen.Reference14Ideal.Run
public import proofs.«01_k».proof.Proof.Gen.Reference14Ideal.Read
public import Idealize.ShloMosaic.Lib.Pointwise
public import Idealize.ShloMosaic.Lib.Pipeline.ValueKit
public import Idealize.ShloMosaic.Lib.Claim

/-!
The optimiser's update of the moments of the RG-LRU's convolution: the fourteenth kernel and its reference, entry by entry.
-/

@[expose] public section

set_option maxRecDepth 65536
set_option maxHeartbeats 400000

noncomputable section

namespace Cert.Kernel14Ideal.Update

open Idealize.ShloMosaic Idealize.ShloMosaic.TcCoe Cert.Kernel14Ideal.Gen Cert.Kernel14Ideal.Value Idealize.SL.Sem

/-- The new first moment at an entry. -/
theorem first_apply (g u : Vec Ideal S1x16x128 .f32) (b : Fin 16) (d : Fin 128) :
    k0_pay6 g u (ix3 0 b d) = FloatOps.addf (FloatOps.mulf (Scalar.ofBits .f32 0x3F666666#32) (u (ix3 0 b d)))
      (FloatOps.mulf (Scalar.ofBits .f32 0x3DCCCCCD#32) (g (ix3 0 b d))) := by
  pointwise [k0_pay6, k0_pay3, k0_pay2]

/-- The new second moment at an entry. -/
theorem second_apply (g u : Vec Ideal S1x16x128 .f32) (b : Fin 16) (d : Fin 128) :
    k0_pay7 g u (ix3 0 b d) = FloatOps.addf (FloatOps.mulf (Scalar.ofBits .f32 0x3F7FBE77#32) (u (ix3 0 b d)))
      (FloatOps.mulf (Scalar.ofBits .f32 0x3A83126F#32) (FloatOps.mulf (g (ix3 0 b d)) (g (ix3 0 b d)))) := by
  pointwise [k0_pay7, k0_pay4, k0_pay2]

/-- An index of the arrays, whose first coordinate can only be zero. -/
theorem eq_ix (y : S1x16x128.Idx) : y = ix3 0 (y 1) (y 2) :=
  (eq_ix3 y).trans (congrArg (fun a : Fin 1 => (ix3 a (y 1) (y 2) : S1x16x128.Idx)) (Fin.eq_zero (y 0)))

/-- The reference's first moment is the kernel's. -/
theorem ref4 (w u v g : FVec Ideal S1x16x128 .f32) : Cert.Reference14Ideal.Read.val_main_v4 (F := Ideal) u g = G6 w u v g := by
  funext ix
  rw [eq_ix ix]
  exact (first_apply g u (ix 1) (ix 2)).symm

/-- The reference's second moment is the kernel's. -/
theorem ref10 (w u v g : FVec Ideal S1x16x128 .f32) : Cert.Reference14Ideal.Read.val_main_v10 (F := Ideal) v g = G7 w u v g := by
  funext ix
  rw [eq_ix ix]
  exact (second_apply g v (ix 1) (ix 2)).symm

end Cert.Kernel14Ideal.Update

end
-- ==== Proof.lean ====
/-
  The claims about the backward scan, the layer's large products and two of the optimiser's updates. For each call: both
  kernels' frames, the reference's frame, that the idealized kernel is the kernel's own text, and that the idealized kernel
  and the reference end with the same results.

  The scan: the frames of the two kernels come from their runs, in Proof/RunKernel.lean and Proof/Run.lean; the frame of the
  reference from Proof/RefStepRun.lean. Proof/KernelRun.lean gives the kernel's results in the real numbers its arguments
  hold, Proof/RefStepRun.lean the reference's as its loop's last state, Proof/Match.lean their equality.

  The products: Proof/Product.lean, Proof/Forward.lean, Proof/Backward.lean, Proof/ForwardAfter.lean, Proof/Out.lean,
  Proof/OutWeights.lean, Proof/OutBackward.lean, Proof/OutBackwardLast.lean, Proof/Branch.lean, Proof/BranchBackward.lean,
  Proof/BranchWeights.lean each give one call's result and its reference's as the same sums.

  The optimiser: Proof/SmallUpdate.lean and Proof/ConvUpdate.lean each give one call's gradient and moments, and that its
  reference's are the same.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Run
public import proofs.«01_k».proof.Proof.RunKernel
public import proofs.«01_k».proof.Proof.RefStepRun
public import proofs.«01_k».proof.Proof.KernelRun
public import proofs.«01_k».proof.Proof.Match
public import proofs.«01_k».proof.Proof.Finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Product
public import proofs.«01_k».proof.Proof.Forward
public import proofs.«01_k».proof.Proof.Backward
public import proofs.«01_k».proof.Proof.ForwardAfter
public import proofs.«01_k».proof.Proof.Out
public import proofs.«01_k».proof.Proof.OutWeights
public import proofs.«01_k».proof.Proof.OutBackward
public import proofs.«01_k».proof.Proof.OutBackwardLast
public import proofs.«01_k».proof.Proof.Branch
public import proofs.«01_k».proof.Proof.BranchBackward
public import proofs.«01_k».proof.Proof.BranchWeights
public import proofs.«01_k».proof.Proof.SmallUpdate
public import proofs.«01_k».proof.Proof.ConvUpdate
public import Idealize.ShloMosaic.Lib.Claim
public import Idealize.ShloMosaic.Lib.Quiescent

@[expose] public section

set_option maxRecDepth 65536

noncomputable section

namespace Cert.Proof

open Idealize.ShloMosaic Idealize.SL.Sem
open Cert.KernelIdeal.Scan (tab sav reads run_values same_du same_bre same_bim same_cre same_cim same_are same_aim oDu oBre oBim oCre oCim oAre oAim diagB diagC rowsA)

/-- The states of the reference's loop from a memory's arguments. -/
abbrev states (m : (ℓ : Loc Cert.ReferenceIdeal.nD Cert.ReferenceIdeal.τ Cert.ReferenceIdeal.sig) → Buf (Elt Ideal) ℓ)
    (c : Dev Cert.ReferenceIdeal.nD) : ℕ → Cert.ReferenceIdeal.Step.State Ideal :=
  Cert.ReferenceIdeal.Scan.it (m ((c.tc : Thread Cert.ReferenceIdeal.nD Cert.ReferenceIdeal.τ).loc Cert.ReferenceIdeal.main_arg0))
    (m ((c.tc : Thread Cert.ReferenceIdeal.nD Cert.ReferenceIdeal.τ).loc Cert.ReferenceIdeal.main_arg7))
    (m ((c.tc : Thread Cert.ReferenceIdeal.nD Cert.ReferenceIdeal.τ).loc Cert.ReferenceIdeal.main_arg8))
    (m ((c.tc : Thread Cert.ReferenceIdeal.nD Cert.ReferenceIdeal.τ).loc Cert.ReferenceIdeal.main_arg9))
    (m ((c.tc : Thread Cert.ReferenceIdeal.nD Cert.ReferenceIdeal.τ).loc Cert.ReferenceIdeal.main_arg10))

/-- The reference's run: its results read from the states of its loop. -/
abbrev ref_run (m : (ℓ : Loc Cert.ReferenceIdeal.nD Cert.ReferenceIdeal.τ Cert.ReferenceIdeal.sig) → Buf (Elt Ideal) ℓ)
    (g : Dev Cert.ReferenceIdeal.nD → PrngReg) :=
  Cert.ReferenceIdeal.StepRun.run_iter (F := Ideal) m g (states m) (fun _ => rfl) (fun _ _ => rfl)

/-- The reference's frame: its arguments are unchanged, and it declares no semaphore. -/
theorem frame_ref : Cert.quiescent_ReferenceIdeal (hReferenceIdeal := Cert.ReferenceIdeal.Gen.facts) := fun m g _ =>
  (θ_run Cert.ReferenceIdeal.defs _ _).mono (fun r h => ⟨fun c => by
    obtain ⟨-, -, -, -, -, -, -, h⟩ := h c
    exact h, sem_eq_zero_of_no_sems rfl r.2⟩) (ref_run m g)

/-- On arguments the scan can read, the kernel's and the reference's seven gradients are the same. -/
theorem algebraic : Cert.algebraic_KernelIdeal_ReferenceIdeal_pre_finite_inputs (hKernelIdeal := Cert.KernelIdeal.Gen.facts)
    (hReferenceIdeal := Cert.ReferenceIdeal.Gen.facts) (hPre_finite_inputs := Cert.KernelIdeal.Scan.pre_facts) := by
  intro m g m' g' hP hargs
  have R := fun c => reads m c hP
  refine ⟨fun c => oDu m c (tab m c), fun c => diagB (oBre m c (tab m c)), fun c => diagB (oBim m c (tab m c)), fun c => diagC (oCre m c),
    fun c => diagC (oCim m c), fun c => rowsA (oAre m c (tab m c)), fun c => rowsA (oAim m c (tab m c)), ?_, ?_⟩
  · refine (θ_run Cert.KernelIdeal.defs _ _).mono (fun r h c => ?_)
      (θ_run_and (run_values m g (fun c => tab m c) (fun c => sav m c) R) (Cert.KernelIdeal.Gen.frame (F := Ideal) m g))
    obtain ⟨h0, h1, h2, h3, h4, h5, h6⟩ := h.1 c
    exact ⟨h0, h1, h2, h3, h4, h5, h6, h.2.1 c⟩
  · refine (θ_run Cert.ReferenceIdeal.defs _ _).mono (fun r h c => ?_) (ref_run m' g')
    obtain ⟨e0, e1, e2, e3, e4, e5, e6, e7, e8, e9, e10⟩ := hargs c
    have I := Cert.ReferenceIdeal.Scan.inv_it _ _ _ _ _ (tab m c)
      ⟨fun i j => (congrFun e0 (ix2 i j)).trans ((R c).dy i j), fun i j k => (congrFun e7 (ix3 i j k)).trans ((R c).cre i j k),
       fun i j k => (congrFun e8 (ix3 i j k)).trans ((R c).cim i j k), fun i j => (congrFun e9 (ix2 i j)).trans ((R c).are i j),
       fun i j => (congrFun e10 (ix2 i j)).trans ((R c).aim i j)⟩ 4096 (Nat.le_refl _)
    obtain ⟨h0, h1, h2, h3, h4, h5, h6, h⟩ := h c
    exact ⟨h0.trans (same_du I (fun i j => congrFun e1 (ix2 i j)) (fun i j k => congrFun e5 (ix3 i j k)) (fun i j k => congrFun e6 (ix3 i j k))),
      h1.trans (same_bre I fun i j => congrFun e2 (ix2 i j)), h2.trans (same_bim I fun i j => congrFun e2 (ix2 i j)),
      h3.trans (same_cre (fun i j => congrFun e0 (ix2 i j)) fun i j => congrFun e3 (ix2 i j)),
      h4.trans (same_cim (fun i j => congrFun e0 (ix2 i j)) fun i j => congrFun e4 (ix2 i j)),
      h5.trans (same_are I (fun i j => congrFun e3 (ix2 i j)) fun i j => congrFun e4 (ix2 i j)),
      h6.trans (same_aim I (fun i j => congrFun e3 (ix2 i j)) fun i j => congrFun e4 (ix2 i j)), h⟩

/-- Of the combined projection's weights' gradient: the reference's arguments are unchanged, and it declares no semaphore. -/
theorem frame_ref2 : Cert.quiescent_Reference2Ideal (hReference2Ideal := Cert.Reference2Ideal.Gen.facts) := fun m g _ =>
  (θ_run Cert.Reference2Ideal.defs _ _).mono (fun r h => ⟨fun c => (h c).2, sem_eq_zero_of_no_sems rfl r.2⟩) (Cert.Reference2Ideal.Value.run (F := Ideal) m g)

/-- Of the combined projection's weights' gradient: the kernel and the reference end with the same sums. -/
theorem algebraic2 : Cert.algebraic_Kernel2Ideal_Reference2Ideal (hKernel2Ideal := Cert.Kernel2Ideal.Gen.facts)
    (hReference2Ideal := Cert.Reference2Ideal.Gen.facts) := by
  intro m g m' g' _ hargs
  refine ⟨fun c => Cert.Kernel2Ideal.Product.product (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)), ?_, ?_⟩
  · exact (θ_run Cert.Kernel2Ideal.defs _ _).mono (fun r h c => ⟨(h c).1.trans (Cert.Kernel2Ideal.Product.arr_out m c), (h c).2⟩) (Cert.Kernel2Ideal.Value.run_blocks m g)
  · refine (θ_run Cert.Reference2Ideal.defs _ _).mono (fun r h c => ⟨(h c).1.trans ?_, (h c).2⟩) (Cert.Reference2Ideal.Value.run (F := Ideal) m' g')
    obtain ⟨e0, e1⟩ := hargs c
    rw [e0, e1]
    exact (Cert.Reference2Ideal.Read.val_main_v4_eq (F := Ideal) _ _).trans (Cert.Kernel2Ideal.Product.ref_eq _ _)

/-- Of the combined projection: the reference's arguments are unchanged, and it declares no semaphore. -/
theorem frame_ref3 : Cert.quiescent_Reference3Ideal (hReference3Ideal := Cert.Reference3Ideal.Gen.facts) := fun m g _ =>
  (θ_run Cert.Reference3Ideal.defs _ _).mono (fun r h => ⟨fun c => (h c).2, sem_eq_zero_of_no_sems rfl r.2⟩) (Cert.Reference3Ideal.Value.run (F := Ideal) m g)

/-- Of the combined projection: the kernel and the reference end with the same sums. -/
theorem algebraic3 : Cert.algebraic_Kernel3Ideal_Reference3Ideal (hKernel3Ideal := Cert.Kernel3Ideal.Gen.facts)
    (hReference3Ideal := Cert.Reference3Ideal.Gen.facts) := by
  intro m g m' g' _ hargs
  refine ⟨fun c => Cert.Kernel3Ideal.Product.product (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)), ?_, ?_⟩
  · exact (θ_run Cert.Kernel3Ideal.defs _ _).mono (fun r h c => ⟨(h c).1.trans (Cert.Kernel3Ideal.Product.arr_out m c), (h c).2⟩) (Cert.Kernel3Ideal.Value.run_blocks m g)
  · refine (θ_run Cert.Reference3Ideal.defs _ _).mono (fun r h c => ⟨(h c).1.trans ?_, (h c).2⟩) (Cert.Reference3Ideal.Value.run (F := Ideal) m' g')
    obtain ⟨e0, e1⟩ := hargs c
    rw [e0, e1]
    exact (Cert.Reference3Ideal.Read.val_main_v2_eq (F := Ideal) _ _).trans (Cert.Kernel3Ideal.Product.ref_eq _ _)

/-- Of the gradient of the combined projection's input: the reference's arguments are unchanged, and it declares no semaphore. -/
theorem frame_ref4 : Cert.quiescent_Reference4Ideal (hReference4Ideal := Cert.Reference4Ideal.Gen.facts) := fun m g _ =>
  (θ_run Cert.Reference4Ideal.defs _ _).mono (fun r h => ⟨fun c => (h c).2, sem_eq_zero_of_no_sems rfl r.2⟩) (Cert.Reference4Ideal.Value.run (F := Ideal) m g)

/-- Of the gradient of the combined projection's input: the kernel and the reference end with the same sums. -/
theorem algebraic4 : Cert.algebraic_Kernel4Ideal_Reference4Ideal (hKernel4Ideal := Cert.Kernel4Ideal.Gen.facts)
    (hReference4Ideal := Cert.Reference4Ideal.Gen.facts) := by
  intro m g m' g' _ hargs
  refine ⟨fun c => Cert.Kernel4Ideal.Product.product (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)), ?_, ?_⟩
  · exact (θ_run Cert.Kernel4Ideal.defs _ _).mono (fun r h c => ⟨(h c).1.trans (Cert.Kernel4Ideal.Product.arr_out m c), (h c).2⟩) (Cert.Kernel4Ideal.Value.run_blocks m g)
  · refine (θ_run Cert.Reference4Ideal.defs _ _).mono (fun r h c => ⟨(h c).1.trans ?_, (h c).2⟩) (Cert.Reference4Ideal.Value.run (F := Ideal) m' g')
    obtain ⟨e0, e1, e2⟩ := hargs c
    rw [e0, e1]
    exact (Cert.Reference4Ideal.Read.val_main_v2_eq (F := Ideal) _ _).trans (Cert.Kernel4Ideal.Product.ref_eq _ _)

/-- Of the combined projection that waits for a token: the reference's arguments are unchanged, and it declares no semaphore. -/
theorem frame_ref5 : Cert.quiescent_Reference5Ideal (hReference5Ideal := Cert.Reference5Ideal.Gen.facts) := fun m g _ =>
  (θ_run Cert.Reference5Ideal.defs _ _).mono (fun r h => ⟨fun c => (h c).2, sem_eq_zero_of_no_sems rfl r.2⟩) (Cert.Reference5Ideal.Value.run (F := Ideal) m g)

/-- Of the combined projection that waits for a token: the kernel and the reference end with the same sums. -/
theorem algebraic5 : Cert.algebraic_Kernel5Ideal_Reference5Ideal (hKernel5Ideal := Cert.Kernel5Ideal.Gen.facts)
    (hReference5Ideal := Cert.Reference5Ideal.Gen.facts) := by
  intro m g m' g' _ hargs
  refine ⟨fun c => Cert.Kernel5Ideal.Product.product (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)), ?_, ?_⟩
  · exact (θ_run Cert.Kernel5Ideal.defs _ _).mono (fun r h c => ⟨(h c).1.trans (Cert.Kernel5Ideal.Product.arr_out m c), (h c).2⟩) (Cert.Kernel5Ideal.Value.run_blocks m g)
  · refine (θ_run Cert.Reference5Ideal.defs _ _).mono (fun r h c => ⟨(h c).1.trans ?_, (h c).2⟩) (Cert.Reference5Ideal.Value.run (F := Ideal) m' g')
    obtain ⟨e0, e1, e2⟩ := hargs c
    rw [e0, e1]
    exact (Cert.Reference5Ideal.Read.val_main_v2_eq (F := Ideal) _ _).trans (Cert.Kernel5Ideal.Product.ref_eq _ _)

/-- Of the output projection: the reference's arguments are unchanged, and it declares no semaphore. -/
theorem frame_ref6 : Cert.quiescent_Reference6Ideal (hReference6Ideal := Cert.Reference6Ideal.Gen.facts) := fun m g _ =>
  (θ_run Cert.Reference6Ideal.defs _ _).mono (fun r h => ⟨fun c => (h c).2, sem_eq_zero_of_no_sems rfl r.2⟩) (Cert.Reference6Ideal.Value.run (F := Ideal) m g)

/-- Of the output projection: the kernel and the reference end with the same sums. -/
theorem algebraic6 : Cert.algebraic_Kernel6Ideal_Reference6Ideal (hKernel6Ideal := Cert.Kernel6Ideal.Gen.facts)
    (hReference6Ideal := Cert.Reference6Ideal.Gen.facts) := by
  intro m g m' g' _ hargs
  refine ⟨fun c => Cert.Kernel6Ideal.Product.product (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)), ?_, ?_⟩
  · exact (θ_run Cert.Kernel6Ideal.defs _ _).mono (fun r h c => ⟨(h c).1.trans (Cert.Kernel6Ideal.Product.arr_out m c), (h c).2⟩) (Cert.Kernel6Ideal.Value.run_blocks m g)
  · refine (θ_run Cert.Reference6Ideal.defs _ _).mono (fun r h c => ⟨(h c).1.trans ?_, (h c).2⟩) (Cert.Reference6Ideal.Value.run (F := Ideal) m' g')
    obtain ⟨e0, e1, e2⟩ := hargs c
    rw [e0, e1, e2]
    exact (Cert.Reference6Ideal.Read.val_main_v3_eq (F := Ideal) _ _ _).trans (Cert.Kernel6Ideal.Product.ref_eq _ _ _)

/-- Of the output projection's weights' gradient: the reference's arguments are unchanged, and it declares no semaphore. -/
theorem frame_ref7 : Cert.quiescent_Reference7Ideal (hReference7Ideal := Cert.Reference7Ideal.Gen.facts) := fun m g _ =>
  (θ_run Cert.Reference7Ideal.defs _ _).mono (fun r h => ⟨fun c => (h c).2, sem_eq_zero_of_no_sems rfl r.2⟩) (Cert.Reference7Ideal.Value.run (F := Ideal) m g)

/-- Of the output projection's weights' gradient: the kernel and the reference end with the same sums. -/
theorem algebraic7 : Cert.algebraic_Kernel7Ideal_Reference7Ideal (hKernel7Ideal := Cert.Kernel7Ideal.Gen.facts)
    (hReference7Ideal := Cert.Reference7Ideal.Gen.facts) := by
  intro m g m' g' _ hargs
  refine ⟨fun c => Cert.Kernel7Ideal.Product.product (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)), ?_, ?_⟩
  · exact (θ_run Cert.Kernel7Ideal.defs _ _).mono (fun r h c => ⟨(h c).1.trans (Cert.Kernel7Ideal.Product.arr_out m c), (h c).2⟩) (Cert.Kernel7Ideal.Value.run_blocks m g)
  · refine (θ_run Cert.Reference7Ideal.defs _ _).mono (fun r h c => ⟨(h c).1.trans ?_, (h c).2⟩) (Cert.Reference7Ideal.Value.run (F := Ideal) m' g')
    obtain ⟨e0, e1⟩ := hargs c
    rw [e0, e1]
    exact (Cert.Reference7Ideal.Read.val_main_v4_eq (F := Ideal) _ _).trans (Cert.Kernel7Ideal.Product.ref_eq _ _)

/-- Of the gradient of the output projection's input: the reference's arguments are unchanged, and it declares no semaphore. -/
theorem frame_ref8 : Cert.quiescent_Reference8Ideal (hReference8Ideal := Cert.Reference8Ideal.Gen.facts) := fun m g _ =>
  (θ_run Cert.Reference8Ideal.defs _ _).mono (fun r h => ⟨fun c => (h c).2, sem_eq_zero_of_no_sems rfl r.2⟩) (Cert.Reference8Ideal.Value.run (F := Ideal) m g)

/-- Of the gradient of the output projection's input: the kernel and the reference end with the same sums. -/
theorem algebraic8 : Cert.algebraic_Kernel8Ideal_Reference8Ideal (hKernel8Ideal := Cert.Kernel8Ideal.Gen.facts)
    (hReference8Ideal := Cert.Reference8Ideal.Gen.facts) := by
  intro m g m' g' _ hargs
  refine ⟨fun c => Cert.Kernel8Ideal.Product.product (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)), ?_, ?_⟩
  · exact (θ_run Cert.Kernel8Ideal.defs _ _).mono (fun r h c => ⟨(h c).1.trans (Cert.Kernel8Ideal.Product.arr_out m c), (h c).2⟩) (Cert.Kernel8Ideal.Value.run_blocks m g)
  · refine (θ_run Cert.Reference8Ideal.defs _ _).mono (fun r h c => ⟨(h c).1.trans ?_, (h c).2⟩) (Cert.Reference8Ideal.Value.run (F := Ideal) m' g')
    obtain ⟨e0, e1, e2⟩ := hargs c
    rw [e0, e1]
    exact (Cert.Reference8Ideal.Read.val_main_v3_eq (F := Ideal) _ _).trans (Cert.Kernel8Ideal.Product.ref_eq _ _)

/-- Of the gradient of the output projection's input in the last layer: the reference's arguments are unchanged, and it declares no semaphore. -/
theorem frame_ref9 : Cert.quiescent_Reference9Ideal (hReference9Ideal := Cert.Reference9Ideal.Gen.facts) := fun m g _ =>
  (θ_run Cert.Reference9Ideal.defs _ _).mono (fun r h => ⟨fun c => (h c).2, sem_eq_zero_of_no_sems rfl r.2⟩) (Cert.Reference9Ideal.Value.run (F := Ideal) m g)

/-- Of the gradient of the output projection's input in the last layer: the kernel and the reference end with the same sums. -/
theorem algebraic9 : Cert.algebraic_Kernel9Ideal_Reference9Ideal (hKernel9Ideal := Cert.Kernel9Ideal.Gen.facts)
    (hReference9Ideal := Cert.Reference9Ideal.Gen.facts) := by
  intro m g m' g' _ hargs
  refine ⟨fun c => Cert.Kernel9Ideal.Product.product (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)), ?_, ?_⟩
  · exact (θ_run Cert.Kernel9Ideal.defs _ _).mono (fun r h c => ⟨(h c).1.trans (Cert.Kernel9Ideal.Product.arr_out m c), (h c).2⟩) (Cert.Kernel9Ideal.Value.run_blocks m g)
  · refine (θ_run Cert.Reference9Ideal.defs _ _).mono (fun r h c => ⟨(h c).1.trans ?_, (h c).2⟩) (Cert.Reference9Ideal.Value.run (F := Ideal) m' g')
    obtain ⟨e0, e1⟩ := hargs c
    rw [e0, e1]
    exact (Cert.Reference9Ideal.Read.val_main_v3_eq (F := Ideal) _ _).trans (Cert.Kernel9Ideal.Product.ref_eq _ _)

/-- Of a branch's projection: the reference's arguments are unchanged, and it declares no semaphore. -/
theorem frame_ref10 : Cert.quiescent_Reference10Ideal (hReference10Ideal := Cert.Reference10Ideal.Gen.facts) := fun m g _ =>
  (θ_run Cert.Reference10Ideal.defs _ _).mono (fun r h => ⟨fun c => (h c).2, sem_eq_zero_of_no_sems rfl r.2⟩) (Cert.Reference10Ideal.Value.run (F := Ideal) m g)

/-- Of a branch's projection: the kernel and the reference end with the same sums. -/
theorem algebraic10 : Cert.algebraic_Kernel10Ideal_Reference10Ideal (hKernel10Ideal := Cert.Kernel10Ideal.Gen.facts)
    (hReference10Ideal := Cert.Reference10Ideal.Gen.facts) := by
  intro m g m' g' _ hargs
  refine ⟨fun c => Cert.Kernel10Ideal.Product.product (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)), ?_, ?_⟩
  · exact (θ_run Cert.Kernel10Ideal.defs _ _).mono (fun r h c => ⟨(h c).1.trans (Cert.Kernel10Ideal.Product.arr_out m c), (h c).2⟩) (Cert.Kernel10Ideal.Value.run_blocks m g)
  · refine (θ_run Cert.Reference10Ideal.defs _ _).mono (fun r h c => ⟨(h c).1.trans ?_, (h c).2⟩) (Cert.Reference10Ideal.Value.run (F := Ideal) m' g')
    obtain ⟨e0, e1⟩ := hargs c
    rw [e0, e1]
    exact (Cert.Reference10Ideal.Read.val_main_v3_eq (F := Ideal) _ _).trans (Cert.Kernel10Ideal.Product.ref_eq _ _)

/-- Of the gradient of a branch projection's input: the reference's arguments are unchanged, and it declares no semaphore. -/
theorem frame_ref11 : Cert.quiescent_Reference11Ideal (hReference11Ideal := Cert.Reference11Ideal.Gen.facts) := fun m g _ =>
  (θ_run Cert.Reference11Ideal.defs _ _).mono (fun r h => ⟨fun c => (h c).2, sem_eq_zero_of_no_sems rfl r.2⟩) (Cert.Reference11Ideal.Value.run (F := Ideal) m g)

/-- Of the gradient of a branch projection's input: the kernel and the reference end with the same sums. -/
theorem algebraic11 : Cert.algebraic_Kernel11Ideal_Reference11Ideal (hKernel11Ideal := Cert.Kernel11Ideal.Gen.facts)
    (hReference11Ideal := Cert.Reference11Ideal.Gen.facts) := by
  intro m g m' g' _ hargs
  refine ⟨fun c => Cert.Kernel11Ideal.Product.product (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)), ?_, ?_⟩
  · exact (θ_run Cert.Kernel11Ideal.defs _ _).mono (fun r h c => ⟨(h c).1.trans (Cert.Kernel11Ideal.Product.arr_out m c), (h c).2⟩) (Cert.Kernel11Ideal.Value.run_blocks m g)
  · refine (θ_run Cert.Reference11Ideal.defs _ _).mono (fun r h c => ⟨(h c).1.trans ?_, (h c).2⟩) (Cert.Reference11Ideal.Value.run (F := Ideal) m' g')
    obtain ⟨e0, e1⟩ := hargs c
    rw [e0, e1]
    exact (Cert.Reference11Ideal.Read.val_main_v3_eq (F := Ideal) _ _).trans (Cert.Kernel11Ideal.Product.ref_eq _ _)

/-- Of a branch projection's weights' gradient: the reference's arguments are unchanged, and it declares no semaphore. -/
theorem frame_ref12 : Cert.quiescent_Reference12Ideal (hReference12Ideal := Cert.Reference12Ideal.Gen.facts) := fun m g _ =>
  (θ_run Cert.Reference12Ideal.defs _ _).mono (fun r h => ⟨fun c => (h c).2, sem_eq_zero_of_no_sems rfl r.2⟩) (Cert.Reference12Ideal.Value.run (F := Ideal) m g)

/-- Of a branch projection's weights' gradient: the kernel and the reference end with the same sums. -/
theorem algebraic12 : Cert.algebraic_Kernel12Ideal_Reference12Ideal (hKernel12Ideal := Cert.Kernel12Ideal.Gen.facts)
    (hReference12Ideal := Cert.Reference12Ideal.Gen.facts) := by
  intro m g m' g' _ hargs
  refine ⟨fun c => Cert.Kernel12Ideal.Product.product (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)), ?_, ?_⟩
  · exact (θ_run Cert.Kernel12Ideal.defs _ _).mono (fun r h c => ⟨(h c).1.trans (Cert.Kernel12Ideal.Product.arr_out m c), (h c).2⟩) (Cert.Kernel12Ideal.Value.run_blocks m g)
  · refine (θ_run Cert.Reference12Ideal.defs _ _).mono (fun r h c => ⟨(h c).1.trans ?_, (h c).2⟩) (Cert.Reference12Ideal.Value.run (F := Ideal) m' g')
    obtain ⟨e0, e1⟩ := hargs c
    rw [e0, e1]
    exact (Cert.Reference12Ideal.Read.val_main_v4_eq (F := Ideal) _ _).trans (Cert.Kernel12Ideal.Product.ref_eq _ _)

/-- Of the small weights' update: the reference's arguments are unchanged, and it declares no semaphore. -/
theorem frame_ref13 : Cert.quiescent_Reference13Ideal (hReference13Ideal := Cert.Reference13Ideal.Gen.facts) := fun m g _ =>
  (θ_run Cert.Reference13Ideal.defs _ _).mono (fun r h => ⟨fun c => (h c).2.2.2, sem_eq_zero_of_no_sems rfl r.2⟩) (Cert.Reference13Ideal.Value.run (F := Ideal) m g)

/-- Of the small weights' update: the kernel and the reference end with the same results. -/
theorem algebraic13 : Cert.algebraic_Kernel13Ideal_Reference13Ideal (hKernel13Ideal := Cert.Kernel13Ideal.Gen.facts)
    (hReference13Ideal := Cert.Reference13Ideal.Gen.facts) := by
  intro m g m' g' _ hargs
  refine ⟨fun c => Cert.Kernel13Ideal.Update.total (m ((c.tc : Thread Cert.Kernel13Ideal.nD Cert.Kernel13Ideal.τ).loc Cert.Kernel13Ideal.main_arg3)),
    fun c => Cert.Kernel13Ideal.Update.first (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg3)),
    fun c => Cert.Kernel13Ideal.Update.second (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)), ?_, ?_⟩
  · refine (θ_run Cert.Kernel13Ideal.defs _ _).mono (fun r h c => ?_) (Cert.Kernel13Ideal.Value.run_blocks m g)
    obtain ⟨h4, -, h6, h7, h⟩ := h c
    exact ⟨h4.trans (Cert.Kernel13Ideal.Update.arr4 m c), h6.trans (Cert.Kernel13Ideal.Update.arr6 m c), h7.trans (Cert.Kernel13Ideal.Update.arr7 m c), h⟩
  · refine (θ_run Cert.Reference13Ideal.defs _ _).mono (fun r h c => ?_) (Cert.Reference13Ideal.Value.run (F := Ideal) m' g')
    obtain ⟨e0, e1, e2, e3⟩ := hargs c
    obtain ⟨h2, h7, h13, h⟩ := h c
    rw [e3] at h2
    rw [e1, e3] at h7
    rw [e2, e3] at h13
    exact ⟨h2.trans ((Cert.Reference13Ideal.Read.val_main_v2_eq (F := Ideal) _).trans (Cert.Kernel13Ideal.Update.ref2 _)),
      h7.trans ((Cert.Reference13Ideal.Read.val_main_v7_eq (F := Ideal) _ _).trans (Cert.Kernel13Ideal.Update.ref7 _ _)),
      h13.trans ((Cert.Reference13Ideal.Read.val_main_v13_eq (F := Ideal) _ _).trans (Cert.Kernel13Ideal.Update.ref13 _ _)), h⟩

/-- Of the convolution's moments: the reference's arguments are unchanged, and it declares no semaphore. -/
theorem frame_ref14 : Cert.quiescent_Reference14Ideal (hReference14Ideal := Cert.Reference14Ideal.Gen.facts) := fun m g _ =>
  (θ_run Cert.Reference14Ideal.defs _ _).mono (fun r h => ⟨fun c => (h c).2.2, sem_eq_zero_of_no_sems rfl r.2⟩) (Cert.Reference14Ideal.Value.run (F := Ideal) m g)

/-- Of the convolution's moments: the kernel and the reference end with the same results. -/
theorem algebraic14 : Cert.algebraic_Kernel14Ideal_Reference14Ideal (hKernel14Ideal := Cert.Kernel14Ideal.Gen.facts)
    (hReference14Ideal := Cert.Reference14Ideal.Gen.facts) := by
  intro m g m' g' _ hargs
  refine ⟨fun c => Cert.Kernel14Ideal.Value.G6 (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1))
    (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)), fun c => Cert.Kernel14Ideal.Value.G7 (m ((c.tc : Thread Cert.Kernel14Ideal.nD Cert.Kernel14Ideal.τ).loc Cert.Kernel14Ideal.main_arg0))
    (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)), ?_, ?_⟩
  · refine (θ_run Cert.Kernel14Ideal.defs _ _).mono (fun r h c => ?_) (Cert.Kernel14Ideal.Value.run m g)
    obtain ⟨-, -, h6, h7, h⟩ := h c
    exact ⟨h6, h7, h⟩
  · refine (θ_run Cert.Reference14Ideal.defs _ _).mono (fun r h c => ?_) (Cert.Reference14Ideal.Value.run (F := Ideal) m' g')
    obtain ⟨e0, e1, e2, e3⟩ := hargs c
    obtain ⟨h4, h10, h⟩ := h c
    rw [e1, e3] at h4
    rw [e2, e3] at h10
    exact ⟨h4.trans ((Cert.Reference14Ideal.Read.val_main_v4_eq (F := Ideal) _ _).trans (Cert.Kernel14Ideal.Update.ref4 _ _ _ _)),
      h10.trans ((Cert.Reference14Ideal.Read.val_main_v10_eq (F := Ideal) _ _).trans (Cert.Kernel14Ideal.Update.ref10 _ _ _ _)), h⟩

/-- All the claims. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts,
    Cert.Kernel6Ideal.Gen.facts, Cert.Reference6Ideal.Gen.facts, Cert.Kernel7.Gen.facts, Cert.Kernel7Ideal.Gen.facts,
    Cert.Reference7Ideal.Gen.facts, Cert.Kernel8.Gen.facts, Cert.Kernel8Ideal.Gen.facts, Cert.Reference8Ideal.Gen.facts,
    Cert.Kernel9.Gen.facts, Cert.Kernel9Ideal.Gen.facts, Cert.Reference9Ideal.Gen.facts, Cert.Kernel10.Gen.facts,
    Cert.Kernel10Ideal.Gen.facts, Cert.Reference10Ideal.Gen.facts, Cert.Kernel11.Gen.facts, Cert.Kernel11Ideal.Gen.facts,
    Cert.Reference11Ideal.Gen.facts, Cert.Kernel12.Gen.facts, Cert.Kernel12Ideal.Gen.facts, Cert.Reference12Ideal.Gen.facts,
    Cert.Kernel13.Gen.facts, Cert.Kernel13Ideal.Gen.facts, Cert.Reference13Ideal.Gen.facts, Cert.Kernel14.Gen.facts,
    Cert.Kernel14Ideal.Gen.facts, Cert.Reference14Ideal.Gen.facts, Cert.KernelIdeal.Scan.pre_facts,
    fun m ρ _ => Cert.Kernel.Gen.frame m ρ, fun m ρ _ => Cert.KernelIdeal.Gen.frame m ρ, fun m ρ _ => Cert.KernelIdeal.Gen.frame m ρ,
    frame_ref, fun m ρ _ => frame_ref m ρ trivial,
    fun m ρ _ => Cert.Kernel2.Gen.frame m ρ, fun m ρ _ => Cert.Kernel2Ideal.Gen.frame m ρ, frame_ref2,
    fun m ρ _ => Cert.Kernel3.Gen.frame m ρ, fun m ρ _ => Cert.Kernel3Ideal.Gen.frame m ρ, frame_ref3,
    fun m ρ _ => Cert.Kernel4.Gen.frame m ρ, fun m ρ _ => Cert.Kernel4Ideal.Gen.frame m ρ, frame_ref4,
    fun m ρ _ => Cert.Kernel5.Gen.frame m ρ, fun m ρ _ => Cert.Kernel5Ideal.Gen.frame m ρ, frame_ref5,
    fun m ρ _ => Cert.Kernel6.Gen.frame m ρ, fun m ρ _ => Cert.Kernel6Ideal.Gen.frame m ρ, frame_ref6,
    fun m ρ _ => Cert.Kernel7.Gen.frame m ρ, fun m ρ _ => Cert.Kernel7Ideal.Gen.frame m ρ, frame_ref7,
    fun m ρ _ => Cert.Kernel8.Gen.frame m ρ, fun m ρ _ => Cert.Kernel8Ideal.Gen.frame m ρ, frame_ref8,
    fun m ρ _ => Cert.Kernel9.Gen.frame m ρ, fun m ρ _ => Cert.Kernel9Ideal.Gen.frame m ρ, frame_ref9,
    fun m ρ _ => Cert.Kernel10.Gen.frame m ρ, fun m ρ _ => Cert.Kernel10Ideal.Gen.frame m ρ, frame_ref10,
    fun m ρ _ => Cert.Kernel11.Gen.frame m ρ, fun m ρ _ => Cert.Kernel11Ideal.Gen.frame m ρ, frame_ref11,
    fun m ρ _ => Cert.Kernel12.Gen.frame m ρ, fun m ρ _ => Cert.Kernel12Ideal.Gen.frame m ρ, frame_ref12,
    fun m ρ _ => Cert.Kernel13.Gen.frame m ρ, fun m ρ _ => Cert.Kernel13Ideal.Gen.frame m ρ, frame_ref13,
    fun m ρ _ => Cert.Kernel14.Gen.frame m ρ, fun m ρ _ => Cert.Kernel14Ideal.Gen.frame m ρ, frame_ref14,
    trivial, algebraic, trivial, algebraic2, trivial, algebraic3, trivial, algebraic4, trivial, algebraic5, trivial, algebraic6,
    trivial, algebraic7, trivial, algebraic8, trivial, algebraic9, trivial, algebraic10, trivial, algebraic11, trivial, algebraic12,
    trivial, algebraic13, trivial, algebraic14⟩

end Cert.Proof

end
